-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_finite [hPre_in_finite : Cert.Pre_in_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_in_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_finite [hPre_in_finite : Cert.Pre_in_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_in_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_fox_finite [hPre_fox_finite : Cert.Pre_fox_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_fox_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_fox_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_fox_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_fox_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_fox_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_fox_finite [hPre_fox_finite : Cert.Pre_fox_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_fox_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_fox_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_fox_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_fox_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_fox_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_loss_finite [hPre_loss_finite : Cert.Pre_loss_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_loss_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_loss_finite [hPre_loss_finite : Cert.Pre_loss_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_loss_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_in_w_finite [hPre_in_w_finite : Cert.Pre_in_w_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_w_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).1 = (fun _ => 1#1)
    ∧ (Cert.Pre_in_w_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.1 = (fun _ => 1#1)
    ∧ (Cert.Pre_in_w_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.1 = (fun _ => 1#1)
    ∧ (Cert.Pre_in_w_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.1 = (fun _ => 1#1)
    ∧ (Cert.Pre_in_w_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_in_w_finite [hPre_in_w_finite : Cert.Pre_in_w_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_w_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).1 = (fun _ => 1#1)
    ∧ (Cert.Pre_in_w_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.1 = (fun _ => 1#1)
    ∧ (Cert.Pre_in_w_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.1 = (fun _ => 1#1)
    ∧ (Cert.Pre_in_w_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.1 = (fun _ => 1#1)
    ∧ (Cert.Pre_in_w_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_finite [hKernelIdeal : Cert.KernelIdeal.Facts] [hPre_in_finite : Cert.Pre_in_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_finite [hReferenceIdeal : Cert.ReferenceIdeal.Facts] [hPre_in_finite : Cert.Pre_in_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_fox_finite [hKernel2Ideal : Cert.Kernel2Ideal.Facts] [hPre_fox_finite : Cert.Pre_fox_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_fox_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_fox_finite [hReference2Ideal : Cert.Reference2Ideal.Facts] [hPre_fox_finite : Cert.Pre_fox_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_fox_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_loss_finite [hKernel3Ideal : Cert.Kernel3Ideal.Facts] [hPre_loss_finite : Cert.Pre_loss_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_loss_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_loss_finite [hReference3Ideal : Cert.Reference3Ideal.Facts] [hPre_loss_finite : Cert.Pre_loss_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_loss_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_in_w_finite [hKernel5Ideal : Cert.Kernel5Ideal.Facts] [hPre_in_w_finite : Cert.Pre_in_w_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_in_w_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_in_w_finite [hReference5Ideal : Cert.Reference5Ideal.Facts] [hPre_in_w_finite : Cert.Pre_in_w_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_in_w_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def preserves_Kernel_KernelIdeal : Prop :=
  True

def algebraic_KernelIdeal_ReferenceIdeal_pre_in_finite [hKernelIdeal : Cert.KernelIdeal.Facts] [hReferenceIdeal : Cert.ReferenceIdeal.Facts] [hPre_in_finite : Cert.Pre_in_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_fox_finite [hKernel2Ideal : Cert.Kernel2Ideal.Facts] [hReference2Ideal : Cert.Reference2Ideal.Facts] [hPre_fox_finite : Cert.Pre_fox_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_fox_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v172)) (v1 : (c : Dev Cert.Kernel2Ideal.nD) → Buf (Elt Ideal) ((c.tc : Thread Cert.Kernel2Ideal.nD Cert.Kernel2Ideal.τ).loc Cert.Kernel2Ideal.main_v175)) (v2 : (c : Dev Cert.Kernel2Ideal.nD) → Buf (Elt Ideal) ((c.tc : Thread Cert.Kernel2Ideal.nD Cert.Kernel2Ideal.τ).loc Cert.Kernel2Ideal.main_v178)) (v3 : (c : Dev Cert.Kernel2Ideal.nD) → Buf (Elt Ideal) ((c.tc : Thread Cert.Kernel2Ideal.nD Cert.Kernel2Ideal.τ).loc Cert.Kernel2Ideal.main_v167)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v172) = v0 c
          ∧ r.2.mem ((c.tc : Thread Cert.Kernel2Ideal.nD Cert.Kernel2Ideal.τ).loc Cert.Kernel2Ideal.main_v175) = v1 c
          ∧ r.2.mem ((c.tc : Thread Cert.Kernel2Ideal.nD Cert.Kernel2Ideal.τ).loc Cert.Kernel2Ideal.main_v178) = v2 c
          ∧ r.2.mem ((c.tc : Thread Cert.Kernel2Ideal.nD Cert.Kernel2Ideal.τ).loc Cert.Kernel2Ideal.main_v167) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v68) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_loss_finite [hKernel3Ideal : Cert.Kernel3Ideal.Facts] [hReference3Ideal : Cert.Reference3Ideal.Facts] [hPre_loss_finite : Cert.Pre_loss_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_loss_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)) (v5 : (c : Dev Cert.Kernel3Ideal.nD) → Buf (Elt Ideal) ((c.tc : Thread Cert.Kernel3Ideal.nD Cert.Kernel3Ideal.τ).loc Cert.Kernel3Ideal.main_v7_5)) (v6 : (c : Dev Cert.Kernel3Ideal.nD) → Buf (Elt Ideal) ((c.tc : Thread Cert.Kernel3Ideal.nD Cert.Kernel3Ideal.τ).loc Cert.Kernel3Ideal.main_v7_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_v7_5) = v5 c
          ∧ r.2.mem ((c.tc : Thread Cert.Kernel3Ideal.nD Cert.Kernel3Ideal.τ).loc Cert.Kernel3Ideal.main_v7_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_v37) = v4 c
          ∧ r.2.mem ((c.tc : Thread Cert.Reference3Ideal.nD Cert.Reference3Ideal.τ).loc Cert.Reference3Ideal.main_v39) = v5 c
          ∧ r.2.mem ((c.tc : Thread Cert.Reference3Ideal.nD Cert.Reference3Ideal.τ).loc Cert.Reference3Ideal.main_v40) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def preserves_Kernel5_Kernel5Ideal : Prop :=
  True

def algebraic_Kernel5Ideal_Reference5Ideal_pre_in_w_finite [hKernel5Ideal : Cert.Kernel5Ideal.Facts] [hReference5Ideal : Cert.Reference5Ideal.Facts] [hPre_in_w_finite : Cert.Pre_in_w_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_in_w_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v25_1)) (v1 : (c : Dev Cert.Kernel5Ideal.nD) → Buf (Elt Ideal) ((c.tc : Thread Cert.Kernel5Ideal.nD Cert.Kernel5Ideal.τ).loc Cert.Kernel5Ideal.main_v25_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_1) = v0 c
          ∧ r.2.mem ((c.tc : Thread Cert.Kernel5Ideal.nD Cert.Kernel5Ideal.τ).loc Cert.Kernel5Ideal.main_v25_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_v80) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v25_4)) (v1 : (c : Dev Cert.Kernel6Ideal.nD) → Buf (Elt Ideal) ((c.tc : Thread Cert.Kernel6Ideal.nD Cert.Kernel6Ideal.τ).loc Cert.Kernel6Ideal.main_v25_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_4) = v0 c
          ∧ r.2.mem ((c.tc : Thread Cert.Kernel6Ideal.nD Cert.Kernel6Ideal.τ).loc Cert.Kernel6Ideal.main_v25_5) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_finite : Cert.Pre_in_finite.Facts) (hPre_fox_finite : Cert.Pre_fox_finite.Facts) (hPre_loss_finite : Cert.Pre_loss_finite.Facts) (hPre_in_w_finite : Cert.Pre_in_w_finite.Facts),
    quiescent_Kernel (hKernel := hKernel)
    ∧ quiescent_KernelIdeal (hKernelIdeal := hKernelIdeal)
    ∧ quiescent_KernelIdeal_pre_in_finite (hKernelIdeal := hKernelIdeal) (hPre_in_finite := hPre_in_finite)
    ∧ quiescent_ReferenceIdeal (hReferenceIdeal := hReferenceIdeal)
    ∧ quiescent_ReferenceIdeal_pre_in_finite (hReferenceIdeal := hReferenceIdeal) (hPre_in_finite := hPre_in_finite)
    ∧ quiescent_Kernel2 (hKernel2 := hKernel2)
    ∧ quiescent_Kernel2Ideal (hKernel2Ideal := hKernel2Ideal)
    ∧ quiescent_Kernel2Ideal_pre_fox_finite (hKernel2Ideal := hKernel2Ideal) (hPre_fox_finite := hPre_fox_finite)
    ∧ quiescent_Reference2Ideal (hReference2Ideal := hReference2Ideal)
    ∧ quiescent_Reference2Ideal_pre_fox_finite (hReference2Ideal := hReference2Ideal) (hPre_fox_finite := hPre_fox_finite)
    ∧ quiescent_Kernel3 (hKernel3 := hKernel3)
    ∧ quiescent_Kernel3Ideal (hKernel3Ideal := hKernel3Ideal)
    ∧ quiescent_Kernel3Ideal_pre_loss_finite (hKernel3Ideal := hKernel3Ideal) (hPre_loss_finite := hPre_loss_finite)
    ∧ quiescent_Reference3Ideal (hReference3Ideal := hReference3Ideal)
    ∧ quiescent_Reference3Ideal_pre_loss_finite (hReference3Ideal := hReference3Ideal) (hPre_loss_finite := hPre_loss_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_in_w_finite (hKernel5Ideal := hKernel5Ideal) (hPre_in_w_finite := hPre_in_w_finite)
    ∧ quiescent_Reference5Ideal (hReference5Ideal := hReference5Ideal)
    ∧ quiescent_Reference5Ideal_pre_in_w_finite (hReference5Ideal := hReference5Ideal) (hPre_in_w_finite := hPre_in_w_finite)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_in_finite (hKernelIdeal := hKernelIdeal) (hReferenceIdeal := hReferenceIdeal) (hPre_in_finite := hPre_in_finite)
    ∧ preserves_Kernel2_Kernel2Ideal
    ∧ algebraic_Kernel2Ideal_Reference2Ideal_pre_fox_finite (hKernel2Ideal := hKernel2Ideal) (hReference2Ideal := hReference2Ideal) (hPre_fox_finite := hPre_fox_finite)
    ∧ preserves_Kernel3_Kernel3Ideal
    ∧ algebraic_Kernel3Ideal_Reference3Ideal_pre_loss_finite (hKernel3Ideal := hKernel3Ideal) (hReference3Ideal := hReference3Ideal) (hPre_loss_finite := hPre_loss_finite)
    ∧ preserves_Kernel4_Kernel4Ideal
    ∧ preserves_Kernel5_Kernel5Ideal
    ∧ algebraic_Kernel5Ideal_Reference5Ideal_pre_in_w_finite (hKernel5Ideal := hKernel5Ideal) (hReference5Ideal := hReference5Ideal) (hPre_in_w_finite := hPre_in_w_finite)
    ∧ preserves_Kernel6_Kernel6Ideal
    ∧ algebraic_Kernel6Ideal_Reference6Ideal (hKernel6Ideal := hKernel6Ideal) (hReference6Ideal := hReference6Ideal)
-- ==== Pre_fox_finite.lean ====
abbrev S8x4096x64 : Shape := ⟨3, ![8, 4096, 64]⟩
abbrev S8x4096 : Shape := ⟨2, ![8, 4096]⟩
abbrev S_ : Shape := ⟨0, ![]⟩

class Facts : Prop where
  bcast_S_S8x4096x64 : S_.BroadcastsInDim S8x4096x64 (![] : Fin 0 → Fin S8x4096x64.rank)
  bcast_S_S8x4096 : S_.BroadcastsInDim S8x4096 (![] : Fin 0 → Fin S8x4096.rank)

variable [Facts]

def fn {F : FTy → Type} [FloatOps F] (main_arg0 : FVec F S8x4096x64 .f32) (main_arg1 : FVec F S8x4096x64 .f32) (main_arg2 : FVec F S8x4096x64 .f32) (main_arg3 : FVec F S8x4096 .f32) (main_arg4 : FVec F S8x4096x64 .f32) : IVec S8x4096x64 1 × IVec S8x4096x64 1 × IVec S8x4096x64 1 × IVec S8x4096 1 × IVec S8x4096x64 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_v3 : FVec F S8x4096x64 .f32 := Host.absf main_arg1
  let main_cst_0 : FVec F S_ .f32 := constant S_ .f32 0x7F800000#32
  let main_v4 : FVec F S8x4096x64 .f32 := broadcastInDim S8x4096x64 ![] bcast_S_S8x4096x64 main_cst_0
  let main_v5 : IVec S8x4096x64 1 := cmpf .olt main_v3 main_v4
  let main_v6 : FVec F S8x4096x64 .f32 := Host.absf main_arg2
  let main_cst_1 : FVec F S_ .f32 := constant S_ .f32 0x7F800000#32
  let main_v7 : FVec F S8x4096x64 .f32 := broadcastInDim S8x4096x64 ![] bcast_S_S8x4096x64 main_cst_1
  let main_v8 : IVec S8x4096x64 1 := cmpf .olt main_v6 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_v12 : FVec F S8x4096x64 .f32 := Host.absf main_arg4
  let main_cst_3 : FVec F S_ .f32 := constant S_ .f32 0x7F800000#32
  let main_v13 : FVec F S8x4096x64 .f32 := broadcastInDim S8x4096x64 ![] bcast_S_S8x4096x64 main_cst_3
  let main_v14 : IVec S8x4096x64 1 := cmpf .olt main_v12 main_v13
  (main_v2, main_v5, main_v8, main_v11, main_v14)
-- ==== Pre_in_finite.lean ====
abbrev S4096x1024 : Shape := ⟨2, ![4096, 1024]⟩
abbrev S1x1024 : Shape := ⟨2, ![1, 1024]⟩
abbrev S1024x3080 : Shape := ⟨2, ![1024, 3080]⟩
abbrev S4096x3080 : Shape := ⟨2, ![4096, 3080]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3080 : S_.BroadcastsInDim S1024x3080 (![] : Fin 0 → Fin S1024x3080.rank)
  bcast_S_S4096x3080 : S_.BroadcastsInDim S4096x3080 (![] : Fin 0 → Fin S4096x3080.rank)

variable [Facts]

def fn {F : FTy → Type} [FloatOps F] (main_arg0 : FVec F S4096x1024 .f32) (main_arg1 : FVec F S1x1024 .f32) (main_arg2 : FVec F S1024x3080 .f32) (main_arg3 : FVec F S4096x3080 .f32) (main_arg4 : FVec F S4096x1024 .f32) : IVec S4096x1024 1 × IVec S1x1024 1 × IVec S1024x3080 1 × IVec S4096x3080 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3080 .f32 := Host.absf main_arg2
  let main_cst_1 : FVec F S_ .f32 := constant S_ .f32 0x7F800000#32
  let main_v7 : FVec F S1024x3080 .f32 := broadcastInDim S1024x3080 ![] bcast_S_S1024x3080 main_cst_1
  let main_v8 : IVec S1024x3080 1 := cmpf .olt main_v6 main_v7
  let main_v9 : FVec F S4096x3080 .f32 := Host.absf main_arg3
  let main_cst_2 : FVec F S_ .f32 := constant S_ .f32 0x7F800000#32
  let main_v10 : FVec F S4096x3080 .f32 := broadcastInDim S4096x3080 ![] bcast_S_S4096x3080 main_cst_2
  let main_v11 : IVec S4096x3080 1 := cmpf .olt main_v9 main_v10
  (main_v2, main_v5, main_v8, main_v11)
-- ==== Pre_in_w_finite.lean ====
abbrev S4096x1024 : Shape := ⟨2, ![4096, 1024]⟩
abbrev S4096x8 : Shape := ⟨2, ![4096, 8]⟩
abbrev S1x8 : Shape := ⟨2, ![1, 8]⟩
abbrev S1x64 : Shape := ⟨2, ![1, 64]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  bcast_S_S1x64 : S_.BroadcastsInDim S1x64 (![] : Fin 0 → Fin S1x64.rank)
  bcast_S_S4096x512 : S_.BroadcastsInDim S4096x512 (![] : Fin 0 → Fin S4096x512.rank)

variable [Facts]

def fn {F : FTy → Type} [FloatOps F] (main_arg0 : FVec F S4096x1024 .f32) (main_arg1 : FVec F S4096x1024 .f32) (main_arg2 : FVec F S4096x8 .f32) (main_arg3 : FVec F S1x8 .f32) (main_arg4 : FVec F S1x64 .f32) (main_arg5 : FVec F S1x64 .f32) (main_arg6 : FVec F S4096x512 .f32) (main_arg7 : FVec F S4096x512 .f32) (main_arg8 : FVec F S4096x512 .f32) (main_arg9 : FVec F S4096x512 .f32) (main_arg10 : FVec F S4096x8 .f32) (main_arg11 : FVec F S4096x512 .f32) (main_arg12 : FVec F S4096x512 .f32) : IVec S4096x1024 1 × IVec S1x64 1 × IVec S1x64 1 × IVec S4096x512 1 × IVec S4096x512 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x64 .f32 := Host.absf main_arg4
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg5
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S4096x512 .f32 := Host.absf main_arg7
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg8
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  (main_v2, main_v5, main_v8, main_v11, main_v14)
-- ==== Pre_loss_finite.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S4096x512 : S_.BroadcastsInDim S4096x512 (![] : Fin 0 → Fin S4096x512.rank)
  bcast_S_S1024x1024 : S_.BroadcastsInDim S1024x1024 (![] : Fin 0 → Fin S1024x1024.rank)

variable [Facts]

def fn_part1 {F : FTy → Type} [FloatOps F] (main_arg6 : FVec F S1024x1024 .f32) (main_v2 : IVec S4096x1024 1) (main_v5 : IVec S4096x1024 1) (main_v8 : IVec S4096x256 1) (main_v11 : IVec S4096x512 1) (main_v14 : IVec S4096x512 1) (main_v17 : IVec S4096x256 1) : IVec S4096x1024 1 × IVec S4096x1024 1 × IVec S4096x256 1 × IVec S4096x512 1 × IVec S4096x512 1 × IVec S4096x256 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S4096x256 .f32) (main_arg3 : FVec F S4096x512 .f32) (main_arg4 : FVec F S4096x512 .f32) (main_arg5 : FVec F S4096x256 .f32) (main_arg6 : FVec F S1024x1024 .f32) : IVec S4096x1024 1 × IVec S4096x1024 1 × IVec S4096x256 1 × IVec S4096x512 1 × IVec S4096x512 1 × IVec S4096x256 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x256 .f32 := Host.absf main_arg5
  let main_cst_4 : FVec F S_ .f32 := constant S_ .f32 0x7F800000#32
  let main_v16 : FVec F S4096x256 .f32 := broadcastInDim S4096x256 ![] bcast_S_S4096x256 main_cst_4
  let main_v17 : IVec S4096x256 1 := cmpf .olt main_v15 main_v16
  fn_part1 (F := F) main_arg6 main_v2 main_v5 main_v8 main_v11 main_v14 main_v17
-- ==== Kernel.lean ====
abbrev S4096x1024 : Shape := ⟨2, ![4096, 1024]⟩
abbrev S1x1024 : Shape := ⟨2, ![1, 1024]⟩
abbrev S1024x3080 : Shape := ⟨2, ![1024, 3080]⟩
abbrev S4096x3080 : Shape := ⟨2, ![4096, 3080]⟩
abbrev S3080x1024 : Shape := ⟨2, ![3080, 1024]⟩
abbrev S2048x1024 : Shape := ⟨2, ![2048, 1024]⟩
abbrev S1024x1024 : Shape := ⟨2, ![1024, 1024]⟩
abbrev S8x1024 : Shape := ⟨2, ![8, 1024]⟩
abbrev S_ : Shape := ⟨0, ![]⟩
abbrev S120x1024 : Shape := ⟨2, ![120, 1024]⟩
abbrev S3200x1024 : Shape := ⟨2, ![3200, 1024]⟩
abbrev S4096x8 : Shape := ⟨2, ![4096, 8]⟩
abbrev S4096x128 : Shape := ⟨2, ![4096, 128]⟩
abbrev S4096x512 : Shape := ⟨2, ![4096, 512]⟩
abbrev S256x1024 : Shape := ⟨2, ![256, 1024]⟩
abbrev S256x512 : Shape := ⟨2, ![256, 512]⟩
abbrev S256x128 : Shape := ⟨2, ![256, 128]⟩
abbrev S256x3200 : Shape := ⟨2, ![256, 3200]⟩
abbrev S256 : Shape := ⟨1, ![256]⟩
abbrev S256x1 : Shape := ⟨2, ![256, 1]⟩
abbrev S1024 : Shape := ⟨1, ![1024]⟩

abbrev nBuf : Space → Nat
  | .hbm => 29
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .f32⟩
  | .hbm, ⟨3, _⟩ => ⟨S4096x3080, .f32⟩
  | .hbm, ⟨4, _⟩ => ⟨S4096x1024, .f32⟩
  | .hbm, ⟨5, _⟩ => ⟨S3080x1024, .f32⟩
  | .hbm, ⟨6, _⟩ => ⟨S2048x1024, .f32⟩
  | .hbm, ⟨7, _⟩ => ⟨S1024x1024, .f32⟩
  | .hbm, ⟨8, _⟩ => ⟨S8x1024, .f32⟩
  | .hbm, ⟨9, _⟩ => ⟨S_, .f32⟩
  | .hbm, ⟨10, _⟩ => ⟨S120x1024, .f32⟩
  | .hbm, ⟨11, _⟩ => ⟨S3200x1024, .f32⟩
  | .hbm, ⟨12, _⟩ => ⟨S3200x1024, .bf16⟩
  | .hbm, ⟨13, _⟩ => ⟨S4096x8, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x512, .f32⟩
  | .hbm, ⟨18, _⟩ => ⟨S4096x512, .bf16⟩
  | .hbm, ⟨19, _⟩ => ⟨S4096x1024, .f32⟩
  | .hbm, ⟨20, _⟩ => ⟨S4096x1024, .bf16⟩
  | .hbm, ⟨21, _⟩ => ⟨S4096x512, .f32⟩
  | .hbm, ⟨22, _⟩ => ⟨S4096x512, .bf16⟩
  | .hbm, ⟨23, _⟩ => ⟨S4096x512, .f32⟩
  | .hbm, ⟨24, _⟩ => ⟨S4096x512, .bf16⟩
  | .hbm, ⟨25, _⟩ => ⟨S4096x512, .f32⟩
  | .hbm, ⟨26, _⟩ => ⟨S4096x512, .bf16⟩
  | .hbm, ⟨27, _⟩ => ⟨S4096x1024, .f32⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S3200x1024, .bf16⟩
  | .local _ .vmem, ⟨6, _⟩ => ⟨S256x512, .bf16⟩
  | .local _ .vmem, ⟨7, _⟩ => ⟨S256x512, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x128, .f32⟩
  | .local _ .vmem, ⟨17, _⟩ => ⟨S256x128, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x3200, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3200x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S1x1024 : Shape := ⟨2, ![1, 1024]⟩
abbrev S1024x3080 : Shape := ⟨2, ![1024, 3080]⟩
abbrev S4096x3080 : Shape := ⟨2, ![4096, 3080]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3080, .f32⟩
  | .hbm, ⟨3, _⟩ => ⟨S4096x3080, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3080, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel2.lean ====
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096x61 : Shape := ⟨3, ![8, 4096, 61]⟩
abbrev S8x4096x128 : Shape := ⟨3, ![8, 4096, 128]⟩
abbrev S4096x8x128 : Shape := ⟨3, ![4096, 8, 128]⟩
abbrev S4096x1024 : Shape := ⟨2, ![4096, 1024]⟩
abbrev S4x2x8x512 : Shape := ⟨4, ![4, 2, 8, 512]⟩
abbrev S4x8x2x512 : Shape := ⟨4, ![4, 8, 2, 512]⟩
abbrev S4x8x8x512 : Shape := ⟨4, ![4, 8, 8, 512]⟩
abbrev S512x512 : Shape := ⟨2, ![512, 512]⟩
abbrev S4096x512 : Shape := ⟨2, ![4096, 512]⟩
abbrev S2x8x8x512 : Shape := ⟨4, ![2, 8, 8, 512]⟩
abbrev S512x128 : Shape := ⟨2, ![512, 128]⟩
abbrev S1x1x1x512 : Shape := ⟨4, ![1, 1, 1, 512]⟩
abbrev S1x512 : Shape := ⟨2, ![1, 512]⟩
abbrev S4096x1 : Shape := ⟨2, ![4096, 1]⟩
abbrev S1x4096 : Shape := ⟨2, ![1, 4096]⟩
abbrev S4096x8x64 : Shape := ⟨3, ![4096, 8, 64]⟩

abbrev nBuf : Space → Nat
  | .hbm => 207
  | .vmem => 16
  | .smem => 0
  | _ => 0

abbrev hbmTy0_0 (i : Nat) : BufTy := match i % 128 with
  | 0 => ⟨S8x4096x64, .f32⟩
  | 1 => ⟨S8x4096x64, .f32⟩
  | 2 => ⟨S8x4096x64, .f32⟩
  | 3 => ⟨S8x4096, .f32⟩
  | 4 => ⟨S8x4096x64, .f32⟩
  | 5 => ⟨S8x4096x4096, .f32⟩
  | 6 => ⟨S_, .f32⟩
  | 7 => ⟨S8x4096x4096, .f32⟩
  | 8 => ⟨S8x4096x4096, .f32⟩
  | 9 => ⟨S8x4096x1, .f32⟩
  | 10 => ⟨S8x4096x4096, .f32⟩
  | 11 => ⟨S8x4096x4096, .f32⟩
  | 12 => ⟨S8x1x4096, .f32⟩
  | 13 => ⟨S8x4096x4096, .f32⟩
  | 14 => ⟨S8x4096x4096, .f32⟩
  | 15 => ⟨S4096, .i32⟩
  | 16 => ⟨S1x1x4096, .i32⟩
  | 17 => ⟨S1x4096x1, .i32⟩
  | 18 => ⟨S1x4096x4096, .i32⟩
  | 19 => ⟨S1x4096x4096, .i32⟩
  | 20 => ⟨S1x4096x4096, .i1⟩
  | 21 => ⟨S_, .f32⟩
  | 22 => ⟨S_, .f32⟩
  | 23 => ⟨S8x4096x4096, .i1⟩
  | 24 => ⟨S8x4096x4096, .f32⟩
  | 25 => ⟨S8x4096x4096, .f32⟩
  | 26 => ⟨S_, .f32⟩
  | 27 => ⟨S8x4096, .f32⟩
  | 28 => ⟨S8x4096x1, .f32⟩
  | 29 => ⟨S8x4096x4096, .f32⟩
  | 30 => ⟨S8x4096x4096, .f32⟩
  | 31 => ⟨S8x4096x4096, .f32⟩
  | 32 => ⟨S_, .f32⟩
  | 33 => ⟨S8x4096, .f32⟩
  | 34 => ⟨S8x4096x1, .f32⟩
  | 35 => ⟨S8x4096x4096, .f32⟩
  | 36 => ⟨S8x4096x4096, .f32⟩
  | 37 => ⟨S8x4096x64, .f32⟩
  | 38 => ⟨S8x4096x1, .f32⟩
  | 39 => ⟨S8x4096x1, .f32⟩
  | 40 => ⟨S8x4096, .f32⟩
  | 41 => ⟨S8x4096, .f32⟩
  | 42 => ⟨S8x4096x64, .f32⟩
  | 43 => ⟨S_, .f32⟩
  | 44 => ⟨S8x4096, .f32⟩
  | 45 => ⟨S_, .bf16⟩
  | 46 => ⟨S8x4096, .bf16⟩
  | 47 => ⟨S_, .f32⟩
  | 48 => ⟨S8x4096x64, .f32⟩
  | 49 => ⟨S8x4096x64, .f32⟩
  | 50 => ⟨S8x4096x61, .i32⟩
  | 51 => ⟨S_, .i32⟩
  | 52 => ⟨S8x4096x61, .i32⟩
  | 53 => ⟨S8x4096x61, .i32⟩
  | 54 => ⟨S8x4096x61, .i32⟩
  | 55 => ⟨S_, .i32⟩
  | 56 => ⟨S8x4096x61, .i32⟩
  | 57 => ⟨S8x4096x61, .i32⟩
  | 58 => ⟨S8x4096x61, .i1⟩
  | 59 => ⟨S8x4096x64, .bf16⟩
  | 60 => ⟨S8x4096x1, .bf16⟩
  | 61 => ⟨S8x4096x1, .bf16⟩
  | 62 => ⟨S8x4096x1, .bf16⟩
  | 63 => ⟨S8x4096x61, .f32⟩
  | 64 => ⟨S8x4096x61, .bf16⟩
  | 65 => ⟨S8x4096x128, .bf16⟩
  | 66 => ⟨S4096x8x128, .bf16⟩
  | 67 => ⟨S4096x1024, .bf16⟩
  | 68 => ⟨S8x4096, .f32⟩
  | 69 => ⟨S8x4096, .bf16⟩
  | 70 => ⟨S8x4096, .f32⟩
  | 71 => ⟨S8x4096, .f32⟩
  | 72 => ⟨S8x4096, .bf16⟩
  | 73 => ⟨S8x4096, .f32⟩
  | 74 => ⟨S8x4096, .f32⟩
  | 75 => ⟨S8x4096, .bf16⟩
  | 76 => ⟨S8x4096x61, .i32⟩
  | 77 => ⟨S_, .i32⟩
  | 78 => ⟨S8x4096x61, .i32⟩
  | 79 => ⟨S8x4096x61, .i32⟩
  | 80 => ⟨S8x4096x61, .i32⟩
  | 81 => ⟨S_, .i32⟩
  | 82 => ⟨S8x4096x61, .i32⟩
  | 83 => ⟨S8x4096x61, .i32⟩
  | 84 => ⟨S8x4096x61, .i1⟩
  | 85 => ⟨S8x4096x64, .bf16⟩
  | 86 => ⟨S8x4096x1, .bf16⟩
  | 87 => ⟨S8x4096x1, .bf16⟩
  | 88 => ⟨S8x4096x1, .bf16⟩
  | 89 => ⟨S8x4096x61, .f32⟩
  | 90 => ⟨S8x4096x61, .bf16⟩
  | 91 => ⟨S8x4096x128, .bf16⟩
  | 92 => ⟨S4096x8x128, .bf16⟩
  | 93 => ⟨S4096x1024, .bf16⟩
  | 94 => ⟨S8x4096x61, .i32⟩
  | 95 => ⟨S_, .i32⟩
  | 96 => ⟨S8x4096x61, .i32⟩
  | 97 => ⟨S8x4096x61, .i32⟩
  | 98 => ⟨S8x4096x61, .i32⟩
  | 99 => ⟨S_, .i32⟩
  | 100 => ⟨S8x4096x61, .i32⟩
  | 101 => ⟨S8x4096x61, .i32⟩
  | 102 => ⟨S8x4096x61, .i1⟩
  | 103 => ⟨S8x4096x64, .bf16⟩
  | 104 => ⟨S8x4096x1, .bf16⟩
  | 105 => ⟨S8x4096x1, .bf16⟩
  | 106 => ⟨S8x4096x1, .bf16⟩
  | 107 => ⟨S8x4096x61, .f32⟩
  | 108 => ⟨S8x4096x61, .bf16⟩
  | 109 => ⟨S8x4096x128, .bf16⟩
  | 110 => ⟨S4096x8x128, .bf16⟩
  | 111 => ⟨S4096x1024, .bf16⟩
  | 112 => ⟨S8x4096, .f32⟩
  | 113 => ⟨S8x4096, .bf16⟩
  | 114 => ⟨S8x4096, .f32⟩
  | 115 => ⟨S8x4096, .f32⟩
  | 116 => ⟨S8x4096, .bf16⟩
  | 117 => ⟨S8x4096, .f32⟩
  | 118 => ⟨S8x4096, .f32⟩
  | 119 => ⟨S8x4096, .bf16⟩
  | 120 => ⟨S8x4096x61, .i32⟩
  | 121 => ⟨S_, .i32⟩
  | 122 => ⟨S8x4096x61, .i32⟩
  | 123 => ⟨S8x4096x61, .i32⟩
  | 124 => ⟨S8x4096x61, .i32⟩
  | 125 => ⟨S_, .i32⟩
  | 126 => ⟨S8x4096x61, .i32⟩
  | 127 => ⟨S8x4096x61, .i32⟩
  | _ => ⟨S8x4096x64, .f32⟩

abbrev hbmTy0_1 (i : Nat) : BufTy := match i % 128 with
  | 0 => ⟨S8x4096x61, .i1⟩
  | 1 => ⟨S8x4096x64, .bf16⟩
  | 2 => ⟨S8x4096x1, .bf16⟩
  | 3 => ⟨S8x4096x1, .bf16⟩
  | 4 => ⟨S8x4096x1, .bf16⟩
  | 5 => ⟨S8x4096x61, .f32⟩
  | 6 => ⟨S8x4096x61, .bf16⟩
  | 7 => ⟨S8x4096x128, .bf16⟩
  | 8 => ⟨S4096x8x128, .bf16⟩
  | 9 => ⟨S4096x1024, .bf16⟩
  | 10 => ⟨S4x2x8x512, .f32⟩
  | 11 => ⟨S4x8x2x512, .f32⟩
  | 12 => ⟨S_, .i32⟩
  | 13 => ⟨S_, .f32⟩
  | 14 => ⟨S4x8x8x512, .f32⟩
  | 15 => ⟨S4096x1024, .f32⟩
  | 16 => ⟨S4096x1024, .f32⟩
  | 17 => ⟨S4096x1024, .f32⟩
  | 18 => ⟨S4096x1, .f32⟩
  | 19 => ⟨S4096, .f32⟩
  | 20 => ⟨S4096x1, .f32⟩
  | 21 => ⟨S4096, .f32⟩
  | 22 => ⟨S4096, .f32⟩
  | 23 => ⟨S4096x1, .f32⟩
  | 24 => ⟨S4096, .f32⟩
  | 25 => ⟨S4096x1, .f32⟩
  | 26 => ⟨S4096, .f32⟩
  | 27 => ⟨S4096, .f32⟩
  | 28 => ⟨S4096x1, .f32⟩
  | 29 => ⟨S4096, .f32⟩
  | 30 => ⟨S4096x1, .f32⟩
  | 31 => ⟨S4096, .f32⟩
  | 32 => ⟨S4096, .f32⟩
  | 33 => ⟨S4096x1, .f32⟩
  | 34 => ⟨S4096, .f32⟩
  | 35 => ⟨S4096x1, .f32⟩
  | 36 => ⟨S4096, .f32⟩
  | 37 => ⟨S4096, .f32⟩
  | 38 => ⟨S4096x1, .f32⟩
  | 39 => ⟨S4096, .f32⟩
  | 40 => ⟨S4096x1, .f32⟩
  | 41 => ⟨S4096, .f32⟩
  | 42 => ⟨S4096, .f32⟩
  | 43 => ⟨S4096x1, .f32⟩
  | 44 => ⟨S4096, .f32⟩
  | 45 => ⟨S4096x1, .f32⟩
  | 46 => ⟨S4096, .f32⟩
  | 47 => ⟨S4096, .f32⟩
  | 48 => ⟨S4096x1, .f32⟩
  | 49 => ⟨S4096, .f32⟩
  | 50 => ⟨S4096x1, .f32⟩
  | 51 => ⟨S4096, .f32⟩
  | 52 => ⟨S4096, .f32⟩
  | 53 => ⟨S4096x1, .f32⟩
  | 54 => ⟨S4096, .f32⟩
  | 55 => ⟨S4096x1, .f32⟩
  | 56 => ⟨S4096, .f32⟩
  | 57 => ⟨S4096, .f32⟩
  | 58 => ⟨S1x4096, .f32⟩
  | 59 => ⟨S1x4096, .f32⟩
  | 60 => ⟨S1x4096, .f32⟩
  | 61 => ⟨S1x4096, .f32⟩
  | 62 => ⟨S1x4096, .f32⟩
  | 63 => ⟨S1x4096, .f32⟩
  | 64 => ⟨S1x4096, .f32⟩
  | 65 => ⟨S1x4096, .f32⟩
  | 66 => ⟨S8x4096, .f32⟩
  | 67 => ⟨S4096x8x128, .f32⟩
  | 68 => ⟨S4096x8x64, .f32⟩
  | 69 => ⟨S8x4096x64, .f32⟩
  | 70 => ⟨S_, .f32⟩
  | 71 => ⟨S8x4096x64, .f32⟩
  | 72 => ⟨S8x4096x64, .f32⟩
  | 73 => ⟨S4096x8x128, .f32⟩
  | 74 => ⟨S4096x8x64, .f32⟩
  | 75 => ⟨S8x4096x64, .f32⟩
  | 76 => ⟨S4096x8x128, .f32⟩
  | 77 => ⟨S4096x8x64, .f32⟩
  | 78 => ⟨S8x4096x64, .f32⟩
  | _ => ⟨S8x4096x64, .f32⟩

abbrev hbmTy (i : Nat) : BufTy := match i / 128 with
  | 0 => hbmTy0_0 i
  | 1 => hbmTy0_1 i
  | _ => ⟨S8x4096x64, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S2x8x8x512, .f32⟩
  | .local _ .vmem, ⟨9, _⟩ => ⟨S2x8x8x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S4096x512, .f32⟩
  | .local _ .vmem, ⟨15, _⟩ => ⟨S4096x512, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_10 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_c_11 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_c_12 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_c_13 : Ref sig .tc := ⟨.hbm, 140, rfl⟩
abbrev main_call1_v0 : Ref sig .tc := ⟨.hbm, 141, rfl⟩
abbrev main_v117 : Ref sig .tc := ⟨.hbm, 142, rfl⟩
abbrev main_v118_0 : Ref sig .tc := ⟨.hbm, 143, rfl⟩
abbrev main_v118_1 : Ref sig .tc := ⟨.hbm, 144, rfl⟩
abbrev main_v118_2 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_cst_14 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v23 : BitVec 32 := Scalar.muli arg1 c512_i32
  v23
def k0_off1 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v25 : Index := Scalar.indexCast v24
  let c0_13 : Index := 0#32
  ![v25.toNat, 0]
def k0_off2 (i : grid0.Coords) : Fin 4 → Nat :=
  let c0_16 : Index := 0#32
  let arg1 : BitVec 32 := BitVec.ofNat 32 (i 1).val
  let v32 : Index := Scalar.indexCast arg1
  let c0_17 : Index := 0#32
  let c0_18 : Index := 0#32
  ![0, v32.toNat, 0, 0]
def k0_off3 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v55 : Index := Scalar.indexCast v24
  let c128_26 : Index := 128#32
  ![v55.toNat, 128]
def k0_off4 (i : grid0.Coords) : Fin 4 → Nat :=
  let c0_29 : Index := 0#32
  let arg1 : BitVec 32 := BitVec.ofNat 32 (i 1).val
  let v62 : Index := Scalar.indexCast arg1
  let c1 : Index := 1#32
  let c0_30 : Index := 0#32
  ![0, v62.toNat, 1, 0]
def k0_off5 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v85 : Index := Scalar.indexCast v24
  let c256_38 : Index := 256#32
  ![v85.toNat, 256]
def k0_off6 (i : grid0.Coords) : Fin 4 → Nat :=
  let c1_41 : Index := 1#32
  let arg1 : BitVec 32 := BitVec.ofNat 32 (i 1).val
  let v92 : Index := Scalar.indexCast arg1
  let c0_42 : Index := 0#32
  let c0_43 : Index := 0#32
  ![1, v92.toNat, 0, 0]
def k0_off7 (i : grid0.Coords) : Fin 2 → Nat :=
  let arg1 : BitVec 32 := BitVec.ofNat 32 (i 1).val
  let c512_i32 : BitVec 32 := 512#32
  let v23 : BitVec 32 := Scalar.muli arg1 c512_i32
  let v24 : BitVec 32 := v23
  let v115 : Index := Scalar.indexCast v24
  let c384_51 : Index := 384#32
  ![v115.toNat, 384]
def k0_off8 (i : grid0.Coords) : Fin 4 → Nat :=
  let c1_54 : Index := 1#32
  let arg1 : BitVec 32 := BitVec.ofNat 32 (i 1).val
  let v122 : Index := Scalar.indexCast arg1
  let c1_55 : Index := 1#32
  let c0_56 : Index := 0#32
  ![1, v122.toNat, 1, 0]
@[reducible] def k0_t1_loop (i : grid0.Coords) : Scf.Loop 32 :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_65 : BitVec 32 := 1#32
  ⟨v145, v150, c1_i32_65⟩
def k0_mult2 (i : grid0.Coords) (k0_t1 : Fin (k0_t1_loop i).trips) : BitVec 32 :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  v161
def k0_off9 (i : grid0.Coords) (k0_t1 : Fin (k0_t1_loop i).trips) : Fin 2 → Nat :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  let v162 : BitVec 32 := v161
  let v163 : Index := Scalar.indexCast v162
  let c0_84 : Index := 0#32
  ![v163.toNat, 0]
def k0_off10 (i : grid0.Coords) (k0_t1 : Fin (k0_t1_loop i).trips) : Fin 4 → Nat :=
  let c0_87 : Index := 0#32
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let v170 : Index := Scalar.indexCast arg10
  let c0_88 : Index := 0#32
  let c0_89 : Index := 0#32
  ![0, v170.toNat, 0, 0]
def k0_off11 (i : grid0.Coords) (k0_t1 : Fin (k0_t1_loop i).trips) : Fin 2 → Nat :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  let v162 : BitVec 32 := v161
  let v191 : Index := Scalar.indexCast v162
  let c128_96 : Index := 128#32
  ![v191.toNat, 128]
def k0_off12 (i : grid0.Coords) (k0_t1 : Fin (k0_t1_loop i).trips) : Fin 4 → Nat :=
  let c0_99 : Index := 0#32
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let v198 : Index := Scalar.indexCast arg10
  let c1_100 : Index := 1#32
  let c0_101 : Index := 0#32
  ![0, v198.toNat, 1, 0]
def k0_off13 (i : grid0.Coords) (k0_t1 : Fin (k0_t1_loop i).trips) : Fin 2 → Nat :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  let v162 : BitVec 32 := v161
  let v219 : Index := Scalar.indexCast v162
  let c256_108 : Index := 256#32
  ![v219.toNat, 256]
def k0_off14 (i : grid0.Coords) (k0_t1 : Fin (k0_t1_loop i).trips) : Fin 4 → Nat :=
  let c1_111 : Index := 1#32
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let v226 : Index := Scalar.indexCast arg10
  let c0_112 : Index := 0#32
  let c0_113 : Index := 0#32
  ![1, v226.toNat, 0, 0]
def k0_off15 (i : grid0.Coords) (k0_t1 : Fin (k0_t1_loop i).trips) : Fin 2 → Nat :=
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let c512_i32_83 : BitVec 32 := 512#32
  let v161 : BitVec 32 := Scalar.muli arg10 c512_i32_83
  let v162 : BitVec 32 := v161
  let v247 : Index := Scalar.indexCast v162
  let c384_120 : Index := 384#32
  ![v247.toNat, 384]
def k0_off16 (i : grid0.Coords) (k0_t1 : Fin (k0_t1_loop i).trips) : Fin 4 → Nat :=
  let c1_123 : Index := 1#32
  let arg1 : BitVec 32 := BitVec.ofNat 32 (i 1).val
  let c1_i32 : BitVec 32 := 1#32
  let v145 : BitVec 32 := Scalar.addi arg1 c1_i32
  let c1_i32_65 : BitVec 32 := 1#32
  let arg10 : BitVec 32 := Scf.iv v145 c1_i32_65 k0_t1
  let v254 : Index := Scalar.indexCast arg10
  let c1_124 : Index := 1#32
  let c0_125 : Index := 0#32
  ![1, v254.toNat, 1, 0]
@[reducible] def k0_t2_loop (i : grid0.Coords) : Scf.Loop 32 :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let v147 : BitVec 32 := Scalar.addi v145 v146
  let c1_i32_66 : BitVec 32 := 1#32
  ⟨v150, v147, c1_i32_66⟩
def k0_mult3 (i : grid0.Coords) (k0_t2 : Fin (k0_t2_loop i).trips) : BitVec 32 :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  v161
def k0_off17 (i : grid0.Coords) (k0_t2 : Fin (k0_t2_loop i).trips) : Fin 2 → Nat :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  let v162 : BitVec 32 := v161
  let v163 : Index := Scalar.indexCast v162
  let c0_84 : Index := 0#32
  ![v163.toNat, 0]
def k0_off18 (i : grid0.Coords) (k0_t2 : Fin (k0_t2_loop i).trips) : Fin 4 → Nat :=
  let c0_87 : Index := 0#32
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let v170 : Index := Scalar.indexCast arg10
  let c0_88 : Index := 0#32
  let c0_89 : Index := 0#32
  ![0, v170.toNat, 0, 0]
def k0_off19 (i : grid0.Coords) (k0_t2 : Fin (k0_t2_loop i).trips) : Fin 2 → Nat :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  let v162 : BitVec 32 := v161
  let v191 : Index := Scalar.indexCast v162
  let c128_96 : Index := 128#32
  ![v191.toNat, 128]
def k0_off20 (i : grid0.Coords) (k0_t2 : Fin (k0_t2_loop i).trips) : Fin 4 → Nat :=
  let c0_99 : Index := 0#32
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let v198 : Index := Scalar.indexCast arg10
  let c1_100 : Index := 1#32
  let c0_101 : Index := 0#32
  ![0, v198.toNat, 1, 0]
def k0_off21 (i : grid0.Coords) (k0_t2 : Fin (k0_t2_loop i).trips) : Fin 2 → Nat :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  let v162 : BitVec 32 := v161
  let v219 : Index := Scalar.indexCast v162
  let c256_108 : Index := 256#32
  ![v219.toNat, 256]
def k0_off22 (i : grid0.Coords) (k0_t2 : Fin (k0_t2_loop i).trips) : Fin 4 → Nat :=
  let c1_111 : Index := 1#32
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let v226 : Index := Scalar.indexCast arg10
  let c0_112 : Index := 0#32
  let c0_113 : Index := 0#32
  ![1, v226.toNat, 0, 0]
def k0_off23 (i : grid0.Coords) (k0_t2 : Fin (k0_t2_loop i).trips) : Fin 2 → Nat :=
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let c512_i32_83 : BitVec 32 := 512#32
  let v161 : BitVec 32 := Scalar.muli arg10 c512_i32_83
  let v162 : BitVec 32 := v161
  let v247 : Index := Scalar.indexCast v162
  let c384_120 : Index := 384#32
  ![v247.toNat, 384]
def k0_off24 (i : grid0.Coords) (k0_t2 : Fin (k0_t2_loop i).trips) : Fin 4 → Nat :=
  let c1_123 : Index := 1#32
  let arg1 : BitVec 32 := BitVec.ofNat 32 (i 1).val
  let c1_i32 : BitVec 32 := 1#32
  let v145 : BitVec 32 := Scalar.addi arg1 c1_i32
  let c8_i32 : BitVec 32 := 8#32
  let v146 : BitVec 32 := Scalar.subi c8_i32 v145
  let c1_i32_64 : BitVec 32 := 1#32
  let v148 : BitVec 32 := Scalar.divsi v146 c1_i32_64
  let v149 : BitVec 32 := Scalar.muli v148 c1_i32_64
  let v150 : BitVec 32 := Scalar.addi v145 v149
  let c1_i32_66 : BitVec 32 := 1#32
  let arg10 : BitVec 32 := Scf.iv v150 c1_i32_66 k0_t2
  let v254 : Index := Scalar.indexCast arg10
  let c1_124 : Index := 1#32
  let c0_125 : Index := 0#32
  ![1, v254.toNat, 1, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F] [Named F]
def κ : String → Option EReal := fun
  | "mask" => some ⊥
  | _ => none
-- ==== Reference2Ideal.lean ====
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x64x4096 : Shape := ⟨3, ![8, 64, 4096]⟩

abbrev nBuf : Space → Nat
  | .hbm => 104
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096x1, .f32⟩
  | .hbm, ⟨10, _⟩ => ⟨S8x4096x4096, .f32⟩
  | .hbm, ⟨11, _⟩ => ⟨S8x4096x4096, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x1x4096, .i32⟩
  | .hbm, ⟨17, _⟩ => ⟨S1x4096x1, .i32⟩
  | .hbm, ⟨18, _⟩ => ⟨S1x4096x4096, .i32⟩
  | .hbm, ⟨19, _⟩ => ⟨S1x4096x4096, .i32⟩
  | .hbm, ⟨20, _⟩ => ⟨S1x4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .i1⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x64, .f32⟩
  | .hbm, ⟨67, _⟩ => ⟨S8x64x4096, .f32⟩
  | .hbm, ⟨68, _⟩ => ⟨S8x4096x64, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S8x4096x1, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096, .f32⟩
  | .hbm, ⟨90, _⟩ => ⟨S8x1x4096, .f32⟩
  | .hbm, ⟨91, _⟩ => ⟨S_, .f32⟩
  | .hbm, ⟨92, _⟩ => ⟨S8x4096, .f32⟩
  | .hbm, ⟨93, _⟩ => ⟨S_, .f32⟩
  | .hbm, ⟨94, _⟩ => ⟨S8x4096, .f32⟩
  | .hbm, ⟨95, _⟩ => ⟨S8x4096x1, .f32⟩
  | .hbm, ⟨96, _⟩ => ⟨S_, .f32⟩
  | .hbm, ⟨97, _⟩ => ⟨S8x4096, .f32⟩
  | .hbm, ⟨98, _⟩ => ⟨S8x4096, .f32⟩
  | .hbm, ⟨99, _⟩ => ⟨S_, .f32⟩
  | .hbm, ⟨100, _⟩ => ⟨S8x4096x4096, .f32⟩
  | .hbm, ⟨101, _⟩ => ⟨S8x4096x4096, .f32⟩
  | .hbm, ⟨102, _⟩ => ⟨S8x4096x64, .f32⟩
  | .hbm, ⟨103, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

def κ : String → Option EReal := fun
  | "mask" => some ⊥
  | _ => none
-- ==== Kernel3.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S_ : Shape := ⟨0, ![]⟩
abbrev S4x4096x128 : Shape := ⟨3, ![4, 4096, 128]⟩
abbrev S1x128 : Shape := ⟨2, ![1, 128]⟩
abbrev S4x8x8x512 : Shape := ⟨4, ![4, 8, 8, 512]⟩
abbrev S512x1024 : Shape := ⟨2, ![512, 1024]⟩
abbrev S512x256 : Shape := ⟨2, ![512, 256]⟩
abbrev S512x512 : Shape := ⟨2, ![512, 512]⟩
abbrev S4x512x128 : Shape := ⟨3, ![4, 512, 128]⟩
abbrev S4x1x8x512 : Shape := ⟨4, ![4, 1, 8, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S512x128 : Shape := ⟨2, ![512, 128]⟩
abbrev S1x512x128 : Shape := ⟨3, ![1, 512, 128]⟩
abbrev S128x512 : Shape := ⟨2, ![128, 512]⟩
abbrev S8x512 : Shape := ⟨2, ![8, 512]⟩
abbrev S1x1x8x512 : Shape := ⟨4, ![1, 1, 8, 512]⟩
abbrev S128x1024 : Shape := ⟨2, ![128, 1024]⟩

abbrev nBuf : Space → Nat
  | .hbm => 31
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S4096x512, .f32⟩
  | .hbm, ⟨4, _⟩ => ⟨S4096x512, .f32⟩
  | .hbm, ⟨5, _⟩ => ⟨S4096x256, .f32⟩
  | .hbm, ⟨6, _⟩ => ⟨S1024x1024, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4x4096x128, .f32⟩
  | .hbm, ⟨19, _⟩ => ⟨S4096x256, .bf16⟩
  | .hbm, ⟨20, _⟩ => ⟨S4096x512, .bf16⟩
  | .hbm, ⟨21, _⟩ => ⟨S4096x256, .bf16⟩
  | .hbm, ⟨22, _⟩ => ⟨S1024x1024, .bf16⟩
  | .hbm, ⟨23, _⟩ => ⟨S4096x1024, .f32⟩
  | .hbm, ⟨24, _⟩ => ⟨S4096x256, .f32⟩
  | .hbm, ⟨25, _⟩ => ⟨S4096x256, .f32⟩
  | .hbm, ⟨26, _⟩ => ⟨S1024x1024, .f32⟩
  | .hbm, ⟨27, _⟩ => ⟨S1x128, .f32⟩
  | .hbm, ⟨28, _⟩ => ⟨S4096x1024, .bf16⟩
  | .hbm, ⟨29, _⟩ => ⟨S4096x512, .bf16⟩
  | .hbm, ⟨30, _⟩ => ⟨S4x8x8x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S4x512x128, .f32⟩
  | .local _ .vmem, ⟨16, _⟩ => ⟨S4x512x128, .f32⟩
  | .local _ .vmem, ⟨17, _⟩ => ⟨S512x1024, .f32⟩
  | .local _ .vmem, ⟨18, _⟩ => ⟨S512x1024, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S1024x1024, .f32⟩
  | .local _ .vmem, ⟨24, _⟩ => ⟨S1x128, .f32⟩
  | .local _ .vmem, ⟨25, _⟩ => ⟨S512x1024, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | .local _ .vmem, ⟨29, _⟩ => ⟨S4x1x8x512, .f32⟩
  | .local _ .vmem, ⟨30, _⟩ => ⟨S4x1x8x512, .f32⟩
  | .local _ .vmem, ⟨31, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev main_v7_5 : Ref sig .tc := ⟨.hbm, 28, rfl⟩
abbrev main_v7_6 : Ref sig .tc := ⟨.hbm, 29, rfl⟩
abbrev main_v7_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S4096x1024 : Shape := ⟨2, ![4096, 1024]⟩
abbrev S4096x256 : Shape := ⟨2, ![4096, 256]⟩
abbrev S4096x512 : Shape := ⟨2, ![4096, 512]⟩
abbrev S1024x1024 : Shape := ⟨2, ![1024, 1024]⟩
abbrev S_ : Shape := ⟨0, ![]⟩
abbrev S4096 : Shape := ⟨1, ![4096]⟩
abbrev S4096x8x64 : Shape := ⟨3, ![4096, 8, 64]⟩
abbrev S4096x8 : Shape := ⟨2, ![4096, 8]⟩
abbrev S4096x8x1 : Shape := ⟨3, ![4096, 8, 1]⟩
abbrev S4096x8x63 : Shape := ⟨3, ![4096, 8, 63]⟩
abbrev S4096x8x128 : Shape := ⟨3, ![4096, 8, 128]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S4096x512, .f32⟩
  | .hbm, ⟨4, _⟩ => ⟨S4096x512, .f32⟩
  | .hbm, ⟨5, _⟩ => ⟨S4096x256, .f32⟩
  | .hbm, ⟨6, _⟩ => ⟨S1024x1024, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S1024x1024, .f32⟩
  | .hbm, ⟨48, _⟩ => ⟨S1024x1024, .f32⟩
  | .hbm, ⟨49, _⟩ => ⟨S4096x1024, .f32⟩
  | .hbm, ⟨50, _⟩ => ⟨S4096x256, .f32⟩
  | .hbm, ⟨51, _⟩ => ⟨S4096x512, .f32⟩
  | .hbm, ⟨52, _⟩ => ⟨S4096x256, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x8x64, .f32⟩
  | .hbm, ⟨61, _⟩ => ⟨S_, .f32⟩
  | .hbm, ⟨62, _⟩ => ⟨S4096x8, .f32⟩
  | .hbm, ⟨63, _⟩ => ⟨S4096x8x1, .f32⟩
  | .hbm, ⟨64, _⟩ => ⟨S4096x8x64, .f32⟩
  | .hbm, ⟨65, _⟩ => ⟨S4096x8x1, .f32⟩
  | .hbm, ⟨66, _⟩ => ⟨S_, .f32⟩
  | .hbm, ⟨67, _⟩ => ⟨S4096x8x63, .f32⟩
  | .hbm, ⟨68, _⟩ => ⟨S4096x8x128, .f32⟩
  | .hbm, ⟨69, _⟩ => ⟨S1x128, .f32⟩
  | .hbm, ⟨70, _⟩ => ⟨S4096x1024, .f32⟩
  | .hbm, ⟨71, _⟩ => ⟨S4096x1024, .bf16⟩
  | .hbm, ⟨72, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_cst_4 : Ref sig .tc := ⟨.hbm, 38, rfl⟩
abbrev main_cst_5 : Ref sig .tc := ⟨.hbm, 39, rfl⟩
abbrev main_v14 : Ref sig .tc := ⟨.hbm, 40, rfl⟩
abbrev main_v15 : Ref sig .tc := ⟨.hbm, 41, rfl⟩
abbrev main_cst_6 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_8 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩

abbrev nD : Nat := 1
abbrev τ : Topo := Topo.v7x

variable {F : FTy → Type} [FloatOps F]
-- ==== Kernel4.lean ====
abbrev S4096x1024 : Shape := ⟨2, ![4096, 1024]⟩
abbrev S4096x8 : Shape := ⟨2, ![4096, 8]⟩
abbrev S1x8 : Shape := ⟨2, ![1, 8]⟩
abbrev S1x64 : Shape := ⟨2, ![1, 64]⟩
abbrev S4096x512 : Shape := ⟨2, ![4096, 512]⟩
abbrev S4096x8x64 : Shape := ⟨3, ![4096, 8, 64]⟩
abbrev S_ : Shape := ⟨0, ![]⟩
abbrev S4096x8x1 : Shape := ⟨3, ![4096, 8, 1]⟩
abbrev S4096x8x128 : Shape := ⟨3, ![4096, 8, 128]⟩
abbrev S4096x128 : Shape := ⟨2, ![4096, 128]⟩
abbrev S1x128 : Shape := ⟨2, ![1, 128]⟩
abbrev S1x512 : Shape := ⟨2, ![1, 512]⟩
abbrev S3080x1024 : Shape := ⟨2, ![3080, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩
abbrev S8x1024 : Shape := ⟨2, ![8, 1024]⟩
abbrev S128x1024 : Shape := ⟨2, ![128, 1024]⟩

abbrev nBuf : Space → Nat
  | .hbm => 55
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x512, .f32⟩
  | .hbm, ⟨12, _⟩ => ⟨S4096x512, .f32⟩
  | .hbm, ⟨13, _⟩ => ⟨S4096x8x64, .i32⟩
  | .hbm, ⟨14, _⟩ => ⟨S4096x8x64, .i32⟩
  | .hbm, ⟨15, _⟩ => ⟨S_, .i32⟩
  | .hbm, ⟨16, _⟩ => ⟨S4096x8x64, .i32⟩
  | .hbm, ⟨17, _⟩ => ⟨S4096x8x64, .i32⟩
  | .hbm, ⟨18, _⟩ => ⟨S4096x8x64, .i1⟩
  | .hbm, ⟨19, _⟩ => ⟨S_, .f32⟩
  | .hbm, ⟨20, _⟩ => ⟨S4096x8x64, .f32⟩
  | .hbm, ⟨21, _⟩ => ⟨S4096x8x1, .f32⟩
  | .hbm, ⟨22, _⟩ => ⟨S_, .f32⟩
  | .hbm, ⟨23, _⟩ => ⟨S_, .f32⟩
  | .hbm, ⟨24, _⟩ => ⟨S4096x8x64, .f32⟩
  | .hbm, ⟨25, _⟩ => ⟨S4096x8x64, .f32⟩
  | .hbm, ⟨26, _⟩ => ⟨S4096x8x64, .f32⟩
  | .hbm, ⟨27, _⟩ => ⟨S4096x8x64, .f32⟩
  | .hbm, ⟨28, _⟩ => ⟨S4096x8x128, .f32⟩
  | .hbm, ⟨29, _⟩ => ⟨S4096x1024, .f32⟩
  | .hbm, ⟨30, _⟩ => ⟨S4096x8x64, .f32⟩
  | .hbm, ⟨31, _⟩ => ⟨S4096x8x128, .f32⟩
  | .hbm, ⟨32, _⟩ => ⟨S4096x1024, .f32⟩
  | .hbm, ⟨33, _⟩ => ⟨S4096x8x64, .f32⟩
  | .hbm, ⟨34, _⟩ => ⟨S4096x8x128, .f32⟩
  | .hbm, ⟨35, _⟩ => ⟨S4096x1024, .f32⟩
  | .hbm, ⟨36, _⟩ => ⟨S_, .i32⟩
  | .hbm, ⟨37, _⟩ => ⟨S_, .f32⟩
  | .hbm, ⟨38, _⟩ => ⟨S4096x128, .f32⟩
  | .hbm, ⟨39, _⟩ => ⟨S_, .i32⟩
  | .hbm, ⟨40, _⟩ => ⟨S_, .f32⟩
  | .hbm, ⟨41, _⟩ => ⟨S1x128, .f32⟩
  | .hbm, ⟨42, _⟩ => ⟨S1x512, .f32⟩
  | .hbm, ⟨43, _⟩ => ⟨S1x512, .f32⟩
  | .hbm, ⟨44, _⟩ => ⟨S4096x1024, .bf16⟩
  | .hbm, ⟨45, _⟩ => ⟨S4096x512, .bf16⟩
  | .hbm, ⟨46, _⟩ => ⟨S4096x512, .bf16⟩
  | .hbm, ⟨47, _⟩ => ⟨S4096x512, .bf16⟩
  | .hbm, ⟨48, _⟩ => ⟨S3080x1024, .f32⟩
  | .hbm, ⟨49, _⟩ => ⟨S4096x1024, .bf16⟩
  | .hbm, ⟨50, _⟩ => ⟨S4096x512, .bf16⟩
  | .hbm, ⟨51, _⟩ => ⟨S4096x128, .f32⟩
  | .hbm, ⟨52, _⟩ => ⟨S1x128, .f32⟩
  | .hbm, ⟨53, _⟩ => ⟨S1x128, .f32⟩
  | .hbm, ⟨54, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x512, .f32⟩
  | .local _ .vmem, ⟨20, _⟩ => ⟨S1x512, .f32⟩
  | .local _ .vmem, ⟨21, _⟩ => ⟨S3080x1024, .f32⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x128, .f32⟩
  | .local _ .vmem, ⟨27, _⟩ => ⟨S512x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x512, .f32⟩
  | .local _ .vmem, ⟨32, _⟩ => ⟨S1x512, .f32⟩
  | .local _ .vmem, ⟨33, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_call1_v0 : Ref sig .tc := ⟨.hbm, 37, rfl⟩
abbrev main_v17 : Ref sig .tc := ⟨.hbm, 38, rfl⟩
abbrev main_c_2 : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_v25_3 : Ref sig .tc := ⟨.hbm, 51, rfl⟩
abbrev main_v25_4 : Ref sig .tc := ⟨.hbm, 52, rfl⟩
abbrev main_v25_5 : Ref sig .tc := ⟨.hbm, 53, rfl⟩
abbrev main_v25_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v693 : BitVec 1 := Scalar.cmpi .eq arg0 c7_i32
  let v694 : BitVec 32 := Scalar.extui v693
  let c0_i32_330 : BitVec 32 := 0#32
  let v695 : BitVec 1 := Scalar.cmpi .ne v694 c0_i32_330
  v695

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3080x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference4Ideal.lean ====
abbrev S4096x1024 : Shape := ⟨2, ![4096, 1024]⟩
abbrev S4096x8 : Shape := ⟨2, ![4096, 8]⟩
abbrev S1x8 : Shape := ⟨2, ![1, 8]⟩
abbrev S1x64 : Shape := ⟨2, ![1, 64]⟩
abbrev S4096x512 : Shape := ⟨2, ![4096, 512]⟩
abbrev S4096x8x64 : Shape := ⟨3, ![4096, 8, 64]⟩
abbrev S1x1x64 : Shape := ⟨3, ![1, 1, 64]⟩
abbrev S_ : Shape := ⟨0, ![]⟩
abbrev S4096x8x1 : Shape := ⟨3, ![4096, 8, 1]⟩
abbrev S8 : Shape := ⟨1, ![8]⟩
abbrev S64 : Shape := ⟨1, ![64]⟩
abbrev S4096x3080 : Shape := ⟨2, ![4096, 3080]⟩
abbrev S1024x3080 : Shape := ⟨2, ![1024, 3080]⟩
abbrev S3080x1024 : Shape := ⟨2, ![3080, 1024]⟩
abbrev S4096x128 : Shape := ⟨2, ![4096, 128]⟩
abbrev S1x128 : Shape := ⟨2, ![1, 128]⟩

abbrev nBuf : Space → Nat
  | .hbm => 197
  | .vmem => 0
  | .smem => 0
  | _ => 0

abbrev hbmTy0_0 (i : Nat) : BufTy := match i % 128 with
  | 0 => ⟨S4096x1024, .f32⟩
  | 1 => ⟨S4096x1024, .f32⟩
  | 2 => ⟨S4096x8, .f32⟩
  | 3 => ⟨S1x8, .f32⟩
  | 4 => ⟨S1x64, .f32⟩
  | 5 => ⟨S1x64, .f32⟩
  | 6 => ⟨S4096x512, .f32⟩
  | 7 => ⟨S4096x512, .f32⟩
  | 8 => ⟨S4096x512, .f32⟩
  | 9 => ⟨S4096x512, .f32⟩
  | 10 => ⟨S4096x8, .f32⟩
  | 11 => ⟨S4096x512, .f32⟩
  | 12 => ⟨S4096x512, .f32⟩
  | 13 => ⟨S4096x512, .f32⟩
  | 14 => ⟨S4096x512, .f32⟩
  | 15 => ⟨S4096x8x64, .f32⟩
  | 16 => ⟨S1x1x64, .f32⟩
  | 17 => ⟨S4096x8x64, .f32⟩
  | 18 => ⟨S_, .f32⟩
  | 19 => ⟨S4096x8, .f32⟩
  | 20 => ⟨S4096x8x1, .f32⟩
  | 21 => ⟨S_, .f32⟩
  | 22 => ⟨S4096x8x1, .f32⟩
  | 23 => ⟨S4096x8x1, .f32⟩
  | 24 => ⟨S_, .f32⟩
  | 25 => ⟨S4096x8x1, .f32⟩
  | 26 => ⟨S4096x8x1, .f32⟩
  | 27 => ⟨S4096x8x1, .f32⟩
  | 28 => ⟨S4096x8x1, .f32⟩
  | 29 => ⟨S_, .f32⟩
  | 30 => ⟨S4096x8x1, .f32⟩
  | 31 => ⟨S4096x8x1, .f32⟩
  | 32 => ⟨S4096x8x64, .f32⟩
  | 33 => ⟨S4096x8x64, .f32⟩
  | 34 => ⟨S4096x8x64, .f32⟩
  | 35 => ⟨S4096x8x64, .f32⟩
  | 36 => ⟨S4096x512, .f32⟩
  | 37 => ⟨S_, .f32⟩
  | 38 => ⟨S4096x512, .f32⟩
  | 39 => ⟨S4096x512, .f32⟩
  | 40 => ⟨S4096x8x64, .f32⟩
  | 41 => ⟨S1x1x64, .f32⟩
  | 42 => ⟨S4096x8x64, .f32⟩
  | 43 => ⟨S_, .f32⟩
  | 44 => ⟨S4096x8, .f32⟩
  | 45 => ⟨S4096x8x1, .f32⟩
  | 46 => ⟨S_, .f32⟩
  | 47 => ⟨S4096x8x1, .f32⟩
  | 48 => ⟨S4096x8x1, .f32⟩
  | 49 => ⟨S_, .f32⟩
  | 50 => ⟨S4096x8x1, .f32⟩
  | 51 => ⟨S4096x8x1, .f32⟩
  | 52 => ⟨S4096x8x1, .f32⟩
  | 53 => ⟨S4096x8x1, .f32⟩
  | 54 => ⟨S_, .f32⟩
  | 55 => ⟨S4096x8x1, .f32⟩
  | 56 => ⟨S4096x8x1, .f32⟩
  | 57 => ⟨S4096x8x64, .f32⟩
  | 58 => ⟨S4096x8x64, .f32⟩
  | 59 => ⟨S4096x8x64, .f32⟩
  | 60 => ⟨S4096x8x64, .f32⟩
  | 61 => ⟨S4096x512, .f32⟩
  | 62 => ⟨S4096x8, .f32⟩
  | 63 => ⟨S4096x8, .f32⟩
  | 64 => ⟨S4096x8, .f32⟩
  | 65 => ⟨S_, .f32⟩
  | 66 => ⟨S4096x8, .f32⟩
  | 67 => ⟨S4096x8, .f32⟩
  | 68 => ⟨S4096x8, .f32⟩
  | 69 => ⟨S4096x8, .f32⟩
  | 70 => ⟨S4096x8, .i1⟩
  | 71 => ⟨S4096x8, .f32⟩
  | 72 => ⟨S4096x8, .f32⟩
  | 73 => ⟨S4096x8, .f32⟩
  | 74 => ⟨S4096x8, .f32⟩
  | 75 => ⟨S4096x8, .f32⟩
  | 76 => ⟨S4096x8, .f32⟩
  | 77 => ⟨S4096x8, .f32⟩
  | 78 => ⟨S4096x8, .f32⟩
  | 79 => ⟨S_, .f32⟩
  | 80 => ⟨S4096x8, .f32⟩
  | 81 => ⟨S4096x8, .i1⟩
  | 82 => ⟨S_, .f32⟩
  | 83 => ⟨S4096x8, .f32⟩
  | 84 => ⟨S4096x8, .f32⟩
  | 85 => ⟨S_, .f32⟩
  | 86 => ⟨S4096x8, .f32⟩
  | 87 => ⟨S4096x8, .i1⟩
  | 88 => ⟨S_, .f32⟩
  | 89 => ⟨S4096x8, .f32⟩
  | 90 => ⟨S4096x8, .f32⟩
  | 91 => ⟨S4096x8, .f32⟩
  | 92 => ⟨S4096x8, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S4096x8, .f32⟩
  | 101 => ⟨S4096x8, .i1⟩
  | 102 => ⟨S_, .f32⟩
  | 103 => ⟨S4096x8, .f32⟩
  | 104 => ⟨S4096x8, .f32⟩
  | 105 => ⟨S4096x8, .f32⟩
  | 106 => ⟨S4096x8, .f32⟩
  | 107 => ⟨S4096x8, .f32⟩
  | 108 => ⟨S_, .f32⟩
  | 109 => ⟨S4096x8, .f32⟩
  | 110 => ⟨S4096x8, .f32⟩
  | 111 => ⟨S4096x8, .f32⟩
  | 112 => ⟨S_, .f32⟩
  | 113 => ⟨S_, .f32⟩
  | 114 => ⟨S4096x8, .f32⟩
  | 115 => ⟨S_, .f32⟩
  | 116 => ⟨S_, .f32⟩
  | 117 => ⟨S4096x8, .f32⟩
  | 118 => ⟨S4096x8, .f32⟩
  | 119 => ⟨S4096x8, .f32⟩
  | 120 => ⟨S4096x8, .f32⟩
  | 121 => ⟨S_, .f32⟩
  | 122 => ⟨S8, .f32⟩
  | 123 => ⟨S1x8, .f32⟩
  | 124 => ⟨S4096x8x64, .f32⟩
  | 125 => ⟨S4096x8x64, .f32⟩
  | 126 => ⟨S_, .f32⟩
  | 127 => ⟨S64, .f32⟩
  | _ => ⟨S4096x1024, .f32⟩

abbrev hbmTy0_1 (i : Nat) : BufTy := match i % 128 with
  | 0 => ⟨S1x1x64, .f32⟩
  | 1 => ⟨S4096x8x64, .f32⟩
  | 2 => ⟨S4096x8x64, .f32⟩
  | 3 => ⟨S4096x8x64, .f32⟩
  | 4 => ⟨S_, .f32⟩
  | 5 => ⟨S4096x8, .f32⟩
  | 6 => ⟨S4096x8x1, .f32⟩
  | 7 => ⟨S4096x8x64, .f32⟩
  | 8 => ⟨S4096x8x64, .f32⟩
  | 9 => ⟨S4096x8x1, .f32⟩
  | 10 => ⟨S_, .f32⟩
  | 11 => ⟨S4096x8x1, .f32⟩
  | 12 => ⟨S4096x8x1, .f32⟩
  | 13 => ⟨S_, .f32⟩
  | 14 => ⟨S4096x8, .f32⟩
  | 15 => ⟨S4096x8x64, .f32⟩
  | 16 => ⟨S4096x8x64, .f32⟩
  | 17 => ⟨S4096x8x64, .f32⟩
  | 18 => ⟨S4096x8x64, .f32⟩
  | 19 => ⟨S4096x8x64, .f32⟩
  | 20 => ⟨S1x64, .f32⟩
  | 21 => ⟨S4096x512, .f32⟩
  | 22 => ⟨S_, .f32⟩
  | 23 => ⟨S4096x512, .f32⟩
  | 24 => ⟨S4096x512, .f32⟩
  | 25 => ⟨S4096x8x64, .f32⟩
  | 26 => ⟨S4096x8x64, .f32⟩
  | 27 => ⟨S_, .f32⟩
  | 28 => ⟨S64, .f32⟩
  | 29 => ⟨S1x1x64, .f32⟩
  | 30 => ⟨S4096x8x64, .f32⟩
  | 31 => ⟨S4096x8x64, .f32⟩
  | 32 => ⟨S4096x8x64, .f32⟩
  | 33 => ⟨S_, .f32⟩
  | 34 => ⟨S4096x8, .f32⟩
  | 35 => ⟨S4096x8x1, .f32⟩
  | 36 => ⟨S4096x8x64, .f32⟩
  | 37 => ⟨S4096x8x64, .f32⟩
  | 38 => ⟨S4096x8x1, .f32⟩
  | 39 => ⟨S_, .f32⟩
  | 40 => ⟨S4096x8x1, .f32⟩
  | 41 => ⟨S4096x8x1, .f32⟩
  | 42 => ⟨S_, .f32⟩
  | 43 => ⟨S4096x8, .f32⟩
  | 44 => ⟨S4096x8x64, .f32⟩
  | 45 => ⟨S4096x8x64, .f32⟩
  | 46 => ⟨S4096x8x64, .f32⟩
  | 47 => ⟨S4096x8x64, .f32⟩
  | 48 => ⟨S4096x8x64, .f32⟩
  | 49 => ⟨S1x64, .f32⟩
  | 50 => ⟨S4096x512, .f32⟩
  | 51 => ⟨S4096x3080, .f32⟩
  | 52 => ⟨S_, .f32⟩
  | 53 => ⟨S1024x3080, .f32⟩
  | 54 => ⟨S4096x3080, .f32⟩
  | 55 => ⟨S3080x1024, .f32⟩
  | 56 => ⟨S1024x3080, .f32⟩
  | 57 => ⟨S3080x1024, .f32⟩
  | 58 => ⟨S4096x1024, .f32⟩
  | 59 => ⟨S4096x1024, .bf16⟩
  | 60 => ⟨S4096x512, .bf16⟩
  | 61 => ⟨S_, .i32⟩
  | 62 => ⟨S_, .f32⟩
  | 63 => ⟨S4096x128, .f32⟩
  | 64 => ⟨S1x128, .f32⟩
  | 65 => ⟨S1x128, .f32⟩
  | 66 => ⟨S_, .i32⟩
  | 67 => ⟨S_, .f32⟩
  | 68 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_v0 : Ref sig .tc := ⟨.hbm, 64, rfl⟩
abbrev main_call0_call0_cst : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_call0_v2 : Ref sig .tc := ⟨.hbm, 68, rfl⟩
abbrev main_call0_call0_v3 : Ref sig .tc := ⟨.hbm, 69, rfl⟩
abbrev main_call0_call0_v4 : Ref sig .tc := ⟨.hbm, 70, rfl⟩
abbrev main_call0_call0_v5 : Ref sig .tc := ⟨.hbm, 71, rfl⟩
abbrev main_call0_call0_v6 : Ref sig .tc := ⟨.hbm, 72, rfl⟩
abbrev main_call0_call0_v7 : Ref sig .tc := ⟨.hbm, 73, rfl⟩
abbrev main_call0_call0_v8 : Ref sig .tc := ⟨.hbm, 74, rfl⟩
abbrev main_call0_call0_v9 : Ref sig .tc := ⟨.hbm, 75, rfl⟩
abbrev main_call0_call0_v10 : Ref sig .tc := ⟨.hbm, 76, rfl⟩
abbrev main_call0_call0_v11 : Ref sig .tc := ⟨.hbm, 77, rfl⟩
abbrev main_call0_v1_0 : Ref sig .tc := ⟨.hbm, 78, rfl⟩
abbrev main_call0_call0_cst_0 : Ref sig .tc := ⟨.hbm, 79, rfl⟩
abbrev main_call0_call0_v13 : Ref sig .tc := ⟨.hbm, 80, rfl⟩
abbrev main_call0_call0_v14 : Ref sig .tc := ⟨.hbm, 81, rfl⟩
abbrev main_call0_call0_cst_1 : Ref sig .tc := ⟨.hbm, 82, rfl⟩
abbrev main_call0_call0_v15 : Ref sig .tc := ⟨.hbm, 83, rfl⟩
abbrev main_call0_call0_v16 : Ref sig .tc := ⟨.hbm, 84, rfl⟩
abbrev main_call0_call0_cst_2 : Ref sig .tc := ⟨.hbm, 85, rfl⟩
abbrev main_call0_call0_v17 : Ref sig .tc := ⟨.hbm, 86, rfl⟩
abbrev main_call0_call0_v18 : Ref sig .tc := ⟨.hbm, 87, rfl⟩
abbrev main_call0_call0_cst_3 : Ref sig .tc := ⟨.hbm, 88, rfl⟩
abbrev main_call0_call0_v19 : Ref sig .tc := ⟨.hbm, 89, rfl⟩
abbrev main_call0_call0_v20 : Ref sig .tc := ⟨.hbm, 90, rfl⟩
abbrev main_call0_call0_v21 : Ref sig .tc := ⟨.hbm, 91, rfl⟩
abbrev main_v42_1 : Ref sig .tc := ⟨.hbm, 92, rfl⟩
abbrev main_call0_call0_cst_4 : Ref sig .tc := ⟨.hbm, 93, rfl⟩
abbrev main_call0_call0_cst_5 : Ref sig .tc := ⟨.hbm, 94, rfl⟩
abbrev main_call0_call0_v23 : Ref sig .tc := ⟨.hbm, 95, rfl⟩
abbrev main_call0_call0_cst_6 : Ref sig .tc := ⟨.hbm, 96, rfl⟩
abbrev main_call0_call0_cst_7 : Ref sig .tc := ⟨.hbm, 97, rfl⟩
abbrev main_call0_call0_v24 : Ref sig .tc := ⟨.hbm, 98, rfl⟩
abbrev main_call0_call0_cst_8 : Ref sig .tc := ⟨.hbm, 99, rfl⟩
abbrev main_call0_call0_v25 : Ref sig .tc := ⟨.hbm, 100, rfl⟩
abbrev main_call0_call0_v26 : Ref sig .tc := ⟨.hbm, 101, rfl⟩
abbrev main_call0_call0_cst_9 : Ref sig .tc := ⟨.hbm, 102, rfl⟩
abbrev main_call0_call0_v27 : Ref sig .tc := ⟨.hbm, 103, rfl⟩
abbrev main_call0_call0_v28 : Ref sig .tc := ⟨.hbm, 104, rfl⟩
abbrev main_call0_call0_v29 : Ref sig .tc := ⟨.hbm, 105, rfl⟩
abbrev main_call0_call0_v30 : Ref sig .tc := ⟨.hbm, 106, rfl⟩
abbrev main_call0_call0_v31 : Ref sig .tc := ⟨.hbm, 107, rfl⟩
abbrev main_call0_call0_cst_10 : Ref sig .tc := ⟨.hbm, 108, rfl⟩
abbrev main_call0_call0_v32 : Ref sig .tc := ⟨.hbm, 109, rfl⟩
abbrev main_v42_2 : Ref sig .tc := ⟨.hbm, 110, rfl⟩
abbrev main_v42_0 : Ref sig .tc := ⟨.hbm, 111, rfl⟩
abbrev main_call1_call0_cst : Ref sig .tc := ⟨.hbm, 112, rfl⟩
abbrev main_call1_call0_v0 : Ref sig .tc := ⟨.hbm, 113, rfl⟩
abbrev main_v43 : Ref sig .tc := ⟨.hbm, 114, rfl⟩
abbrev main_call2_call0_cst : Ref sig .tc := ⟨.hbm, 115, rfl⟩
abbrev main_call2_call0_v0 : Ref sig .tc := ⟨.hbm, 116, rfl⟩
abbrev main_v44 : Ref sig .tc := ⟨.hbm, 117, rfl⟩
abbrev main_call3_v0 : Ref sig .tc := ⟨.hbm, 118, rfl⟩
abbrev main_call3_v1 : Ref sig .tc := ⟨.hbm, 119, rfl⟩
abbrev main_v45 : Ref sig .tc := ⟨.hbm, 120, rfl⟩
abbrev main_cst_8 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_cst_9 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_cst_10 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_cst_11 : Ref sig .tc := ⟨.hbm, 138, rfl⟩
abbrev main_v60 : Ref sig .tc := ⟨.hbm, 139, rfl⟩
abbrev main_v61 : Ref sig .tc := ⟨.hbm, 140, rfl⟩
abbrev main_cst_12 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_cst_13 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_14 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_cst_15 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_cst_16 : Ref sig .tc := ⟨.hbm, 167, rfl⟩
abbrev main_v84 : Ref sig .tc := ⟨.hbm, 168, rfl⟩
abbrev main_v85 : Ref sig .tc := ⟨.hbm, 169, rfl⟩
abbrev main_cst_17 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_18 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_c : Ref sig .tc := ⟨.hbm, 189, rfl⟩
abbrev main_call4_v0 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_c_19 : Ref sig .tc := ⟨.hbm, 194, rfl⟩
abbrev main_call5_v0 : Ref sig .tc := ⟨.hbm, 195, rfl⟩
abbrev main_v106 : Ref sig .tc := ⟨.hbm, 196, rfl⟩

abbrev nD : Nat := 1
abbrev τ : Topo := Topo.v7x

variable {F : FTy → Type} [FloatOps F]
-- ==== Kernel5.lean ====
abbrev S4096x1024 : Shape := ⟨2, ![4096, 1024]⟩
abbrev S4096x8 : Shape := ⟨2, ![4096, 8]⟩
abbrev S1x8 : Shape := ⟨2, ![1, 8]⟩
abbrev S1x64 : Shape := ⟨2, ![1, 64]⟩
abbrev S4096x512 : Shape := ⟨2, ![4096, 512]⟩
abbrev S4096x8x64 : Shape := ⟨3, ![4096, 8, 64]⟩
abbrev S_ : Shape := ⟨0, ![]⟩
abbrev S4096x8x1 : Shape := ⟨3, ![4096, 8, 1]⟩
abbrev S4096x8x128 : Shape := ⟨3, ![4096, 8, 128]⟩
abbrev S4096x128 : Shape := ⟨2, ![4096, 128]⟩
abbrev S1x128 : Shape := ⟨2, ![1, 128]⟩
abbrev S1x512 : Shape := ⟨2, ![1, 512]⟩
abbrev S3080x1024 : Shape := ⟨2, ![3080, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩
abbrev S8x1024 : Shape := ⟨2, ![8, 1024]⟩
abbrev S128x1024 : Shape := ⟨2, ![128, 1024]⟩

abbrev nBuf : Space → Nat
  | .hbm => 55
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x512, .f32⟩
  | .hbm, ⟨12, _⟩ => ⟨S4096x512, .f32⟩
  | .hbm, ⟨13, _⟩ => ⟨S4096x8x64, .i32⟩
  | .hbm, ⟨14, _⟩ => ⟨S4096x8x64, .i32⟩
  | .hbm, ⟨15, _⟩ => ⟨S_, .i32⟩
  | .hbm, ⟨16, _⟩ => ⟨S4096x8x64, .i32⟩
  | .hbm, ⟨17, _⟩ => ⟨S4096x8x64, .i32⟩
  | .hbm, ⟨18, _⟩ => ⟨S4096x8x64, .i1⟩
  | .hbm, ⟨19, _⟩ => ⟨S_, .f32⟩
  | .hbm, ⟨20, _⟩ => ⟨S4096x8x64, .f32⟩
  | .hbm, ⟨21, _⟩ => ⟨S4096x8x1, .f32⟩
  | .hbm, ⟨22, _⟩ => ⟨S_, .f32⟩
  | .hbm, ⟨23, _⟩ => ⟨S_, .f32⟩
  | .hbm, ⟨24, _⟩ => ⟨S4096x8x64, .f32⟩
  | .hbm, ⟨25, _⟩ => ⟨S4096x8x64, .f32⟩
  | .hbm, ⟨26, _⟩ => ⟨S4096x8x64, .f32⟩
  | .hbm, ⟨27, _⟩ => ⟨S4096x8x64, .f32⟩
  | .hbm, ⟨28, _⟩ => ⟨S4096x8x128, .f32⟩
  | .hbm, ⟨29, _⟩ => ⟨S4096x1024, .f32⟩
  | .hbm, ⟨30, _⟩ => ⟨S4096x8x64, .f32⟩
  | .hbm, ⟨31, _⟩ => ⟨S4096x8x128, .f32⟩
  | .hbm, ⟨32, _⟩ => ⟨S4096x1024, .f32⟩
  | .hbm, ⟨33, _⟩ => ⟨S4096x8x64, .f32⟩
  | .hbm, ⟨34, _⟩ => ⟨S4096x8x128, .f32⟩
  | .hbm, ⟨35, _⟩ => ⟨S4096x1024, .f32⟩
  | .hbm, ⟨36, _⟩ => ⟨S_, .i32⟩
  | .hbm, ⟨37, _⟩ => ⟨S_, .f32⟩
  | .hbm, ⟨38, _⟩ => ⟨S4096x128, .f32⟩
  | .hbm, ⟨39, _⟩ => ⟨S_, .i32⟩
  | .hbm, ⟨40, _⟩ => ⟨S_, .f32⟩
  | .hbm, ⟨41, _⟩ => ⟨S1x128, .f32⟩
  | .hbm, ⟨42, _⟩ => ⟨S1x512, .f32⟩
  | .hbm, ⟨43, _⟩ => ⟨S1x512, .f32⟩
  | .hbm, ⟨44, _⟩ => ⟨S4096x1024, .bf16⟩
  | .hbm, ⟨45, _⟩ => ⟨S4096x512, .bf16⟩
  | .hbm, ⟨46, _⟩ => ⟨S4096x512, .bf16⟩
  | .hbm, ⟨47, _⟩ => ⟨S4096x512, .bf16⟩
  | .hbm, ⟨48, _⟩ => ⟨S3080x1024, .f32⟩
  | .hbm, ⟨49, _⟩ => ⟨S4096x1024, .bf16⟩
  | .hbm, ⟨50, _⟩ => ⟨S4096x512, .bf16⟩
  | .hbm, ⟨51, _⟩ => ⟨S4096x128, .f32⟩
  | .hbm, ⟨52, _⟩ => ⟨S1x128, .f32⟩
  | .hbm, ⟨53, _⟩ => ⟨S1x128, .f32⟩
  | .hbm, ⟨54, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x512, .f32⟩
  | .local _ .vmem, ⟨20, _⟩ => ⟨S1x512, .f32⟩
  | .local _ .vmem, ⟨21, _⟩ => ⟨S3080x1024, .f32⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x128, .f32⟩
  | .local _ .vmem, ⟨27, _⟩ => ⟨S512x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x512, .f32⟩
  | .local _ .vmem, ⟨32, _⟩ => ⟨S1x512, .f32⟩
  | .local _ .vmem, ⟨33, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_call1_v0 : Ref sig .tc := ⟨.hbm, 37, rfl⟩
abbrev main_v17 : Ref sig .tc := ⟨.hbm, 38, rfl⟩
abbrev main_c_2 : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_v25_3 : Ref sig .tc := ⟨.hbm, 51, rfl⟩
abbrev main_v25_4 : Ref sig .tc := ⟨.hbm, 52, rfl⟩
abbrev main_v25_5 : Ref sig .tc := ⟨.hbm, 53, rfl⟩
abbrev main_v25_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v693 : BitVec 1 := Scalar.cmpi .eq arg0 c7_i32
  let v694 : BitVec 32 := Scalar.extui v693
  let c0_i32_330 : BitVec 32 := 0#32
  let v695 : BitVec 1 := Scalar.cmpi .ne v694 c0_i32_330
  v695

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3080x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference5Ideal.lean ====
abbrev S4096x1024 : Shape := ⟨2, ![4096, 1024]⟩
abbrev S4096x8 : Shape := ⟨2, ![4096, 8]⟩
abbrev S1x8 : Shape := ⟨2, ![1, 8]⟩
abbrev S1x64 : Shape := ⟨2, ![1, 64]⟩
abbrev S4096x512 : Shape := ⟨2, ![4096, 512]⟩
abbrev S4096x8x64 : Shape := ⟨3, ![4096, 8, 64]⟩
abbrev S1x1x64 : Shape := ⟨3, ![1, 1, 64]⟩
abbrev S_ : Shape := ⟨0, ![]⟩
abbrev S4096x8x1 : Shape := ⟨3, ![4096, 8, 1]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x8x64, .f32⟩
  | .hbm, ⟨16, _⟩ => ⟨S1x1x64, .f32⟩
  | .hbm, ⟨17, _⟩ => ⟨S4096x8x64, .f32⟩
  | .hbm, ⟨18, _⟩ => ⟨S_, .f32⟩
  | .hbm, ⟨19, _⟩ => ⟨S4096x8, .f32⟩
  | .hbm, ⟨20, _⟩ => ⟨S4096x8x1, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S_, .f32⟩
  | .hbm, ⟨25, _⟩ => ⟨S4096x8x1, .f32⟩
  | .hbm, ⟨26, _⟩ => ⟨S4096x8x1, .f32⟩
  | .hbm, ⟨27, _⟩ => ⟨S4096x8x1, .f32⟩
  | .hbm, ⟨28, _⟩ => ⟨S4096x8x1, .f32⟩
  | .hbm, ⟨29, _⟩ => ⟨S_, .f32⟩
  | .hbm, ⟨30, _⟩ => ⟨S4096x8x1, .f32⟩
  | .hbm, ⟨31, _⟩ => ⟨S4096x8x1, .f32⟩
  | .hbm, ⟨32, _⟩ => ⟨S4096x8x64, .f32⟩
  | .hbm, ⟨33, _⟩ => ⟨S4096x8x64, .f32⟩
  | .hbm, ⟨34, _⟩ => ⟨S4096x8x64, .f32⟩
  | .hbm, ⟨35, _⟩ => ⟨S4096x8x64, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x8x64, .f32⟩
  | .hbm, ⟨41, _⟩ => ⟨S1x1x64, .f32⟩
  | .hbm, ⟨42, _⟩ => ⟨S4096x8x64, .f32⟩
  | .hbm, ⟨43, _⟩ => ⟨S_, .f32⟩
  | .hbm, ⟨44, _⟩ => ⟨S4096x8, .f32⟩
  | .hbm, ⟨45, _⟩ => ⟨S4096x8x1, .f32⟩
  | .hbm, ⟨46, _⟩ => ⟨S_, .f32⟩
  | .hbm, ⟨47, _⟩ => ⟨S4096x8x1, .f32⟩
  | .hbm, ⟨48, _⟩ => ⟨S4096x8x1, .f32⟩
  | .hbm, ⟨49, _⟩ => ⟨S_, .f32⟩
  | .hbm, ⟨50, _⟩ => ⟨S4096x8x1, .f32⟩
  | .hbm, ⟨51, _⟩ => ⟨S4096x8x1, .f32⟩
  | .hbm, ⟨52, _⟩ => ⟨S4096x8x1, .f32⟩
  | .hbm, ⟨53, _⟩ => ⟨S4096x8x1, .f32⟩
  | .hbm, ⟨54, _⟩ => ⟨S_, .f32⟩
  | .hbm, ⟨55, _⟩ => ⟨S4096x8x1, .f32⟩
  | .hbm, ⟨56, _⟩ => ⟨S4096x8x1, .f32⟩
  | .hbm, ⟨57, _⟩ => ⟨S4096x8x64, .f32⟩
  | .hbm, ⟨58, _⟩ => ⟨S4096x8x64, .f32⟩
  | .hbm, ⟨59, _⟩ => ⟨S4096x8x64, .f32⟩
  | .hbm, ⟨60, _⟩ => ⟨S4096x8x64, .f32⟩
  | .hbm, ⟨61, _⟩ => ⟨S4096x512, .f32⟩
  | .hbm, ⟨62, _⟩ => ⟨S4096x8x64, .f32⟩
  | .hbm, ⟨63, _⟩ => ⟨S4096x8x64, .f32⟩
  | .hbm, ⟨64, _⟩ => ⟨S4096x8x64, .f32⟩
  | .hbm, ⟨65, _⟩ => ⟨S4096x8x64, .f32⟩
  | .hbm, ⟨66, _⟩ => ⟨S_, .f32⟩
  | .hbm, ⟨67, _⟩ => ⟨S4096x8, .f32⟩
  | .hbm, ⟨68, _⟩ => ⟨S4096x8x1, .f32⟩
  | .hbm, ⟨69, _⟩ => ⟨S4096x8x64, .f32⟩
  | .hbm, ⟨70, _⟩ => ⟨S4096x8x64, .f32⟩
  | .hbm, ⟨71, _⟩ => ⟨S4096x8x1, .f32⟩
  | .hbm, ⟨72, _⟩ => ⟨S_, .f32⟩
  | .hbm, ⟨73, _⟩ => ⟨S4096x8x1, .f32⟩
  | .hbm, ⟨74, _⟩ => ⟨S4096x8x1, .f32⟩
  | .hbm, ⟨75, _⟩ => ⟨S_, .f32⟩
  | .hbm, ⟨76, _⟩ => ⟨S4096x8, .f32⟩
  | .hbm, ⟨77, _⟩ => ⟨S4096x8x64, .f32⟩
  | .hbm, ⟨78, _⟩ => ⟨S4096x8x64, .f32⟩
  | .hbm, ⟨79, _⟩ => ⟨S4096x8x64, .f32⟩
  | .hbm, ⟨80, _⟩ => ⟨S4096x8x64, .f32⟩
  | .hbm, ⟨81, _⟩ => ⟨S4096x8x64, .f32⟩
  | .hbm, ⟨82, _⟩ => ⟨S4096x512, .f32⟩
  | .hbm, ⟨83, _⟩ => ⟨S_, .f32⟩
  | .hbm, ⟨84, _⟩ => ⟨S4096x512, .f32⟩
  | .hbm, ⟨85, _⟩ => ⟨S4096x512, .f32⟩
  | .hbm, ⟨86, _⟩ => ⟨S4096x8x64, .f32⟩
  | .hbm, ⟨87, _⟩ => ⟨S4096x8x64, .f32⟩
  | .hbm, ⟨88, _⟩ => ⟨S4096x8x64, .f32⟩
  | .hbm, ⟨89, _⟩ => ⟨S4096x8x64, .f32⟩
  | .hbm, ⟨90, _⟩ => ⟨S_, .f32⟩
  | .hbm, ⟨91, _⟩ => ⟨S4096x8, .f32⟩
  | .hbm, ⟨92, _⟩ => ⟨S4096x8x1, .f32⟩
  | .hbm, ⟨93, _⟩ => ⟨S4096x8x64, .f32⟩
  | .hbm, ⟨94, _⟩ => ⟨S4096x8x64, .f32⟩
  | .hbm, ⟨95, _⟩ => ⟨S4096x8x1, .f32⟩
  | .hbm, ⟨96, _⟩ => ⟨S_, .f32⟩
  | .hbm, ⟨97, _⟩ => ⟨S4096x8x1, .f32⟩
  | .hbm, ⟨98, _⟩ => ⟨S4096x8x1, .f32⟩
  | .hbm, ⟨99, _⟩ => ⟨S_, .f32⟩
  | .hbm, ⟨100, _⟩ => ⟨S4096x8, .f32⟩
  | .hbm, ⟨101, _⟩ => ⟨S4096x8x64, .f32⟩
  | .hbm, ⟨102, _⟩ => ⟨S4096x8x64, .f32⟩
  | .hbm, ⟨103, _⟩ => ⟨S4096x8x64, .f32⟩
  | .hbm, ⟨104, _⟩ => ⟨S4096x8x64, .f32⟩
  | .hbm, ⟨105, _⟩ => ⟨S4096x8x64, .f32⟩
  | .hbm, ⟨106, _⟩ => ⟨S4096x512, .f32⟩
  | .hbm, ⟨107, _⟩ => ⟨S4096x1024, .f32⟩
  | .hbm, ⟨108, _⟩ => ⟨S4096x1024, .bf16⟩
  | .hbm, ⟨109, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Kernel6.lean ====
abbrev S4096x1024 : Shape := ⟨2, ![4096, 1024]⟩
abbrev S4096x8 : Shape := ⟨2, ![4096, 8]⟩
abbrev S1x8 : Shape := ⟨2, ![1, 8]⟩
abbrev S1x64 : Shape := ⟨2, ![1, 64]⟩
abbrev S4096x512 : Shape := ⟨2, ![4096, 512]⟩
abbrev S4096x8x64 : Shape := ⟨3, ![4096, 8, 64]⟩
abbrev S_ : Shape := ⟨0, ![]⟩
abbrev S4096x8x1 : Shape := ⟨3, ![4096, 8, 1]⟩
abbrev S4096x8x128 : Shape := ⟨3, ![4096, 8, 128]⟩
abbrev S4096x128 : Shape := ⟨2, ![4096, 128]⟩
abbrev S1x128 : Shape := ⟨2, ![1, 128]⟩
abbrev S1x512 : Shape := ⟨2, ![1, 512]⟩
abbrev S3080x1024 : Shape := ⟨2, ![3080, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩
abbrev S8x1024 : Shape := ⟨2, ![8, 1024]⟩
abbrev S128x1024 : Shape := ⟨2, ![128, 1024]⟩

abbrev nBuf : Space → Nat
  | .hbm => 55
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x512, .f32⟩
  | .hbm, ⟨12, _⟩ => ⟨S4096x512, .f32⟩
  | .hbm, ⟨13, _⟩ => ⟨S4096x8x64, .i32⟩
  | .hbm, ⟨14, _⟩ => ⟨S4096x8x64, .i32⟩
  | .hbm, ⟨15, _⟩ => ⟨S_, .i32⟩
  | .hbm, ⟨16, _⟩ => ⟨S4096x8x64, .i32⟩
  | .hbm, ⟨17, _⟩ => ⟨S4096x8x64, .i32⟩
  | .hbm, ⟨18, _⟩ => ⟨S4096x8x64, .i1⟩
  | .hbm, ⟨19, _⟩ => ⟨S_, .f32⟩
  | .hbm, ⟨20, _⟩ => ⟨S4096x8x64, .f32⟩
  | .hbm, ⟨21, _⟩ => ⟨S4096x8x1, .f32⟩
  | .hbm, ⟨22, _⟩ => ⟨S_, .f32⟩
  | .hbm, ⟨23, _⟩ => ⟨S_, .f32⟩
  | .hbm, ⟨24, _⟩ => ⟨S4096x8x64, .f32⟩
  | .hbm, ⟨25, _⟩ => ⟨S4096x8x64, .f32⟩
  | .hbm, ⟨26, _⟩ => ⟨S4096x8x64, .f32⟩
  | .hbm, ⟨27, _⟩ => ⟨S4096x8x64, .f32⟩
  | .hbm, ⟨28, _⟩ => ⟨S4096x8x128, .f32⟩
  | .hbm, ⟨29, _⟩ => ⟨S4096x1024, .f32⟩
  | .hbm, ⟨30, _⟩ => ⟨S4096x8x64, .f32⟩
  | .hbm, ⟨31, _⟩ => ⟨S4096x8x128, .f32⟩
  | .hbm, ⟨32, _⟩ => ⟨S4096x1024, .f32⟩
  | .hbm, ⟨33, _⟩ => ⟨S4096x8x64, .f32⟩
  | .hbm, ⟨34, _⟩ => ⟨S4096x8x128, .f32⟩
  | .hbm, ⟨35, _⟩ => ⟨S4096x1024, .f32⟩
  | .hbm, ⟨36, _⟩ => ⟨S_, .i32⟩
  | .hbm, ⟨37, _⟩ => ⟨S_, .f32⟩
  | .hbm, ⟨38, _⟩ => ⟨S4096x128, .f32⟩
  | .hbm, ⟨39, _⟩ => ⟨S_, .i32⟩
  | .hbm, ⟨40, _⟩ => ⟨S_, .f32⟩
  | .hbm, ⟨41, _⟩ => ⟨S1x128, .f32⟩
  | .hbm, ⟨42, _⟩ => ⟨S1x512, .f32⟩
  | .hbm, ⟨43, _⟩ => ⟨S1x512, .f32⟩
  | .hbm, ⟨44, _⟩ => ⟨S4096x1024, .bf16⟩
  | .hbm, ⟨45, _⟩ => ⟨S4096x512, .bf16⟩
  | .hbm, ⟨46, _⟩ => ⟨S4096x512, .bf16⟩
  | .hbm, ⟨47, _⟩ => ⟨S4096x512, .bf16⟩
  | .hbm, ⟨48, _⟩ => ⟨S3080x1024, .f32⟩
  | .hbm, ⟨49, _⟩ => ⟨S4096x1024, .bf16⟩
  | .hbm, ⟨50, _⟩ => ⟨S4096x512, .bf16⟩
  | .hbm, ⟨51, _⟩ => ⟨S4096x128, .f32⟩
  | .hbm, ⟨52, _⟩ => ⟨S1x128, .f32⟩
  | .hbm, ⟨53, _⟩ => ⟨S1x128, .f32⟩
  | .hbm, ⟨54, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x512, .f32⟩
  | .local _ .vmem, ⟨20, _⟩ => ⟨S1x512, .f32⟩
  | .local _ .vmem, ⟨21, _⟩ => ⟨S3080x1024, .f32⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x128, .f32⟩
  | .local _ .vmem, ⟨27, _⟩ => ⟨S512x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x512, .f32⟩
  | .local _ .vmem, ⟨32, _⟩ => ⟨S1x512, .f32⟩
  | .local _ .vmem, ⟨33, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_call1_v0 : Ref sig .tc := ⟨.hbm, 37, rfl⟩
abbrev main_v17 : Ref sig .tc := ⟨.hbm, 38, rfl⟩
abbrev main_c_2 : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_v25_3 : Ref sig .tc := ⟨.hbm, 51, rfl⟩
abbrev main_v25_4 : Ref sig .tc := ⟨.hbm, 52, rfl⟩
abbrev main_v25_5 : Ref sig .tc := ⟨.hbm, 53, rfl⟩
abbrev main_v25_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v693 : BitVec 1 := Scalar.cmpi .eq arg0 c7_i32
  let v694 : BitVec 32 := Scalar.extui v693
  let c0_i32_330 : BitVec 32 := 0#32
  let v695 : BitVec 1 := Scalar.cmpi .ne v694 c0_i32_330
  v695

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3080x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference6Ideal.lean ====
abbrev S4096x1024 : Shape := ⟨2, ![4096, 1024]⟩
abbrev S4096x8 : Shape := ⟨2, ![4096, 8]⟩
abbrev S1x8 : Shape := ⟨2, ![1, 8]⟩
abbrev S1x64 : Shape := ⟨2, ![1, 64]⟩
abbrev S4096x512 : Shape := ⟨2, ![4096, 512]⟩
abbrev S4096x8x64 : Shape := ⟨3, ![4096, 8, 64]⟩
abbrev S1x1x64 : Shape := ⟨3, ![1, 1, 64]⟩
abbrev S_ : Shape := ⟨0, ![]⟩
abbrev S4096x8x1 : Shape := ⟨3, ![4096, 8, 1]⟩
abbrev S64 : Shape := ⟨1, ![64]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x8, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x8x64, .f32⟩
  | .hbm, ⟨15, _⟩ => ⟨S1x1x64, .f32⟩
  | .hbm, ⟨16, _⟩ => ⟨S4096x8x64, .f32⟩
  | .hbm, ⟨17, _⟩ => ⟨S_, .f32⟩
  | .hbm, ⟨18, _⟩ => ⟨S4096x8, .f32⟩
  | .hbm, ⟨19, _⟩ => ⟨S4096x8x1, .f32⟩
  | .hbm, ⟨20, _⟩ => ⟨S_, .f32⟩
  | .hbm, ⟨21, _⟩ => ⟨S4096x8x1, .f32⟩
  | .hbm, ⟨22, _⟩ => ⟨S4096x8x1, .f32⟩
  | .hbm, ⟨23, _⟩ => ⟨S_, .f32⟩
  | .hbm, ⟨24, _⟩ => ⟨S4096x8x1, .f32⟩
  | .hbm, ⟨25, _⟩ => ⟨S4096x8x1, .f32⟩
  | .hbm, ⟨26, _⟩ => ⟨S4096x8x1, .f32⟩
  | .hbm, ⟨27, _⟩ => ⟨S4096x8x64, .f32⟩
  | .hbm, ⟨28, _⟩ => ⟨S4096x8x64, .f32⟩
  | .hbm, ⟨29, _⟩ => ⟨S4096x8x64, .f32⟩
  | .hbm, ⟨30, _⟩ => ⟨S4096x8x64, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x8x64, .f32⟩
  | .hbm, ⟨37, _⟩ => ⟨S1x1x64, .f32⟩
  | .hbm, ⟨38, _⟩ => ⟨S4096x8x64, .f32⟩
  | .hbm, ⟨39, _⟩ => ⟨S_, .f32⟩
  | .hbm, ⟨40, _⟩ => ⟨S4096x8, .f32⟩
  | .hbm, ⟨41, _⟩ => ⟨S4096x8x1, .f32⟩
  | .hbm, ⟨42, _⟩ => ⟨S_, .f32⟩
  | .hbm, ⟨43, _⟩ => ⟨S4096x8x1, .f32⟩
  | .hbm, ⟨44, _⟩ => ⟨S4096x8x1, .f32⟩
  | .hbm, ⟨45, _⟩ => ⟨S_, .f32⟩
  | .hbm, ⟨46, _⟩ => ⟨S4096x8x1, .f32⟩
  | .hbm, ⟨47, _⟩ => ⟨S4096x8x1, .f32⟩
  | .hbm, ⟨48, _⟩ => ⟨S4096x8x1, .f32⟩
  | .hbm, ⟨49, _⟩ => ⟨S4096x8x64, .f32⟩
  | .hbm, ⟨50, _⟩ => ⟨S4096x8x64, .f32⟩
  | .hbm, ⟨51, _⟩ => ⟨S4096x8x64, .f32⟩
  | .hbm, ⟨52, _⟩ => ⟨S4096x8x64, .f32⟩
  | .hbm, ⟨53, _⟩ => ⟨S4096x512, .f32⟩
  | .hbm, ⟨54, _⟩ => ⟨S4096x8x64, .f32⟩
  | .hbm, ⟨55, _⟩ => ⟨S4096x8x64, .f32⟩
  | .hbm, ⟨56, _⟩ => ⟨S_, .f32⟩
  | .hbm, ⟨57, _⟩ => ⟨S64, .f32⟩
  | .hbm, ⟨58, _⟩ => ⟨S1x1x64, .f32⟩
  | .hbm, ⟨59, _⟩ => ⟨S1x64, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S4096x8x64, .f32⟩
  | .hbm, ⟨64, _⟩ => ⟨S4096x8x64, .f32⟩
  | .hbm, ⟨65, _⟩ => ⟨S_, .f32⟩
  | .hbm, ⟨66, _⟩ => ⟨S64, .f32⟩
  | .hbm, ⟨67, _⟩ => ⟨S1x1x64, .f32⟩
  | .hbm, ⟨68, _⟩ => ⟨S1x64, .f32⟩
  | .hbm, ⟨69, _⟩ => ⟨S1x128, .f32⟩
  | .hbm, ⟨70, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Proof.NormGrad.lean ====
module

public import Idealize.ShloMosaic.Lib.Pointwise

@[expose] public section

/-! The gradient of a root-mean-square norm, over the reals and as both programs spell it in extended
reals: `r = (mean x² + e)^(-1/2)`, `y = x · r`, and `dx = r · (a - y · mean (y · a))` for the cotangent `a`. -/

noncomputable section

namespace Cert.Norm

open Idealize.ShloMosaic

/-! ### Extended-real operations at real arguments -/

theorem coe_sum {ι : Type} (s : Finset ι) (f : ι → ℝ) :
    ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_real (a : ℝ) {b : ℝ} (hb : b ≠ 0) : Ideal.div (a : EReal) (b : EReal) = ((a / b : ℝ) : EReal) :=
  (Ideal.div_coe hb _).trans (by rw [← EReal.coe_mul, mul_one_div])

theorem rsqrt_real {a : ℝ} (ha : 0 < a) : Ideal.rsqrt (a : EReal) = (((√a)⁻¹ : ℝ) : EReal) := by
  show (if a < 0 then (⊥ : EReal) else if a = 0 then ⊤ else (((√a)⁻¹ : ℝ) : EReal)) = _
  rw [if_neg (not_lt.mpr ha.le), if_neg ha.ne']

/-- A family of finite extended reals is a family of reals. -/
theorem lift {ι : Type} (x : ι → EReal) (h : ∀ i, x i ≠ ⊥ ∧ x i ≠ ⊤) : ∃ r : ι → ℝ, ∀ i, x i = (r i : EReal) :=
  ⟨fun i => (x i).toReal, fun i => (EReal.coe_toReal (h i).2 (h i).1).symm⟩

/-! ### The gradient -/

/-- The mean of squares plus the norm's constant. -/
def ms {n : ℕ} (c e : ℝ) (x : Fin n → ℝ) : ℝ := (∑ k, x k * x k) / c + e

theorem ms_pos {n : ℕ} {c e : ℝ} (hc : 0 < c) (he : 0 < e) (x : Fin n → ℝ) : 0 < ms c e x :=
  add_pos_of_nonneg_of_pos (div_nonneg (Finset.sum_nonneg fun k _ => mul_self_nonneg (x k)) hc.le) he

/-- The two spellings of the gradient agree over the reals. -/
theorem grad_real {n : ℕ} {c e : ℝ} (hc : 0 < c) (he : 0 < e) (x a : Fin n → ℝ) (l : Fin n) :
    (√(ms c e x))⁻¹ * (a l - x l * (√(ms c e x))⁻¹ * ((∑ k, x k * (√(ms c e x))⁻¹ * a k) / c))
      = a l * (√(ms c e x))⁻¹
        + x l * ((∑ k, x k * a k) * (-(1/2) * ((√(ms c e x))⁻¹ / ms c e x)) / c)
        + ((∑ k, x k * a k) * (-(1/2) * ((√(ms c e x))⁻¹ / ms c e x)) / c) * x l := by
  have hp := ms_pos hc he x
  have hs : (√(ms c e x))⁻¹ * (√(ms c e x))⁻¹ = (ms c e x)⁻¹ := by
    rw [← mul_inv, Real.mul_self_sqrt hp.le]
  have hsum : ∑ k, x k * (√(ms c e x))⁻¹ * a k = (√(ms c e x))⁻¹ * ∑ k, x k * a k := by
    rw [Finset.mul_sum]; exact Finset.sum_congr rfl fun k _ => by ring
  rw [hsum, div_eq_mul_inv _ (ms c e x), ← hs]
  ring

/-- The reciprocal root mean square in extended reals. -/
def rs {n : ℕ} (C E : EReal) (x : Fin n → EReal) : EReal := Ideal.rsqrt (Ideal.div (∑ k, x k * x k) C + E)

/-- The sum the reference multiplies by the argument, once on each side of the square. -/
def pull {n : ℕ} (C E H : EReal) (x a : Fin n → EReal) : EReal :=
  Ideal.div ((∑ k, x k * a k) * (H * Ideal.div (rs C E x) (Ideal.div (∑ k, x k * x k) C + E))) C

theorem ms_coe {n : ℕ} {c e : ℝ} (hc : c ≠ 0) (x : Fin n → ℝ) :
    Ideal.div (∑ k, (x k : EReal) * (x k : EReal)) (c : EReal) + (e : EReal) = (ms c e x : EReal) := by
  simp only [← EReal.coe_mul, coe_sum, div_real _ hc, ← EReal.coe_add, ms]

theorem rs_coe {n : ℕ} {c e : ℝ} (hc : 0 < c) (he : 0 < e) (x : Fin n → ℝ) :
    rs (c : EReal) (e : EReal) (fun k => (x k : EReal)) = (((√(ms c e x))⁻¹ : ℝ) : EReal) := by
  rw [rs, ms_coe hc.ne', rsqrt_real (ms_pos hc he x)]

theorem pull_coe {n : ℕ} {c e : ℝ} (hc : 0 < c) (he : 0 < e) (h : ℝ) (x a : Fin n → ℝ) :
    pull (c : EReal) (e : EReal) (h : EReal) (fun k => (x k : EReal)) (fun k => (a k : EReal))
      = (((∑ k, x k * a k) * (h * ((√(ms c e x))⁻¹ / ms c e x)) / c : ℝ) : EReal) := by
  rw [pull, rs_coe hc he, ms_coe hc.ne', div_real _ (ms_pos hc he x).ne']
  simp only [← EReal.coe_mul, coe_sum, div_real _ hc.ne']

/-- The gradient of the norm, in the version's spelling (left) and in the reference's (right). -/
theorem grad {n : ℕ} {C E H : EReal} {c e : ℝ} (hC : C = (c : EReal)) (hE : E = (e : EReal))
    (hH : H = ((-(1/2) : ℝ) : EReal)) (hc : 0 < c) (he : 0 < e) (x a : Fin n → EReal)
    (hx : ∀ k, x k ≠ ⊥ ∧ x k ≠ ⊤) (ha : ∀ k, a k ≠ ⊥ ∧ a k ≠ ⊤) (l : Fin n) :
    rs C E x * (a l - x l * rs C E x * Ideal.div (∑ k, x k * rs C E x * a k) C)
      = a l * rs C E x + x l * pull C E H x a + pull C E H x a * x l := by
  obtain ⟨X, hX⟩ := lift x hx
  obtain ⟨A, hA⟩ := lift a ha
  obtain rfl : x = fun k => (X k : EReal) := funext hX
  obtain rfl : a = fun k => (A k : EReal) := funext hA
  subst hC hE hH
  rw [rs_coe hc he, pull_coe hc he]
  simp only [← EReal.coe_mul, coe_sum, div_real _ hc.ne', ← EReal.coe_sub, ← EReal.coe_add]
  rw [grad_real hc he]

/-! ### The constants of the norms -/

theorem ofBits_1024 : Ideal.ofBits .f32 0x44800000#32 = ((1024 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_neg_half : Ideal.ofBits .f32 0xBF000000#32 = ((-(1/2) : ℝ) : EReal) := by
  simp [Ideal.ofBits, Ideal.ieee, -EReal.coe_mul, -EReal.coe_neg]; norm_num

theorem ofBits_eps : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

end Cert.Norm
-- ==== Proof.FiniteArgs.lean ====
module

public import proofs.«01_k».proof.Proof.NormGrad
public import Idealize.ShloMosaic.Lib.Pointwise

@[expose] public section

/-! Finite extended reals, and the condition `|a| < ∞` read off its bit. -/

noncomputable section

namespace Cert

open Idealize.ShloMosaic

/-- Neither infinity. -/
def Finite (a : EReal) : Prop := a ≠ ⊥ ∧ a ≠ ⊤

theorem Finite.coe (r : ℝ) : Finite (r : EReal) := ⟨EReal.coe_ne_bot r, EReal.coe_ne_top r⟩

theorem Finite.exists {a : EReal} (ha : Finite a) : ∃ r : ℝ, a = r := ⟨_, (EReal.coe_toReal ha.2 ha.1).symm⟩

theorem Finite.mul {a b : EReal} (ha : Finite a) (hb : Finite b) : Finite (a * b) := by
  obtain ⟨r, rfl⟩ := ha.exists
  obtain ⟨s, rfl⟩ := hb.exists
  rw [← EReal.coe_mul]; exact Finite.coe _

theorem Finite.add {a b : EReal} (ha : Finite a) (hb : Finite b) : Finite (a + b) := by
  obtain ⟨r, rfl⟩ := ha.exists
  obtain ⟨s, rfl⟩ := hb.exists
  rw [← EReal.coe_add]; exact Finite.coe _

theorem Finite.sum {ι : Type} [Fintype ι] {f : ι → EReal} (h : ∀ i, Finite (f i)) : Finite (∑ i, f i) := by
  obtain ⟨r, hr⟩ := Norm.lift f h
  simp only [hr, Norm.coe_sum]
  exact Finite.coe _

/-- The bit of `|a| < ∞` is set at finite values alone. -/
theorem finite_of_bit (a : EReal) (h : FloatOps.cmpf (F := Ideal) (φ := .f32) .olt (FloatOps.hostAbsf (F := Ideal) (φ := .f32) a)
    (FloatOps.ofBits (F := Ideal) .f32 0x7F800000#32) = 1#1) : Finite a := by
  have htop : Ideal.ofBits .f32 0x7F800000#32 = ⊤ := by simp [Ideal.ofBits, Ideal.ieee]
  have h' : Ideal.cmp .olt (max a (-a)) (Ideal.ofBits .f32 0x7F800000#32) = 1#1 := h
  rw [htop] at h'
  unfold Ideal.cmp at h'
  constructor
  · rintro rfl; simp at h'
  · rintro rfl; simp at h'

/-- An array below infinity in magnitude, element by element, is finite. -/
theorem finite_of_all {s u : Shape} {d : Fin u.rank → Fin s.rank} (hb : u.BroadcastsInDim s d) (x : FVec Ideal s .f32)
    (h : cmpf .olt (Host.absf x) (broadcastInDim s d hb (constant (F := Ideal) u .f32 0x7F800000#32)) = fun _ => 1#1) (i : s.Idx) :
    Finite (x i) :=
  finite_of_bit (x i) (congrFun h i)

end Cert
-- ==== Proof.InX.Math.lean ====
module

public import proofs.«01_k».proof.Proof.NormGrad
public import proofs.«01_k».proof.Proof.FiniteArgs

@[expose] public section

/-! The gradients of `h = norm(x) · g`, `p = h W` at the cotangent `ct` of `p`, as functions of a row and a column:
the version's spelling, the reference's, and that they are equal where the arguments are finite. -/

noncomputable section

namespace Cert.InX

open Idealize.ShloMosaic

/-- The width of the norm, its constant, and the factor minus one half, as the programs write them. -/
abbrev c1024 : EReal := Ideal.ofBits .f32 0x44800000#32
abbrev eps : EReal := Ideal.ofBits .f32 0x358637BD#32
abbrev negHalf : EReal := Ideal.ofBits .f32 0xBF000000#32

variable {N : ℕ} (x : Fin N → Fin 1024 → EReal) (g : Fin 1024 → EReal) (w : Fin 1024 → Fin 3080 → EReal)
  (ct : Fin N → Fin 3080 → EReal) (dy : Fin N → Fin 1024 → EReal)

/-- The cotangent of the normed rows. -/
def dh (i : Fin N) (l : Fin 1024) : EReal := ∑ k, ct i k * w l k

/-- The cotangent of the rows before the norm's weight. -/
def da (i : Fin N) (l : Fin 1024) : EReal := dh w ct i l * g l

/-- The gradient of `x`, added to what the residual brings, in the version's spelling. -/
def dx (i : Fin N) (l : Fin 1024) : EReal :=
  dy i l + Norm.rs c1024 eps (x i) * (da g w ct i l - x i l * Norm.rs c1024 eps (x i)
    * Ideal.div (∑ k, x i k * Norm.rs c1024 eps (x i) * da g w ct i k) c1024)

/-- The same in the reference's spelling. -/
def dxRef (i : Fin N) (l : Fin 1024) : EReal :=
  dy i l + da g w ct i l * Norm.rs c1024 eps (x i) + x i l * Norm.pull c1024 eps negHalf (x i) (da g w ct i)
    + Norm.pull c1024 eps negHalf (x i) (da g w ct i) * x i l

/-- The gradient of the norm's weight. -/
def dg (l : Fin 1024) : EReal := ∑ i, dh w ct i l * (x i l * Norm.rs c1024 eps (x i))

/-! ### The packed columns

The version multiplies 3200 columns: the first 2048, the last 1024, the eight between them, and 120 of zeros. -/

/-- A row of 3080 in the packed order. -/
def pack (f : Fin 3080 → EReal) (k : Fin 3200) : EReal :=
  if h : k.val < 2048 then f ⟨k.val, by omega⟩
  else if h : k.val < 3072 then f ⟨k.val + 8, by omega⟩
  else if h : k.val < 3080 then f ⟨k.val - 1024, by omega⟩ else 0

theorem pack_mul (a b : Fin 3080 → EReal) (k : Fin 3200) : pack a k * pack b k = pack (fun j => a j * b j) k := by
  unfold pack; split_ifs <;> simp

/-- The packed order keeps the sum. -/
theorem sum_pack (f : Fin 3080 → EReal) : ∑ k, pack f k = ∑ k, f k := by
  let F : ℕ → EReal := fun n => if h : n < 3080 then f ⟨n, h⟩ else 0
  have hf : ∀ (n : ℕ) (h : n < 3080), f ⟨n, h⟩ = F n := fun n h => by show _ = dite (n < 3080) _ _; rw [dif_pos h]
  have hR : ∑ k, f k = ∑ n ∈ Finset.range 3080, F n := by
    rw [Finset.sum_range]; exact Finset.sum_congr rfl fun k _ => hf k.1 k.2
  have hL : ∑ k, pack f k = ∑ n ∈ Finset.range 3200,
      if n < 2048 then F n else if n < 3072 then F (n + 8) else if n < 3080 then F (n - 1024) else 0 := by
    rw [Finset.sum_range]
    refine Finset.sum_congr rfl fun k _ => ?_
    unfold pack
    split_ifs <;> first | rw [hf] | rfl
  rw [hL, hR, show 3200 = 2048 + 1024 + 8 + 120 by rfl, show 3080 = 2048 + 8 + 1024 by rfl]
  simp only [Finset.sum_range_add]
  rw [Finset.sum_congr (g := F) rfl fun n hn => by rw [Finset.mem_range] at hn; rw [if_pos hn],
    Finset.sum_congr (g := fun n => F (2048 + 8 + n)) rfl (s₁ := Finset.range 1024) fun n hn => by
      rw [Finset.mem_range] at hn; rw [if_neg (by omega), if_pos (by omega)]; congr 1; omega,
    Finset.sum_congr (g := fun n => F (2048 + n)) rfl (s₁ := Finset.range 8) fun n hn => by
      rw [Finset.mem_range] at hn; rw [if_neg (by omega), if_neg (by omega), if_pos (by omega)]; congr 1; omega,
    Finset.sum_eq_zero (s := Finset.range 120) fun n hn => by
      rw [Finset.mem_range] at hn; rw [if_neg (by omega), if_neg (by omega), if_neg (by omega)], add_zero,
    add_right_comm]

/-! ### Finite arguments -/

theorem da_fin (hg : ∀ l, Finite (g l)) (hw : ∀ l k, Finite (w l k)) (hct : ∀ i k, Finite (ct i k)) (i : Fin N) (l : Fin 1024) :
    Finite (da g w ct i l) :=
  (Finite.sum fun k => (hct i k).mul (hw l k)).mul (hg l)

/-- The two spellings agree where `x`, `g`, `W` and `ct` are finite. -/
theorem dx_eq (hx : ∀ i l, Finite (x i l)) (hg : ∀ l, Finite (g l)) (hw : ∀ l k, Finite (w l k)) (hct : ∀ i k, Finite (ct i k))
    (i : Fin N) (l : Fin 1024) : dx x g w ct dy i l = dxRef x g w ct dy i l := by
  obtain ⟨e, he, hE⟩ := Norm.ofBits_eps
  unfold dx dxRef
  rw [Norm.grad Norm.ofBits_1024 hE Norm.ofBits_neg_half (by norm_num) he (x i) (da g w ct i) (hx i)
    (da_fin g w ct hg hw hct i) l]
  simp only [add_assoc]

end Cert.InX
-- ==== Proof.Pieces.lean ====
module

public import Idealize.ShloMosaic.Lib.Pipeline.ValueKit
public import Idealize.ShloMosaic.Lib.Pointwise
public import Idealize.ShloMosaic.Lib.WritesUnit

@[expose] public section

/-! What a buffer written one rectangle at a time holds at an index: the newest rectangle that has the index decides. -/

noncomputable section

namespace Cert.Pieces

open Idealize.ShloMosaic

variable {Val : EltTy → Type} [∀ e, Nonempty (Val e)] {e : EltTy}

/-- A buffer's newest piece decides at the indices of its rectangle, the older ones elsewhere. -/
theorem canon_unit {s : Shape} {off size : Fin s.rank → ℕ} (inb : ∀ a, off a + size a ≤ s.size a)
    (w : (Rect.unit off size inb).shape.Idx → Val e) (L : List (View.Piece Val s e)) (y : s.Idx) :
    View.canon (⟨Rect.unit off size inb, w⟩ :: L) y
      = if h : ∀ a, off a ≤ (y a).val ∧ (y a).val < off a + size a then w (Rect.unitLocal (s := s) y h) else View.canon L y := by
  split
  · rename_i h
    have hy : (Rect.unit off size inb).emb (Rect.unitLocal (s := s) y h) = y := by
      funext a; apply Fin.ext
      show off a + 1 * ((y a).val - off a) = _
      have := h a; omega
    conv_lhs => rw [← hy]
    exact View.canon_cons_emb _ _ _ _
  · rename_i h
    exact View.canon_cons_of_not_mem _ _ fun hm => h (Rect.mem_set_unit (inb := inb) |>.mp hm)

/-- The same at rank two, where the piece spans all rows and columns `o` to `o + n`. -/
theorem canon_cols {R C o n : ℕ} (inb : ∀ a, (![0, o] : Fin 2 → ℕ) a + (![R, n] : Fin 2 → ℕ) a ≤ (⟨2, ![R, C]⟩ : Shape).size a)
    (w : (⟨2, ![R, n]⟩ : Shape).Idx → Val e) (L : List (View.Piece Val ⟨2, ![R, C]⟩ e)) (r : Fin R) (x : Fin C) :
    View.canon (⟨Rect.unit (s := ⟨2, ![R, C]⟩) ![0, o] ![R, n] inb, w⟩ :: L) (ix2 r x)
      = if h : o ≤ x.val ∧ x.val < o + n then w (ix2 r ⟨x.val - o, by omega⟩) else View.canon L (ix2 r x) := by
  rw [canon_unit]
  by_cases h : o ≤ x.val ∧ x.val < o + n
  · have h' : ∀ a, (![0, o] : Fin 2 → ℕ) a ≤ (ix2 r x a).val ∧ (ix2 r x a).val < (![0, o] : Fin 2 → ℕ) a + (![R, n] : Fin 2 → ℕ) a := by
      intro a; match a with
      | ⟨0, _⟩ => exact ⟨Nat.zero_le _, by show r.val < 0 + R; omega⟩
      | ⟨1, _⟩ => exact h
    rw [dif_pos h', dif_pos h]
    congr 1
    funext a; match a with
      | ⟨0, _⟩ => rfl
      | ⟨1, _⟩ => rfl
  · rw [dif_neg h, dif_neg fun h' => h (h' 1)]

/-- A load of all of a rank-two buffer after writes that cover it. -/
theorem readCov_whole {R C : ℕ} {sig : RefSig} {κ : Kind} {sp : Space} (v : View sig κ sp ⟨2, ![R, C]⟩ e)
    (inb : ∀ a, (![0, 0] : Fin 2 → ℕ) a + (![R, C] : Fin 2 → ℕ) a ≤ (⟨2, ![R, C]⟩ : Shape).size a)
    (L : List (View.Piece Val ⟨2, ![R, C]⟩ e)) (r : Fin R) (x : Fin C) :
    (v.readCov L (Rect.unit (s := ⟨2, ![R, C]⟩) ![0, 0] ![R, C] inb).toLoadRect : (⟨2, ![R, C]⟩ : Shape).Idx → Val e) (ix2 r x) = View.canon L (ix2 r x) := by
  rw [View.readCov_eq_canon']
  show View.canon L _ = _
  congr 1
  funext a; apply Fin.ext; match a with
      | ⟨0, _⟩ => show 0 + 1 * r.val = r.val; omega
      | ⟨1, _⟩ => show 0 + 1 * x.val = x.val; omega

end Cert.Pieces
-- ==== Proof.InX.Operands.lean ====
module

public import proofs.«01_k».proof.Proof.Gen.KernelIdeal.Value
public import proofs.«01_k».proof.Proof.InX.Math
public import proofs.«01_k».proof.Proof.Pieces
public import Idealize.ShloMosaic.Lib.Pipeline.ValueKit
public import Idealize.ShloMosaic.Lib.Pointwise
public import Idealize.ShloMosaic.Lib.Claim

@[expose] public section

/-! What each staged block of the call holds, over the arguments of the program. -/

set_option maxRecDepth 16384

noncomputable section

namespace Cert.InX

open Idealize.ShloMosaic Idealize.ShloMosaic.TcCoe Idealize.SL.Sem
open Idealize.ShloMosaic.Pipeline (Dat)
open Cert.KernelIdeal Cert.KernelIdeal.Gen Cert.KernelIdeal.Value

variable (m : (ℓ : Loc nD τ sig) → Buf (Elt Ideal) ℓ) (c : Dev nD)

/-! ### The arguments by row and column -/

def X (i : Fin 4096) (l : Fin 1024) : EReal := m (c.tc.loc main_arg0) (ix2 i l)
def G (l : Fin 1024) : EReal := m (c.tc.loc main_arg1) (ix2 0 l)
def W (l : Fin 1024) (k : Fin 3080) : EReal := m (c.tc.loc main_arg2) (ix2 l k)
def CT (i : Fin 4096) (k : Fin 3080) : EReal := m (c.tc.loc main_arg3) (ix2 i k)
def DY (i : Fin 4096) (l : Fin 1024) : EReal := m (c.tc.loc main_arg4) (ix2 i l)

/-- The array row of row `r` of the block at grid point `t`. -/
def rowOf (t : Fin cfg0.N) (r : Fin 256) : Fin 4096 :=
  ⟨t.val * 256 + r.val, by have := lt_of_lt_of_eq t.isLt N_0; omega⟩

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0] :=
  (by decide +kernel : ∀ t : Fin grid0.N, _)

/-! ### What the host lines leave -/

/-- The packed and transposed weight. -/
theorem V_weight (k : Fin 3200) (l : Fin 1024) : (V m c main_v6 (ix2 k l) : EReal) = pack (W m c l) k := by
  have h : V m c main_v6 (ix2 k l)
      = (concatenate S3200x1024 0
          [⟨S2048x1024, extractStridedSlice S2048x1024 ![0, 0] (transpose S3080x1024 [1, 0] (m (c.tc.loc main_arg2))
              transposes_S1024x3080_S3080x1024_1_0) slices_S3080x1024_S2048x1024_0_0⟩,
            ⟨S1024x1024, extractStridedSlice S1024x1024 ![2056, 0] (transpose S3080x1024 [1, 0] (m (c.tc.loc main_arg2))
              transposes_S1024x3080_S3080x1024_1_0) slices_S3080x1024_S1024x1024_2056_0⟩,
            ⟨S8x1024, extractStridedSlice S8x1024 ![2048, 0] (transpose S3080x1024 [1, 0] (m (c.tc.loc main_arg2))
              transposes_S1024x3080_S3080x1024_1_0) slices_S3080x1024_S8x1024_2048_0⟩,
            ⟨S120x1024, broadcastInDim S120x1024 ![] bcast_S_S120x1024 (constant (F := Ideal) S_ FTy.f32 0#32)⟩]
          concatenates_S2048x1024_S1024x1024_S8x1024_S120x1024_S3200x1024_d0 : FVec Ideal S3200x1024 .f32) (ix2 k l) := by
    simp only [V, hostOps0, hostOps0_1, hostOps0_2, List.flatten_cons, List.flatten_nil, List.cons_append,
      List.nil_append, List.append_nil]
    after_results_simp
    rfl
  rw [h]
  pointwise
  unfold pack W
  by_cases h1 : k.val < 2048
  · rw [dif_pos h1, dif_pos h1]
  by_cases h2 : k.val < 3072
  · rw [dif_neg h1, dif_neg h1, dif_pos (by omega), dif_pos h2]
    exact congrArg (fun j => m (c.tc.loc main_arg2) (ix2 l j)) (Fin.ext (by show 2056 + (k.val - 2048) = k.val + 8; omega))
  by_cases h3 : k.val < 3080
  · rw [dif_neg h1, dif_neg h1, dif_neg (by omega), dif_neg h2, dif_pos (by omega), dif_pos h3]
    exact congrArg (fun j => m (c.tc.loc main_arg2) (ix2 l j)) (Fin.ext (by show 2048 + (k.val - 2048 - 1024) = k.val - 1024; omega))
  · rw [dif_neg h1, dif_neg h1, dif_neg (by omega), dif_neg h2, dif_neg (by omega), dif_neg h3]

/-- The padded eight columns. -/
theorem V_pad (i : Fin 4096) (k : Fin 128) :
    (V m c main_v8 (ix2 i k) : EReal) = if h : k.val < 8 then CT m c i ⟨k.val + 2048, by omega⟩ else 0 := by
  simp only [V, hostOps0, hostOps0_1, hostOps0_2, List.flatten_cons, List.flatten_nil, List.cons_append,
    List.nil_append, List.append_nil]
  after_results
  show (pad S4096x128 ![0, 0] ![0, 120] ![0, 0] (extractStridedSlice S4096x8 ![0, 2048] (m (c.tc.loc main_arg3))
    slices_S4096x3080_S4096x8_0_2048 : FVec Ideal S4096x8 .f32) (sitofp FTy.f32 (constantI S_ 32 0#32))
    pads_S4096x8_S4096x128_000_01200 h_S_) (ix2 i k) = _
  pointwise
  unfold CT
  by_cases h : k.val < 8
  · rw [dif_pos h, dif_pos h]
    exact congrArg (fun j => m (c.tc.loc main_arg3) (ix2 i j)) (Fin.ext (Nat.add_comm _ _))
  · rw [dif_neg h, dif_neg h]
    show ((((0#32 : BitVec 32).toInt : ℤ) : ℝ) : EReal) = 0
    simp

theorem V_a (i : Fin 4096) (k : Fin 512) : (V m c main_v10 (ix2 i k) : EReal) = CT m c i ⟨k.val, by omega⟩ := by
  simp only [V, hostOps0, hostOps0_1, hostOps0_2, List.flatten_cons, List.flatten_nil, List.cons_append,
    List.nil_append, List.append_nil]
  after_results
  pointwise
  rfl

theorem V_qk (i : Fin 4096) (k : Fin 1024) : (V m c main_v12 (ix2 i k) : EReal) = CT m c i ⟨k.val + 512, by omega⟩ := by
  simp only [V, hostOps0, hostOps0_1, hostOps0_2, List.flatten_cons, List.flatten_nil, List.cons_append,
    List.nil_append, List.append_nil]
  after_results
  pointwise
  exact congrArg (fun j => m (c.tc.loc main_arg3) (ix2 i j)) (Fin.ext (Nat.add_comm _ _))

theorem V_v (i : Fin 4096) (k : Fin 512) : (V m c main_v14 (ix2 i k) : EReal) = CT m c i ⟨k.val + 1536, by omega⟩ := by
  simp only [V, hostOps0, hostOps0_1, hostOps0_2, List.flatten_cons, List.flatten_nil, List.cons_append,
    List.nil_append, List.append_nil]
  after_results
  pointwise
  exact congrArg (fun j => m (c.tc.loc main_arg3) (ix2 i j)) (Fin.ext (Nat.add_comm _ _))

theorem V_g (i : Fin 4096) (k : Fin 512) : (V m c main_v16 (ix2 i k) : EReal) = CT m c i ⟨k.val + 2056, by omega⟩ := by
  simp only [V, hostOps0, hostOps0_1, hostOps0_2, List.flatten_cons, List.flatten_nil, List.cons_append,
    List.nil_append, List.append_nil]
  after_results
  pointwise
  exact congrArg (fun j => m (c.tc.loc main_arg3) (ix2 i j)) (Fin.ext (Nat.add_comm _ _))

theorem V_mm (i : Fin 4096) (k : Fin 512) : (V m c main_v18 (ix2 i k) : EReal) = CT m c i ⟨k.val + 2568, by omega⟩ := by
  simp only [V, hostOps0, hostOps0_1, hostOps0_2, List.flatten_cons, List.flatten_nil, List.cons_append,
    List.nil_append, List.append_nil]
  after_results
  pointwise
  exact congrArg (fun j => m (c.tc.loc main_arg3) (ix2 i j)) (Fin.ext (Nat.add_comm _ _))

/-! ### The staged blocks -/

theorem blk_x (t : Fin cfg0.N) (r : Fin 256) (l : Fin 1024) : (iblk m c 0 t (ix2 r l) : EReal) = X m c (rowOf t r) l := by
  unfold X rowOf; blk_point [iblk, V, idx t]
theorem blk_dy (t : Fin cfg0.N) (r : Fin 256) (l : Fin 1024) : (iblk m c 1 t (ix2 r l) : EReal) = DY m c (rowOf t r) l := by
  unfold DY rowOf; blk_point [iblk, V, idx t]
theorem blk_g (t : Fin cfg0.N) (l : Fin 1024) : (iblk m c 2 t (ix2 0 l) : EReal) = G m c l := by
  unfold G; blk_point [iblk, V, idx t]
theorem blk_w (t : Fin cfg0.N) (k : Fin 3200) (l : Fin 1024) : (iblk m c 3 t (ix2 k l) : EReal) = pack (W m c l) k :=
  (show _ = V m c main_v6 (ix2 k l) by blk_simp [iblk]; blk_ext [idx t, rowOf]).trans (V_weight m c k l)
theorem blk_a (t : Fin cfg0.N) (r : Fin 256) (k : Fin 512) : (iblk m c 4 t (ix2 r k) : EReal) = CT m c (rowOf t r) ⟨k.val, by omega⟩ :=
  (show _ = V m c main_v10 (ix2 (rowOf t r) k) by blk_simp [iblk]; blk_ext [idx t, rowOf]).trans (V_a m c (rowOf t r) k)
theorem blk_qk (t : Fin cfg0.N) (r : Fin 256) (k : Fin 1024) : (iblk m c 5 t (ix2 r k) : EReal) = CT m c (rowOf t r) ⟨k.val + 512, by omega⟩ :=
  (show _ = V m c main_v12 (ix2 (rowOf t r) k) by blk_simp [iblk]; blk_ext [idx t, rowOf]).trans (V_qk m c (rowOf t r) k)
theorem blk_v (t : Fin cfg0.N) (r : Fin 256) (k : Fin 512) : (iblk m c 6 t (ix2 r k) : EReal) = CT m c (rowOf t r) ⟨k.val + 1536, by omega⟩ :=
  (show _ = V m c main_v14 (ix2 (rowOf t r) k) by blk_simp [iblk]; blk_ext [idx t, rowOf]).trans (V_v m c (rowOf t r) k)
theorem blk_g' (t : Fin cfg0.N) (r : Fin 256) (k : Fin 512) : (iblk m c 7 t (ix2 r k) : EReal) = CT m c (rowOf t r) ⟨k.val + 2056, by omega⟩ :=
  (show _ = V m c main_v16 (ix2 (rowOf t r) k) by blk_simp [iblk]; blk_ext [idx t, rowOf]).trans (V_g m c (rowOf t r) k)
theorem blk_mm (t : Fin cfg0.N) (r : Fin 256) (k : Fin 512) : (iblk m c 8 t (ix2 r k) : EReal) = CT m c (rowOf t r) ⟨k.val + 2568, by omega⟩ :=
  (show _ = V m c main_v18 (ix2 (rowOf t r) k) by blk_simp [iblk]; blk_ext [idx t, rowOf]).trans (V_mm m c (rowOf t r) k)
theorem blk_pad (t : Fin cfg0.N) (r : Fin 256) (k : Fin 128) : (iblk m c 9 t (ix2 r k) : EReal) = if h : k.val < 8 then CT m c (rowOf t r) ⟨k.val + 2048, by omega⟩ else 0 :=
  (show _ = V m c main_v8 (ix2 (rowOf t r) k) by blk_simp [iblk]; blk_ext [idx t, rowOf]).trans (V_pad m c (rowOf t r) k)

end Cert.InX
-- ==== Proof.InX.Array.lean ====
module

public import proofs.«01_k».proof.Proof.InX.Operands

@[expose] public section

/-! What one grid point of the call leaves in its two output blocks, and what the two arrays then hold. -/

set_option maxRecDepth 16384

noncomputable section

namespace Cert.InX

open Idealize.ShloMosaic Idealize.ShloMosaic.TcCoe Idealize.SL.Sem
open Idealize.ShloMosaic.Pipeline (Dat)
open Cert.KernelIdeal Cert.KernelIdeal.Gen Cert.KernelIdeal.Value

variable (m : (ℓ : Loc nD τ sig) → Buf (Elt Ideal) ℓ) (c : Dev nD)

/-- The six stores into the scratch that gathers a row block of the packed cotangents. -/
abbrev stores (a : FVec Ideal S256x512 .bf16) (b : FVec Ideal S256x1024 .bf16) (d e f : FVec Ideal S256x512 .bf16)
    (g : FVec Ideal S256x128 .f32) : List (View.Piece (Elt Ideal) S256x3200 .bf16) :=
  [⟨Rect.unit ![0, 3072] ![256, 128] inb_S256x3200_S256x128_0_3072, k0_pay8 (F := Ideal) g⟩,
    ⟨Rect.unit ![0, 2560] ![256, 512] inb_S256x3200_S256x512_0_2560, k0_pay7 (F := Ideal) f⟩,
    ⟨Rect.unit ![0, 2048] ![256, 512] inb_S256x3200_S256x512_0_2048, k0_pay6 (F := Ideal) e⟩,
    ⟨Rect.unit ![0, 1536] ![256, 512] inb_S256x3200_S256x512_0_1536, k0_pay5 (F := Ideal) d⟩,
    ⟨Rect.unit ![0, 512] ![256, 1024] inb_S256x3200_S256x1024_0_512, k0_pay4 (F := Ideal) b⟩,
    ⟨Rect.unit ![0, 0] ![256, 512] inb_S256x3200_S256x512_0_0, k0_pay3 (F := Ideal) a⟩]

/-- The scratch at point `t`, read back whole. -/
abbrev gathered (t : Fin cfg0.N) : FVec Ideal S256x3200 .bf16 :=
  (View.whole cc0_scratch0).readCov (stores (iblk m c 4 t) (iblk m c 5 t) (iblk m c 6 t) (iblk m c 7 t) (iblk m c 8 t)
    (iblk m c 9 t)) (Rect.unit (s := S256x3200) ![0, 0] ![256, 3200] inb_S256x3200_S256x3200_0_0).toLoadRect

theorem gathered_apply (t : Fin cfg0.N) (r : Fin 256) (k : Fin 3200) :
    gathered m c t (ix2 r k) = pack (CT m c (rowOf t r)) k := by
  unfold gathered
  rw [Pieces.readCov_whole]
  unfold stores
  rw [Pieces.canon_cols (R := 256) (C := 3200) (o := 3072) (n := 128),
    Pieces.canon_cols (R := 256) (C := 3200) (o := 2560) (n := 512),
    Pieces.canon_cols (R := 256) (C := 3200) (o := 2048) (n := 512),
    Pieces.canon_cols (R := 256) (C := 3200) (o := 1536) (n := 512),
    Pieces.canon_cols (R := 256) (C := 3200) (o := 512) (n := 1024),
    Pieces.canon_cols (R := 256) (C := 3200) (o := 0) (n := 512)]
  have hk := k.isLt
  by_cases h1 : 3072 ≤ k.val
  · rw [dif_pos (by omega)]
    pointwise [k0_pay8]
    rw [blk_pad]
    unfold pack
    by_cases h : k.val < 3080
    · rw [dif_pos (show k.val - 3072 < 8 by omega), dif_neg (by omega), dif_neg (by omega), dif_pos h]
      exact congrArg (CT m c (rowOf t r)) (Fin.ext (by show k.val - 3072 + 2048 = k.val - 1024; omega))
    · rw [dif_neg (show ¬k.val - 3072 < 8 by omega), dif_neg (by omega), dif_neg (by omega), dif_neg h]
  rw [dif_neg (by omega)]
  by_cases h2 : 2560 ≤ k.val
  · rw [dif_pos (by omega)]
    pointwise [k0_pay7]
    rw [blk_mm]
    unfold pack
    rw [dif_neg (by omega), dif_pos (by omega)]
    exact congrArg (CT m c (rowOf t r)) (Fin.ext (by show k.val - 2560 + 2568 = k.val + 8; omega))
  rw [dif_neg (by omega)]
  by_cases h3 : 2048 ≤ k.val
  · rw [dif_pos (by omega)]
    pointwise [k0_pay6]
    rw [blk_g']
    unfold pack
    rw [dif_neg (by omega), dif_pos (by omega)]
    exact congrArg (CT m c (rowOf t r)) (Fin.ext (by show k.val - 2048 + 2056 = k.val + 8; omega))
  rw [dif_neg (by omega)]
  rw [show pack (CT m c (rowOf t r)) k = CT m c (rowOf t r) ⟨k.val, by omega⟩ from dif_pos (by omega)]
  by_cases h4 : 1536 ≤ k.val
  · rw [dif_pos (by omega)]
    pointwise [k0_pay5]
    rw [blk_v]
    exact congrArg (CT m c (rowOf t r)) (Fin.ext (by show k.val - 1536 + 1536 = k.val; omega))
  rw [dif_neg (by omega)]
  by_cases h5 : 512 ≤ k.val
  · rw [dif_pos (by omega)]
    pointwise [k0_pay4]
    rw [blk_qk]
    exact congrArg (CT m c (rowOf t r)) (Fin.ext (by show k.val - 512 + 512 = k.val; omega))
  rw [dif_neg (by omega), dif_pos (by omega)]
  pointwise [k0_pay3]
  rw [blk_a]

/-- The point's product is the cotangent of its normed rows. -/
theorem prod_apply (t : Fin cfg0.N) (r : Fin 256) (l : Fin 1024) :
    ∑ k, gathered m c t (ix2 r k) * (iblk m c 3 t (ix2 k l) : EReal) = dh (W m c) (CT m c) (rowOf t r) l := by
  rw [Finset.sum_congr rfl fun k _ => by rw [gathered_apply, blk_w, pack_mul], sum_pack]
  rfl

/-- The block of the gradient of `x`. -/
theorem dx_point (t : Fin cfg0.N) (r : Fin 256) (l : Fin 1024) :
    k0_pay12 (gathered m c t) (iblk m c 3 t) (iblk m c 0 t) (iblk m c 2 t) (iblk m c 1 t) (ix2 r l)
      = dx (X m c) (G m c) (W m c) (CT m c) (DY m c) (rowOf t r) l := by
  generalize hS : gathered m c t = S
  pointwise [k0_pay12, k0_pay9, k0_pay10, k0_pay11]
  subst hS
  simp only [prod_apply, blk_x, blk_g, blk_dy]
  rfl

/-- What the point adds to the gradient of the norm's weight. -/
theorem dg_point (t : Fin cfg0.N) (v : FVec Ideal S1x1024 .f32) (l : Fin 1024) :
    k0_pay1 (k0_pay9 (gathered m c t) (iblk m c 3 t)) (k0_pay11 (iblk m c 0 t)) v (ix2 0 l)
      = v (ix2 0 l) + ∑ r, dh (W m c) (CT m c) (rowOf t r) l * (X m c (rowOf t r) l * Norm.rs c1024 eps (X m c (rowOf t r))) := by
  generalize hS : gathered m c t = S
  pointwise [k0_pay1, k0_pay9, k0_pay10, k0_pay11]
  subst hS
  simp only [prod_apply, blk_x]
  rfl

/-- The first array: the gradient of `x`. -/
def dxArr : FVec Ideal S4096x1024 .f32 := fun y => dx (X m c) (G m c) (W m c) (CT m c) (DY m c) (y 0) (y 1)

theorem out_dx (t : Fin cfg0.N) : (outsAt0 m c t.val t.isLt).1
    = k0_pay12 (gathered m c t) (iblk m c 3 t) (iblk m c 0 t) (iblk m c 2 t) (iblk m c 1 t) := by
  by_cases h : t.val % 16 = 0
  · rw [outsAt0_A m c t h]; frame_out
  · rw [outsAt0_B m c t h]; frame_out

/-- The array's index of index `(r, l)` of the block at point `t`. -/
theorem emb_dx (A : FVec Ideal S4096x1024 .f32) (t : Fin cfg0.N) (r : Fin 256) (l : Fin 1024) :
    A ((win0_10.blk t).view.emb (ix2 r l)) = A (ix2 (rowOf t r) l) := by
  blk_ext [idx t, rowOf]

theorem array_dx : (dats m 0 c).arrAt 10 cfg0.N = dxArr m c := by
  refine (dats m 0 c).arrAt_eq_of_covers 10 (dxArr m c) (by decide +kernel) fun t hf y => ?_
  blk_simp
  rw [after0_10, out_dx]
  idx_vars y
  rw [dx_point]
  exact (emb_dx (dxArr m c) t y0 y1).symm

/-- The second array: the gradient of the norm's weight. -/
def dgArr : FVec Ideal S1x1024 .f32 := fun y => dg (X m c) (W m c) (CT m c) (y 1)

/-- The terms one point adds. -/
def dgTerm (t : Fin cfg0.N) (y : S1x1024.Idx) : EReal :=
  ∑ r, dh (W m c) (CT m c) (rowOf t r) (y 1) * (X m c (rowOf t r) (y 1) * Norm.rs c1024 eps (X m c (rowOf t r)))

theorem out_dg (t : Fin cfg0.N) (v : FVec Ideal S1x1024 .f32) (y : S1x1024.Idx) :
    k0_pay1 (k0_pay9 (gathered m c t) (iblk m c 3 t)) (k0_pay11 (iblk m c 0 t)) v y = v y + dgTerm m c t y := by
  obtain ⟨l, rfl⟩ : ∃ l, y = ix2 0 l := ⟨y 1, by idx_vars y; exact congrArg (fun a => ix2 a y1) (Subsingleton.elim _ _)⟩
  exact dg_point m c t v l

theorem zero_dg (y : S1x1024.Idx) : k0_pay2 (F := Ideal) y = 0 := by
  pointwise [k0_pay2]

/-- The sixteen points' terms are the sum over all rows. -/
theorem dg_sum (b : ℕ) (hb : b = 0) (h : ∀ s : Fin 16, b + s.val < cfg0.N) (l : Fin 1024) :
    ∑ s : Fin 16, dgTerm m c ⟨b + s.val, h s⟩ (ix2 0 l) = dg (X m c) (W m c) (CT m c) l := by
  subst hb
  unfold dg
  rw [Fin.sum_univ_tiles 16 256 rfl]
  refine Finset.sum_congr rfl fun s _ => Finset.sum_congr rfl fun r _ => ?_
  have e : rowOf ⟨0 + s.val, h s⟩ r = ⟨s.val * 256 + r.val, by omega⟩ := Fin.ext (by show (0 + s.val) * 256 + r.val = s.val * 256 + r.val; omega)
  rw [e]
  rfl

theorem array_dg : (dats m 0 c).arrAt 11 cfg0.N = dgArr m c := by
  refine (dats m 0 c).arrAt_eq_of_covers 11 (dgArr m c) (by decide +kernel) fun t hf y => ?_
  blk_simp
  rw [after0_11, Pipeline.eq_sum_fin_of_reset_step_apply_of_flush (fun n h => (outsAt0 m c n h).2) 16 (fun _ => 0)
    (dgTerm m c)
    (fun t h j => by
      rw [outsAt0_A m c t h]; frame_out
      exact (out_dg m c t _ j).trans (congrArg (· + _) (zero_dg j)))
    (fun t h j => by
      rw [outsAt0_B m c t h]; frame_out
      exact out_dg m c t _ j)
    t ((flush0_11 t).mp hf) _, zero_add]
  have hy : dgArr m c ((win0_11.blk t).view.emb y) = dgArr m c y := by
    idx_vars y
    blk_ext [idx t]
  refine Eq.trans ?_ hy.symm
  obtain ⟨l, rfl⟩ : ∃ l, y = ix2 0 l := ⟨y 1, by idx_vars y; exact congrArg (fun a => ix2 a y1) (Subsingleton.elim _ _)⟩
  exact dg_sum m c _ (by have := lt_of_lt_of_eq t.isLt N_0; omega) _ l

end Cert.InX
-- ==== Proof.InX.Reference.lean ====
module

public import proofs.«01_k».proof.Proof.Gen.ReferenceIdeal.Run
public import proofs.«01_k».proof.Proof.InX.Math
public import Idealize.ShloMosaic.Lib.Pointwise

@[expose] public section

/-! What the reference's two results hold, by row and column. -/

set_option maxRecDepth 16384

noncomputable section

namespace Cert.InX

open Idealize.ShloMosaic Idealize.ShloMosaic.TcCoe Idealize.SL.Sem
open Cert.ReferenceIdeal Cert.ReferenceIdeal.Gen Cert.ReferenceIdeal.Value

theorem ref_dx (m : (ℓ : Loc nD τ sig) → Buf (Elt Ideal) ℓ) (c : Dev nD) (i : Fin 4096) (l : Fin 1024) :
    (res_main_v36 m c (ix2 i l) : EReal)
      = dxRef (fun i l => m (c.tc.loc main_arg0) (ix2 i l)) (fun l => m (c.tc.loc main_arg1) (ix2 0 l))
          (fun l k => m (c.tc.loc main_arg2) (ix2 l k)) (fun i k => m (c.tc.loc main_arg3) (ix2 i k))
          (fun i l => m (c.tc.loc main_arg4) (ix2 i l)) i l := by
  pointwise [res_main_v36]
  simp only [Finset.univ_unique, Finset.sum_singleton]
  rfl

theorem ref_dg (x : FVec Ideal S4096x1024 .f32) (w : FVec Ideal S1024x3080 .f32) (ct : FVec Ideal S4096x3080 .f32) (l : Fin 1024) :
    (shapeCast S1x1024 (Host.reduceAdd (mulf (mulf x (broadcastInDim S4096x1024 ![0, 1] bcast_S4096x1_S4096x1024_0_1
        (Host.rsqrt (addf (Host.divf (broadcastInDim S4096x1 ![0] bcast_S4096_S4096x1_0 (Host.reduceAdd (mulf x x)
          (constant S_ .f32 0x00000000#32) reducesTo_S4096x1024_S4096_d1 h_S_))
          (broadcastInDim S4096x1 ![] bcast_S_S4096x1 (constant S_ .f32 0x44800000#32)))
          (broadcastInDim S4096x1 ![] bcast_S_S4096x1 (constant S_ .f32 0x358637BD#32))))))
        (Host.dotGeneral dot_S4096x3080_S1024x3080_S4096x1024_1_1_0_0_n_n none ct w))
        (constant S_ .f32 0x00000000#32) reducesTo_S4096x1024_S1024_d0 h_S_) shapeCasts_S1024_S1x1024 : FVec Ideal S1x1024 .f32) (ix2 0 l)
      = dg (fun i l => x (ix2 i l)) (fun l k => w (ix2 l k)) (fun i k => ct (ix2 i k)) l := by
  pointwise
  unfold dg
  exact Finset.sum_congr rfl fun i _ => mul_comm _ _

end Cert.InX
-- ==== Proof.Fox.Lines.lean ====
/- What the host lines before the attention backward kernel leave in its five operands. -/
module

public import proofs.«01_k».proof.Proof.Gen.Kernel2Ideal.Frame
public import Idealize.ShloMosaic.Lib.StableHlo.RunRead
public import Idealize.ShloMosaic.Lib.Claim

@[expose] public section

set_option maxRecDepth 16384

noncomputable section

namespace Cert.Kernel2Ideal.Fox

open Idealize.ShloMosaic Idealize.ShloMosaic.TcCoe Idealize.ShloMosaic.Tactic
open Cert.Kernel2Ideal Cert.Kernel2Ideal.Gen

section Terms

variable (x0 x1 x2 : FVec Ideal S8x4096x64 .f32) (x3 : FVec Ideal S8x4096 .f32) (x4 : FVec Ideal S8x4096x64 .f32)

/-- The masked scores. -/
def scr : FVec Ideal S8x4096x4096 .f32 :=
  select (broadcastInDim S8x4096x4096 ![0, 1, 2] bcast_S1x4096x4096_S8x4096x4096_0_1_2
      (cmpi .sle (broadcastInDim S1x4096x4096 ![0, 1, 2] bcast_S1x1x4096_S1x4096x4096_0_1_2 (broadcastInDim S1x1x4096 ![2] bcast_S4096_S1x1x4096_2 (iotaInDim S4096 32 0)))
        (broadcastInDim S1x4096x4096 ![0, 1, 2] bcast_S1x4096x1_S1x4096x4096_0_1_2 (broadcastInDim S1x4096x1 ![1] bcast_S4096_S1x4096x1_1 (iotaInDim S4096 32 0)))))
    (subf (addf (mulf (Host.dotGeneral dot_S8x4096x64_S8x4096x64_S8x4096x4096_2_2_1_1_0_0 none x0 x1)
          (broadcastInDim S8x4096x4096 ![] bcast_S_S8x4096x4096 (constant S_ .f32 0x3E000000#32)))
        (broadcastInDim S8x4096x4096 ![0, 1, 2] bcast_S8x4096x1_S8x4096x4096_0_1_2 (broadcastInDim S8x4096x1 ![0, 1] bcast_S8x4096_S8x4096x1_0_1 x3)))
      (broadcastInDim S8x4096x4096 ![0, 1, 2] bcast_S8x1x4096_S8x4096x4096_0_1_2 (broadcastInDim S8x1x4096 ![0, 2] bcast_S8x4096_S8x1x4096_0_2 x3)))
    (broadcastInDim S8x4096x4096 ![] bcast_S_S8x4096x4096 (constant S_ .f32 0xFF800000#32))

variable (s : FVec Ideal S8x4096x4096 .f32)

/-- The row maxima of scores. -/
def mxs : FVec Ideal S8x4096x1 .f32 :=
  broadcastInDim S8x4096x1 ![0, 1] bcast_S8x4096_S8x4096x1_0_1
    (Host.reduce FloatOps.maximumf s (constant S_ .f32 0xFF800000#32) reducesTo_S8x4096x4096_S8x4096_d2 h_S_)

/-- The shifted exponentials. -/
def exs : FVec Ideal S8x4096x4096 .f32 :=
  Host.exp (subf s (broadcastInDim S8x4096x4096 ![0, 1, 2] bcast_S8x4096x1_S8x4096x4096_0_1_2 (mxs s)))

/-- Their row sums. -/
def sms : FVec Ideal S8x4096x1 .f32 :=
  broadcastInDim S8x4096x1 ![0, 1] bcast_S8x4096_S8x4096x1_0_1
    (Host.reduceAdd (exs s) (constant S_ .f32 0x00000000#32) reducesTo_S8x4096x4096_S8x4096_d2 h_S_)

/-- The row terms. -/
def rws : FVec Ideal S8x4096 .f32 := subf (shapeCast S8x4096 (addf (mxs s) (Host.log (sms s))) shapeCasts_S8x4096x1_S8x4096) x3

/-- The cotangent against the output, row by row. -/
def dls : FVec Ideal S8x4096 .f32 :=
  Host.reduceAdd (mulf x4 (Host.dotGeneral dot_S8x4096x4096_S8x4096x64_S8x4096x64_2_1_1_2_0_0 none
      (Host.divf (exs s) (broadcastInDim S8x4096x4096 ![0, 1, 2] bcast_S8x4096x1_S8x4096x4096_0_1_2 (sms s))) x2))
    (constant S_ .f32 0x00000000#32) reducesTo_S8x4096x64_S8x4096_d2 h_S_

/-- A head's 64 columns, three more lanes, then a one at the lane numbered by the head from `u`. -/
def aug (a : FVec Ideal S8x4096x64 .f32) (c0 c1 c2 : FVec Ideal S8x4096 .bf16) (u : BitVec 32) : FVec Ideal S4096x1024 .bf16 :=
  shapeCast S4096x1024 (transpose S4096x8x128 [1, 0, 2]
    (concatenate S8x4096x128 2 [⟨S8x4096x64, truncf .bf16 a bitsLt_bf16_f32⟩, ⟨S8x4096x1, shapeCast S8x4096x1 c0 shapeCasts_S8x4096_S8x4096x1⟩,
        ⟨S8x4096x1, shapeCast S8x4096x1 c1 shapeCasts_S8x4096_S8x4096x1⟩, ⟨S8x4096x1, shapeCast S8x4096x1 c2 shapeCasts_S8x4096_S8x4096x1⟩,
        ⟨S8x4096x61, truncf .bf16 (uitofp (F := Ideal) .f32 (cmpi .eq
          (addi (iotaInDim S8x4096x61 32 2) (broadcastInDim S8x4096x61 ![] bcast_S_S8x4096x61 (constantI S_ 32 67#32)))
          (addi (broadcastInDim S8x4096x61 ![] bcast_S_S8x4096x61 (constantI S_ 32 u)) (iotaInDim S8x4096x61 32 0)))) bitsLt_bf16_f32⟩]
      concatenates_S8x4096x64_S8x4096x1_S8x4096x1_S8x4096x1_S8x4096x61_S8x4096x128_d2)
    transposes_S8x4096x128_S4096x8x128_1_0_2) shapeCasts_S4096x8x128_S4096x1024

/-- Ones. -/
def ons : FVec Ideal S8x4096 .bf16 := broadcastInDim S8x4096 ![] bcast_S_S8x4096 (constant S_ .bf16 0x3F80#16)

/-- A column rounded, and what is left over. -/
def hi (x : FVec Ideal S8x4096 .f32) : FVec Ideal S8x4096 .bf16 := truncf .bf16 x bitsLt_bf16_f32
def rest (x : FVec Ideal S8x4096 .f32) : FVec Ideal S8x4096 .f32 := subf x (extf .f32 (hi x) bitsLt_bf16_f32)

/-- A head's columns and a column split in three. -/
def augSplit (a : FVec Ideal S8x4096x64 .f32) (x : FVec Ideal S8x4096 .f32) (u : BitVec 32) : FVec Ideal S4096x1024 .bf16 :=
  aug a (hi x) (hi (rest x)) (hi (rest (rest x))) u

/-- The row terms by group of heads and tile, padded to eight rows. -/
def rrs (r : FVec Ideal S8x4096 .f32) : FVec Ideal S4x8x8x512 .f32 :=
  pad S4x8x8x512 ![0, 0, 0, 0] ![0, 0, 6, 0] ![0, 0, 0, 0]
    (transpose S4x8x2x512 [0, 2, 1, 3] (shapeCast S4x2x8x512 r shapeCasts_S8x4096_S4x2x8x512) transposes_S4x2x8x512_S4x8x2x512_0_2_1_3)
    (sitofp (F := Ideal) .f32 (constantI S_ 32 0#32)) pads_S4x8x2x512_S4x8x8x512_000_000_060_000 h_S_

end Terms

/-! ### The lines in three stretches, from any contents -/

section Stretches

variable (W : Valuation τ sig (Elt Ideal))

/-- The lines up to the scores. -/
abbrev linesA : List (HloOp τ sig (Elt Ideal)) := hostOps0 ++ hostOps0_1
/-- The lines of the softmax, the output and its cotangent. -/
abbrev linesB : List (HloOp τ sig (Elt Ideal)) := hostOps0_2.take 19
/-- The lines that lay out the operands. -/
abbrev linesC : List (HloOp τ sig (Elt Ideal)) := hostOps0_2.drop 19 ++ hostOps0_3

theorem A_scr : StableHlo.after linesA W (Proc.devRef .tc main_v15)
    = scr (W (Proc.devRef .tc main_arg0)) (W (Proc.devRef .tc main_arg1)) (W (Proc.devRef .tc main_arg3)) := by
  simp only [linesA, hostOps0, hostOps0_1, List.cons_append, List.nil_append, List.append_nil]
  after_reads_simp
  rfl

theorem B_rws : StableHlo.after linesB W (Proc.devRef .tc main_v29) = rws (W (Proc.devRef .tc main_arg3)) (W (Proc.devRef .tc main_v15)) := by
  simp only [linesB, hostOps0_2, List.take_succ_cons, List.take_zero]
  after_reads_simp
  rfl

theorem B_dls : StableHlo.after linesB W (Proc.devRef .tc main_v31)
    = dls (W (Proc.devRef .tc main_arg2)) (W (Proc.devRef .tc main_arg4)) (W (Proc.devRef .tc main_v15)) := by
  simp only [linesB, hostOps0_2, List.take_succ_cons, List.take_zero]
  after_reads_simp
  rfl

theorem C_qa : StableHlo.after linesC W (Proc.devRef .tc main_v50)
    = aug (mulf (W (Proc.devRef .tc main_arg0)) (broadcastInDim S8x4096x64 ![] bcast_S_S8x4096x64 (constant S_ .f32 0x3E000000#32))) ons ons ons 80#32 := by
  simp only [linesC, hostOps0_2, hostOps0_3, List.drop_succ_cons, List.drop_zero, List.cons_append, List.nil_append, List.append_nil]
  after_reads_simp
  rfl

theorem C_ka : StableHlo.after linesC W (Proc.devRef .tc main_v74)
    = augSplit (W (Proc.devRef .tc main_arg1)) (Host.negf (W (Proc.devRef .tc main_arg3))) 72#32 := by
  simp only [linesC, hostOps0_2, hostOps0_3, List.drop_succ_cons, List.drop_zero, List.cons_append, List.nil_append, List.append_nil]
  after_reads_simp
  rfl

theorem C_va : StableHlo.after linesC W (Proc.devRef .tc main_v90)
    = aug (W (Proc.devRef .tc main_arg2)) ons ons ons 128#32 := by
  simp only [linesC, hostOps0_2, hostOps0_3, List.drop_succ_cons, List.drop_zero, List.cons_append, List.nil_append, List.append_nil]
  after_reads_simp
  rfl

theorem C_doa : StableHlo.after linesC W (Proc.devRef .tc main_v114)
    = augSplit (W (Proc.devRef .tc main_arg4)) (Host.negf (W (Proc.devRef .tc main_v31))) 128#32 := by
  simp only [linesC, hostOps0_2, hostOps0_3, List.drop_succ_cons, List.drop_zero, List.cons_append, List.nil_append, List.append_nil]
  after_reads_simp
  rfl

theorem C_rr : StableHlo.after linesC W (Proc.devRef .tc main_v117)
    = rrs (W (Proc.devRef .tc main_v29)) := by
  simp only [linesC, hostOps0_2, hostOps0_3, List.drop_succ_cons, List.drop_zero, List.cons_append, List.nil_append, List.append_nil]
  after_reads_simp
  rfl

theorem B_arg0 : StableHlo.after linesB W (Proc.devRef .tc main_arg0) = W (Proc.devRef .tc main_arg0) := by
  simp only [linesB, hostOps0_2, List.take_succ_cons, List.take_zero]
  after_reads_simp

theorem A_arg0 : StableHlo.after linesA W (Proc.devRef .tc main_arg0) = W (Proc.devRef .tc main_arg0) := by
  simp only [linesA, hostOps0, hostOps0_1, List.cons_append, List.nil_append, List.append_nil]
  after_reads_simp

theorem B_arg1 : StableHlo.after linesB W (Proc.devRef .tc main_arg1) = W (Proc.devRef .tc main_arg1) := by
  simp only [linesB, hostOps0_2, List.take_succ_cons, List.take_zero]
  after_reads_simp

theorem A_arg1 : StableHlo.after linesA W (Proc.devRef .tc main_arg1) = W (Proc.devRef .tc main_arg1) := by
  simp only [linesA, hostOps0, hostOps0_1, List.cons_append, List.nil_append, List.append_nil]
  after_reads_simp

theorem B_arg2 : StableHlo.after linesB W (Proc.devRef .tc main_arg2) = W (Proc.devRef .tc main_arg2) := by
  simp only [linesB, hostOps0_2, List.take_succ_cons, List.take_zero]
  after_reads_simp

theorem A_arg2 : StableHlo.after linesA W (Proc.devRef .tc main_arg2) = W (Proc.devRef .tc main_arg2) := by
  simp only [linesA, hostOps0, hostOps0_1, List.cons_append, List.nil_append, List.append_nil]
  after_reads_simp

theorem B_arg3 : StableHlo.after linesB W (Proc.devRef .tc main_arg3) = W (Proc.devRef .tc main_arg3) := by
  simp only [linesB, hostOps0_2, List.take_succ_cons, List.take_zero]
  after_reads_simp

theorem A_arg3 : StableHlo.after linesA W (Proc.devRef .tc main_arg3) = W (Proc.devRef .tc main_arg3) := by
  simp only [linesA, hostOps0, hostOps0_1, List.cons_append, List.nil_append, List.append_nil]
  after_reads_simp

theorem B_arg4 : StableHlo.after linesB W (Proc.devRef .tc main_arg4) = W (Proc.devRef .tc main_arg4) := by
  simp only [linesB, hostOps0_2, List.take_succ_cons, List.take_zero]
  after_reads_simp

theorem A_arg4 : StableHlo.after linesA W (Proc.devRef .tc main_arg4) = W (Proc.devRef .tc main_arg4) := by
  simp only [linesA, hostOps0, hostOps0_1, List.cons_append, List.nil_append, List.append_nil]
  after_reads_simp

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => exact ih _

end Stretches

variable (m : (ℓ : Loc nD τ sig) → Buf (Elt Ideal) ℓ) (c : Dev nD)

theorem V_split (b : Ref sig .tc) :
    V m c b = StableHlo.after linesC (StableHlo.after linesB (StableHlo.after linesA fun b => m (c, b))) (Proc.devRef .tc b) := by
  have e : List.flatten [(hostOps0 : List (HloOp τ sig (Elt Ideal))), hostOps0_1, hostOps0_2, hostOps0_3] = linesA ++ (linesB ++ linesC) := by
    simp only [linesA, linesB, linesC, List.flatten_cons, List.flatten_nil, List.append_nil, List.append_assoc]
    rw [← List.append_assoc (List.take 19 hostOps0_2), List.take_append_drop]
  show StableHlo.after (List.flatten [(hostOps0 : List (HloOp τ sig (Elt Ideal))), hostOps0_1, hostOps0_2, hostOps0_3]) (fun b => m (c, b)) (Proc.devRef .tc b) = _
  rw [e, after_append, after_append]

abbrev arg0 : FVec Ideal S8x4096x64 .f32 := m (c.tc.loc main_arg0)
abbrev arg1 : FVec Ideal S8x4096x64 .f32 := m (c.tc.loc main_arg1)
abbrev arg2 : FVec Ideal S8x4096x64 .f32 := m (c.tc.loc main_arg2)
abbrev arg3 : FVec Ideal S8x4096 .f32 := m (c.tc.loc main_arg3)
abbrev arg4 : FVec Ideal S8x4096x64 .f32 := m (c.tc.loc main_arg4)

/-- The masked scores of the arguments. -/
abbrev argScr : FVec Ideal S8x4096x4096 .f32 := scr (arg0 m c) (arg1 m c) (arg3 m c)

theorem V_qa : V m c main_v50 = aug (mulf (arg0 m c) (broadcastInDim S8x4096x64 ![] bcast_S_S8x4096x64 (constant S_ .f32 0x3E000000#32))) ons ons ons 80#32 := by
  rw [V_split, C_qa, B_arg0, A_arg0]
theorem V_ka : V m c main_v74 = augSplit (arg1 m c) (Host.negf (arg3 m c)) 72#32 := by
  rw [V_split, C_ka, B_arg1, B_arg3, A_arg1, A_arg3]
theorem V_va : V m c main_v90 = aug (arg2 m c) ons ons ons 128#32 := by
  rw [V_split, C_va, B_arg2, A_arg2]
theorem V_doa : V m c main_v114 = augSplit (arg4 m c) (Host.negf (dls (arg2 m c) (arg4 m c) (argScr m c))) 128#32 := by
  rw [V_split, C_doa, B_dls, B_arg4, A_arg2, A_arg4, A_scr]
theorem V_rr : V m c main_v117 = rrs (rws (arg3 m c) (argScr m c)) := by
  rw [V_split, C_rr, B_rws, A_arg3, A_scr]

end Cert.Kernel2Ideal.Fox
-- ==== Proof.Fox.Math.lean ====
/- Causal attention with a forget gate over the reals: the weights, their gradient, and the extended-real spellings. -/
module

public import proofs.«01_k».proof.Proof.NormGrad
public import proofs.«01_k».proof.Proof.FiniteArgs

@[expose] public section

noncomputable section

namespace Cert.Attn

open Idealize.ShloMosaic Cert.Norm

variable {n d : ℕ} (q k v ct : Fin n → Fin d → ℝ) (f : Fin n → ℝ)

/-- The score of query `i` and key `j`. -/
def score (i j : Fin n) : ℝ := (∑ a, q i a * k j a) * (1 / 8) + f i - f j

/-- The unnormalised weight, zero at the keys after the query. -/
def wgt (i j : Fin n) : ℝ := if j ≤ i then Real.exp (score q k f i j) else 0

/-- The row's normaliser. -/
def nrm (i : Fin n) : ℝ := ∑ j, wgt q k f i j

/-- The attention weight. -/
def prob (i j : Fin n) : ℝ := wgt q k f i j / nrm q k f i

/-- The cotangent of a weight. -/
def cot (i j : Fin n) : ℝ := ∑ a, ct i a * v j a

/-- The row's mean cotangent. -/
def mean (i : Fin n) : ℝ := ∑ j, cot v ct i j * prob q k f i j

/-- The gradient of a score. -/
def slope (i j : Fin n) : ℝ := prob q k f i j * (cot v ct i j - mean q k v ct f i)

def gradQ (i : Fin n) (a : Fin d) : ℝ := ∑ j, slope q k v ct f i j * (1 / 8) * k j a
def gradK (j : Fin n) (a : Fin d) : ℝ := ∑ i, slope q k v ct f i j * (1 / 8) * q i a
def gradV (j : Fin n) (a : Fin d) : ℝ := ∑ i, ct i a * prob q k f i j
def gradF (i : Fin n) : ℝ := ∑ j, slope q k v ct f i j - ∑ j, slope q k v ct f j i

theorem wgt_nonneg (i j : Fin n) : 0 ≤ wgt q k f i j := by
  unfold wgt; split
  · exact (Real.exp_pos _).le
  · exact le_refl 0

theorem nrm_pos (i : Fin n) : 0 < nrm q k f i := by
  refine lt_of_lt_of_le ?_ (Finset.single_le_sum (f := fun j => wgt q k f i j) (fun j _ => wgt_nonneg q k f i j) (Finset.mem_univ i))
  show 0 < wgt q k f i i
  unfold wgt; rw [if_pos le_rfl]; exact Real.exp_pos _

/-- The weight shifted by `m`, as the softmax computes it. -/
def sft (m : ℝ) (i j : Fin n) : ℝ := if j ≤ i then Real.exp (score q k f i j - m) else 0

theorem sft_eq (m : ℝ) (i j : Fin n) : sft q k f m i j = wgt q k f i j * Real.exp (-m) := by
  unfold sft wgt
  by_cases h : j ≤ i
  · rw [if_pos h, if_pos h, ← Real.exp_add, sub_eq_add_neg]
  · rw [if_neg h, if_neg h, zero_mul]

theorem sum_sft (m : ℝ) (i : Fin n) : ∑ j, sft q k f m i j = nrm q k f i * Real.exp (-m) := by
  simp only [sft_eq, ← Finset.sum_mul]; rfl

theorem sum_sft_pos (m : ℝ) (i : Fin n) : 0 < ∑ j, sft q k f m i j := by
  rw [sum_sft]; exact mul_pos (nrm_pos q k f i) (Real.exp_pos _)

/-- The shift cancels. -/
theorem sft_div (m : ℝ) (i j : Fin n) : sft q k f m i j / (∑ j, sft q k f m i j) = prob q k f i j := by
  rw [sum_sft, sft_eq]
  exact mul_div_mul_right _ _ (Real.exp_pos _).ne'

theorem sft_mul (m : ℝ) (i j : Fin n) : sft q k f m i j = prob q k f i j * ∑ j, sft q k f m i j := by
  rw [← sft_div q k f m i j, div_mul_cancel₀ _ (sum_sft_pos q k f m i).ne']

/-- The weight with the logarithm of the normaliser taken into the exponent. -/
theorem exp_log (m : ℝ) (i j : Fin n) (h : j ≤ i) :
    Real.exp (score q k f i j - (m + Real.log (∑ j, sft q k f m i j))) = prob q k f i j := by
  rw [← sft_div q k f m i j, ← sub_sub, Real.exp_sub, Real.exp_log (sum_sft_pos q k f m i)]
  unfold sft
  rw [if_pos h]

/-- The score's gradient as the derivative of a quotient spells it. -/
theorem slope_quotient (m : ℝ) (i j : Fin n) :
    (cot v ct i j / (∑ j, sft q k f m i j)
      + -(∑ j', cot v ct i j' * (1 / ((∑ j, sft q k f m i j) * ∑ j, sft q k f m i j)) * sft q k f m i j')) * sft q k f m i j
      = slope q k v ct f i j := by
  have hL := (sum_sft_pos q k f m i).ne'
  have e : ∀ j', sft q k f m i j' = prob q k f i j' * ∑ j, sft q k f m i j := sft_mul q k f m i
  generalize (∑ j, sft q k f m i j) = L at hL e
  have hs : ∑ j', cot v ct i j' * (1 / (L * L)) * sft q k f m i j' = mean q k v ct f i / L := by
    unfold mean
    rw [Finset.sum_div]
    refine Finset.sum_congr rfl fun j' _ => ?_
    rw [e j']; field_simp
  rw [hs, e j]
  unfold slope
  field_simp
  ring

/-- The row's mean cotangent is the cotangent against the output. -/
theorem mean_eq (i : Fin n) : ∑ a, ct i a * ∑ j, prob q k f i j * v j a = mean q k v ct f i := by
  unfold mean cot
  simp only [Finset.mul_sum, Finset.sum_mul]
  rw [Finset.sum_comm]
  exact Finset.sum_congr rfl fun j _ => Finset.sum_congr rfl fun a _ => by ring

/-! ### In extended reals -/

theorem exp_masked (s m : ℝ) (p : Prop) [Decidable p] :
    Ideal.exp ((if p then (s : EReal) else ⊥) - (m : EReal)) = ((if p then Real.exp (s - m) else 0 : ℝ) : EReal) := by
  by_cases h : p
  · rw [if_pos h, if_pos h, ← EReal.coe_sub, Ideal.exp_coe]
  · rw [if_neg h, if_neg h, EReal.bot_sub, Ideal.exp_bot]; rfl

/-- The greatest of finitely many scores, some of them real and none `⊤`, is real. -/
theorem max_real {ι : Type} (s : Finset ι) (g : ι → EReal) (ht : ∀ i ∈ s, g i ≠ ⊤) (hb : ∃ i ∈ s, g i ≠ ⊥) :
    ∃ m : ℝ, s.fold max (⊥ : EReal) g = (m : EReal) := by
  have e : s.fold max (⊥ : EReal) g = s.sup g := rfl
  rw [e]
  obtain ⟨i, hi, hne⟩ := hb
  have h1 : s.sup g ≠ ⊥ := fun h => hne (le_bot_iff.mp (h ▸ Finset.le_sup hi))
  have h2 : s.sup g ≠ ⊤ := ((Finset.sup_lt_iff (by exact bot_lt_top)).mpr fun i hi => lt_top_iff_ne_top.mpr (ht i hi)).ne
  exact ⟨_, (EReal.coe_toReal h2 h1).symm⟩

theorem log_real {a : ℝ} (ha : 0 < a) : Ideal.log (a : EReal) = ((Real.log a : ℝ) : EReal) := by
  rw [Ideal.log_coe, if_neg (not_le.mpr ha)]

end Cert.Attn
-- ==== Proof.Fox.Softmax.lean ====
/- Facts the host lines of both attention programs share: the causal mask's bit, its constants, the row maximum. -/
module

public import proofs.«01_k».proof.Proof.Fox.Math
public import Idealize.ShloMosaic.Lib.Pointwise
public import Idealize.ShloMosaic.PureOps.Ideal.Laws

@[expose] public section

noncomputable section

namespace Cert.Attn

open Idealize.ShloMosaic

theorem causal_bit (j i : Fin 4096) :
    IntOp.cmpi CmpIPredicate.sle (BitVec.ofNat 32 j.val) (BitVec.ofNat 32 i.val) = BitVec.ofBool (decide (j ≤ i)) := by
  have hj := j.isLt
  have hi := i.isLt
  show BitVec.ofBool (BitVec.sle _ _) = _
  congr 1
  rw [BitVec.sle_eq_decide, BitVec.toInt_eq_toNat_of_lt, BitVec.toInt_eq_toNat_of_lt] <;> simp [BitVec.toNat_ofNat] <;> omega

theorem select_bit {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem eighth : Ideal.ofBits .f32 0x3E000000#32 = ((1 / 8 : ℝ) : EReal) := by
  simp [Ideal.ofBits, Ideal.ieee]
  rw [← EReal.coe_mul]; norm_num

theorem minusInf : Ideal.ofBits .f32 0xFF800000#32 = ⊥ := by simp [Ideal.ofBits, Ideal.ieee]

theorem oneF : Ideal.ofBits .f32 0x3F800000#32 = 1 := by
  simp [Ideal.ofBits, Ideal.ieee]
  rw [← EReal.coe_mul, ← EReal.coe_one]; norm_num

theorem oneH : Ideal.ofBits .bf16 0x3F80#16 = 1 := by
  simp [Ideal.ofBits, Ideal.ieee]
  rw [← EReal.coe_mul, ← EReal.coe_one]; norm_num

/-- Every row of masked scores has a real maximum. -/
theorem row_max (x : FVec Ideal ⟨3, ![8, 4096, 4096]⟩ .f32) (init : FVec Ideal ⟨0, ![]⟩ .f32)
    (hr : Shape.ReducesTo ⟨3, ![8, 4096, 4096]⟩ [2] ⟨2, ![8, 4096]⟩) (hu : 0 < (⟨0, ![]⟩ : Shape).numel) (hi : init (Shape.Idx.first hu) = (⊥ : EReal))
    (lg : Fin 8 → Fin 4096 → Fin 4096 → ℝ) (hx : ∀ h i j, x (ix3 h i j) = if j ≤ i then (lg h i j : EReal) else ⊥) :
    ∃ m : Fin 8 → Fin 4096 → ℝ, ∀ h i, Host.reduce (FloatOps.maximumf (F := Ideal) (φ := .f32)) x init hr hu (ix2 h i) = (m h i : EReal) := by
  have key : ∀ h i, ∃ m : ℝ, Host.reduce (FloatOps.maximumf (F := Ideal) (φ := .f32)) x init hr hu (ix2 h i) = (m : EReal) := by
    intro h i
    rw [Host.reduce_eq_fold, hi]
    refine max_real _ x (fun y _ => ?_) ⟨ix3 h i i, Finset.mem_filter.mpr ⟨Finset.mem_univ _, ?_⟩, ?_⟩
    · obtain ⟨a, b, c, rfl⟩ : ∃ a b c, y = ix3 a b c := ⟨_, _, _, eq_ix3 y⟩
      rw [hx]
      split
      · exact EReal.coe_ne_top _
      · exact bot_ne_top
    · funext b
      match b with
      | ⟨0, _⟩ => exact Fin.ext (hr.drop_apply_val_of_eq (ix3 h i i) 0 0)
      | ⟨1, _⟩ => exact Fin.ext (hr.drop_apply_val_of_eq (ix3 h i i) 1 1)
    · rw [hx, if_pos le_rfl]
      exact EReal.coe_ne_bot _
  choose m hm using key
  exact ⟨m, hm⟩

end Cert.Attn
-- ==== Proof.Fox.Operands.lean ====
/- The five operands of the attention backward kernel, entry by entry, at real arguments. -/
module

public import proofs.«01_k».proof.Proof.Fox.Lines
public import proofs.«01_k».proof.Proof.Fox.Softmax
public import Idealize.ShloMosaic.Lib.Pipeline.Value

@[expose] public section

set_option maxRecDepth 16384

noncomputable section

namespace Cert.Kernel2Ideal.Fox

open Idealize.ShloMosaic Idealize.ShloMosaic.TcCoe Idealize.ShloMosaic.Tactic
open Cert.Kernel2Ideal Cert.Kernel2Ideal.Gen Cert.Attn Cert.Norm

/-- Lane `l` of head `H` in the packed columns. -/
def col (H : Fin 8) (l : Fin 128) : Fin 1024 := ⟨128 * H.val + l.val, by omega⟩

theorem unpack {e : EltTy} (y : S4096x8x128.Idx → Elt Ideal e) (i : Fin 4096) (H : Fin 8) (l : Fin 128) :
    shapeCast S4096x1024 y shapeCasts_S4096x8x128_S4096x1024 (ix2 i (col H l)) = y (ix3 i H l) := by
  refine shapeCast_apply y shapeCasts_S4096x8x128_S4096x1024 (ix2 i (col H l)) (ix3 i H l) ?_
  rewrite [Shape.rowMajor_val_two, Shape.rowMajor_val_three]
  have := l.isLt
  have := H.isLt
  show (i.val * 8 + H.val) * 128 + l.val = i.val * 1024 + (128 * H.val + l.val)
  omega

/-- One lane of a head's 128. -/
def laneVal (a : Fin 64 → EReal) (c0 c1 c2 : EReal) (u H : ℕ) (l : Fin 128) : EReal :=
  if h : l.val < 64 then a ⟨l.val, h⟩ else if l.val = 64 then c0 else if l.val = 65 then c1 else if l.val = 66 then c2
    else if l.val = u + H then 1 else 0

theorem unit_bit (n u H : ℕ) (hn : n < 128) (hu : u < 129) (hH : H < 8) :
    IntOp.cmpi CmpIPredicate.eq (BitVec.ofNat 32 n) (BitVec.ofNat 32 u + BitVec.ofNat 32 H) = BitVec.ofBool (decide (n = u + H)) := by
  show BitVec.ofBool (_ == _) = _
  congr 1
  rw [← BitVec.ofNat_add, beq_eq_decide, decide_eq_decide, ← BitVec.toNat_inj, BitVec.toNat_ofNat, BitVec.toNat_ofNat]
  omega

theorem aug_apply (a : FVec Ideal S8x4096x64 .f32) (c0 c1 c2 : FVec Ideal S8x4096 .bf16) (u : ℕ) (hu : u < 129) (i : Fin 4096) (H : Fin 8) (l : Fin 128) :
    (aug a c0 c1 c2 (BitVec.ofNat 32 u) (ix2 i (col H l)) : EReal)
      = laneVal (fun d => a (ix3 H i d)) (c0 (ix2 H i)) (c1 (ix2 H i)) (c2 (ix2 H i)) u H.val l := by
  have hl := l.isLt
  have hH := H.isLt
  unfold aug
  refine (unpack (e := .bf16) _ i H l).trans ?_
  pointwise
  unfold laneVal
  by_cases h1 : l.val < 64
  · rw [dif_pos h1, dif_pos h1]
  rw [dif_neg h1, dif_neg h1]
  by_cases h2 : l.val = 64
  · rw [dif_pos (by omega), if_pos h2]
  rw [dif_neg (by omega), if_neg h2]
  by_cases h3 : l.val = 65
  · rw [dif_pos (by omega), if_pos h3]
  rw [dif_neg (by omega), if_neg h3]
  by_cases h4 : l.val = 66
  · rw [dif_pos (by omega), if_pos h4]
  rw [dif_neg (by omega), if_neg h4]
  have e : IntOp.cmpi CmpIPredicate.eq (IntOp.addi (BitVec.ofNat 32 (l.val - 64 - 1 - 1 - 1)) 67#32) (IntOp.addi (BitVec.ofNat 32 u) (BitVec.ofNat 32 H.val))
      = BitVec.ofBool (decide (l.val = u + H.val)) := by
    rw [← unit_bit l.val u H.val hl hu hH]
    congr 1
    show BitVec.ofNat 32 (l.val - 64 - 1 - 1 - 1) + BitVec.ofNat 32 67 = _
    rw [← BitVec.ofNat_add]
    congr 1
    omega
  rw [e]
  show (((BitVec.ofBool (decide (l.val = u + H.val))).toNat : ℝ) : EReal) = _
  by_cases h5 : l.val = u + H.val
  · rw [if_pos h5, decide_eq_true h5]; simp
  · rw [if_neg h5, decide_eq_false h5]; simp

/-! ### The lanes over the reals -/

/-- One lane of a head's 128, over the reals. -/
def laneR (a : Fin 64 → ℝ) (c0 c1 c2 : ℝ) (u H : ℕ) (l : Fin 128) : ℝ :=
  if h : l.val < 64 then a ⟨l.val, h⟩ else if l.val = 64 then c0 else if l.val = 65 then c1 else if l.val = 66 then c2
    else if l.val = u + H then 1 else 0

theorem laneVal_real (a : Fin 64 → ℝ) (c0 c1 c2 : ℝ) (u H : ℕ) (l : Fin 128) :
    laneVal (fun d => (a d : EReal)) (c0 : EReal) (c1 : EReal) (c2 : EReal) u H l = (laneR a c0 c1 c2 u H l : EReal) := by
  unfold laneVal laneR
  split_ifs <;> simp

theorem sum_lanes (g : Fin 128 → ℝ) :
    ∑ l, g l = (∑ d : Fin 64, g ⟨d.val, by omega⟩) + (g 64 + g 65 + g 66) + ∑ t : Fin 61, g ⟨67 + t.val, by omega⟩ := by
  rw [show (∑ l, g l) = ∑ l : Fin (64 + (3 + 61)), g l from rfl, Fin.sum_univ_add, Fin.sum_univ_add, ← add_assoc, Fin.sum_univ_three]
  rfl

theorem lane_low (a : Fin 64 → ℝ) (c0 c1 c2 : ℝ) (u H : ℕ) (d : Fin 64) : laneR a c0 c1 c2 u H ⟨d.val, by omega⟩ = a d := by
  unfold laneR; rw [dif_pos d.isLt]

theorem lane_high (a : Fin 64 → ℝ) (c0 c1 c2 : ℝ) (u H : ℕ) (t : Fin 61) :
    laneR a c0 c1 c2 u H ⟨67 + t.val, by omega⟩ = if 67 + t.val = u + H then 1 else 0 := by
  unfold laneR; rw [dif_neg (show ¬67 + t.val < 64 by omega), if_neg (show ¬67 + t.val = 64 by omega), if_neg (show ¬67 + t.val = 65 by omega), if_neg (show ¬67 + t.val = 66 by omega)]

/-- The products of two heads' lanes whose ones stand apart. -/
theorem dot_lanes (a b : Fin 64 → ℝ) (c0 c1 c2 d0 d1 d2 : ℝ) (u w H : ℕ) (huw : u ≠ w ∨ 128 ≤ u + H) :
    ∑ l, laneR a c0 c1 c2 u H l * laneR b d0 d1 d2 w H l = (∑ d, a d * b d) + (c0 * d0 + c1 * d1 + c2 * d2) := by
  rw [sum_lanes]
  simp only [lane_low, lane_high]
  have z : ∑ t : Fin 61, (if 67 + t.val = u + H then (1 : ℝ) else 0) * (if 67 + t.val = w + H then 1 else 0) = 0 :=
    Finset.sum_eq_zero fun t _ => by
      have := t.isLt
      by_cases h : 67 + t.val = u + H
      · rw [if_neg (show ¬67 + t.val = w + H by omega), mul_zero]
      · rw [if_neg h, zero_mul]
  rw [z, add_zero]
  rfl

/-! ### The row terms -/

theorem rrs_apply (r : FVec Ideal S8x4096 .f32) (g : Fin 4) (o e : Fin 8) (q : Fin 512) (he : e.val < 2) :
    (rrs r (ix4 g o e q) : EReal) = r (ix2 (⟨2 * g.val + e.val, by omega⟩ : Fin 8) (⟨512 * o.val + q.val, by omega⟩ : Fin 4096)) := by
  unfold rrs
  pointwise
  rw [dif_pos he]
  congr 2
  · exact Fin.ext (by show g.val * 2 + e.val = 2 * g.val + e.val; omega)
  · exact Fin.ext (by show o.val * 512 + q.val = 512 * o.val + q.val; omega)

end Cert.Kernel2Ideal.Fox
-- ==== Proof.Fox.Run.lean ====
/- One grid point of the attention backward kernel, run once over any float type.

A grid point stages a tile of keys and of values, the queries and output gradients of a group of heads, and
writes the tile's key and value gradients whole. The query gradient is an accumulator over the key tiles of
a group: the first tile stores zeros before it adds, every other tile adds to what the tile before it left. -/
module

public import proofs.«01_k».proof.Proof.Gen.Kernel2Ideal.Frame
public import proofs.«01_k».proof.Proof.Gen.Kernel2Ideal.Skeleton
public import proofs.«01_k».proof.Proof.Gen.Kernel2Ideal.Loops

@[expose] public section

set_option maxRecDepth 8192

noncomputable section

namespace Cert.Kernel2Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄" => MT nD τ sig Unit (Elt F) ℕ (UR sig nD τ) ℕ

/-- The grid point is the first of its group: the body's own test. -/
abbrev isFirst (i : grid0.Coords) : Prop :=
  Scalar.cmpi .ne (Scalar.extui (Scalar.cmpi .eq (BitVec.ofNat 32 (i 1).val) 0#32) : BitVec 32) 0#32 = 1#1

variable (c : Dev nD) (i : grid0.Coords)
  (a2 : Memref sig .tc .vmem S512x512 .bf16) (h2 : a2.IsWhole)
  (a3 : Memref sig .tc .vmem S512x512 .bf16) (h3 : a3.IsWhole)
  (a4 : Memref sig .tc .vmem S4096x512 .bf16) (h4 : a4.IsWhole)
  (a5 : Memref sig .tc .vmem S4096x512 .bf16) (h5 : a5.IsWhole)
  (a6 : Memref sig .tc .vmem S2x8x8x512 .f32) (h6 : a6.IsWhole)
  (a7 : Memref sig .tc .vmem S512x512 .f32) (h7 : a7.IsWhole)
  (a8 : Memref sig .tc .vmem S512x512 .f32) (h8 : a8.IsWhole)
  (a9 : Memref sig .tc .vmem S4096x512 .f32) (h9 : a9.IsWhole)
  (x2 x3 : Vec F S512x512 .bf16) (x4 x5 : Vec F S4096x512 .bf16) (x6 : Vec F S2x8x8x512 .f32)

/-- The staged operands at their contents. -/
abbrev operands : sProp 𝕄 :=
  iprop(owns (c : Thread nD τ) a2 fullShare x2 ∗ owns (c : Thread nD τ) a3 fullShare x3 ∗ owns (c : Thread nD τ) a4 fullShare x4
    ∗ owns (c : Thread nD τ) a5 fullShare x5 ∗ owns (c : Thread nD τ) a6 fullShare x6)

set_option maxHeartbeats 1000000 in
/-- A point that is not the first of its group: the pieces the run leaves in the three results, the query
gradient's over the contents it found. -/
noncomputable def runNext (hc : ¬ isFirst i) (x9 : Vec F S4096x512 .f32) :
    Σ' (L7 L8 : List (View.Piece (Elt F) S512x512 .f32)), { L9 : List (View.Piece (Elt F) S4096x512 .f32) //
      ∀ (E : Set ℕ) (K : PUnit → sProp 𝕄),
        iprop(operands c a2 a3 a4 a5 a6 x2 x3 x4 x5 x6
            ∗ (∃ d, owns (c : Thread nD τ) a7 fullShare d) ∗ (∃ d, owns (c : Thread nD τ) a8 fullShare d) ∗ owns (c : Thread nD τ) a9 fullShare x9
            ∗ (iprop(operands c a2 a3 a4 a5 a6 x2 x3 x4 x5 x6
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f L8)
                ∗ a9.view.loc (c : Thread nD τ) ↦[a9.view.set]{fullShare} a9.view.writes (Elt F) (h9.unread x9) L9) -∗ K ⟨⟩))
          ⊢ wp frame (wpE (defs₀ (F := F)) Variants.none c none) E
              (cc0_fox_bwd i a2 h2 a3 h3 a4 h4 a5 h5 a6 h6 a7 h7 a8 h8 a9 h9) K } := by
  refine ⟨?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold operands owns
    iintro ⟨⟨⟨%f2, %e2, H2⟩, ⟨%f3, %e3, H3⟩, ⟨%f4, %e4, H4⟩, ⟨%f5, %e5, H5⟩, ⟨%f6, %e6, H6⟩⟩, ⟨%d7, %f7, -, H7⟩, ⟨%d8, %f8, -, H8⟩, ⟨%f9, %e9, H9⟩, Hk⟩
    obtain rfl := h2.eq_unread e2; obtain rfl := h3.eq_unread e3; obtain rfl := h4.eq_unread e4
    obtain rfl := h5.eq_unread e5; obtain rfl := h6.eq_unread e6; obtain rfl := h9.eq_unread e9
    sl_exec (disch := first | sl_exact hc)
    sl_step
    iapply Hk
    isplitl [H2 H3 H4 H5 H6]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      iexists _; isplitr; · ipureintro; exact h6.read_unread _
      iexact H6
    isplitl [H7]; · iexists _; iexact H7
    isplitl [H8]; · iexists _; iexact H8
    iexact H9

set_option maxHeartbeats 1000000 in
/-- The first point of a group: the same, with nothing said of what the query gradient's buffer held. -/
noncomputable def runFirst (hc : isFirst i) :
    Σ' (L7 L8 : List (View.Piece (Elt F) S512x512 .f32)), { L9 : List (View.Piece (Elt F) S4096x512 .f32) //
      ∀ (E : Set ℕ) (K : PUnit → sProp 𝕄),
        iprop(operands c a2 a3 a4 a5 a6 x2 x3 x4 x5 x6
            ∗ (∃ d, owns (c : Thread nD τ) a7 fullShare d) ∗ (∃ d, owns (c : Thread nD τ) a8 fullShare d) ∗ (∃ d, owns (c : Thread nD τ) a9 fullShare d)
            ∗ (iprop(operands c a2 a3 a4 a5 a6 x2 x3 x4 x5 x6
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f L8)
                ∗ (∃ f, a9.view.loc (c : Thread nD τ) ↦[a9.view.set]{fullShare} a9.view.writes (Elt F) f L9)) -∗ K ⟨⟩))
          ⊢ wp frame (wpE (defs₀ (F := F)) Variants.none c none) E
              (cc0_fox_bwd i a2 h2 a3 h3 a4 h4 a5 h5 a6 h6 a7 h7 a8 h8 a9 h9) K } := by
  refine ⟨?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold operands owns
    iintro ⟨⟨⟨%f2, %e2, H2⟩, ⟨%f3, %e3, H3⟩, ⟨%f4, %e4, H4⟩, ⟨%f5, %e5, H5⟩, ⟨%f6, %e6, H6⟩⟩, ⟨%d7, %f7, -, H7⟩, ⟨%d8, %f8, -, H8⟩, ⟨%d9, %f9, -, H9⟩, Hk⟩
    obtain rfl := h2.eq_unread e2; obtain rfl := h3.eq_unread e3; obtain rfl := h4.eq_unread e4
    obtain rfl := h5.eq_unread e5; obtain rfl := h6.eq_unread e6
    sl_exec (disch := first | sl_exact hc)
    sl_step
    iapply Hk
    isplitl [H2 H3 H4 H5 H6]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      iexists _; isplitr; · ipureintro; exact h6.read_unread _
      iexact H6
    isplitl [H7]; · iexists _; iexact H7
    isplitl [H8]; · iexists _; iexact H8
    iexists _; iexact H9

end Cert.Kernel2Ideal.Fox

end
-- ==== Proof.Fox.Trip.lean ====
/- One trip of the attention backward kernel's loop over query tiles, read as values.

A trip takes one query tile. For each head of the group it forms the weights and the score gradients of the
tile against the staged keys, adds to the carried key and value gradients, and adds to the tile's rows of the
query gradient. -/
module

public import proofs.«01_k».proof.Proof.Fox.Run

@[expose] public section

set_option maxRecDepth 8192

noncomputable section

namespace Cert.Kernel2Ideal.Fox

open Idealize.ShloMosaic Idealize.ShloMosaic.TcCoe Idealize.ShloMosaic.Tactic
open Cert.Kernel2Ideal.Gen

variable {F : FTy → Type} [FloatOps F] [Named F]

/-- The exponents of a key tile against a query tile. -/
def scores (ka : FVec F S512x128 .bf16) (qb : Vec F S512x128 .bf16) (r : Vec F S1x1x1x512 .f32) : FVec F S512x512 .f32 :=
  subf (matmul dot_S512x128_S512x128_S512x512_1_1_0_0_n_n none ka (shapeCast S512x128 qb shapeCasts_S512x128_S512x128)
      (constant S512x512 .f32 0x00000000#32))
    (broadcastTo S512x512 (shapeCast S1x512 r shapeCasts_S1x1x1x512_S1x512) broadcasts_S1x512_S512x512)

/-- The weights of a query tile past the key tile. -/
def openW (ka : FVec F S512x128 .bf16) (qb : Vec F S512x128 .bf16) (r : Vec F S1x1x1x512 .f32) : FVec F S512x512 .f32 :=
  exp (scores ka qb r)

/-- The weights of the query tile at the key tile's own place: keys after the query masked away. -/
def maskedW (ka : FVec F S512x128 .bf16) (qb : Vec F S512x128 .bf16) (r : Vec F S1x1x1x512 .f32) : FVec F S512x512 .f32 :=
  exp (select k0_pay46 (scores ka qb r) (broadcast S512x512 (Named.named κ "mask" 0xF149F2CA#32)))

/-- The score gradients, from the weights. -/
def slope (w : FVec F S512x512 .f32) (va : FVec F S512x128 .bf16) (g : Vec F S512x128 .bf16) : FVec F S512x512 .bf16 :=
  truncf .bf16 (mulf w (matmul dot_S512x128_S512x128_S512x512_1_1_0_0_n_n none va
    (shapeCast S512x128 g shapeCasts_S512x128_S512x128) (constant S512x512 .f32 0x00000000#32))) bitsLt_bf16_f32

/-- A value gradient with a query tile's part added. -/
def addV (acc : FVec F S512x128 .f32) (w : FVec F S512x512 .f32) (g : Vec F S512x128 .bf16) : FVec F S512x128 .f32 :=
  addf acc (matmul dot_S512x512_S512x128_S512x128_1_0_0_1_n_n none (truncf .bf16 w bitsLt_bf16_f32)
    (shapeCast S512x128 g shapeCasts_S512x128_S512x128) (constant S512x128 .f32 0x00000000#32))

/-- A key gradient with a query tile's part added. -/
def addK (acc : FVec F S512x128 .f32) (s : FVec F S512x512 .bf16) (qb : Vec F S512x128 .bf16) : FVec F S512x128 .f32 :=
  addf acc (matmul dot_S512x512_S512x128_S512x128_1_0_0_1_n_n none s
    (shapeCast S512x128 qb shapeCasts_S512x128_S512x128) (constant S512x128 .f32 0x00000000#32))

/-- A query gradient with a key tile's part added. -/
def addQ (old : Vec F S512x128 .f32) (s : FVec F S512x512 .bf16) (ka : FVec F S512x128 .bf16) : FVec F S512x128 .f32 :=
  addf (shapeCast S512x128 old shapeCasts_S512x128_S512x128 : FVec F S512x128 .f32)
    (matmul dot_S512x512_S512x128_S512x128_0_0_1_1_n_n none s ka (constant S512x128 .f32 0x00000000#32))

section Trip

variable (𝒱 : Variants)
  (c : Dev nD)
  (bd : Option 𝒱.V)
  (i : grid0.Coords)
  (arg2 : Memref sig .tc .vmem S512x512 .bf16)
  (harg2 : arg2.IsWhole)
  (arg3 : Memref sig .tc .vmem S512x512 .bf16)
  (harg3 : arg3.IsWhole)
  (arg4 : Memref sig .tc .vmem S4096x512 .bf16)
  (harg4 : arg4.IsWhole)
  (arg5 : Memref sig .tc .vmem S4096x512 .bf16)
  (harg5 : arg5.IsWhole)
  (arg6 : Memref sig .tc .vmem S2x8x8x512 .f32)
  (harg6 : arg6.IsWhole)
  (arg7 : Memref sig .tc .vmem S512x512 .f32)
  (harg7 : arg7.IsWhole)
  (arg8 : Memref sig .tc .vmem S512x512 .f32)
  (harg8 : arg8.IsWhole)
  (arg9 : Memref sig .tc .vmem S4096x512 .f32)
  (harg9 : arg9.IsWhole)
  (arg1 : BitVec 32)
  (v5 : IVec S512x512 1)
  (v7 : FVec F S512x128 .bf16)
  (v9 : FVec F S512x128 .bf16)
  (v11 : FVec F S512x128 .bf16)
  (v13 : FVec F S512x128 .bf16)
  (v15 : FVec F S512x128 .bf16)
  (v17 : FVec F S512x128 .bf16)
  (v19 : FVec F S512x128 .bf16)
  (v21 : FVec F S512x128 .bf16)
  (v22 : FVec F S512x128 .f32)
  (v24 : BitVec 32)
  (v45 : FVec F S512x128 .f32)
  (v47 : FVec F S512x128 .f32)
  (v75 : FVec F S512x128 .f32)
  (v77 : FVec F S512x128 .f32)
  (v105 : FVec F S512x128 .f32)
  (v107 : FVec F S512x128 .f32)
  (v145 : BitVec 32)
  (X_arg4 : BufTy.Contents (Elt F) arg4.view.ty)
  (X_arg5 : BufTy.Contents (Elt F) arg5.view.ty)
  (X_arg6 : BufTy.Contents (Elt F) arg6.view.ty)
  (k : Fin (k0_t1_loop i).trips)
  (acc : FVec F S512x128 .f32 × FVec F S512x128 .f32 × FVec F S512x128 .f32 × FVec F S512x128 .f32 × FVec F S512x128 .f32 × FVec F S512x128 .f32 × FVec F S512x128 .f32 × FVec F S512x128 .f32)
  (f_arg9 : BufTy.Contents (Elt F) arg9.view.ty)

/-- What a trip carries on. -/
theorem tripR_eq : tripR_k0_t1 (F := F) 𝒱 c bd i arg2 harg2 arg3 harg3 arg4 harg4 arg5 harg5 arg6 harg6 arg7 harg7 arg8 harg8 arg9 harg9 arg1 v5 v7 v9 v11 v13 v15 v17 v19 v21 v22 v24 v45 v47 v75 v77 v105 v107 v145 X_arg4 X_arg5 X_arg6 k acc f_arg9 =
    (addK acc.1 (slope (openW v7 (View.readAt (Elt F) arg4.view (Rect.unit (s := S4096x512) (k0_off9 i k) S512x128.size (k0_off9_inb i k)).toLoadRect X_arg4) (View.readAt (Elt F) arg6.view (Rect.unit (s := S2x8x8x512) (k0_off10 i k) S1x1x1x512.size (k0_off10_inb i k)).toLoadRect X_arg6)) v15 (View.readAt (Elt F) arg5.view (Rect.unit (s := S4096x512) (k0_off9 i k) S512x128.size (k0_off9_inb i k)).toLoadRect X_arg5)) (View.readAt (Elt F) arg4.view (Rect.unit (s := S4096x512) (k0_off9 i k) S512x128.size (k0_off9_inb i k)).toLoadRect X_arg4),
      addV acc.2.1 (openW v7 (View.readAt (Elt F) arg4.view (Rect.unit (s := S4096x512) (k0_off9 i k) S512x128.size (k0_off9_inb i k)).toLoadRect X_arg4) (View.readAt (Elt F) arg6.view (Rect.unit (s := S2x8x8x512) (k0_off10 i k) S1x1x1x512.size (k0_off10_inb i k)).toLoadRect X_arg6)) (View.readAt (Elt F) arg5.view (Rect.unit (s := S4096x512) (k0_off9 i k) S512x128.size (k0_off9_inb i k)).toLoadRect X_arg5),
      addK acc.2.2.1 (slope (openW v9 (View.readAt (Elt F) arg4.view (Rect.unit (s := S4096x512) (k0_off11 i k) S512x128.size (k0_off11_inb i k)).toLoadRect X_arg4) (View.readAt (Elt F) arg6.view (Rect.unit (s := S2x8x8x512) (k0_off12 i k) S1x1x1x512.size (k0_off12_inb i k)).toLoadRect X_arg6)) v17 (View.readAt (Elt F) arg5.view (Rect.unit (s := S4096x512) (k0_off11 i k) S512x128.size (k0_off11_inb i k)).toLoadRect X_arg5)) (View.readAt (Elt F) arg4.view (Rect.unit (s := S4096x512) (k0_off11 i k) S512x128.size (k0_off11_inb i k)).toLoadRect X_arg4),
      addV acc.2.2.2.1 (openW v9 (View.readAt (Elt F) arg4.view (Rect.unit (s := S4096x512) (k0_off11 i k) S512x128.size (k0_off11_inb i k)).toLoadRect X_arg4) (View.readAt (Elt F) arg6.view (Rect.unit (s := S2x8x8x512) (k0_off12 i k) S1x1x1x512.size (k0_off12_inb i k)).toLoadRect X_arg6)) (View.readAt (Elt F) arg5.view (Rect.unit (s := S4096x512) (k0_off11 i k) S512x128.size (k0_off11_inb i k)).toLoadRect X_arg5),
      addK acc.2.2.2.2.1 (slope (openW v11 (View.readAt (Elt F) arg4.view (Rect.unit (s := S4096x512) (k0_off13 i k) S512x128.size (k0_off13_inb i k)).toLoadRect X_arg4) (View.readAt (Elt F) arg6.view (Rect.unit (s := S2x8x8x512) (k0_off14 i k) S1x1x1x512.size (k0_off14_inb i k)).toLoadRect X_arg6)) v19 (View.readAt (Elt F) arg5.view (Rect.unit (s := S4096x512) (k0_off13 i k) S512x128.size (k0_off13_inb i k)).toLoadRect X_arg5)) (View.readAt (Elt F) arg4.view (Rect.unit (s := S4096x512) (k0_off13 i k) S512x128.size (k0_off13_inb i k)).toLoadRect X_arg4),
      addV acc.2.2.2.2.2.1 (openW v11 (View.readAt (Elt F) arg4.view (Rect.unit (s := S4096x512) (k0_off13 i k) S512x128.size (k0_off13_inb i k)).toLoadRect X_arg4) (View.readAt (Elt F) arg6.view (Rect.unit (s := S2x8x8x512) (k0_off14 i k) S1x1x1x512.size (k0_off14_inb i k)).toLoadRect X_arg6)) (View.readAt (Elt F) arg5.view (Rect.unit (s := S4096x512) (k0_off13 i k) S512x128.size (k0_off13_inb i k)).toLoadRect X_arg5),
      addK acc.2.2.2.2.2.2.1 (slope (openW v13 (View.readAt (Elt F) arg4.view (Rect.unit (s := S4096x512) (k0_off15 i k) S512x128.size (k0_off15_inb i k)).toLoadRect X_arg4) (View.readAt (Elt F) arg6.view (Rect.unit (s := S2x8x8x512) (k0_off16 i k) S1x1x1x512.size (k0_off16_inb i k)).toLoadRect X_arg6)) v21 (View.readAt (Elt F) arg5.view (Rect.unit (s := S4096x512) (k0_off15 i k) S512x128.size (k0_off15_inb i k)).toLoadRect X_arg5)) (View.readAt (Elt F) arg4.view (Rect.unit (s := S4096x512) (k0_off15 i k) S512x128.size (k0_off15_inb i k)).toLoadRect X_arg4),
      addV acc.2.2.2.2.2.2.2 (openW v13 (View.readAt (Elt F) arg4.view (Rect.unit (s := S4096x512) (k0_off15 i k) S512x128.size (k0_off15_inb i k)).toLoadRect X_arg4) (View.readAt (Elt F) arg6.view (Rect.unit (s := S2x8x8x512) (k0_off16 i k) S1x1x1x512.size (k0_off16_inb i k)).toLoadRect X_arg6)) (View.readAt (Elt F) arg5.view (Rect.unit (s := S4096x512) (k0_off15 i k) S512x128.size (k0_off15_inb i k)).toLoadRect X_arg5)) := by
  delta tripR_k0_t1 trip_k0_t1
  rfl

/-- What a trip stores, newest first. -/
theorem tripL_eq : tripL_k0_t1 (F := F) 𝒱 c bd i arg2 harg2 arg3 harg3 arg4 harg4 arg5 harg5 arg6 harg6 arg7 harg7 arg8 harg8 arg9 harg9 arg1 v5 v7 v9 v11 v13 v15 v17 v19 v21 v22 v24 v45 v47 v75 v77 v105 v107 v145 X_arg4 X_arg5 X_arg6 k acc f_arg9 =
    [⟨Rect.unit (s := S4096x512) (k0_off15 i k) S512x128.size (k0_off15_inb i k),
        addQ (View.readAt (Elt F) arg9.view (Rect.unit (s := S4096x512) (k0_off15 i k) S512x128.size (k0_off15_inb i k)).toLoadRect f_arg9) (slope (openW v13 (View.readAt (Elt F) arg4.view (Rect.unit (s := S4096x512) (k0_off15 i k) S512x128.size (k0_off15_inb i k)).toLoadRect X_arg4) (View.readAt (Elt F) arg6.view (Rect.unit (s := S2x8x8x512) (k0_off16 i k) S1x1x1x512.size (k0_off16_inb i k)).toLoadRect X_arg6)) v21 (View.readAt (Elt F) arg5.view (Rect.unit (s := S4096x512) (k0_off15 i k) S512x128.size (k0_off15_inb i k)).toLoadRect X_arg5)) v13⟩,
      ⟨Rect.unit (s := S4096x512) (k0_off13 i k) S512x128.size (k0_off13_inb i k),
        addQ (View.readAt (Elt F) arg9.view (Rect.unit (s := S4096x512) (k0_off13 i k) S512x128.size (k0_off13_inb i k)).toLoadRect f_arg9) (slope (openW v11 (View.readAt (Elt F) arg4.view (Rect.unit (s := S4096x512) (k0_off13 i k) S512x128.size (k0_off13_inb i k)).toLoadRect X_arg4) (View.readAt (Elt F) arg6.view (Rect.unit (s := S2x8x8x512) (k0_off14 i k) S1x1x1x512.size (k0_off14_inb i k)).toLoadRect X_arg6)) v19 (View.readAt (Elt F) arg5.view (Rect.unit (s := S4096x512) (k0_off13 i k) S512x128.size (k0_off13_inb i k)).toLoadRect X_arg5)) v11⟩,
      ⟨Rect.unit (s := S4096x512) (k0_off11 i k) S512x128.size (k0_off11_inb i k),
        addQ (View.readAt (Elt F) arg9.view (Rect.unit (s := S4096x512) (k0_off11 i k) S512x128.size (k0_off11_inb i k)).toLoadRect f_arg9) (slope (openW v9 (View.readAt (Elt F) arg4.view (Rect.unit (s := S4096x512) (k0_off11 i k) S512x128.size (k0_off11_inb i k)).toLoadRect X_arg4) (View.readAt (Elt F) arg6.view (Rect.unit (s := S2x8x8x512) (k0_off12 i k) S1x1x1x512.size (k0_off12_inb i k)).toLoadRect X_arg6)) v17 (View.readAt (Elt F) arg5.view (Rect.unit (s := S4096x512) (k0_off11 i k) S512x128.size (k0_off11_inb i k)).toLoadRect X_arg5)) v9⟩,
      ⟨Rect.unit (s := S4096x512) (k0_off9 i k) S512x128.size (k0_off9_inb i k),
        addQ (View.readAt (Elt F) arg9.view (Rect.unit (s := S4096x512) (k0_off9 i k) S512x128.size (k0_off9_inb i k)).toLoadRect f_arg9) (slope (openW v7 (View.readAt (Elt F) arg4.view (Rect.unit (s := S4096x512) (k0_off9 i k) S512x128.size (k0_off9_inb i k)).toLoadRect X_arg4) (View.readAt (Elt F) arg6.view (Rect.unit (s := S2x8x8x512) (k0_off10 i k) S1x1x1x512.size (k0_off10_inb i k)).toLoadRect X_arg6)) v15 (View.readAt (Elt F) arg5.view (Rect.unit (s := S4096x512) (k0_off9 i k) S512x128.size (k0_off9_inb i k)).toLoadRect X_arg5)) v7⟩] := by
  delta tripL_k0_t1 trip_k0_t1
  rfl

end Trip

end Cert.Kernel2Ideal.Fox
-- ==== Proof.Fox.Heads.lean ====
/- The kernel's per-head operations, entry by entry over the reals. -/
module

public import proofs.«01_k».proof.Proof.Fox.Trip
public import Idealize.ShloMosaic.Lib.WritesUnit
public import Idealize.ShloMosaic.Lib.Pipeline.ValueKit
public import Idealize.ShloMosaic.Lib.Pointwise

@[expose] public section

set_option maxRecDepth 8192

noncomputable section

namespace Cert.Kernel2Ideal.Fox

open Idealize.ShloMosaic Idealize.ShloMosaic.TcCoe Idealize.ShloMosaic.Tactic
open Cert.Kernel2Ideal.Gen

variable (ka va : FVec Ideal S512x128 .bf16) (qb g : Vec Ideal S512x128 .bf16) (r : Vec Ideal S1x1x1x512 .f32)
  (w : FVec Ideal S512x512 .f32) (s : FVec Ideal S512x512 .bf16) (acc : FVec Ideal S512x128 .f32) (old : Vec Ideal S512x128 .f32)

theorem scores_apply (k q : Fin 512) :
    scores ka qb r (ix2 k q) = (∑ l : Fin 128, ka (ix2 k l) * qb (ix2 q l)) - r (ix4 0 0 0 q) := by
  pointwise [scores]

theorem openW_apply (k q : Fin 512) :
    openW ka qb r (ix2 k q) = Ideal.exp ((∑ l : Fin 128, ka (ix2 k l) * qb (ix2 q l)) - r (ix4 0 0 0 q)) := by
  rw [← scores_apply]; rfl

theorem maskedW_apply (k q : Fin 512) :
    maskedW ka qb r (ix2 k q) = if k.val ≤ q.val then Ideal.exp ((∑ l : Fin 128, ka (ix2 k l) * qb (ix2 q l)) - r (ix4 0 0 0 q)) else 0 := by
  rw [← scores_apply]
  pointwise [maskedW, k0_pay46]
  rw [IdealRules.named_const.ideal_named_scalar _ _ _ _ rfl]
  have hk := k.isLt
  have hq := q.isLt
  have e : IntOp.cmpi CmpIPredicate.sle (BitVec.ofNat 32 k.val) (BitVec.ofNat 32 q.val) = BitVec.ofBool (decide (k.val ≤ q.val)) := by
    show BitVec.ofBool (BitVec.sle _ _) = _
    congr 1
    rw [BitVec.sle_eq_decide, BitVec.toInt_eq_toNat_of_lt, BitVec.toInt_eq_toNat_of_lt] <;> simp [BitVec.toNat_ofNat] <;> omega
  rw [e]
  by_cases h : k.val ≤ q.val
  · rw [if_pos h, decide_eq_true h]; rfl
  · rw [if_neg h, decide_eq_false h]
    show Ideal.exp (⊥ : EReal) = 0
    exact Ideal.exp_bot

theorem slope_apply (k q : Fin 512) :
    slope w va g (ix2 k q) = (w (ix2 k q) * ∑ l : Fin 128, va (ix2 k l) * g (ix2 q l) : EReal) := by
  pointwise [slope]

theorem addV_apply (k : Fin 512) (l : Fin 128) :
    addV acc w g (ix2 k l) = (acc (ix2 k l) + ∑ q : Fin 512, w (ix2 k q) * g (ix2 q l) : EReal) := by
  pointwise [addV]

theorem addK_apply (k : Fin 512) (l : Fin 128) :
    addK acc s qb (ix2 k l) = (acc (ix2 k l) + ∑ q : Fin 512, s (ix2 k q) * qb (ix2 q l) : EReal) := by
  pointwise [addK]

theorem addQ_apply (q : Fin 512) (l : Fin 128) :
    addQ old s ka (ix2 q l) = (old (ix2 q l) + ∑ k : Fin 512, s (ix2 k q) * ka (ix2 k l) : EReal) := by
  pointwise [addQ]

end Cert.Kernel2Ideal.Fox
-- ==== Proof.Fox.Place.lean ====
/- Where the kernel's loads and stores fall: query tiles and heads of the blocks it stages. -/
module

public import proofs.«01_k».proof.Proof.Fox.Heads

@[expose] public section

set_option maxRecDepth 8192

noncomputable section

namespace Cert.Kernel2Ideal.Fox

open Idealize.ShloMosaic Idealize.ShloMosaic.TcCoe Idealize.ShloMosaic.Tactic
open Cert.Kernel2Ideal.Gen

/-- Row `r` of query tile `o`. -/
def rowAt (o : Fin 8) (r : Fin 512) : Fin 4096 := ⟨512 * o.val + r.val, by omega⟩

/-- Lane `l` of head `h`. -/
def lane (h : Fin 4) (l : Fin 128) : Fin 512 := ⟨128 * h.val + l.val, by omega⟩

theorem exists_rowAt (x : Fin 4096) : ∃ o r, x = rowAt o r :=
  ⟨⟨x.val / 512, by omega⟩, ⟨x.val % 512, by omega⟩, Fin.ext (by show x.val = 512 * (x.val / 512) + x.val % 512; omega)⟩

theorem exists_lane (x : Fin 512) : ∃ h l, x = lane h l :=
  ⟨⟨x.val / 128, by omega⟩, ⟨x.val % 128, by omega⟩, Fin.ext (by show x.val = 128 * (x.val / 128) + x.val % 128; omega)⟩

/-- The place in the row terms of head `h`, tile `o`, row `r`. -/
def rowIx (h : Fin 4) (o : Fin 8) (r : Fin 512) : (⟨4, ![2, 8, 8, 512]⟩ : Shape).Idx :=
  ix4 (⟨h.val / 2, by omega⟩ : Fin 2) o (⟨h.val % 2, by omega⟩ : Fin 8) r

section Offsets

variable (i : grid0.Coords)

theorem off1_eq : k0_off1 i = ![512 * (i 1).val, 128 * (0 : Fin 4).val] := by
  have key : ∀ j : Fin 8, (Scalar.indexCast (Scalar.muli (BitVec.ofNat 32 j.val) 512#32)).toNat = 512 * j.val := by decide
  show ![_, _] = _; rw [key (i 1)]; rfl
theorem off3_eq : k0_off3 i = ![512 * (i 1).val, 128 * (1 : Fin 4).val] := by
  have := congrFun (off1_eq i) 0
  show ![k0_off1 i 0, _] = _; rw [this]; rfl
theorem off5_eq : k0_off5 i = ![512 * (i 1).val, 128 * (2 : Fin 4).val] := by
  have := congrFun (off1_eq i) 0
  show ![k0_off1 i 0, _] = _; rw [this]; rfl
theorem off7_eq : k0_off7 i = ![512 * (i 1).val, 128 * (3 : Fin 4).val] := by
  have := congrFun (off1_eq i) 0
  show ![k0_off1 i 0, _] = _; rw [this]; rfl

theorem off2_eq : k0_off2 i = ![(0 : Fin 4).val / 2, (i 1).val, (0 : Fin 4).val % 2, 0] := by
  have key : ∀ j : Fin 8, (Scalar.indexCast (BitVec.ofNat 32 j.val)).toNat = j.val := by decide
  show ![_, _, _, _] = _; rw [key (i 1)]; rfl
theorem off4_eq : k0_off4 i = ![(1 : Fin 4).val / 2, (i 1).val, (1 : Fin 4).val % 2, 0] := by
  have := congrFun (off2_eq i) 1
  show ![_, k0_off2 i 1, _, _] = _; rw [this]; rfl
theorem off6_eq : k0_off6 i = ![(2 : Fin 4).val / 2, (i 1).val, (2 : Fin 4).val % 2, 0] := by
  have := congrFun (off2_eq i) 1
  show ![_, k0_off2 i 1, _, _] = _; rw [this]; rfl
theorem off8_eq : k0_off8 i = ![(3 : Fin 4).val / 2, (i 1).val, (3 : Fin 4).val % 2, 0] := by
  have := congrFun (off2_eq i) 1
  show ![_, k0_off2 i 1, _, _] = _; rw [this]; rfl

theorem trips_eq : (k0_t1_loop i).trips = 7 - (i 1).val := by
  have key : ∀ j : Fin 8, Scf.trips (Scalar.addi (BitVec.ofNat 32 j.val) 1#32) (Scalar.addi (Scalar.addi (BitVec.ofNat 32 j.val) 1#32)
      (Scalar.muli (Scalar.divsi (Scalar.subi 8#32 (Scalar.addi (BitVec.ofNat 32 j.val) 1#32)) 1#32) 1#32)) 1#32 = 7 - j.val := by
    decide
  exact key (i 1)

variable (k : Fin (k0_t1_loop i).trips)

theorem tile_lt : (i 1).val + 1 + k.val < 8 := by
  have h1 : k.val < 7 - (i 1).val := Nat.lt_of_lt_of_eq k.isLt (trips_eq i)
  omega

/-- The query tile of trip `k`. -/
def tileOf : Fin 8 := ⟨(i 1).val + 1 + k.val, tile_lt i k⟩

theorem off9_eq : k0_off9 i k = ![512 * (tileOf i k).val, 128 * (0 : Fin 4).val] := by
  have key : ∀ j n : Fin 8, (Scalar.indexCast (Scalar.muli (Scf.iv (Scalar.addi (BitVec.ofNat 32 j.val) 1#32) 1#32 n.val) 512#32)).toNat
      = 512 * (j.val + 1 + n.val) := by decide
  show ![_, _] = _; rw [key (i 1) ⟨k.val, by have := tile_lt i k; omega⟩]; rfl
theorem off11_eq : k0_off11 i k = ![512 * (tileOf i k).val, 128 * (1 : Fin 4).val] := by
  have := congrFun (off9_eq i k) 0
  show ![k0_off9 i k 0, _] = _; rw [this]; rfl
theorem off13_eq : k0_off13 i k = ![512 * (tileOf i k).val, 128 * (2 : Fin 4).val] := by
  have := congrFun (off9_eq i k) 0
  show ![k0_off9 i k 0, _] = _; rw [this]; rfl
theorem off15_eq : k0_off15 i k = ![512 * (tileOf i k).val, 128 * (3 : Fin 4).val] := by
  have := congrFun (off9_eq i k) 0
  show ![k0_off9 i k 0, _] = _; rw [this]; rfl

theorem off10_eq : k0_off10 i k = ![(0 : Fin 4).val / 2, (tileOf i k).val, (0 : Fin 4).val % 2, 0] := by
  have key : ∀ j n : Fin 8, (Scalar.indexCast (Scf.iv (Scalar.addi (BitVec.ofNat 32 j.val) 1#32) 1#32 n.val)).toNat
      = j.val + 1 + n.val := by decide
  show ![_, _, _, _] = _; rw [key (i 1) ⟨k.val, by have := tile_lt i k; omega⟩]; rfl
theorem off12_eq : k0_off12 i k = ![(1 : Fin 4).val / 2, (tileOf i k).val, (1 : Fin 4).val % 2, 0] := by
  have := congrFun (off10_eq i k) 1
  show ![_, k0_off10 i k 1, _, _] = _; rw [this]; rfl
theorem off14_eq : k0_off14 i k = ![(2 : Fin 4).val / 2, (tileOf i k).val, (2 : Fin 4).val % 2, 0] := by
  have := congrFun (off10_eq i k) 1
  show ![_, k0_off10 i k 1, _, _] = _; rw [this]; rfl
theorem off16_eq : k0_off16 i k = ![(3 : Fin 4).val / 2, (tileOf i k).val, (3 : Fin 4).val % 2, 0] := by
  have := congrFun (off10_eq i k) 1
  show ![_, k0_off10 i k 1, _, _] = _; rw [this]; rfl

end Offsets

section Reads

variable {F : FTy → Type} [FloatOps F] [Named F]
variable {e : EltTy}

/-- A load of one head of one query tile. -/
theorem readAt_tile (a : Memref sig .tc .vmem S4096x512 e) (X : BufTy.Contents (Elt F) a.view.ty) {off : Fin 2 → ℕ}
    (inb : ∀ x, off x + S512x128.size x ≤ S4096x512.size x) (o : Fin 8) (h : Fin 4) (heq : off = ![512 * o.val, 128 * h.val]) (r : Fin 512) (l : Fin 128) :
    (View.readAt (Elt F) a.view (Rect.unit (s := S4096x512) off S512x128.size inb).toLoadRect X : S512x128.Idx → Elt F e) (ix2 r l)
      = a.view.read (Elt F) X (ix2 (rowAt o r) (lane h l)) := by
  subst heq
  show a.view.read (Elt F) X _ = _
  congr 1
  funext x; apply Fin.ext; match x with
  | ⟨0, _⟩ => show 512 * o.val + 1 * r.val = 512 * o.val + r.val; omega
  | ⟨1, _⟩ => show 128 * h.val + 1 * l.val = 128 * h.val + l.val; omega

/-- A load of one head's row terms at one query tile. -/
theorem readAt_row (a : Memref sig .tc .vmem S2x8x8x512 e) (X : BufTy.Contents (Elt F) a.view.ty) {off : Fin 4 → ℕ}
    (inb : ∀ x, off x + S1x1x1x512.size x ≤ S2x8x8x512.size x) (o : Fin 8) (h : Fin 4) (heq : off = ![h.val / 2, o.val, h.val % 2, 0]) (r : Fin 512) :
    (View.readAt (Elt F) a.view (Rect.unit (s := S2x8x8x512) off S1x1x1x512.size inb).toLoadRect X : S1x1x1x512.Idx → Elt F e) (ix4 0 0 0 r)
      = a.view.read (Elt F) X (rowIx h o r) := by
  subst heq
  show a.view.read (Elt F) X _ = _
  congr 1
  funext x; apply Fin.ext; match x with
  | ⟨0, _⟩ => show h.val / 2 + 1 * 0 = h.val / 2; omega
  | ⟨1, _⟩ => show o.val + 1 * 0 = o.val; omega
  | ⟨2, _⟩ => show h.val % 2 + 1 * 0 = h.val % 2; omega
  | ⟨3, _⟩ => show 0 + 1 * r.val = r.val; omega

/-- A load of one head of a staged key or value tile. -/
theorem readAt_cols (a : Memref sig .tc .vmem S512x512 e) (X : BufTy.Contents (Elt F) a.view.ty) (h : Fin 4)
    (inb : ∀ x, (![0, 128 * h.val] : Fin 2 → ℕ) x + S512x128.size x ≤ S512x512.size x) (r : Fin 512) (l : Fin 128) :
    (View.readAt (Elt F) a.view (Rect.unit (s := S512x512) ![0, 128 * h.val] S512x128.size inb).toLoadRect X : S512x128.Idx → Elt F e) (ix2 r l)
      = a.view.read (Elt F) X (ix2 r (lane h l)) := by
  show a.view.read (Elt F) X _ = _
  congr 1
  funext x; apply Fin.ext; match x with
  | ⟨0, _⟩ => show 0 + 1 * r.val = r.val; omega
  | ⟨1, _⟩ => show 128 * h.val + 1 * l.val = 128 * h.val + l.val; omega

/-- What a buffer reads after a store of one head of one query tile. -/
theorem read_piece (a : Memref sig .tc .vmem S4096x512 e) (f : BufTy.Contents (Elt F) a.view.ty) {off : Fin 2 → ℕ}
    (inb : ∀ x, off x + S512x128.size x ≤ S4096x512.size x) (w : S512x128.Idx → Elt F e) (L : List (View.Piece (Elt F) S4096x512 e))
    (o : Fin 8) (g : Fin 4) (heq : off = ![512 * o.val, 128 * g.val]) (o' : Fin 8) (r : Fin 512) (h : Fin 4) (l : Fin 128) :
    a.view.read (Elt F) (a.view.writes (Elt F) f (⟨Rect.unit (s := S4096x512) off S512x128.size inb, w⟩ :: L)) (ix2 (rowAt o' r) (lane h l))
      = if o' = o ∧ h = g then w (ix2 r l) else a.view.read (Elt F) (a.view.writes (Elt F) f L) (ix2 (rowAt o' r) (lane h l)) := by
  by_cases hc : o' = o ∧ h = g
  · rw [if_pos hc]; obtain ⟨rfl, rfl⟩ := hc
    exact View.read_writes_cons_unit_of_mem a.view f inb w L _ (ix2 r l) heq fun x => by
      match x with
      | ⟨0, _⟩ => rfl
      | ⟨1, _⟩ => rfl
  · rw [if_neg hc]
    have hr := r.isLt
    have hl := l.isLt
    by_cases ho : o' = o
    · have hh : h ≠ g := fun hh => hc ⟨ho, hh⟩
      have hh' : h.val ≠ g.val := fun hh' => hh (Fin.ext hh')
      exact View.read_writes_cons_unit_of_not_mem a.view f inb w L _ heq 1 (by
        show 128 * h.val + l.val < 128 * g.val ∨ 128 * g.val + 128 ≤ 128 * h.val + l.val
        omega)
    · have ho' : o'.val ≠ o.val := fun h' => ho (Fin.ext h')
      exact View.read_writes_cons_unit_of_not_mem a.view f inb w L _ heq 0 (by
        show 512 * o'.val + r.val < 512 * o.val ∨ 512 * o.val + 512 ≤ 512 * o'.val + r.val
        omega)

/-- The same after the stores of all four heads. -/
theorem read_four (a : Memref sig .tc .vmem S4096x512 e) (f : BufTy.Contents (Elt F) a.view.ty) {off0 off1 off2 off3 : Fin 2 → ℕ}
    (inb0 : ∀ x, off0 x + S512x128.size x ≤ S4096x512.size x) (inb1 : ∀ x, off1 x + S512x128.size x ≤ S4096x512.size x)
    (inb2 : ∀ x, off2 x + S512x128.size x ≤ S4096x512.size x) (inb3 : ∀ x, off3 x + S512x128.size x ≤ S4096x512.size x)
    (w0 w1 w2 w3 : S512x128.Idx → Elt F e) (L : List (View.Piece (Elt F) S4096x512 e)) (o : Fin 8)
    (e0 : off0 = ![512 * o.val, 128 * (0 : Fin 4).val]) (e1 : off1 = ![512 * o.val, 128 * (1 : Fin 4).val])
    (e2 : off2 = ![512 * o.val, 128 * (2 : Fin 4).val]) (e3 : off3 = ![512 * o.val, 128 * (3 : Fin 4).val])
    (o' : Fin 8) (r : Fin 512) (h : Fin 4) (l : Fin 128) :
    a.view.read (Elt F) (a.view.writes (Elt F) f (⟨Rect.unit (s := S4096x512) off3 S512x128.size inb3, w3⟩
        :: ⟨Rect.unit (s := S4096x512) off2 S512x128.size inb2, w2⟩ :: ⟨Rect.unit (s := S4096x512) off1 S512x128.size inb1, w1⟩
        :: ⟨Rect.unit (s := S4096x512) off0 S512x128.size inb0, w0⟩ :: L)) (ix2 (rowAt o' r) (lane h l))
      = if o' = o then (![w0, w1, w2, w3] : Fin 4 → S512x128.Idx → Elt F e) h (ix2 r l)
        else a.view.read (Elt F) (a.view.writes (Elt F) f L) (ix2 (rowAt o' r) (lane h l)) := by
  rw [read_piece a f inb3 w3 _ o 3 e3, read_piece a f inb2 w2 _ o 2 e2, read_piece a f inb1 w1 _ o 1 e1, read_piece a f inb0 w0 _ o 0 e0]
  by_cases ho : o' = o
  · fin_cases h <;> simp [ho]
  · simp [ho]

end Reads

end Cert.Kernel2Ideal.Fox
-- ==== Proof.Fox.Step.lean ====
/- What one grid point of the attention backward kernel leaves, as explicit lists of stores.

The point takes first the query tile at the key tile's own place, masked, then every later query tile in a
loop. Its key and value gradients are stored at the end from what the loop carried. -/
module

public import proofs.«01_k».proof.Proof.Fox.Trip

@[expose] public section

set_option maxRecDepth 8192

noncomputable section

namespace Cert.Kernel2Ideal.Fox

open Idealize.ShloMosaic Idealize.ShloMosaic.TcCoe Idealize.ShloMosaic.Tactic
open Cert.Kernel2Ideal.Gen

variable {F : FTy → Type} [FloatOps F] [Named F]

/-- The four heads of a staged key or value tile. -/
def staged (a : Memref sig .tc .vmem S512x512 .bf16) (X : BufTy.Contents (Elt F) a.view.ty) : Fin 4 → FVec F S512x128 .bf16 :=
  ![shapeCast S512x128 (View.readAt (Elt F) a.view (Rect.unit (s := S512x512) ![0, 0] S512x128.size inb_S512x512_S512x128_0_0).toLoadRect X : Vec F S512x128 .bf16) shapeCasts_S512x128_S512x128,
    shapeCast S512x128 (View.readAt (Elt F) a.view (Rect.unit (s := S512x512) ![0, 128] S512x128.size inb_S512x512_S512x128_0_128).toLoadRect X : Vec F S512x128 .bf16) shapeCasts_S512x128_S512x128,
    shapeCast S512x128 (View.readAt (Elt F) a.view (Rect.unit (s := S512x512) ![0, 256] S512x128.size inb_S512x512_S512x128_0_256).toLoadRect X : Vec F S512x128 .bf16) shapeCasts_S512x128_S512x128,
    shapeCast S512x128 (View.readAt (Elt F) a.view (Rect.unit (s := S512x512) ![0, 384] S512x128.size inb_S512x512_S512x128_0_384).toLoadRect X : Vec F S512x128 .bf16) shapeCasts_S512x128_S512x128]

/-- The four heads of the query tile at the key tile's own place. -/
def ownTile {e : EltTy} (i : grid0.Coords) (a : Memref sig .tc .vmem S4096x512 e) (X : BufTy.Contents (Elt F) a.view.ty) : Fin 4 → Vec F S512x128 e :=
  ![View.readAt (Elt F) a.view (Rect.unit (s := S4096x512) (k0_off1 i) S512x128.size (k0_off1_inb i)).toLoadRect X,
    View.readAt (Elt F) a.view (Rect.unit (s := S4096x512) (k0_off3 i) S512x128.size (k0_off3_inb i)).toLoadRect X,
    View.readAt (Elt F) a.view (Rect.unit (s := S4096x512) (k0_off5 i) S512x128.size (k0_off5_inb i)).toLoadRect X,
    View.readAt (Elt F) a.view (Rect.unit (s := S4096x512) (k0_off7 i) S512x128.size (k0_off7_inb i)).toLoadRect X]

/-- The row terms of that tile, head by head. -/
def ownRow (i : grid0.Coords) (a : Memref sig .tc .vmem S2x8x8x512 .f32) (X : BufTy.Contents (Elt F) a.view.ty) : Fin 4 → Vec F S1x1x1x512 .f32 :=
  ![View.readAt (Elt F) a.view (Rect.unit (s := S2x8x8x512) (k0_off2 i) S1x1x1x512.size (k0_off2_inb i)).toLoadRect X,
    View.readAt (Elt F) a.view (Rect.unit (s := S2x8x8x512) (k0_off4 i) S1x1x1x512.size (k0_off4_inb i)).toLoadRect X,
    View.readAt (Elt F) a.view (Rect.unit (s := S2x8x8x512) (k0_off6 i) S1x1x1x512.size (k0_off6_inb i)).toLoadRect X,
    View.readAt (Elt F) a.view (Rect.unit (s := S2x8x8x512) (k0_off8 i) S1x1x1x512.size (k0_off8_inb i)).toLoadRect X]

variable (c : Dev nD) (i : grid0.Coords)
  (a2 : Memref sig .tc .vmem S512x512 .bf16) (h2 : a2.IsWhole)
  (a3 : Memref sig .tc .vmem S512x512 .bf16) (h3 : a3.IsWhole)
  (a4 : Memref sig .tc .vmem S4096x512 .bf16) (h4 : a4.IsWhole)
  (a5 : Memref sig .tc .vmem S4096x512 .bf16) (h5 : a5.IsWhole)
  (a6 : Memref sig .tc .vmem S2x8x8x512 .f32) (h6 : a6.IsWhole)
  (a7 : Memref sig .tc .vmem S512x512 .f32) (h7 : a7.IsWhole)
  (a8 : Memref sig .tc .vmem S512x512 .f32) (h8 : a8.IsWhole)
  (a9 : Memref sig .tc .vmem S4096x512 .f32) (h9 : a9.IsWhole)
  (x2 x3 : Vec F S512x512 .bf16) (x4 x5 : Vec F S4096x512 .bf16) (x6 : Vec F S2x8x8x512 .f32)

/-- The masked weights of the key tile's own place. -/
def ownW (h : Fin 4) : FVec F S512x512 .f32 :=
  maskedW (staged a2 (h2.unread x2) h) (ownTile i a4 (h4.unread x4) h) (ownRow i a6 (h6.unread x6) h)

/-- The score gradients there. -/
def ownS (h : Fin 4) : FVec F S512x512 .bf16 :=
  slope (ownW i a2 h2 a4 h4 a6 h6 x2 x4 x6 h) (staged a3 (h3.unread x3) h) (ownTile i a5 (h5.unread x5) h)

/-- The key gradient before the loop. -/
def startK (h : Fin 4) : FVec F S512x128 .f32 :=
  addK k0_pay55 (ownS i a2 h2 a3 h3 a4 h4 a5 h5 a6 h6 x2 x3 x4 x5 x6 h) (ownTile i a4 (h4.unread x4) h)

/-- The value gradient before the loop. -/
def startV (h : Fin 4) : FVec F S512x128 .f32 :=
  addV k0_pay55 (ownW i a2 h2 a4 h4 a6 h6 x2 x4 x6 h) (ownTile i a5 (h5.unread x5) h)

/-- The stores into the query gradient before the loop, newest first, over the rows `old`. -/
def ownPieces (old : Fin 4 → Vec F S512x128 .f32) : List (View.Piece (Elt F) S4096x512 .f32) :=
  [⟨Rect.unit (s := S4096x512) (k0_off7 i) S512x128.size (k0_off7_inb i),
      addQ (old 3) (ownS i a2 h2 a3 h3 a4 h4 a5 h5 a6 h6 x2 x3 x4 x5 x6 3) (staged a2 (h2.unread x2) 3)⟩,
    ⟨Rect.unit (s := S4096x512) (k0_off5 i) S512x128.size (k0_off5_inb i),
      addQ (old 2) (ownS i a2 h2 a3 h3 a4 h4 a5 h5 a6 h6 x2 x3 x4 x5 x6 2) (staged a2 (h2.unread x2) 2)⟩,
    ⟨Rect.unit (s := S4096x512) (k0_off3 i) S512x128.size (k0_off3_inb i),
      addQ (old 1) (ownS i a2 h2 a3 h3 a4 h4 a5 h5 a6 h6 x2 x3 x4 x5 x6 1) (staged a2 (h2.unread x2) 1)⟩,
    ⟨Rect.unit (s := S4096x512) (k0_off1 i) S512x128.size (k0_off1_inb i),
      addQ (old 0) (ownS i a2 h2 a3 h3 a4 h4 a5 h5 a6 h6 x2 x3 x4 x5 x6 0) (staged a2 (h2.unread x2) 0)⟩]

/-- The state before trip `n`, the query gradient's buffer holding `G` at loop entry. -/
def state (G : BufTy.Contents (Elt F) a9.view.ty) (n : ℕ) :=
  st_k0_t1 (F := F) Variants.none c none i a2 h2 a3 h3 a4 h4 a5 h5 a6 h6 a7 h7 a8 h8 a9 h9 (BitVec.ofNat 32 (i 1).val) k0_pay46
    (staged a2 (h2.unread x2) 0) (staged a2 (h2.unread x2) 1) (staged a2 (h2.unread x2) 2) (staged a2 (h2.unread x2) 3)
    (staged a3 (h3.unread x3) 0) (staged a3 (h3.unread x3) 1) (staged a3 (h3.unread x3) 2) (staged a3 (h3.unread x3) 3)
    k0_pay55 (Scalar.muli (BitVec.ofNat 32 (i 1).val) 512#32)
    (startV i a2 h2 a4 h4 a5 h5 a6 h6 x2 x4 x5 x6 0) (startK i a2 h2 a3 h3 a4 h4 a5 h5 a6 h6 x2 x3 x4 x5 x6 0)
    (startV i a2 h2 a4 h4 a5 h5 a6 h6 x2 x4 x5 x6 1) (startK i a2 h2 a3 h3 a4 h4 a5 h5 a6 h6 x2 x3 x4 x5 x6 1)
    (startV i a2 h2 a4 h4 a5 h5 a6 h6 x2 x4 x5 x6 2) (startK i a2 h2 a3 h3 a4 h4 a5 h5 a6 h6 x2 x3 x4 x5 x6 2)
    (Scalar.addi (BitVec.ofNat 32 (i 1).val) 1#32) (h4.unread x4) (h5.unread x5) (h6.unread x6) G
    (startK i a2 h2 a3 h3 a4 h4 a5 h5 a6 h6 x2 x3 x4 x5 x6 0, startV i a2 h2 a4 h4 a5 h5 a6 h6 x2 x4 x5 x6 0,
      startK i a2 h2 a3 h3 a4 h4 a5 h5 a6 h6 x2 x3 x4 x5 x6 1, startV i a2 h2 a4 h4 a5 h5 a6 h6 x2 x4 x5 x6 1,
      startK i a2 h2 a3 h3 a4 h4 a5 h5 a6 h6 x2 x3 x4 x5 x6 2, startV i a2 h2 a4 h4 a5 h5 a6 h6 x2 x4 x5 x6 2,
      startK i a2 h2 a3 h3 a4 h4 a5 h5 a6 h6 x2 x3 x4 x5 x6 3, startV i a2 h2 a4 h4 a5 h5 a6 h6 x2 x4 x5 x6 3) n

/-- Four column blocks stored into a result tile, newest first. -/
def fourCols (w0 w1 w2 w3 : FVec F S512x128 .f32) : List (View.Piece (Elt F) S512x512 .f32) :=
  [⟨Rect.unit (s := S512x512) ![0, 384] S512x128.size inb_S512x512_S512x128_0_384, w3⟩,
    ⟨Rect.unit (s := S512x512) ![0, 256] S512x128.size inb_S512x512_S512x128_0_256, w2⟩,
    ⟨Rect.unit (s := S512x512) ![0, 128] S512x128.size inb_S512x512_S512x128_0_128, w1⟩,
    ⟨Rect.unit (s := S512x512) ![0, 0] S512x128.size inb_S512x512_S512x128_0_0, w0⟩]

/-- The loop's remainder runs no trip. -/
theorem no_rest : Scf.trips (Scalar.addi (Scalar.addi (BitVec.ofNat 32 (i 1).val) 1#32)
      (Scalar.muli (Scalar.divsi (Scalar.subi 8#32 (Scalar.addi (BitVec.ofNat 32 (i 1).val) 1#32)) 1#32) 1#32))
      (Scalar.addi (Scalar.addi (BitVec.ofNat 32 (i 1).val) 1#32) (Scalar.subi 8#32 (Scalar.addi (BitVec.ofNat 32 (i 1).val) 1#32))) 1#32 = 0 := by
  have key : ∀ j : Fin 8, Scf.trips (Scalar.addi (Scalar.addi (BitVec.ofNat 32 j.val) 1#32)
      (Scalar.muli (Scalar.divsi (Scalar.subi 8#32 (Scalar.addi (BitVec.ofNat 32 j.val) 1#32)) 1#32) 1#32))
      (Scalar.addi (Scalar.addi (BitVec.ofNat 32 j.val) 1#32) (Scalar.subi 8#32 (Scalar.addi (BitVec.ofNat 32 j.val) 1#32))) 1#32 = 0 := by
    decide
  exact key (i 1)

theorem pair_fst {α : Type} {β : α → Type} (a : α) (b : β a) : (PSigma.mk a b).1 = a := rfl
theorem pair_snd {α : Type} {β : α → Type} (a : α) (b : β a) : (PSigma.mk a b).2 = b := rfl
theorem subtype_val {α : Type} {p : α → Prop} (a : α) (h : p a) : (Subtype.mk a h).1 = a := rfl

/-- The stores of a point, newest first, into the key, the value and the query gradient, the query gradient's
buffer holding `G` at loop entry. -/
abbrev stores7 (G : BufTy.Contents (Elt F) a9.view.ty) : List (View.Piece (Elt F) S512x512 .f32) :=
  (fun R : _ × List (View.Piece (Elt F) S4096x512 .f32) => fourCols R.1.1 R.1.2.2.1 R.1.2.2.2.2.1 R.1.2.2.2.2.2.2.1)
    (state c i a2 h2 a3 h3 a4 h4 a5 h5 a6 h6 a7 h7 a8 h8 a9 h9 x2 x3 x4 x5 x6 G (k0_t1_loop i).trips)

@[inherit_doc stores7]
abbrev stores8 (G : BufTy.Contents (Elt F) a9.view.ty) : List (View.Piece (Elt F) S512x512 .f32) :=
  (fun R : _ × List (View.Piece (Elt F) S4096x512 .f32) => fourCols R.1.2.1 R.1.2.2.2.1 R.1.2.2.2.2.2.1 R.1.2.2.2.2.2.2.2)
    (state c i a2 h2 a3 h3 a4 h4 a5 h5 a6 h6 a7 h7 a8 h8 a9 h9 x2 x3 x4 x5 x6 G (k0_t1_loop i).trips)

@[inherit_doc stores7]
abbrev stores9 (G : BufTy.Contents (Elt F) a9.view.ty) : List (View.Piece (Elt F) S4096x512 .f32) :=
  (state c i a2 h2 a3 h3 a4 h4 a5 h5 a6 h6 a7 h7 a8 h8 a9 h9 x2 x3 x4 x5 x6 G (k0_t1_loop i).trips).2

section Next

variable (hc : ¬ isFirst i) (x9 : Vec F S4096x512 .f32)

/-- The stores before the loop, at a point that is not its group's first. -/
abbrev nextPieces : List (View.Piece (Elt F) S4096x512 .f32) :=
  ownPieces i a2 h2 a3 h3 a4 h4 a5 h5 a6 h6 x2 x3 x4 x5 x6 (ownTile i a9 (h9.unread x9))

theorem runNext_ka0 : runNext.sl.r c a2 h2 x2 = staged a2 (h2.unread x2) 0 := rfl
theorem runNext_va0 : runNext.sl.r_4 c a3 h3 x3 = staged a3 (h3.unread x3) 0 := rfl
theorem runNext_ka1 : runNext.sl.r_1 c a2 h2 x2 = staged a2 (h2.unread x2) 1 := rfl
theorem runNext_va1 : runNext.sl.r_5 c a3 h3 x3 = staged a3 (h3.unread x3) 1 := rfl
theorem runNext_ka2 : runNext.sl.r_2 c a2 h2 x2 = staged a2 (h2.unread x2) 2 := rfl
theorem runNext_va2 : runNext.sl.r_6 c a3 h3 x3 = staged a3 (h3.unread x3) 2 := rfl
theorem runNext_ka3 : runNext.sl.r_3 c a2 h2 x2 = staged a2 (h2.unread x2) 3 := rfl
theorem runNext_va3 : runNext.sl.r_7 c a3 h3 x3 = staged a3 (h3.unread x3) 3 := rfl
theorem runNext_row : runNext.sl.v23 i = Scalar.muli (BitVec.ofNat 32 (i 1).val) 512#32 := rfl
theorem runNext_lb : runNext.sl.v145 i = Scalar.addi (BitVec.ofNat 32 (i 1).val) 1#32 := rfl
theorem runNext_k0 : runNext.sl.r_12 c i a2 h2 a3 h3 a4 h4 a5 h5 a6 h6 x2 x3 x4 x5 x6 = startK i a2 h2 a3 h3 a4 h4 a5 h5 a6 h6 x2 x3 x4 x5 x6 0 := rfl
theorem runNext_v0 : runNext.sl.r_11 c i a2 h2 a4 h4 a5 h5 a6 h6 x2 x4 x5 x6 = startV i a2 h2 a4 h4 a5 h5 a6 h6 x2 x4 x5 x6 0 := rfl
theorem runNext_k1 : runNext.sl.r_18 c i a2 h2 a3 h3 a4 h4 a5 h5 a6 h6 x2 x3 x4 x5 x6 = startK i a2 h2 a3 h3 a4 h4 a5 h5 a6 h6 x2 x3 x4 x5 x6 1 := rfl
theorem runNext_v1 : runNext.sl.r_17 c i a2 h2 a4 h4 a5 h5 a6 h6 x2 x4 x5 x6 = startV i a2 h2 a4 h4 a5 h5 a6 h6 x2 x4 x5 x6 1 := rfl
theorem runNext_k2 : runNext.sl.r_20 c i a2 h2 a3 h3 a4 h4 a5 h5 a6 h6 x2 x3 x4 x5 x6 = startK i a2 h2 a3 h3 a4 h4 a5 h5 a6 h6 x2 x3 x4 x5 x6 2 := rfl
theorem runNext_v2 : runNext.sl.r_19 c i a2 h2 a4 h4 a5 h5 a6 h6 x2 x4 x5 x6 = startV i a2 h2 a4 h4 a5 h5 a6 h6 x2 x4 x5 x6 2 := rfl
theorem runNext_k3 : k0_pay84 k0_pay46 (staged a2 (h2.unread x2) 3) (staged a3 (h3.unread x3) 3) k0_pay55 (View.readAt (Elt F) a4.view (Rect.unit (s := S4096x512) (k0_off7 i) S512x128.size (k0_off7_inb i)).toLoadRect (h4.unread x4)) (View.readAt (Elt F) a5.view (Rect.unit (s := S4096x512) (k0_off7 i) S512x128.size (k0_off7_inb i)).toLoadRect (h5.unread x5)) (View.readAt (Elt F) a6.view (Rect.unit (s := S2x8x8x512) (k0_off8 i) S1x1x1x512.size (k0_off8_inb i)).toLoadRect (h6.unread x6)) = startK i a2 h2 a3 h3 a4 h4 a5 h5 a6 h6 x2 x3 x4 x5 x6 3 := rfl
theorem runNext_v3 : k0_pay83 k0_pay46 (staged a2 (h2.unread x2) 3) k0_pay55 (View.readAt (Elt F) a4.view (Rect.unit (s := S4096x512) (k0_off7 i) S512x128.size (k0_off7_inb i)).toLoadRect (h4.unread x4)) (View.readAt (Elt F) a5.view (Rect.unit (s := S4096x512) (k0_off7 i) S512x128.size (k0_off7_inb i)).toLoadRect (h5.unread x5)) (View.readAt (Elt F) a6.view (Rect.unit (s := S2x8x8x512) (k0_off8 i) S1x1x1x512.size (k0_off8_inb i)).toLoadRect (h6.unread x6)) = startV i a2 h2 a4 h4 a5 h5 a6 h6 x2 x4 x5 x6 3 := rfl
theorem runNext_q3 (old : Vec F S512x128 .f32) : k0_pay85 k0_pay46 (staged a2 (h2.unread x2) 3) (staged a3 (h3.unread x3) 3) (View.readAt (Elt F) a4.view (Rect.unit (s := S4096x512) (k0_off7 i) S512x128.size (k0_off7_inb i)).toLoadRect (h4.unread x4)) (View.readAt (Elt F) a5.view (Rect.unit (s := S4096x512) (k0_off7 i) S512x128.size (k0_off7_inb i)).toLoadRect (h5.unread x5)) (View.readAt (Elt F) a6.view (Rect.unit (s := S2x8x8x512) (k0_off8 i) S1x1x1x512.size (k0_off8_inb i)).toLoadRect (h6.unread x6)) old = addQ old (ownS i a2 h2 a3 h3 a4 h4 a5 h5 a6 h6 x2 x3 x4 x5 x6 3) (staged a2 (h2.unread x2) 3) := rfl
theorem runNext_q2 (old : Vec F S512x128 .f32) : k0_pay78 k0_pay46 (staged a2 (h2.unread x2) 2) (staged a3 (h3.unread x3) 2) (View.readAt (Elt F) a4.view (Rect.unit (s := S4096x512) (k0_off5 i) S512x128.size (k0_off5_inb i)).toLoadRect (h4.unread x4)) (View.readAt (Elt F) a5.view (Rect.unit (s := S4096x512) (k0_off5 i) S512x128.size (k0_off5_inb i)).toLoadRect (h5.unread x5)) (View.readAt (Elt F) a6.view (Rect.unit (s := S2x8x8x512) (k0_off6 i) S1x1x1x512.size (k0_off6_inb i)).toLoadRect (h6.unread x6)) old = addQ old (ownS i a2 h2 a3 h3 a4 h4 a5 h5 a6 h6 x2 x3 x4 x5 x6 2) (staged a2 (h2.unread x2) 2) := rfl
theorem runNext_q1 (old : Vec F S512x128 .f32) : k0_pay71 (staged a2 (h2.unread x2) 1) (runNext.sl.r_15 c i a2 h2 a3 h3 a4 h4 a5 h5 a6 h6 x2 x3 x4 x5 x6) old = addQ old (ownS i a2 h2 a3 h3 a4 h4 a5 h5 a6 h6 x2 x3 x4 x5 x6 1) (staged a2 (h2.unread x2) 1) := rfl
theorem runNext_q0 (old : Vec F S512x128 .f32) : k0_pay63 k0_pay46 (staged a2 (h2.unread x2) 0) (staged a3 (h3.unread x3) 0) (runNext.sl.r_9 c i a5 h5 x5) (runNext.sl.r_10 c i a2 h2 a4 h4 x2 x4) (View.readAt (Elt F) a6.view (Rect.unit (s := S2x8x8x512) (k0_off2 i) S1x1x1x512.size (k0_off2_inb i)).toLoadRect (h6.unread x6)) old = addQ old (ownS i a2 h2 a3 h3 a4 h4 a5 h5 a6 h6 x2 x3 x4 x5 x6 0) (staged a2 (h2.unread x2) 0) := rfl
theorem runNext_old3 : runNext.sl.v139 c i a9 h9 x9 = ownTile i a9 (h9.unread x9) 3 := rfl
theorem runNext_old2 : runNext.sl.v109 c i a9 h9 x9 = ownTile i a9 (h9.unread x9) 2 := rfl
theorem runNext_old1 : runNext.sl.v79 c i a9 h9 x9 = ownTile i a9 (h9.unread x9) 1 := rfl
theorem runNext_old0 : View.readAt (Elt F) a9.view (Rect.unit (s := S4096x512) (k0_off1 i) S512x128.size (k0_off1_inb i)).toLoadRect (h9.unread x9) = ownTile i a9 (h9.unread x9) 0 := rfl
theorem runNext_pieces : ([⟨Rect.unit (s := S4096x512) (k0_off7 i) S512x128.size (k0_off7_inb i), addQ (ownTile i a9 (h9.unread x9) 3) (ownS i a2 h2 a3 h3 a4 h4 a5 h5 a6 h6 x2 x3 x4 x5 x6 3) (staged a2 (h2.unread x2) 3)⟩, ⟨Rect.unit (s := S4096x512) (k0_off5 i) S512x128.size (k0_off5_inb i), addQ (ownTile i a9 (h9.unread x9) 2) (ownS i a2 h2 a3 h3 a4 h4 a5 h5 a6 h6 x2 x3 x4 x5 x6 2) (staged a2 (h2.unread x2) 2)⟩, ⟨Rect.unit (s := S4096x512) (k0_off3 i) S512x128.size (k0_off3_inb i), addQ (ownTile i a9 (h9.unread x9) 1) (ownS i a2 h2 a3 h3 a4 h4 a5 h5 a6 h6 x2 x3 x4 x5 x6 1) (staged a2 (h2.unread x2) 1)⟩, ⟨Rect.unit (s := S4096x512) (k0_off1 i) S512x128.size (k0_off1_inb i), addQ (ownTile i a9 (h9.unread x9) 0) (ownS i a2 h2 a3 h3 a4 h4 a5 h5 a6 h6 x2 x3 x4 x5 x6 0) (staged a2 (h2.unread x2) 0)⟩] : List (View.Piece (Elt F) S4096x512 .f32)) = nextPieces i a2 h2 a3 h3 a4 h4 a5 h5 a6 h6 a9 h9 x2 x3 x4 x5 x6 x9 := rfl
theorem state_fold (G : BufTy.Contents (Elt F) a9.view.ty) : st_k0_t1 (F := F) Variants.none c none i a2 h2 a3 h3 a4 h4 a5 h5 a6 h6 a7 h7 a8 h8 a9 h9 (BitVec.ofNat 32 (i 1).val) k0_pay46 (staged a2 (h2.unread x2) 0) (staged a2 (h2.unread x2) 1) (staged a2 (h2.unread x2) 2) (staged a2 (h2.unread x2) 3) (staged a3 (h3.unread x3) 0) (staged a3 (h3.unread x3) 1) (staged a3 (h3.unread x3) 2) (staged a3 (h3.unread x3) 3) k0_pay55 (Scalar.muli (BitVec.ofNat 32 (i 1).val) 512#32) (startV i a2 h2 a4 h4 a5 h5 a6 h6 x2 x4 x5 x6 0) (startK i a2 h2 a3 h3 a4 h4 a5 h5 a6 h6 x2 x3 x4 x5 x6 0) (startV i a2 h2 a4 h4 a5 h5 a6 h6 x2 x4 x5 x6 1) (startK i a2 h2 a3 h3 a4 h4 a5 h5 a6 h6 x2 x3 x4 x5 x6 1) (startV i a2 h2 a4 h4 a5 h5 a6 h6 x2 x4 x5 x6 2) (startK i a2 h2 a3 h3 a4 h4 a5 h5 a6 h6 x2 x3 x4 x5 x6 2) (Scalar.addi (BitVec.ofNat 32 (i 1).val) 1#32) (h4.unread x4) (h5.unread x5) (h6.unread x6) G (startK i a2 h2 a3 h3 a4 h4 a5 h5 a6 h6 x2 x3 x4 x5 x6 0, startV i a2 h2 a4 h4 a5 h5 a6 h6 x2 x4 x5 x6 0, startK i a2 h2 a3 h3 a4 h4 a5 h5 a6 h6 x2 x3 x4 x5 x6 1, startV i a2 h2 a4 h4 a5 h5 a6 h6 x2 x4 x5 x6 1, startK i a2 h2 a3 h3 a4 h4 a5 h5 a6 h6 x2 x3 x4 x5 x6 2, startV i a2 h2 a4 h4 a5 h5 a6 h6 x2 x4 x5 x6 2, startK i a2 h2 a3 h3 a4 h4 a5 h5 a6 h6 x2 x3 x4 x5 x6 3, startV i a2 h2 a4 h4 a5 h5 a6 h6 x2 x4 x5 x6 3) (Scf.trips (k0_t1_loop i).lb (k0_t1_loop i).ub (k0_t1_loop i).st) = state c i a2 h2 a3 h3 a4 h4 a5 h5 a6 h6 a7 h7 a8 h8 a9 h9 x2 x3 x4 x5 x6 G (k0_t1_loop i).trips := rfl
theorem rest_none (b : BitVec 32) (G : BufTy.Contents (Elt F) a9.view.ty) (acc : FVec F S512x128 .f32 × FVec F S512x128 .f32 × FVec F S512x128 .f32 × FVec F S512x128 .f32 × FVec F S512x128 .f32 × FVec F S512x128 .f32 × FVec F S512x128 .f32 × FVec F S512x128 .f32) : st_k0_t2 (F := F) Variants.none c none i a2 h2 a3 h3 a4 h4 a5 h5 a6 h6 a7 h7 a8 h8 a9 h9 (BitVec.ofNat 32 (i 1).val) k0_pay46 (staged a2 (h2.unread x2) 0) (staged a2 (h2.unread x2) 1) (staged a2 (h2.unread x2) 2) (staged a2 (h2.unread x2) 3) (staged a3 (h3.unread x3) 0) (staged a3 (h3.unread x3) 1) (staged a3 (h3.unread x3) 2) (staged a3 (h3.unread x3) 3) k0_pay55 (Scalar.muli (BitVec.ofNat 32 (i 1).val) 512#32) (startV i a2 h2 a4 h4 a5 h5 a6 h6 x2 x4 x5 x6 0) (startK i a2 h2 a3 h3 a4 h4 a5 h5 a6 h6 x2 x3 x4 x5 x6 0) (startV i a2 h2 a4 h4 a5 h5 a6 h6 x2 x4 x5 x6 1) (startK i a2 h2 a3 h3 a4 h4 a5 h5 a6 h6 x2 x3 x4 x5 x6 1) (startV i a2 h2 a4 h4 a5 h5 a6 h6 x2 x4 x5 x6 2) (startK i a2 h2 a3 h3 a4 h4 a5 h5 a6 h6 x2 x3 x4 x5 x6 2) b (h4.unread x4) (h5.unread x5) (h6.unread x6) G acc (Scf.trips (k0_t2_loop i).lb (k0_t2_loop i).ub (k0_t2_loop i).st) = (acc, []) := by
  rw [show Scf.trips (k0_t2_loop i).lb (k0_t2_loop i).ub (k0_t2_loop i).st = 0 from no_rest i]
  rfl

theorem runNext_end0 : runNext.sl.r_21 c i a2 h2 a3 h3 a4 h4 a5 h5 a6 h6 a7 h7 a8 h8 a9 h9 x2 x3 x4 x5 x6 x9 =
    (state c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) (k0_t1_loop i).trips).1.1 := by
  delta runNext.sl.r_21
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]

theorem runNext_end1 : runNext.sl.r_22 c i a2 h2 a3 h3 a4 h4 a5 h5 a6 h6 a7 h7 a8 h8 a9 h9 x2 x3 x4 x5 x6 x9 =
    (state c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) (k0_t1_loop i).trips).1.2.1 := by
  delta runNext.sl.r_22
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]

theorem runNext_end2 : runNext.sl.r_23 c i a2 h2 a3 h3 a4 h4 a5 h5 a6 h6 a7 h7 a8 h8 a9 h9 x2 x3 x4 x5 x6 x9 =
    (state c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) (k0_t1_loop i).trips).1.2.2.1 := by
  delta runNext.sl.r_23
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]

theorem runNext_end3 : runNext.sl.r_24 c i a2 h2 a3 h3 a4 h4 a5 h5 a6 h6 a7 h7 a8 h8 a9 h9 x2 x3 x4 x5 x6 x9 =
    (state c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) (k0_t1_loop i).trips).1.2.2.2.1 := by
  delta runNext.sl.r_24
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]

theorem runNext_end4 : runNext.sl.r_25 c i a2 h2 a3 h3 a4 h4 a5 h5 a6 h6 a7 h7 a8 h8 a9 h9 x2 x3 x4 x5 x6 x9 =
    (state c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) (k0_t1_loop i).trips).1.2.2.2.2.1 := by
  delta runNext.sl.r_25
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]

theorem runNext_end5 : runNext.sl.r_26 c i a2 h2 a3 h3 a4 h4 a5 h5 a6 h6 a7 h7 a8 h8 a9 h9 x2 x3 x4 x5 x6 x9 =
    (state c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) (k0_t1_loop i).trips).1.2.2.2.2.2.1 := by
  delta runNext.sl.r_26
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]

theorem runNext_end6 : runNext.sl.r_27 c i a2 h2 a3 h3 a4 h4 a5 h5 a6 h6 a7 h7 a8 h8 a9 h9 x2 x3 x4 x5 x6 x9 =
    (state c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) (k0_t1_loop i).trips).1.2.2.2.2.2.2.1 := by
  delta runNext.sl.r_27
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]

theorem runNext_end7 : runNext.sl.r_28 c i a2 h2 a3 h3 a4 h4 a5 h5 a6 h6 a7 h7 a8 h8 a9 h9 x2 x3 x4 x5 x6 x9 =
    (state c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) (k0_t1_loop i).trips).1.2.2.2.2.2.2.2 := by
  delta runNext.sl.r_28
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]

theorem runNext_7 : (runNext c i a2 h2 a3 h3 a4 h4 a5 h5 a6 h6 a7 h7 a8 h8 a9 h9 x2 x3 x4 x5 x6 hc x9).1 =
    stores7 c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) := by
  delta runNext
  simp (config := {proj := false}) only [pair_fst, pair_snd, subtype_val]
  rw [runNext_end6, runNext_end4, runNext_end2, runNext_end0]
  rfl

theorem runNext_8 : (runNext c i a2 h2 a3 h3 a4 h4 a5 h5 a6 h6 a7 h7 a8 h8 a9 h9 x2 x3 x4 x5 x6 hc x9).2.1 =
    stores8 c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) := by
  delta runNext
  simp (config := {proj := false}) only [pair_fst, pair_snd, subtype_val]
  rw [runNext_end7, runNext_end5, runNext_end3, runNext_end1]
  rfl

theorem runNext_9 : (runNext c i a2 h2 a3 h3 a4 h4 a5 h5 a6 h6 a7 h7 a8 h8 a9 h9 x2 x3 x4 x5 x6 hc x9).2.2.1 =
    stores9 c i a2 h2 a3 h3 a4 h4 a5 h5 a6 h6 a7 h7 a8 h8 a9 h9 x2 x3 x4 x5 x6 (a9.view.writes (Elt F) (h9.unread x9) (nextPieces i a2 h2 a3 h3 a4 h4 a5 h5 a6 h6 a9 h9 x2 x3 x4 x5 x6 x9)) ++ nextPieces i a2 h2 a3 h3 a4 h4 a5 h5 a6 h6 a9 h9 x2 x3 x4 x5 x6 x9 := by
  delta runNext
  simp (config := {proj := false}) only [pair_fst, pair_snd, subtype_val]
  rw [runNext_ka0, runNext_va0, runNext_ka1, runNext_va1, runNext_ka2, runNext_va2, runNext_ka3, runNext_va3, runNext_row, runNext_lb, runNext_k0, runNext_v0, runNext_k1, runNext_v1, runNext_k2, runNext_v2, runNext_k3, runNext_v3, runNext_q3, runNext_q2, runNext_q1, runNext_q0, runNext_old3, runNext_old2, runNext_old1, runNext_old0, runNext_pieces, state_fold, rest_none]
  rfl

end Next

end Cert.Kernel2Ideal.Fox
-- ==== Proof.Fox.Tile.lean ====
/- The sums one grid point adds: a key tile's weights and score gradients against every query tile. -/
module

public import proofs.«01_k».proof.Proof.Fox.Place
public import proofs.«01_k».proof.Proof.Fox.Step

@[expose] public section

set_option maxRecDepth 8192

noncomputable section

namespace Cert.Kernel2Ideal.Fox

open Idealize.ShloMosaic Idealize.ShloMosaic.TcCoe Idealize.ShloMosaic.Tactic
open Cert.Kernel2Ideal.Gen

/-- The key tile of a grid point. -/
def own (i : grid0.Coords) : Fin 8 := i 1

section Sums

variable (j : Fin 8) (x2 x3 : Vec Ideal S512x512 .bf16) (x4 x5 : Vec Ideal S4096x512 .bf16) (x6 : Vec Ideal S2x8x8x512 .f32)

/-- The weight of key `k` of tile `j` for query `q` of tile `o`, in head `h`. -/
def wt (h : Fin 4) (k : Fin 512) (o : Fin 8) (q : Fin 512) : EReal :=
  if 512 * j.val + k.val ≤ 512 * o.val + q.val then
    Ideal.exp ((∑ l : Fin 128, x2 (ix2 k (lane h l)) * x4 (ix2 (rowAt o q) (lane h l))) - x6 (rowIx h o q))
  else 0

/-- The score gradient there. -/
def sl (h : Fin 4) (k : Fin 512) (o : Fin 8) (q : Fin 512) : EReal :=
  wt j x2 x4 x6 h k o q * ∑ l : Fin 128, x3 (ix2 k (lane h l)) * x5 (ix2 (rowAt o q) (lane h l))

/-- Query tile `o`'s part of the value gradient. -/
def dvT (h : Fin 4) (o : Fin 8) (k : Fin 512) (l : Fin 128) : EReal :=
  ∑ q : Fin 512, wt j x2 x4 x6 h k o q * x5 (ix2 (rowAt o q) (lane h l))

/-- Query tile `o`'s part of the key gradient. -/
def dkT (h : Fin 4) (o : Fin 8) (k : Fin 512) (l : Fin 128) : EReal :=
  ∑ q : Fin 512, sl j x2 x3 x4 x5 x6 h k o q * x4 (ix2 (rowAt o q) (lane h l))

/-- The key tile's part of the query gradient of tile `o`. -/
def dqT (h : Fin 4) (o : Fin 8) (q : Fin 512) (l : Fin 128) : EReal :=
  ∑ k : Fin 512, sl j x2 x3 x4 x5 x6 h k o q * x2 (ix2 k (lane h l))

theorem wt_before (h : Fin 4) (k : Fin 512) (o : Fin 8) (q : Fin 512) (ho : o.val < j.val) : wt j x2 x4 x6 h k o q = 0 := by
  unfold wt
  rw [if_neg]
  have := q.isLt
  omega

theorem sl_before (h : Fin 4) (k : Fin 512) (o : Fin 8) (q : Fin 512) (ho : o.val < j.val) : sl j x2 x3 x4 x5 x6 h k o q = 0 := by
  unfold sl
  rw [wt_before j x2 x4 x6 h k o q ho, zero_mul]

theorem dvT_before (h : Fin 4) (o : Fin 8) (k : Fin 512) (l : Fin 128) (ho : o.val < j.val) : dvT j x2 x4 x5 x6 h o k l = 0 := by
  unfold dvT
  exact Finset.sum_eq_zero fun q _ => by rw [wt_before j x2 x4 x6 h k o q ho, zero_mul]

theorem dkT_before (h : Fin 4) (o : Fin 8) (k : Fin 512) (l : Fin 128) (ho : o.val < j.val) : dkT j x2 x3 x4 x5 x6 h o k l = 0 := by
  unfold dkT
  exact Finset.sum_eq_zero fun q _ => by rw [sl_before j x2 x3 x4 x5 x6 h k o q ho, zero_mul]

theorem dqT_before (h : Fin 4) (o : Fin 8) (q : Fin 512) (l : Fin 128) (ho : o.val < j.val) : dqT j x2 x3 x4 x5 x6 h o q l = 0 := by
  unfold dqT
  exact Finset.sum_eq_zero fun k _ => by rw [sl_before j x2 x3 x4 x5 x6 h k o q ho, zero_mul]

/-- One head's tile values, given that its operands read the staged blocks, give the sums. -/
theorem openW_tile (ka : FVec Ideal S512x128 .bf16) (qb : Vec Ideal S512x128 .bf16) (r : Vec Ideal S1x1x1x512 .f32) (h : Fin 4) (o : Fin 8)
    (ho : j.val < o.val) (hk : ∀ k l, ka (ix2 k l) = x2 (ix2 k (lane h l))) (hq : ∀ q l, qb (ix2 q l) = x4 (ix2 (rowAt o q) (lane h l)))
    (hr : ∀ q, r (ix4 0 0 0 q) = x6 (rowIx h o q)) (k q : Fin 512) : openW ka qb r (ix2 k q) = wt j x2 x4 x6 h k o q := by
  rw [openW_apply]
  unfold wt
  have hk' := k.isLt
  rw [if_pos (by omega), hr]
  simp only [hk, hq]

theorem maskedW_tile (ka : FVec Ideal S512x128 .bf16) (qb : Vec Ideal S512x128 .bf16) (r : Vec Ideal S1x1x1x512 .f32) (h : Fin 4)
    (hk : ∀ k l, ka (ix2 k l) = x2 (ix2 k (lane h l))) (hq : ∀ q l, qb (ix2 q l) = x4 (ix2 (rowAt j q) (lane h l)))
    (hr : ∀ q, r (ix4 0 0 0 q) = x6 (rowIx h j q)) (k q : Fin 512) : maskedW ka qb r (ix2 k q) = wt j x2 x4 x6 h k j q := by
  rw [maskedW_apply]
  unfold wt
  simp only [hk, hq, hr, Nat.add_le_add_iff_left]

theorem slope_tile (w : FVec Ideal S512x512 .f32) (va : FVec Ideal S512x128 .bf16) (g : Vec Ideal S512x128 .bf16) (h : Fin 4) (o : Fin 8)
    (hw : ∀ k q, w (ix2 k q) = wt j x2 x4 x6 h k o q) (hv : ∀ k l, va (ix2 k l) = x3 (ix2 k (lane h l)))
    (hg : ∀ q l, g (ix2 q l) = x5 (ix2 (rowAt o q) (lane h l))) (k q : Fin 512) : slope w va g (ix2 k q) = sl j x2 x3 x4 x5 x6 h k o q := by
  rw [slope_apply]
  unfold sl
  simp only [hw, hv, hg]

theorem addV_tile (acc : FVec Ideal S512x128 .f32) (w : FVec Ideal S512x512 .f32) (g : Vec Ideal S512x128 .bf16) (h : Fin 4) (o : Fin 8)
    (hw : ∀ k q, w (ix2 k q) = wt j x2 x4 x6 h k o q) (hg : ∀ q l, g (ix2 q l) = x5 (ix2 (rowAt o q) (lane h l))) (k : Fin 512) (l : Fin 128) :
    addV acc w g (ix2 k l) = (acc (ix2 k l) + dvT j x2 x4 x5 x6 h o k l : EReal) := by
  rw [addV_apply]
  unfold dvT
  simp only [hw, hg]

theorem addK_tile (acc : FVec Ideal S512x128 .f32) (s : FVec Ideal S512x512 .bf16) (qb : Vec Ideal S512x128 .bf16) (h : Fin 4) (o : Fin 8)
    (hs : ∀ k q, s (ix2 k q) = sl j x2 x3 x4 x5 x6 h k o q) (hq : ∀ q l, qb (ix2 q l) = x4 (ix2 (rowAt o q) (lane h l))) (k : Fin 512) (l : Fin 128) :
    addK acc s qb (ix2 k l) = (acc (ix2 k l) + dkT j x2 x3 x4 x5 x6 h o k l : EReal) := by
  rw [addK_apply]
  unfold dkT
  simp only [hs, hq]

theorem addQ_tile (old : Vec Ideal S512x128 .f32) (s : FVec Ideal S512x512 .bf16) (ka : FVec Ideal S512x128 .bf16) (h : Fin 4) (o : Fin 8)
    (hs : ∀ k q, s (ix2 k q) = sl j x2 x3 x4 x5 x6 h k o q) (hk : ∀ k l, ka (ix2 k l) = x2 (ix2 k (lane h l))) (q : Fin 512) (l : Fin 128) :
    addQ old s ka (ix2 q l) = (old (ix2 q l) + dqT j x2 x3 x4 x5 x6 h o q l : EReal) := by
  rw [addQ_apply]
  unfold dqT
  simp only [hs, hk]

end Sums

section Own

variable (i : grid0.Coords)
  (a2 : Memref sig .tc .vmem S512x512 .bf16) (h2 : a2.IsWhole)
  (a3 : Memref sig .tc .vmem S512x512 .bf16) (h3 : a3.IsWhole)
  (a4 : Memref sig .tc .vmem S4096x512 .bf16) (h4 : a4.IsWhole)
  (a5 : Memref sig .tc .vmem S4096x512 .bf16) (h5 : a5.IsWhole)
  (a6 : Memref sig .tc .vmem S2x8x8x512 .f32) (h6 : a6.IsWhole)
  (x2 x3 : Vec Ideal S512x512 .bf16) (x4 x5 : Vec Ideal S4096x512 .bf16) (x6 : Vec Ideal S2x8x8x512 .f32)

theorem staged_apply (h : Fin 4) (k : Fin 512) (l : Fin 128) : staged a2 (h2.unread x2) h (ix2 k l) = x2 (ix2 k (lane h l)) := by
  have key : ∀ (h : Fin 4) (inb : ∀ x, (![0, 128 * h.val] : Fin 2 → ℕ) x + S512x128.size x ≤ S512x512.size x),
      (shapeCast S512x128 (View.readAt (Elt Ideal) a2.view (Rect.unit (s := S512x512) ![0, 128 * h.val] S512x128.size inb).toLoadRect (h2.unread x2) : Vec Ideal S512x128 .bf16) shapeCasts_S512x128_S512x128) (ix2 k l)
        = x2 (ix2 k (lane h l)) := by
    intro h inb
    refine (congrFun (Idealize.ShloMosaic.shapeCast_self _ _) (ix2 k l)).trans ?_
    rw [readAt_cols, h2.read_unread]
  match h with
  | 0 => exact key 0 _
  | 1 => exact key 1 _
  | 2 => exact key 2 _
  | 3 => exact key 3 _

theorem ownTile_apply {e : EltTy} (a : Memref sig .tc .vmem S4096x512 e) (X : BufTy.Contents (Elt Ideal) a.view.ty) (h : Fin 4) (r : Fin 512) (l : Fin 128) :
    ownTile i a X h (ix2 r l) = a.view.read (Elt Ideal) X (ix2 (rowAt (own i) r) (lane h l)) := by
  match h with
  | 0 => exact readAt_tile a X _ (own i) 0 (off1_eq i) r l
  | 1 => exact readAt_tile a X _ (own i) 1 (off3_eq i) r l
  | 2 => exact readAt_tile a X _ (own i) 2 (off5_eq i) r l
  | 3 => exact readAt_tile a X _ (own i) 3 (off7_eq i) r l

theorem ownRow_apply (h : Fin 4) (r : Fin 512) : ownRow i a6 (h6.unread x6) h (ix4 0 0 0 r) = x6 (rowIx h (own i) r) := by
  rw [← congrFun (h6.read_unread x6)]
  match h with
  | 0 => exact readAt_row a6 _ _ (own i) 0 (off2_eq i) r
  | 1 => exact readAt_row a6 _ _ (own i) 1 (off4_eq i) r
  | 2 => exact readAt_row a6 _ _ (own i) 2 (off6_eq i) r
  | 3 => exact readAt_row a6 _ _ (own i) 3 (off8_eq i) r

theorem ownW_apply (h : Fin 4) (k q : Fin 512) : ownW i a2 h2 a4 h4 a6 h6 x2 x4 x6 h (ix2 k q) = wt (own i) x2 x4 x6 h k (own i) q := by
  unfold ownW
  exact maskedW_tile (own i) x2 x4 x6 _ _ _ h (fun k l => staged_apply a2 h2 x2 h k l)
    (fun q l => by rw [ownTile_apply, h4.read_unread]) (fun q => ownRow_apply i a6 h6 x6 h q) k q

theorem ownS_apply (h : Fin 4) (k q : Fin 512) : ownS i a2 h2 a3 h3 a4 h4 a5 h5 a6 h6 x2 x3 x4 x5 x6 h (ix2 k q) = sl (own i) x2 x3 x4 x5 x6 h k (own i) q := by
  unfold ownS
  exact slope_tile (own i) x2 x3 x4 x5 x6 _ _ _ h (own i) (fun k q => ownW_apply i a2 h2 a4 h4 a6 h6 x2 x4 x6 h k q)
    (fun k l => staged_apply a3 h3 x3 h k l) (fun q l => by rw [ownTile_apply, h5.read_unread]) k q

theorem pay55_apply (k : Fin 512) (l : Fin 128) : (k0_pay55 : FVec Ideal S512x128 .f32) (ix2 k l) = (0 : EReal) := by
  pointwise [k0_pay55]

theorem startK_apply (h : Fin 4) (k : Fin 512) (l : Fin 128) :
    startK i a2 h2 a3 h3 a4 h4 a5 h5 a6 h6 x2 x3 x4 x5 x6 h (ix2 k l) = dkT (own i) x2 x3 x4 x5 x6 h (own i) k l := by
  unfold startK
  rw [addK_tile (own i) x2 x3 x4 x5 x6 _ _ _ h (own i) (fun k q => ownS_apply i a2 h2 a3 h3 a4 h4 a5 h5 a6 h6 x2 x3 x4 x5 x6 h k q)
    (fun q l => by rw [ownTile_apply, h4.read_unread]) k l, pay55_apply, zero_add]

theorem startV_apply (h : Fin 4) (k : Fin 512) (l : Fin 128) :
    startV i a2 h2 a4 h4 a5 h5 a6 h6 x2 x4 x5 x6 h (ix2 k l) = dvT (own i) x2 x4 x5 x6 h (own i) k l := by
  unfold startV
  rw [addV_tile (own i) x2 x4 x5 x6 _ _ _ h (own i) (fun k q => ownW_apply i a2 h2 a4 h4 a6 h6 x2 x4 x6 h k q)
    (fun q l => by rw [ownTile_apply, h5.read_unread]) k l, pay55_apply, zero_add]

/-- What the query gradient's buffer reads after the stores before the loop. -/
theorem ownPieces_read (a9 : Memref sig .tc .vmem S4096x512 .f32) (f : BufTy.Contents (Elt Ideal) a9.view.ty) (old : Fin 4 → Vec Ideal S512x128 .f32)
    (hold : ∀ h r l, old h (ix2 r l) = a9.view.read (Elt Ideal) f (ix2 (rowAt (own i) r) (lane h l)))
    (o : Fin 8) (r : Fin 512) (h : Fin 4) (l : Fin 128) :
    a9.view.read (Elt Ideal) (a9.view.writes (Elt Ideal) f (ownPieces i a2 h2 a3 h3 a4 h4 a5 h5 a6 h6 x2 x3 x4 x5 x6 old)) (ix2 (rowAt o r) (lane h l))
      = (a9.view.read (Elt Ideal) f (ix2 (rowAt o r) (lane h l)) + (if o.val ≤ (own i).val then dqT (own i) x2 x3 x4 x5 x6 h o r l else 0) : EReal) := by
  unfold ownPieces
  rw [read_four a9 f _ _ _ _ _ _ _ _ [] (own i) (off1_eq i) (off3_eq i) (off5_eq i) (off7_eq i)]
  by_cases ho : o = own i
  · rw [if_pos ho, if_pos (by rw [ho]), ho, ← hold]
    match h with
    | 0 => exact addQ_tile (own i) x2 x3 x4 x5 x6 _ _ _ 0 (own i) (fun k q => ownS_apply i a2 h2 a3 h3 a4 h4 a5 h5 a6 h6 x2 x3 x4 x5 x6 0 k q) (fun k l => staged_apply a2 h2 x2 0 k l) r l
    | 1 => exact addQ_tile (own i) x2 x3 x4 x5 x6 _ _ _ 1 (own i) (fun k q => ownS_apply i a2 h2 a3 h3 a4 h4 a5 h5 a6 h6 x2 x3 x4 x5 x6 1 k q) (fun k l => staged_apply a2 h2 x2 1 k l) r l
    | 2 => exact addQ_tile (own i) x2 x3 x4 x5 x6 _ _ _ 2 (own i) (fun k q => ownS_apply i a2 h2 a3 h3 a4 h4 a5 h5 a6 h6 x2 x3 x4 x5 x6 2 k q) (fun k l => staged_apply a2 h2 x2 2 k l) r l
    | 3 => exact addQ_tile (own i) x2 x3 x4 x5 x6 _ _ _ 3 (own i) (fun k q => ownS_apply i a2 h2 a3 h3 a4 h4 a5 h5 a6 h6 x2 x3 x4 x5 x6 3 k q) (fun k l => staged_apply a2 h2 x2 3 k l) r l
  · rw [if_neg ho]
    by_cases hlt : o.val ≤ (own i).val
    · have hne : o.val ≠ (own i).val := fun hh => ho (Fin.ext hh)
      rw [if_pos hlt, dqT_before _ _ _ _ _ _ _ _ _ _ (by omega), add_zero]; rfl
    · rw [if_neg hlt, add_zero]; rfl

end Own

end Cert.Kernel2Ideal.Fox
-- ==== Proof.Fox.Values.lean ====
/- What one grid point adds to the three gradients, at real operands. -/
module

public import proofs.«01_k».proof.Proof.Fox.Operands
public import proofs.«01_k».proof.Proof.Fox.Tile

@[expose] public section

set_option maxRecDepth 8192

noncomputable section

namespace Cert.Kernel2Ideal.Fox

open Idealize.ShloMosaic Idealize.ShloMosaic.TcCoe Idealize.ShloMosaic.Tactic
open Cert.Kernel2Ideal Cert.Kernel2Ideal.Gen Cert.Attn Cert.Norm

section Lanes

variable (Q K V C : Fin 4096 → Fin 64 → ℝ) (f : Fin 4096 → ℝ) (H : ℕ)

/-- The lanes of a query, key, value and cotangent row of the head numbered `H`. -/
def qL (i : Fin 4096) (l : Fin 128) : ℝ := laneR (fun d => Q i d * (1 / 8)) 1 1 1 80 H l
def kL (i : Fin 4096) (l : Fin 128) : ℝ := laneR (K i) (-f i) 0 0 72 H l
def vL (i : Fin 4096) (l : Fin 128) : ℝ := laneR (V i) 1 1 1 128 H l
def cL (i : Fin 4096) (l : Fin 128) : ℝ := laneR (C i) (-mean Q K V C f i) 0 0 128 H l

theorem dot_kq (i j : Fin 4096) : ∑ l, kL K f H j l * qL Q H i l = (∑ a, Q i a * K j a) * (1 / 8) - f j := by
  unfold kL qL
  rw [dot_lanes _ _ _ _ _ _ _ _ _ _ _ (Or.inl (by decide)), Finset.sum_mul]
  have : ∑ d, K j d * (Q i d * (1 / 8)) = ∑ a, Q i a * K j a * (1 / 8) := Finset.sum_congr rfl fun d _ => by ring
  rw [this]
  ring

theorem dot_vc (i j : Fin 4096) : ∑ l, vL V H j l * cL Q K V C f H i l = cot V C i j - mean Q K V C f i := by
  unfold vL cL
  rw [dot_lanes _ _ _ _ _ _ _ _ _ _ _ (Or.inr (by omega))]
  have : ∑ d, V j d * C i d = cot V C i j := Finset.sum_congr rfl fun d _ => mul_comm _ _
  rw [this]
  ring

end Lanes

section Point

variable {j : Fin 8} {x2 x3 : Vec Ideal S512x512 .bf16} {x4 x5 : Vec Ideal S4096x512 .bf16} {x6 : Vec Ideal S2x8x8x512 .f32}
  {h : Fin 4} (H : ℕ) (Q K V C : Fin 4096 → Fin 64 → ℝ) (f m : Fin 4096 → ℝ)
  (hx2 : ∀ k l, x2 (ix2 k (lane h l)) = (kL K f H (rowAt j k) l : EReal))
  (hx3 : ∀ k l, x3 (ix2 k (lane h l)) = (vL V H (rowAt j k) l : EReal))
  (hx4 : ∀ i l, x4 (ix2 i (lane h l)) = (qL Q H i l : EReal))
  (hx5 : ∀ i l, x5 (ix2 i (lane h l)) = (cL Q K V C f H i l : EReal))
  (hx6 : ∀ o r, x6 (rowIx h o r) = ((m (rowAt o r) + Real.log (∑ j, sft Q K f (m (rowAt o r)) (rowAt o r) j) - f (rowAt o r) : ℝ) : EReal))

include hx2 hx4 hx6 in
theorem wt_real (k : Fin 512) (o : Fin 8) (q : Fin 512) : wt j x2 x4 x6 h k o q = (prob Q K f (rowAt o q) (rowAt j k) : EReal) := by
  unfold wt
  by_cases hle : 512 * j.val + k.val ≤ 512 * o.val + q.val
  · rw [if_pos hle, hx6]
    have e : (∑ l : Fin 128, x2 (ix2 k (lane h l)) * x4 (ix2 (rowAt o q) (lane h l)) : EReal) = ((∑ l, kL K f H (rowAt j k) l * qL Q H (rowAt o q) l : ℝ) : EReal) := by
      rw [← coe_sum]
      exact Finset.sum_congr rfl fun l _ => by rw [hx2, hx4, EReal.coe_mul]
    rw [e, ← EReal.coe_sub, Ideal.exp_coe, dot_kq, ← exp_log Q K f (m (rowAt o q)) (rowAt o q) (rowAt j k) hle]
    congr 2
    unfold score
    ring
  · rw [if_neg hle]
    unfold prob wgt
    rw [if_neg (show ¬rowAt j k ≤ rowAt o q from hle), zero_div, EReal.coe_zero]

include hx2 hx3 hx4 hx5 hx6

theorem sl_real (k : Fin 512) (o : Fin 8) (q : Fin 512) : sl j x2 x3 x4 x5 x6 h k o q = (Attn.slope Q K V C f (rowAt o q) (rowAt j k) : EReal) := by
  unfold sl
  rw [wt_real H Q K f m hx2 hx4 hx6]
  have e : (∑ l : Fin 128, x3 (ix2 k (lane h l)) * x5 (ix2 (rowAt o q) (lane h l)) : EReal) = ((∑ l, vL V H (rowAt j k) l * cL Q K V C f H (rowAt o q) l : ℝ) : EReal) := by
    rw [← coe_sum]
    exact Finset.sum_congr rfl fun l _ => by rw [hx3, hx5, EReal.coe_mul]
  rw [e, ← EReal.coe_mul, dot_vc]
  rfl

theorem dvT_real (p : Fin 512) (l : Fin 128) :
    ∑ o : Fin 8, dvT j x2 x4 x5 x6 h o p l = ((∑ i, prob Q K f i (rowAt j p) * cL Q K V C f H i l : ℝ) : EReal) := by
  rw [Fin.sum_univ_tiles 8 512 rfl, ← coe_sum]
  refine Finset.sum_congr rfl fun o _ => ?_
  unfold dvT
  rw [← coe_sum]
  refine Finset.sum_congr rfl fun q _ => ?_
  rw [wt_real H Q K f m hx2 hx4 hx6, hx5, ← EReal.coe_mul]
  have e : rowAt o q = ⟨o.val * 512 + q.val, by omega⟩ := Fin.ext (by show 512 * o.val + q.val = o.val * 512 + q.val; omega)
  rw [e]

theorem dkT_real (p : Fin 512) (l : Fin 128) :
    ∑ o : Fin 8, dkT j x2 x3 x4 x5 x6 h o p l = ((∑ i, Attn.slope Q K V C f i (rowAt j p) * qL Q H i l : ℝ) : EReal) := by
  rw [Fin.sum_univ_tiles 8 512 rfl, ← coe_sum]
  refine Finset.sum_congr rfl fun o _ => ?_
  unfold dkT
  rw [← coe_sum]
  refine Finset.sum_congr rfl fun q _ => ?_
  rw [sl_real H Q K V C f m hx2 hx3 hx4 hx5 hx6, hx4, ← EReal.coe_mul]
  have e : rowAt o q = ⟨o.val * 512 + q.val, by omega⟩ := Fin.ext (by show 512 * o.val + q.val = o.val * 512 + q.val; omega)
  rw [e]

theorem dqT_real (o : Fin 8) (q : Fin 512) (l : Fin 128) :
    dqT j x2 x3 x4 x5 x6 h o q l = ((∑ k : Fin 512, Attn.slope Q K V C f (rowAt o q) (rowAt j k) * kL K f H (rowAt j k) l : ℝ) : EReal) := by
  unfold dqT
  rw [← coe_sum]
  refine Finset.sum_congr rfl fun k _ => ?_
  rw [sl_real H Q K V C f m hx2 hx3 hx4 hx5 hx6, hx2, ← EReal.coe_mul]

end Point

end Cert.Kernel2Ideal.Fox
-- ==== Proof.Fox.Rows.lean ====
/- The lines before the attention backward kernel, at real arguments. -/
module

public import proofs.«01_k».proof.Proof.Fox.Operands

@[expose] public section

set_option maxRecDepth 16384

noncomputable section

namespace Cert.Kernel2Ideal.Fox

open Idealize.ShloMosaic Idealize.ShloMosaic.TcCoe Idealize.ShloMosaic.Tactic
open Cert.Kernel2Ideal Cert.Kernel2Ideal.Gen Cert.Attn Cert.Norm

/-! ### At real arguments -/

variable (q k v ct : Fin 8 → Fin 4096 → Fin 64 → ℝ) (f : Fin 8 → Fin 4096 → ℝ)
  {x0 x1 x2 : FVec Ideal S8x4096x64 .f32} {x3 : FVec Ideal S8x4096 .f32} {x4 : FVec Ideal S8x4096x64 .f32}
  (h0 : ∀ h i a, x0 (ix3 h i a) = (q h i a : EReal)) (h1 : ∀ h i a, x1 (ix3 h i a) = (k h i a : EReal))
  (h2 : ∀ h i a, x2 (ix3 h i a) = (v h i a : EReal)) (h3 : ∀ h i, x3 (ix2 h i) = (f h i : EReal))
  (h4 : ∀ h i a, x4 (ix3 h i a) = (ct h i a : EReal))

include h0 h1 h3 in
theorem scr_real (h : Fin 8) (i j : Fin 4096) : scr x0 x1 x3 (ix3 h i j) = if j ≤ i then (score (q h) (k h) (f h) i j : EReal) else ⊥ := by
  have e : scr x0 x1 x3 (ix3 h i j) = Scalar.select (IntOp.cmpi CmpIPredicate.sle (BitVec.ofNat 32 j.val) (BitVec.ofNat 32 i.val))
      ((∑ a : Fin 64, x0 (ix3 h i a) * x1 (ix3 h j a)) * Ideal.ofBits .f32 0x3E000000#32 + x3 (ix2 h i) - x3 (ix2 h j) : EReal) (Ideal.ofBits .f32 0xFF800000#32) := by
    pointwise [scr]
  rw [e, causal_bit, select_bit, eighth, minusInf]
  refine if_congr Iff.rfl ?_ rfl
  rw [h3, h3]
  simp only [h0, h1, ← EReal.coe_mul, coe_sum, ← EReal.coe_add, ← EReal.coe_sub]
  rfl

/-- Dropping a unit axis. -/
theorem drop_one (y : FVec Ideal S8x4096x1 .f32) (h : Fin 8) (i : Fin 4096) :
    shapeCast S8x4096 y shapeCasts_S8x4096x1_S8x4096 (ix2 h i) = y (ix3 h i 0) := by
  refine shapeCast_apply y shapeCasts_S8x4096x1_S8x4096 (ix2 h i) (ix3 h i 0) ?_
  rewrite [Shape.rowMajor_val_two, Shape.rowMajor_val_three]
  show (h.val * 4096 + i.val) * 1 + 0 = h.val * 4096 + i.val
  omega

/-- A row term, from its maximum and sum. -/
theorem rws_at (y z : FVec Ideal S8x4096x1 .f32) (x3 : FVec Ideal S8x4096 .f32) (h : Fin 8) (i : Fin 4096) :
    subf (shapeCast S8x4096 (addf y (Host.log z)) shapeCasts_S8x4096x1_S8x4096) x3 (ix2 h i)
      = (y (ix3 h i 0) + Ideal.log (z (ix3 h i 0)) - x3 (ix2 h i) : EReal) := by
  have e := drop_one (addf y (Host.log z)) h i
  generalize shapeCast S8x4096 (addf y (Host.log z)) shapeCasts_S8x4096x1_S8x4096 = w at e ⊢
  have e2 : (addf y (Host.log z) (ix3 h i 0) : EReal) = (y (ix3 h i 0) : EReal) + Ideal.log (z (ix3 h i 0)) := rfl
  have e3 : (subf w x3 (ix2 h i) : EReal) = (w (ix2 h i) : EReal) - x3 (ix2 h i) := rfl
  rw [e3, e, e2]

theorem rws_at' (x3 : FVec Ideal S8x4096 .f32) (s) (h : Fin 8) (i : Fin 4096) :
    rws x3 s (ix2 h i) = (mxs s (ix3 h i 0) + Ideal.log (sms s (ix3 h i 0)) - x3 (ix2 h i) : EReal) := rws_at _ _ _ h i

theorem rws_val (y z w : EReal) (m L f : ℝ) (hy : y = (m : EReal)) (hz : z = (L : EReal)) (hw : w = (f : EReal)) (hL : 0 < L) :
    y + Ideal.log z - w = ((m + Real.log L - f : ℝ) : EReal) := by
  rw [hy, hz, hw, log_real hL, ← EReal.coe_add, ← EReal.coe_sub]

section Rows

variable {s : FVec Ideal S8x4096x4096 .f32} (hs : ∀ h i j, s (ix3 h i j) = if j ≤ i then (score (q h) (k h) (f h) i j : EReal) else ⊥)

include hs in
theorem mxs_real : ∃ m : Fin 8 → Fin 4096 → ℝ, ∀ h i, mxs s (ix3 h i 0) = (m h i : EReal) := by
  obtain ⟨m, hm⟩ := row_max s (constant S_ .f32 0xFF800000#32) reducesTo_S8x4096x4096_S8x4096_d2 h_S_
    minusInf (fun h => score (q h) (k h) (f h)) hs
  refine ⟨m, fun h i => ?_⟩
  rw [← hm h i]
  unfold mxs
  generalize Host.reduce FloatOps.maximumf s (constant S_ .f32 0xFF800000#32) reducesTo_S8x4096x4096_S8x4096_d2 h_S_ = y
  pointwise

variable {m : Fin 8 → Fin 4096 → ℝ} (hm : ∀ h i, mxs s (ix3 h i 0) = (m h i : EReal))
include hs hm

theorem exs_real (h : Fin 8) (i j : Fin 4096) : exs s (ix3 h i j) = (sft (q h) (k h) (f h) (m h i) i j : EReal) := by
  have e : exs s (ix3 h i j) = Ideal.exp (s (ix3 h i j) - mxs s (ix3 h i 0)) := by
    unfold exs; generalize mxs s = y; pointwise
  rw [e, hs, hm]
  exact exp_masked _ _ _

theorem sms_real (h : Fin 8) (i : Fin 4096) : sms s (ix3 h i 0) = ((∑ j, sft (q h) (k h) (f h) (m h i) i j : ℝ) : EReal) := by
  have e : sms s (ix3 h i 0) = ∑ j : Fin 4096, exs s (ix3 h i j) := by
    unfold sms; generalize exs s = y; pointwise
  rw [e, ← coe_sum]
  exact Finset.sum_congr rfl fun j _ => exs_real q k f hs hm h i j

include h3 in
theorem rws_real (h : Fin 8) (i : Fin 4096) :
    rws x3 s (ix2 h i) = ((m h i + Real.log (∑ j, sft (q h) (k h) (f h) (m h i) i j) - f h i : ℝ) : EReal) :=
  (rws_at' x3 s h i).trans (rws_val _ _ _ _ _ _ (hm h i) (sms_real q k f hs hm h i) (h3 h i) (sum_sft_pos _ _ _ _ _))

omit hm in
include h2 h4 in
theorem dls_real (h : Fin 8) (i : Fin 4096) : dls x2 x4 s (ix2 h i) = (mean (q h) (k h) (v h) (ct h) (f h) i : EReal) := by
  obtain ⟨m, hm⟩ := mxs_real q k f hs
  have e : dls x2 x4 s (ix2 h i) = ∑ a : Fin 64, x4 (ix3 h i a) * ∑ j : Fin 4096, Ideal.div (exs s (ix3 h i j)) (sms s (ix3 h i 0)) * x2 (ix3 h j a) := by
    unfold dls; generalize exs s = y; generalize sms s = z; pointwise
  rw [e, sms_real q k f hs hm, ← mean_eq]
  simp only [exs_real q k f hs hm, div_real _ (sum_sft_pos _ _ _ _ _).ne', sft_div, h2, h4, ← EReal.coe_mul, coe_sum]

end Rows

/-- Rounding a real column leaves it, and nothing over. -/
theorem split_real {x : FVec Ideal S8x4096 .f32} (g : Fin 8 → Fin 4096 → ℝ) (hx : ∀ h i, x (ix2 h i) = (g h i : EReal)) (h : Fin 8) (i : Fin 4096) :
    hi x (ix2 h i) = (g h i : EReal) ∧ hi (rest x) (ix2 h i) = ((0 : ℝ) : EReal) ∧ hi (rest (rest x)) (ix2 h i) = ((0 : ℝ) : EReal) := by
  have e1 : hi (rest x) (ix2 h i) = (x (ix2 h i) - x (ix2 h i) : EReal) := rfl
  have e2 : hi (rest (rest x)) (ix2 h i) = (x (ix2 h i) - x (ix2 h i) - (x (ix2 h i) - x (ix2 h i)) : EReal) := rfl
  rw [e1, e2, hx]
  refine ⟨hx h i, ?_, ?_⟩
  · rw [← EReal.coe_sub, sub_self]
  · rw [← EReal.coe_sub, sub_self, ← EReal.coe_sub, sub_self]

theorem augSplit_real {a : FVec Ideal S8x4096x64 .f32} {x : FVec Ideal S8x4096 .f32} (b : Fin 8 → Fin 4096 → Fin 64 → ℝ) (g : Fin 8 → Fin 4096 → ℝ)
    (ha : ∀ h i d, a (ix3 h i d) = (b h i d : EReal)) (hx : ∀ h i, x (ix2 h i) = (g h i : EReal)) (u : ℕ) (hu : u < 129) (i : Fin 4096) (H : Fin 8) (l : Fin 128) :
    (augSplit a x (BitVec.ofNat 32 u) (ix2 i (col H l)) : EReal) = (laneR (b H i) (g H i) 0 0 u H.val l : EReal) := by
  unfold augSplit
  obtain ⟨e1, e2, e3⟩ := split_real g hx H i
  rw [aug_apply _ _ _ _ u hu, e1, e2, e3, ← laneVal_real]
  simp only [ha]

theorem aug_real {a : FVec Ideal S8x4096x64 .f32} (b : Fin 8 → Fin 4096 → Fin 64 → ℝ) (ha : ∀ h i d, a (ix3 h i d) = (b h i d : EReal))
    (u : ℕ) (hu : u < 129) (i : Fin 4096) (H : Fin 8) (l : Fin 128) :
    (aug a ons ons ons (BitVec.ofNat 32 u) (ix2 i (col H l)) : EReal) = (laneR (b H i) 1 1 1 u H.val l : EReal) := by
  have e : ∀ h i, (ons (ix2 h i) : EReal) = ((1 : ℝ) : EReal) := fun h i => by
    rw [EReal.coe_one, ← oneH]; pointwise [ons]
  rw [aug_apply _ _ _ _ u hu, e, ← laneVal_real]
  simp only [ha]

end Cert.Kernel2Ideal.Fox
-- ==== Proof.Fox.Loop.lean ====
/- The loop over the later query tiles: what it carries and stores, trip by trip, and the sums they come to. -/
module

public import proofs.«01_k».proof.Proof.Fox.Tile

@[expose] public section

set_option maxRecDepth 8192

noncomputable section

namespace Cert.Kernel2Ideal.Fox

open Idealize.ShloMosaic Idealize.ShloMosaic.TcCoe Idealize.ShloMosaic.Tactic
open Cert.Kernel2Ideal.Gen

variable {F : FTy → Type} [FloatOps F] [Named F]

/-- The four heads of the query tile of trip `k`. -/
def later {e : EltTy} (i : grid0.Coords) (k : Fin (k0_t1_loop i).trips) (a : Memref sig .tc .vmem S4096x512 e) (X : BufTy.Contents (Elt F) a.view.ty) :
    Fin 4 → Vec F S512x128 e :=
  ![View.readAt (Elt F) a.view (Rect.unit (s := S4096x512) (k0_off9 i k) S512x128.size (k0_off9_inb i k)).toLoadRect X,
    View.readAt (Elt F) a.view (Rect.unit (s := S4096x512) (k0_off11 i k) S512x128.size (k0_off11_inb i k)).toLoadRect X,
    View.readAt (Elt F) a.view (Rect.unit (s := S4096x512) (k0_off13 i k) S512x128.size (k0_off13_inb i k)).toLoadRect X,
    View.readAt (Elt F) a.view (Rect.unit (s := S4096x512) (k0_off15 i k) S512x128.size (k0_off15_inb i k)).toLoadRect X]

/-- The row terms of that tile, head by head. -/
def laterRow (i : grid0.Coords) (k : Fin (k0_t1_loop i).trips) (a : Memref sig .tc .vmem S2x8x8x512 .f32) (X : BufTy.Contents (Elt F) a.view.ty) :
    Fin 4 → Vec F S1x1x1x512 .f32 :=
  ![View.readAt (Elt F) a.view (Rect.unit (s := S2x8x8x512) (k0_off10 i k) S1x1x1x512.size (k0_off10_inb i k)).toLoadRect X,
    View.readAt (Elt F) a.view (Rect.unit (s := S2x8x8x512) (k0_off12 i k) S1x1x1x512.size (k0_off12_inb i k)).toLoadRect X,
    View.readAt (Elt F) a.view (Rect.unit (s := S2x8x8x512) (k0_off14 i k) S1x1x1x512.size (k0_off14_inb i k)).toLoadRect X,
    View.readAt (Elt F) a.view (Rect.unit (s := S2x8x8x512) (k0_off16 i k) S1x1x1x512.size (k0_off16_inb i k)).toLoadRect X]

section Carry

variable (c : Dev nD) (i : grid0.Coords)
  (a2 : Memref sig .tc .vmem S512x512 .bf16) (h2 : a2.IsWhole)
  (a3 : Memref sig .tc .vmem S512x512 .bf16) (h3 : a3.IsWhole)
  (a4 : Memref sig .tc .vmem S4096x512 .bf16) (h4 : a4.IsWhole)
  (a5 : Memref sig .tc .vmem S4096x512 .bf16) (h5 : a5.IsWhole)
  (a6 : Memref sig .tc .vmem S2x8x8x512 .f32) (h6 : a6.IsWhole)
  (a7 : Memref sig .tc .vmem S512x512 .f32) (h7 : a7.IsWhole)
  (a8 : Memref sig .tc .vmem S512x512 .f32) (h8 : a8.IsWhole)
  (a9 : Memref sig .tc .vmem S4096x512 .f32) (h9 : a9.IsWhole)
  (x2 x3 : Vec F S512x512 .bf16) (x4 x5 : Vec F S4096x512 .bf16) (x6 : Vec F S2x8x8x512 .f32)

variable (k : Fin (k0_t1_loop i).trips)

/-- The weights of trip `k`. -/
def laterW (h : Fin 4) : FVec F S512x512 .f32 :=
  openW (staged a2 (h2.unread x2) h) (later i k a4 (h4.unread x4) h) (laterRow i k a6 (h6.unread x6) h)

/-- The score gradients of trip `k`. -/
def laterS (h : Fin 4) : FVec F S512x512 .bf16 :=
  slope (laterW i a2 h2 a4 h4 a6 h6 x2 x4 x6 k h) (staged a3 (h3.unread x3) h) (later i k a5 (h5.unread x5) h)

/-- The key gradient, head by head, in what the loop carries. -/
def keyPart (S : FVec F S512x128 .f32 × FVec F S512x128 .f32 × FVec F S512x128 .f32 × FVec F S512x128 .f32 × FVec F S512x128 .f32 × FVec F S512x128 .f32 × FVec F S512x128 .f32 × FVec F S512x128 .f32) : Fin 4 → FVec F S512x128 .f32 := ![S.1, S.2.2.1, S.2.2.2.2.1, S.2.2.2.2.2.2.1]

/-- The value gradient, likewise. -/
def valuePart (S : FVec F S512x128 .f32 × FVec F S512x128 .f32 × FVec F S512x128 .f32 × FVec F S512x128 .f32 × FVec F S512x128 .f32 × FVec F S512x128 .f32 × FVec F S512x128 .f32 × FVec F S512x128 .f32) : Fin 4 → FVec F S512x128 .f32 := ![S.2.1, S.2.2.2.1, S.2.2.2.2.2.1, S.2.2.2.2.2.2.2]

/-- What trip `k` carries on. -/
def carried (S : FVec F S512x128 .f32 × FVec F S512x128 .f32 × FVec F S512x128 .f32 × FVec F S512x128 .f32 × FVec F S512x128 .f32 × FVec F S512x128 .f32 × FVec F S512x128 .f32 × FVec F S512x128 .f32) : FVec F S512x128 .f32 × FVec F S512x128 .f32 × FVec F S512x128 .f32 × FVec F S512x128 .f32 × FVec F S512x128 .f32 × FVec F S512x128 .f32 × FVec F S512x128 .f32 × FVec F S512x128 .f32 :=
  (addK S.1 (laterS i a2 h2 a3 h3 a4 h4 a5 h5 a6 h6 x2 x3 x4 x5 x6 k 0) (later i k a4 (h4.unread x4) 0), addV S.2.1 (laterW i a2 h2 a4 h4 a6 h6 x2 x4 x6 k 0) (later i k a5 (h5.unread x5) 0), addK S.2.2.1 (laterS i a2 h2 a3 h3 a4 h4 a5 h5 a6 h6 x2 x3 x4 x5 x6 k 1) (later i k a4 (h4.unread x4) 1), addV S.2.2.2.1 (laterW i a2 h2 a4 h4 a6 h6 x2 x4 x6 k 1) (later i k a5 (h5.unread x5) 1), addK S.2.2.2.2.1 (laterS i a2 h2 a3 h3 a4 h4 a5 h5 a6 h6 x2 x3 x4 x5 x6 k 2) (later i k a4 (h4.unread x4) 2), addV S.2.2.2.2.2.1 (laterW i a2 h2 a4 h4 a6 h6 x2 x4 x6 k 2) (later i k a5 (h5.unread x5) 2), addK S.2.2.2.2.2.2.1 (laterS i a2 h2 a3 h3 a4 h4 a5 h5 a6 h6 x2 x3 x4 x5 x6 k 3) (later i k a4 (h4.unread x4) 3), addV S.2.2.2.2.2.2.2 (laterW i a2 h2 a4 h4 a6 h6 x2 x4 x6 k 3) (later i k a5 (h5.unread x5) 3))

/-- What trip `k` stores into the query gradient, over the rows `old`. -/
def laterPieces (old : Fin 4 → Vec F S512x128 .f32) : List (View.Piece (Elt F) S4096x512 .f32) :=
  [⟨Rect.unit (s := S4096x512) (k0_off15 i k) S512x128.size (k0_off15_inb i k), addQ (old 3) (laterS i a2 h2 a3 h3 a4 h4 a5 h5 a6 h6 x2 x3 x4 x5 x6 k 3) (staged a2 (h2.unread x2) 3)⟩,
    ⟨Rect.unit (s := S4096x512) (k0_off13 i k) S512x128.size (k0_off13_inb i k), addQ (old 2) (laterS i a2 h2 a3 h3 a4 h4 a5 h5 a6 h6 x2 x3 x4 x5 x6 k 2) (staged a2 (h2.unread x2) 2)⟩,
    ⟨Rect.unit (s := S4096x512) (k0_off11 i k) S512x128.size (k0_off11_inb i k), addQ (old 1) (laterS i a2 h2 a3 h3 a4 h4 a5 h5 a6 h6 x2 x3 x4 x5 x6 k 1) (staged a2 (h2.unread x2) 1)⟩,
    ⟨Rect.unit (s := S4096x512) (k0_off9 i k) S512x128.size (k0_off9_inb i k), addQ (old 0) (laterS i a2 h2 a3 h3 a4 h4 a5 h5 a6 h6 x2 x3 x4 x5 x6 k 0) (staged a2 (h2.unread x2) 0)⟩]

theorem state_zero (G : BufTy.Contents (Elt F) a9.view.ty) : state c i a2 h2 a3 h3 a4 h4 a5 h5 a6 h6 a7 h7 a8 h8 a9 h9 x2 x3 x4 x5 x6 G 0 =
    ((startK i a2 h2 a3 h3 a4 h4 a5 h5 a6 h6 x2 x3 x4 x5 x6 0, startV i a2 h2 a4 h4 a5 h5 a6 h6 x2 x4 x5 x6 0, startK i a2 h2 a3 h3 a4 h4 a5 h5 a6 h6 x2 x3 x4 x5 x6 1, startV i a2 h2 a4 h4 a5 h5 a6 h6 x2 x4 x5 x6 1, startK i a2 h2 a3 h3 a4 h4 a5 h5 a6 h6 x2 x3 x4 x5 x6 2, startV i a2 h2 a4 h4 a5 h5 a6 h6 x2 x4 x5 x6 2, startK i a2 h2 a3 h3 a4 h4 a5 h5 a6 h6 x2 x3 x4 x5 x6 3, startV i a2 h2 a4 h4 a5 h5 a6 h6 x2 x4 x5 x6 3), []) := rfl

theorem state_succ (G : BufTy.Contents (Elt F) a9.view.ty) : state c i a2 h2 a3 h3 a4 h4 a5 h5 a6 h6 a7 h7 a8 h8 a9 h9 x2 x3 x4 x5 x6 G (k.val + 1) =
    (carried i a2 h2 a3 h3 a4 h4 a5 h5 a6 h6 x2 x3 x4 x5 x6 k (state c i a2 h2 a3 h3 a4 h4 a5 h5 a6 h6 a7 h7 a8 h8 a9 h9 x2 x3 x4 x5 x6 G k.val).1,
      laterPieces i a2 h2 a3 h3 a4 h4 a5 h5 a6 h6 x2 x3 x4 x5 x6 k (later i k a9 (a9.view.writes (Elt F) G (state c i a2 h2 a3 h3 a4 h4 a5 h5 a6 h6 a7 h7 a8 h8 a9 h9 x2 x3 x4 x5 x6 G k.val).2)) ++ (state c i a2 h2 a3 h3 a4 h4 a5 h5 a6 h6 a7 h7 a8 h8 a9 h9 x2 x3 x4 x5 x6 G k.val).2) := by
  refine (st_k0_t1_succ ..).trans ?_
  rw [tripR_eq, tripL_eq]
  rfl

end Carry

section Sums

variable (c : Dev nD) (i : grid0.Coords)
  (a2 : Memref sig .tc .vmem S512x512 .bf16) (h2 : a2.IsWhole)
  (a3 : Memref sig .tc .vmem S512x512 .bf16) (h3 : a3.IsWhole)
  (a4 : Memref sig .tc .vmem S4096x512 .bf16) (h4 : a4.IsWhole)
  (a5 : Memref sig .tc .vmem S4096x512 .bf16) (h5 : a5.IsWhole)
  (a6 : Memref sig .tc .vmem S2x8x8x512 .f32) (h6 : a6.IsWhole)
  (a7 : Memref sig .tc .vmem S512x512 .f32) (h7 : a7.IsWhole)
  (a8 : Memref sig .tc .vmem S512x512 .f32) (h8 : a8.IsWhole)
  (a9 : Memref sig .tc .vmem S4096x512 .f32) (h9 : a9.IsWhole)
  (x2 x3 : Vec Ideal S512x512 .bf16) (x4 x5 : Vec Ideal S4096x512 .bf16) (x6 : Vec Ideal S2x8x8x512 .f32)

/-- The query tiles up to the one after place `n`, taken one further. -/
theorem sum_step (f : Fin 8 → EReal) (n : ℕ) (t : Fin 8) (ht : t.val = n + 1) :
    (∑ o : Fin 8, if o.val ≤ n + 1 then f o else 0) = (∑ o : Fin 8, if o.val ≤ n then f o else 0) + f t := by
  have e : ∀ o : Fin 8, (if o.val ≤ n + 1 then f o else 0) = (if o.val ≤ n then f o else 0) + (if o = t then f o else 0) := by
    intro o
    by_cases h : o = t
    · subst h
      rw [if_pos (by omega), if_neg (by omega), if_pos rfl, zero_add]
    · have h' : o.val ≠ t.val := fun h' => h (Fin.ext h')
      rw [if_neg h, add_zero]
      by_cases h2 : o.val ≤ n
      · rw [if_pos h2, if_pos (by omega)]
      · rw [if_neg h2, if_neg (by omega)]
  rw [Finset.sum_congr rfl fun o _ => e o, Finset.sum_add_distrib, Finset.sum_ite_eq' Finset.univ t f, if_pos (Finset.mem_univ _)]

/-- Only the tile at place `j`, where those before it add nothing. -/
theorem sum_first (f : Fin 8 → EReal) (j : Fin 8) (h0 : ∀ o : Fin 8, o.val < j.val → f o = 0) :
    f j = ∑ o : Fin 8, if o.val ≤ j.val + 0 then f o else 0 := by
  rw [Finset.sum_eq_single j]
  · rw [if_pos (by omega)]
  · intro o _ hne
    have hne' : o.val ≠ j.val := fun hh => hne (Fin.ext hh)
    by_cases h : o.val ≤ j.val + 0
    · rw [if_pos h, h0 o (by omega)]
    · rw [if_neg h]
  · intro h; exact absurd (Finset.mem_univ _) h

section Trip

variable (k : Fin (k0_t1_loop i).trips)

theorem own_lt : (own i).val < (tileOf i k).val := by
  show (i 1).val < (i 1).val + 1 + k.val
  omega

theorem later_apply {e : EltTy} (a : Memref sig .tc .vmem S4096x512 e) (X : BufTy.Contents (Elt Ideal) a.view.ty) (h : Fin 4) (r : Fin 512) (l : Fin 128) :
    later i k a X h (ix2 r l) = a.view.read (Elt Ideal) X (ix2 (rowAt (tileOf i k) r) (lane h l)) := by
  match h with
  | 0 => exact readAt_tile a X _ (tileOf i k) 0 (off9_eq i k) r l
  | 1 => exact readAt_tile a X _ (tileOf i k) 1 (off11_eq i k) r l
  | 2 => exact readAt_tile a X _ (tileOf i k) 2 (off13_eq i k) r l
  | 3 => exact readAt_tile a X _ (tileOf i k) 3 (off15_eq i k) r l

theorem laterRow_apply (h : Fin 4) (r : Fin 512) : laterRow i k a6 (h6.unread x6) h (ix4 0 0 0 r) = x6 (rowIx h (tileOf i k) r) := by
  rw [← congrFun (h6.read_unread x6)]
  match h with
  | 0 => exact readAt_row a6 _ _ (tileOf i k) 0 (off10_eq i k) r
  | 1 => exact readAt_row a6 _ _ (tileOf i k) 1 (off12_eq i k) r
  | 2 => exact readAt_row a6 _ _ (tileOf i k) 2 (off14_eq i k) r
  | 3 => exact readAt_row a6 _ _ (tileOf i k) 3 (off16_eq i k) r

theorem laterW_apply (h : Fin 4) (p q : Fin 512) : laterW i a2 h2 a4 h4 a6 h6 x2 x4 x6 k h (ix2 p q) = wt (own i) x2 x4 x6 h p (tileOf i k) q := by
  unfold laterW
  exact openW_tile (own i) x2 x4 x6 _ _ _ h (tileOf i k) (own_lt i k) (fun p l => staged_apply a2 h2 x2 h p l)
    (fun q l => by rw [later_apply, h4.read_unread]) (fun q => laterRow_apply i a6 h6 x6 k h q) p q

theorem laterS_apply (h : Fin 4) (p q : Fin 512) : laterS i a2 h2 a3 h3 a4 h4 a5 h5 a6 h6 x2 x3 x4 x5 x6 k h (ix2 p q) = sl (own i) x2 x3 x4 x5 x6 h p (tileOf i k) q := by
  unfold laterS
  exact slope_tile (own i) x2 x3 x4 x5 x6 _ _ _ h (tileOf i k) (fun p q => laterW_apply i a2 h2 a4 h4 a6 h6 x2 x4 x6 k h p q)
    (fun p l => staged_apply a3 h3 x3 h p l) (fun q l => by rw [later_apply, h5.read_unread]) p q

theorem addK_later (acc : FVec Ideal S512x128 .f32) (h : Fin 4) (p : Fin 512) (l : Fin 128) :
    addK acc (laterS i a2 h2 a3 h3 a4 h4 a5 h5 a6 h6 x2 x3 x4 x5 x6 k h) (later i k a4 (h4.unread x4) h) (ix2 p l) = (acc (ix2 p l) + dkT (own i) x2 x3 x4 x5 x6 h (tileOf i k) p l : EReal) :=
  addK_tile (own i) x2 x3 x4 x5 x6 _ _ _ h (tileOf i k) (fun p q => laterS_apply i a2 h2 a3 h3 a4 h4 a5 h5 a6 h6 x2 x3 x4 x5 x6 k h p q)
    (fun q l => by rw [later_apply, h4.read_unread]) p l

theorem addV_later (acc : FVec Ideal S512x128 .f32) (h : Fin 4) (p : Fin 512) (l : Fin 128) :
    addV acc (laterW i a2 h2 a4 h4 a6 h6 x2 x4 x6 k h) (later i k a5 (h5.unread x5) h) (ix2 p l) = (acc (ix2 p l) + dvT (own i) x2 x4 x5 x6 h (tileOf i k) p l : EReal) :=
  addV_tile (own i) x2 x4 x5 x6 _ _ _ h (tileOf i k) (fun p q => laterW_apply i a2 h2 a4 h4 a6 h6 x2 x4 x6 k h p q)
    (fun q l => by rw [later_apply, h5.read_unread]) p l

theorem addQ_later (old : Vec Ideal S512x128 .f32) (h : Fin 4) (q : Fin 512) (l : Fin 128) :
    addQ old (laterS i a2 h2 a3 h3 a4 h4 a5 h5 a6 h6 x2 x3 x4 x5 x6 k h) (staged a2 (h2.unread x2) h) (ix2 q l) = (old (ix2 q l) + dqT (own i) x2 x3 x4 x5 x6 h (tileOf i k) q l : EReal) :=
  addQ_tile (own i) x2 x3 x4 x5 x6 _ _ _ h (tileOf i k) (fun p q => laterS_apply i a2 h2 a3 h3 a4 h4 a5 h5 a6 h6 x2 x3 x4 x5 x6 k h p q) (fun p l => staged_apply a2 h2 x2 h p l) q l

theorem carried_key (S) (h : Fin 4) (p : Fin 512) (l : Fin 128) :
    keyPart (carried i a2 h2 a3 h3 a4 h4 a5 h5 a6 h6 x2 x3 x4 x5 x6 k S) h (ix2 p l) = (keyPart S h (ix2 p l) + dkT (own i) x2 x3 x4 x5 x6 h (tileOf i k) p l : EReal) := by
  match h with
  | 0 => exact addK_later i a2 h2 a3 h3 a4 h4 a5 h5 a6 h6 x2 x3 x4 x5 x6 k _ 0 p l
  | 1 => exact addK_later i a2 h2 a3 h3 a4 h4 a5 h5 a6 h6 x2 x3 x4 x5 x6 k _ 1 p l
  | 2 => exact addK_later i a2 h2 a3 h3 a4 h4 a5 h5 a6 h6 x2 x3 x4 x5 x6 k _ 2 p l
  | 3 => exact addK_later i a2 h2 a3 h3 a4 h4 a5 h5 a6 h6 x2 x3 x4 x5 x6 k _ 3 p l

theorem carried_value (S) (h : Fin 4) (p : Fin 512) (l : Fin 128) :
    valuePart (carried i a2 h2 a3 h3 a4 h4 a5 h5 a6 h6 x2 x3 x4 x5 x6 k S) h (ix2 p l) = (valuePart S h (ix2 p l) + dvT (own i) x2 x4 x5 x6 h (tileOf i k) p l : EReal) := by
  match h with
  | 0 => exact addV_later i a2 h2 a4 h4 a5 h5 a6 h6 x2 x4 x5 x6 k _ 0 p l
  | 1 => exact addV_later i a2 h2 a4 h4 a5 h5 a6 h6 x2 x4 x5 x6 k _ 1 p l
  | 2 => exact addV_later i a2 h2 a4 h4 a5 h5 a6 h6 x2 x4 x5 x6 k _ 2 p l
  | 3 => exact addV_later i a2 h2 a4 h4 a5 h5 a6 h6 x2 x4 x5 x6 k _ 3 p l

theorem laterPieces_read (f : BufTy.Contents (Elt Ideal) a9.view.ty) (o : Fin 8) (r : Fin 512) (h : Fin 4) (l : Fin 128) :
    a9.view.read (Elt Ideal) (a9.view.writes (Elt Ideal) f (laterPieces i a2 h2 a3 h3 a4 h4 a5 h5 a6 h6 x2 x3 x4 x5 x6 k (later i k a9 f))) (ix2 (rowAt o r) (lane h l))
      = (a9.view.read (Elt Ideal) f (ix2 (rowAt o r) (lane h l)) + (if o = tileOf i k then dqT (own i) x2 x3 x4 x5 x6 h o r l else 0) : EReal) := by
  unfold laterPieces
  rw [read_four a9 f _ _ _ _ _ _ _ _ [] (tileOf i k) (off9_eq i k) (off11_eq i k) (off13_eq i k) (off15_eq i k)]
  by_cases ho : o = tileOf i k
  · rw [if_pos ho, if_pos ho, ho, ← later_apply]
    match h with
    | 0 => exact addQ_later i a2 h2 a3 h3 a4 h4 a5 h5 a6 h6 x2 x3 x4 x5 x6 k _ 0 r l
    | 1 => exact addQ_later i a2 h2 a3 h3 a4 h4 a5 h5 a6 h6 x2 x3 x4 x5 x6 k _ 1 r l
    | 2 => exact addQ_later i a2 h2 a3 h3 a4 h4 a5 h5 a6 h6 x2 x3 x4 x5 x6 k _ 2 r l
    | 3 => exact addQ_later i a2 h2 a3 h3 a4 h4 a5 h5 a6 h6 x2 x3 x4 x5 x6 k _ 3 r l
  · rw [if_neg ho, if_neg ho, add_zero]; rfl

end Trip

/-- The carried key gradient before trip `n`. -/
theorem state_key (G : BufTy.Contents (Elt Ideal) a9.view.ty) (h : Fin 4) (p : Fin 512) (l : Fin 128) (n : ℕ) (hn : n ≤ (k0_t1_loop i).trips) :
    keyPart (state c i a2 h2 a3 h3 a4 h4 a5 h5 a6 h6 a7 h7 a8 h8 a9 h9 x2 x3 x4 x5 x6 G n).1 h (ix2 p l) = ∑ o : Fin 8, if o.val ≤ (own i).val + n then dkT (own i) x2 x3 x4 x5 x6 h o p l else 0 := by
  induction n with
  | zero =>
    rw [state_zero, ← sum_first (fun o => dkT (own i) x2 x3 x4 x5 x6 h o p l) (own i) fun o ho => dkT_before _ _ _ _ _ _ _ _ _ _ ho]
    match h with
    | 0 => exact startK_apply i a2 h2 a3 h3 a4 h4 a5 h5 a6 h6 x2 x3 x4 x5 x6 0 p l
    | 1 => exact startK_apply i a2 h2 a3 h3 a4 h4 a5 h5 a6 h6 x2 x3 x4 x5 x6 1 p l
    | 2 => exact startK_apply i a2 h2 a3 h3 a4 h4 a5 h5 a6 h6 x2 x3 x4 x5 x6 2 p l
    | 3 => exact startK_apply i a2 h2 a3 h3 a4 h4 a5 h5 a6 h6 x2 x3 x4 x5 x6 3 p l
  | succ n ih =>
    rw [state_succ c i a2 h2 a3 h3 a4 h4 a5 h5 a6 h6 a7 h7 a8 h8 a9 h9 x2 x3 x4 x5 x6 ⟨n, hn⟩ G, carried_key, ih (by omega)]
    exact (sum_step (fun o => dkT (own i) x2 x3 x4 x5 x6 h o p l) _ (tileOf i ⟨n, hn⟩) (by show (i 1).val + 1 + n = (i 1).val + n + 1; omega)).symm

/-- The carried value gradient before trip `n`. -/
theorem state_value (G : BufTy.Contents (Elt Ideal) a9.view.ty) (h : Fin 4) (p : Fin 512) (l : Fin 128) (n : ℕ) (hn : n ≤ (k0_t1_loop i).trips) :
    valuePart (state c i a2 h2 a3 h3 a4 h4 a5 h5 a6 h6 a7 h7 a8 h8 a9 h9 x2 x3 x4 x5 x6 G n).1 h (ix2 p l) = ∑ o : Fin 8, if o.val ≤ (own i).val + n then dvT (own i) x2 x4 x5 x6 h o p l else 0 := by
  induction n with
  | zero =>
    rw [state_zero, ← sum_first (fun o => dvT (own i) x2 x4 x5 x6 h o p l) (own i) fun o ho => dvT_before _ _ _ _ _ _ _ _ _ ho]
    match h with
    | 0 => exact startV_apply i a2 h2 a4 h4 a5 h5 a6 h6 x2 x4 x5 x6 0 p l
    | 1 => exact startV_apply i a2 h2 a4 h4 a5 h5 a6 h6 x2 x4 x5 x6 1 p l
    | 2 => exact startV_apply i a2 h2 a4 h4 a5 h5 a6 h6 x2 x4 x5 x6 2 p l
    | 3 => exact startV_apply i a2 h2 a4 h4 a5 h5 a6 h6 x2 x4 x5 x6 3 p l
  | succ n ih =>
    rw [state_succ c i a2 h2 a3 h3 a4 h4 a5 h5 a6 h6 a7 h7 a8 h8 a9 h9 x2 x3 x4 x5 x6 ⟨n, hn⟩ G, carried_value, ih (by omega)]
    exact (sum_step (fun o => dvT (own i) x2 x4 x5 x6 h o p l) _ (tileOf i ⟨n, hn⟩) (by show (i 1).val + 1 + n = (i 1).val + n + 1; omega)).symm

/-- The query gradient's buffer before trip `n`. -/
theorem state_query (G : BufTy.Contents (Elt Ideal) a9.view.ty) (o : Fin 8) (r : Fin 512) (h : Fin 4) (l : Fin 128) (n : ℕ) (hn : n ≤ (k0_t1_loop i).trips) :
    a9.view.read (Elt Ideal) (a9.view.writes (Elt Ideal) G (state c i a2 h2 a3 h3 a4 h4 a5 h5 a6 h6 a7 h7 a8 h8 a9 h9 x2 x3 x4 x5 x6 G n).2) (ix2 (rowAt o r) (lane h l))
      = (a9.view.read (Elt Ideal) G (ix2 (rowAt o r) (lane h l)) + (if (own i).val < o.val ∧ o.val ≤ (own i).val + n then dqT (own i) x2 x3 x4 x5 x6 h o r l else 0) : EReal) := by
  induction n with
  | zero =>
    rw [state_zero, if_neg (by omega), add_zero]; rfl
  | succ n ih =>
    have ht : (tileOf i ⟨n, hn⟩).val = (own i).val + n + 1 := by show (i 1).val + 1 + n = (i 1).val + n + 1; omega
    rw [state_succ c i a2 h2 a3 h3 a4 h4 a5 h5 a6 h6 a7 h7 a8 h8 a9 h9 x2 x3 x4 x5 x6 ⟨n, hn⟩ G]
    dsimp only
    rw [View.writes_append, laterPieces_read, ih (by omega), add_assoc]
    congr 1
    by_cases ho : o = tileOf i ⟨n, hn⟩
    · have ho' : o.val = (own i).val + n + 1 := by rw [ho, ht]
      rw [if_neg (by omega), if_pos ho, zero_add, if_pos (by omega)]
    · have ho' : o.val ≠ (own i).val + n + 1 := fun hh => ho (Fin.ext (hh.trans ht.symm))
      rw [if_neg ho, add_zero]
      by_cases h2 : (own i).val < o.val ∧ o.val ≤ (own i).val + n
      · rw [if_pos h2, if_pos (by omega)]
      · rw [if_neg h2, if_neg (by omega)]

theorem all_tiles (o : Fin 8) : o.val ≤ (own i).val + (k0_t1_loop i).trips := by
  rw [trips_eq]
  show o.val ≤ (i 1).val + (7 - (i 1).val)
  have := o.isLt
  omega

end Sums

end Cert.Kernel2Ideal.Fox
-- ==== Proof.Fox.First.lean ====
/- What the first grid point of a head group leaves in the attention backward kernel: the same stores after
a store of zeros into the query gradient. -/
module

public import proofs.«01_k».proof.Proof.Fox.Step

@[expose] public section

set_option maxRecDepth 8192

noncomputable section

namespace Cert.Kernel2Ideal.Fox

open Idealize.ShloMosaic Idealize.ShloMosaic.TcCoe Idealize.ShloMosaic.Tactic
open Cert.Kernel2Ideal.Gen

variable {F : FTy → Type} [FloatOps F] [Named F]

variable (c : Dev nD) (i : grid0.Coords)
  (a2 : Memref sig .tc .vmem S512x512 .bf16) (h2 : a2.IsWhole)
  (a3 : Memref sig .tc .vmem S512x512 .bf16) (h3 : a3.IsWhole)
  (a4 : Memref sig .tc .vmem S4096x512 .bf16) (h4 : a4.IsWhole)
  (a5 : Memref sig .tc .vmem S4096x512 .bf16) (h5 : a5.IsWhole)
  (a6 : Memref sig .tc .vmem S2x8x8x512 .f32) (h6 : a6.IsWhole)
  (a7 : Memref sig .tc .vmem S512x512 .f32) (h7 : a7.IsWhole)
  (a8 : Memref sig .tc .vmem S512x512 .f32) (h8 : a8.IsWhole)
  (a9 : Memref sig .tc .vmem S4096x512 .f32) (h9 : a9.IsWhole)
  (x2 x3 : Vec F S512x512 .bf16) (x4 x5 : Vec F S4096x512 .bf16) (x6 : Vec F S2x8x8x512 .f32)

attribute [local irreducible] st_k0_t1 st_k0_t2

section First

variable (hc : isFirst i)

/-- The store of zeros that opens a group. -/
def zeros : List (View.Piece (Elt F) S4096x512 .f32) :=
  [⟨Rect.unit (s := S4096x512) ![0, 0] S4096x512.size inb_S4096x512_S4096x512_0_0, k0_pay45⟩]

/-- The stores before the loop, at its group's first point, as each head adds its own. -/
def first0 : List (View.Piece (Elt F) S4096x512 .f32) :=
  ⟨Rect.unit (s := S4096x512) (k0_off1 i) S512x128.size (k0_off1_inb i),
    addQ (ownTile i a9 (a9.view.writes (Elt F) a9.view.junk zeros) 0) (ownS i a2 h2 a3 h3 a4 h4 a5 h5 a6 h6 x2 x3 x4 x5 x6 0) (staged a2 (h2.unread x2) 0)⟩ :: zeros

@[inherit_doc first0]
def first1 : List (View.Piece (Elt F) S4096x512 .f32) :=
  ⟨Rect.unit (s := S4096x512) (k0_off3 i) S512x128.size (k0_off3_inb i),
    addQ (ownTile i a9 (a9.view.writes (Elt F) a9.view.junk (first0 i a2 h2 a3 h3 a4 h4 a5 h5 a6 h6 a9 x2 x3 x4 x5 x6)) 1) (ownS i a2 h2 a3 h3 a4 h4 a5 h5 a6 h6 x2 x3 x4 x5 x6 1) (staged a2 (h2.unread x2) 1)⟩
      :: first0 i a2 h2 a3 h3 a4 h4 a5 h5 a6 h6 a9 x2 x3 x4 x5 x6

@[inherit_doc first0]
def first2 : List (View.Piece (Elt F) S4096x512 .f32) :=
  ⟨Rect.unit (s := S4096x512) (k0_off5 i) S512x128.size (k0_off5_inb i),
    addQ (ownTile i a9 (a9.view.writes (Elt F) a9.view.junk (first1 i a2 h2 a3 h3 a4 h4 a5 h5 a6 h6 a9 x2 x3 x4 x5 x6)) 2) (ownS i a2 h2 a3 h3 a4 h4 a5 h5 a6 h6 x2 x3 x4 x5 x6 2) (staged a2 (h2.unread x2) 2)⟩
      :: first1 i a2 h2 a3 h3 a4 h4 a5 h5 a6 h6 a9 x2 x3 x4 x5 x6

@[inherit_doc first0]
def first3 : List (View.Piece (Elt F) S4096x512 .f32) :=
  ⟨Rect.unit (s := S4096x512) (k0_off7 i) S512x128.size (k0_off7_inb i),
    addQ (ownTile i a9 (a9.view.writes (Elt F) a9.view.junk (first2 i a2 h2 a3 h3 a4 h4 a5 h5 a6 h6 a9 x2 x3 x4 x5 x6)) 3) (ownS i a2 h2 a3 h3 a4 h4 a5 h5 a6 h6 x2 x3 x4 x5 x6 3) (staged a2 (h2.unread x2) 3)⟩
      :: first2 i a2 h2 a3 h3 a4 h4 a5 h5 a6 h6 a9 x2 x3 x4 x5 x6

theorem runFirst_ka0 : runFirst.sl.r c a2 h2 x2 = staged a2 (h2.unread x2) 0 := rfl
theorem runFirst_va0 : runFirst.sl.r_4 c a3 h3 x3 = staged a3 (h3.unread x3) 0 := rfl
theorem runFirst_ka1 : runFirst.sl.r_1 c a2 h2 x2 = staged a2 (h2.unread x2) 1 := rfl
theorem runFirst_va1 : runFirst.sl.r_5 c a3 h3 x3 = staged a3 (h3.unread x3) 1 := rfl
theorem runFirst_ka2 : runFirst.sl.r_2 c a2 h2 x2 = staged a2 (h2.unread x2) 2 := rfl
theorem runFirst_va2 : runFirst.sl.r_6 c a3 h3 x3 = staged a3 (h3.unread x3) 2 := rfl
theorem runFirst_ka3 : runFirst.sl.r_3 c a2 h2 x2 = staged a2 (h2.unread x2) 3 := rfl
theorem runFirst_va3 : runFirst.sl.r_7 c a3 h3 x3 = staged a3 (h3.unread x3) 3 := rfl
theorem runFirst_row : runFirst.sl.v23 i = Scalar.muli (BitVec.ofNat 32 (i 1).val) 512#32 := rfl
theorem runFirst_lb : runFirst.sl.v145 i = Scalar.addi (BitVec.ofNat 32 (i 1).val) 1#32 := rfl
theorem runFirst_k0 : runFirst.sl.r_12 c i a2 h2 a3 h3 a4 h4 a5 h5 a6 h6 x2 x3 x4 x5 x6 = startK i a2 h2 a3 h3 a4 h4 a5 h5 a6 h6 x2 x3 x4 x5 x6 0 := rfl
theorem runFirst_v0 : runFirst.sl.r_11 c i a2 h2 a4 h4 a5 h5 a6 h6 x2 x4 x5 x6 = startV i a2 h2 a4 h4 a5 h5 a6 h6 x2 x4 x5 x6 0 := rfl
theorem runFirst_k1 : runFirst.sl.r_18 c i a2 h2 a3 h3 a4 h4 a5 h5 a6 h6 x2 x3 x4 x5 x6 = startK i a2 h2 a3 h3 a4 h4 a5 h5 a6 h6 x2 x3 x4 x5 x6 1 := rfl
theorem runFirst_v1 : runFirst.sl.r_17 c i a2 h2 a4 h4 a5 h5 a6 h6 x2 x4 x5 x6 = startV i a2 h2 a4 h4 a5 h5 a6 h6 x2 x4 x5 x6 1 := rfl
theorem runFirst_k2 : runFirst.sl.r_20 c i a2 h2 a3 h3 a4 h4 a5 h5 a6 h6 x2 x3 x4 x5 x6 = startK i a2 h2 a3 h3 a4 h4 a5 h5 a6 h6 x2 x3 x4 x5 x6 2 := rfl
theorem runFirst_v2 : runFirst.sl.r_19 c i a2 h2 a4 h4 a5 h5 a6 h6 x2 x4 x5 x6 = startV i a2 h2 a4 h4 a5 h5 a6 h6 x2 x4 x5 x6 2 := rfl
theorem runFirst_first2 : runFirst.sl.H9_4 c i a2 h2 a3 h3 a4 h4 a5 h5 a6 h6 a9 x2 x3 x4 x5 x6 = first2 i a2 h2 a3 h3 a4 h4 a5 h5 a6 h6 a9 x2 x3 x4 x5 x6 := rfl
theorem runFirst_old3 : runFirst.sl.v139 c i a2 h2 a3 h3 a4 h4 a5 h5 a6 h6 a9 x2 x3 x4 x5 x6 = ownTile i a9 (a9.view.writes (Elt F) a9.view.junk (first2 i a2 h2 a3 h3 a4 h4 a5 h5 a6 h6 a9 x2 x3 x4 x5 x6)) 3 := rfl
theorem runFirst_first3 : ⟨Rect.unit (s := S4096x512) (k0_off7 i) S512x128.size (k0_off7_inb i), addQ (ownTile i a9 (a9.view.writes (Elt F) a9.view.junk (first2 i a2 h2 a3 h3 a4 h4 a5 h5 a6 h6 a9 x2 x3 x4 x5 x6)) 3) (ownS i a2 h2 a3 h3 a4 h4 a5 h5 a6 h6 x2 x3 x4 x5 x6 3) (staged a2 (h2.unread x2) 3)⟩ :: first2 i a2 h2 a3 h3 a4 h4 a5 h5 a6 h6 a9 x2 x3 x4 x5 x6 = first3 i a2 h2 a3 h3 a4 h4 a5 h5 a6 h6 a9 x2 x3 x4 x5 x6 := rfl

theorem runFirst_end0 : runFirst.sl.r_21 c i a2 h2 a3 h3 a4 h4 a5 h5 a6 h6 a7 h7 a8 h8 a9 h9 x2 x3 x4 x5 x6 =
    (state c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) (k0_t1_loop i).trips).1.1 := by
  delta runFirst.sl.r_21
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]

theorem runFirst_end1 : runFirst.sl.r_22 c i a2 h2 a3 h3 a4 h4 a5 h5 a6 h6 a7 h7 a8 h8 a9 h9 x2 x3 x4 x5 x6 =
    (state c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) (k0_t1_loop i).trips).1.2.1 := by
  delta runFirst.sl.r_22
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]

theorem runFirst_end2 : runFirst.sl.r_23 c i a2 h2 a3 h3 a4 h4 a5 h5 a6 h6 a7 h7 a8 h8 a9 h9 x2 x3 x4 x5 x6 =
    (state c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) (k0_t1_loop i).trips).1.2.2.1 := by
  delta runFirst.sl.r_23
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]

theorem runFirst_end3 : runFirst.sl.r_24 c i a2 h2 a3 h3 a4 h4 a5 h5 a6 h6 a7 h7 a8 h8 a9 h9 x2 x3 x4 x5 x6 =
    (state c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) (k0_t1_loop i).trips).1.2.2.2.1 := by
  delta runFirst.sl.r_24
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]

theorem runFirst_end4 : runFirst.sl.r_25 c i a2 h2 a3 h3 a4 h4 a5 h5 a6 h6 a7 h7 a8 h8 a9 h9 x2 x3 x4 x5 x6 =
    (state c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) (k0_t1_loop i).trips).1.2.2.2.2.1 := by
  delta runFirst.sl.r_25
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]

theorem runFirst_end5 : runFirst.sl.r_26 c i a2 h2 a3 h3 a4 h4 a5 h5 a6 h6 a7 h7 a8 h8 a9 h9 x2 x3 x4 x5 x6 =
    (state c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) (k0_t1_loop i).trips).1.2.2.2.2.2.1 := by
  delta runFirst.sl.r_26
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]

theorem runFirst_end6 : runFirst.sl.r_27 c i a2 h2 a3 h3 a4 h4 a5 h5 a6 h6 a7 h7 a8 h8 a9 h9 x2 x3 x4 x5 x6 =
    (state c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) (k0_t1_loop i).trips).1.2.2.2.2.2.2.1 := by
  delta runFirst.sl.r_27
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]

theorem runFirst_end7 : runFirst.sl.r_28 c i a2 h2 a3 h3 a4 h4 a5 h5 a6 h6 a7 h7 a8 h8 a9 h9 x2 x3 x4 x5 x6 =
    (state c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) (k0_t1_loop i).trips).1.2.2.2.2.2.2.2 := by
  delta runFirst.sl.r_28
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]

theorem runFirst_7 : (runFirst c i a2 h2 a3 h3 a4 h4 a5 h5 a6 h6 a7 h7 a8 h8 a9 h9 x2 x3 x4 x5 x6 hc).1 =
    stores7 c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) := by
  delta runFirst
  simp (config := {proj := false}) only [pair_fst, pair_snd, subtype_val]
  rw [runFirst_end6, runFirst_end4, runFirst_end2, runFirst_end0]
  rfl

theorem runFirst_8 : (runFirst c i a2 h2 a3 h3 a4 h4 a5 h5 a6 h6 a7 h7 a8 h8 a9 h9 x2 x3 x4 x5 x6 hc).2.1 =
    stores8 c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) := by
  delta runFirst
  simp (config := {proj := false}) only [pair_fst, pair_snd, subtype_val]
  rw [runFirst_end7, runFirst_end5, runFirst_end3, runFirst_end1]
  rfl

theorem runFirst_9 : (runFirst c i a2 h2 a3 h3 a4 h4 a5 h5 a6 h6 a7 h7 a8 h8 a9 h9 x2 x3 x4 x5 x6 hc).2.2.1 =
    stores9 c i a2 h2 a3 h3 a4 h4 a5 h5 a6 h6 a7 h7 a8 h8 a9 h9 x2 x3 x4 x5 x6 (a9.view.writes (Elt F) a9.view.junk (first3 i a2 h2 a3 h3 a4 h4 a5 h5 a6 h6 a9 x2 x3 x4 x5 x6)) ++ first3 i a2 h2 a3 h3 a4 h4 a5 h5 a6 h6 a9 x2 x3 x4 x5 x6 := by
  delta runFirst
  simp (config := {proj := false}) only [pair_fst, pair_snd, subtype_val]
  rw [runFirst_ka0, runFirst_va0, runFirst_ka1, runFirst_va1, runFirst_ka2, runFirst_va2, runFirst_ka3, runFirst_va3, runFirst_row, runFirst_lb, runFirst_k0, runFirst_v0, runFirst_k1, runFirst_v1, runFirst_k2, runFirst_v2, runNext_k3, runNext_v3, runNext_q3, runFirst_old3, runFirst_first2, runFirst_first3, state_fold, rest_none]
  rfl

end First

end Cert.Kernel2Ideal.Fox
-- ==== Proof.Fox.Point.lean ====
/- What one grid point of the attention backward kernel leaves, entry by entry. -/
module

public import proofs.«01_k».proof.Proof.Fox.Loop
public import proofs.«01_k».proof.Proof.Fox.First
public import proofs.«01_k».proof.Proof.Pieces

@[expose] public section

set_option maxRecDepth 8192

noncomputable section

namespace Cert.Kernel2Ideal.Fox

open Idealize.ShloMosaic Idealize.ShloMosaic.TcCoe Idealize.ShloMosaic.Tactic
open Cert.Kernel2Ideal.Gen

/-- A result tile after a store of one column block. -/
theorem canon_block (g : Fin 4) {o : ℕ} (ho : o = 128 * g.val) (inb : ∀ a, (![0, o] : Fin 2 → ℕ) a + (![512, 128] : Fin 2 → ℕ) a ≤ (⟨2, ![512, 512]⟩ : Shape).size a)
    (w : FVec Ideal S512x128 .f32) (L : List (View.Piece (Elt Ideal) S512x512 .f32)) (h : Fin 4) (p : Fin 512) (l : Fin 128) :
    (View.canon (⟨Rect.unit (s := S512x512) ![0, o] S512x128.size inb, w⟩ :: L) : S512x512.Idx → Elt Ideal .f32) (ix2 p (lane h l))
      = if h = g then w (ix2 p l) else (View.canon L : S512x512.Idx → Elt Ideal .f32) (ix2 p (lane h l)) := by
  have hl := l.isLt
  have hv : (lane h l).val = 128 * h.val + l.val := rfl
  refine (Cert.Pieces.canon_cols (R := 512) (C := 512) (o := o) (n := 128) (Val := Elt Ideal) (e := .f32) inb w L p (lane h l)).trans ?_
  by_cases hg : h = g
  · subst hg
    rw [if_pos rfl, dif_pos (by omega)]
    exact congrArg (fun y => w (ix2 p y)) (Fin.ext (by show (lane h l).val - o = l.val; omega))
  · have hg' : h.val ≠ g.val := fun e => hg (Fin.ext e)
    rw [if_neg hg, dif_neg (by omega)]

/-- A result tile stored in four column blocks. -/
theorem fourCols_apply (w0 w1 w2 w3 : FVec Ideal S512x128 .f32) (h : Fin 4) (p : Fin 512) (l : Fin 128) :
    (View.canon (fourCols w0 w1 w2 w3) : S512x512.Idx → Elt Ideal .f32) (ix2 p (lane h l)) = (![w0, w1, w2, w3] : Fin 4 → FVec Ideal S512x128 .f32) h (ix2 p l) := by
  unfold fourCols
  rw [canon_block 3 (by decide), canon_block 2 (by decide), canon_block 1 (by decide), canon_block 0 (by decide)]
  match h with
  | 0 => rfl
  | 1 => rfl
  | 2 => rfl
  | 3 => rfl

variable (c : Dev nD) (i : grid0.Coords)
  (a2 : Memref sig .tc .vmem S512x512 .bf16) (h2 : a2.IsWhole)
  (a3 : Memref sig .tc .vmem S512x512 .bf16) (h3 : a3.IsWhole)
  (a4 : Memref sig .tc .vmem S4096x512 .bf16) (h4 : a4.IsWhole)
  (a5 : Memref sig .tc .vmem S4096x512 .bf16) (h5 : a5.IsWhole)
  (a6 : Memref sig .tc .vmem S2x8x8x512 .f32) (h6 : a6.IsWhole)
  (a7 : Memref sig .tc .vmem S512x512 .f32) (h7 : a7.IsWhole)
  (a8 : Memref sig .tc .vmem S512x512 .f32) (h8 : a8.IsWhole)
  (a9 : Memref sig .tc .vmem S4096x512 .f32) (h9 : a9.IsWhole)
  (x2 x3 : Vec Ideal S512x512 .bf16) (x4 x5 : Vec Ideal S4096x512 .bf16) (x6 : Vec Ideal S2x8x8x512 .f32)

theorem stores7_apply (G : BufTy.Contents (Elt Ideal) a9.view.ty) (h : Fin 4) (p : Fin 512) (l : Fin 128) :
    (View.canon (stores7 c i a2 h2 a3 h3 a4 h4 a5 h5 a6 h6 a7 h7 a8 h8 a9 h9 x2 x3 x4 x5 x6 G) : S512x512.Idx → Elt Ideal .f32) (ix2 p (lane h l)) = ∑ o : Fin 8, dkT (own i) x2 x3 x4 x5 x6 h o p l := by
  refine (fourCols_apply _ _ _ _ h p l).trans ?_
  refine (state_key c i a2 h2 a3 h3 a4 h4 a5 h5 a6 h6 a7 h7 a8 h8 a9 h9 x2 x3 x4 x5 x6 G h p l (k0_t1_loop i).trips (Nat.le_refl _)).trans ?_
  exact Finset.sum_congr rfl fun o _ => if_pos (all_tiles i o)

theorem stores8_apply (G : BufTy.Contents (Elt Ideal) a9.view.ty) (h : Fin 4) (p : Fin 512) (l : Fin 128) :
    (View.canon (stores8 c i a2 h2 a3 h3 a4 h4 a5 h5 a6 h6 a7 h7 a8 h8 a9 h9 x2 x3 x4 x5 x6 G) : S512x512.Idx → Elt Ideal .f32) (ix2 p (lane h l)) = ∑ o : Fin 8, dvT (own i) x2 x4 x5 x6 h o p l := by
  refine (fourCols_apply _ _ _ _ h p l).trans ?_
  refine (state_value c i a2 h2 a3 h3 a4 h4 a5 h5 a6 h6 a7 h7 a8 h8 a9 h9 x2 x3 x4 x5 x6 G h p l (k0_t1_loop i).trips (Nat.le_refl _)).trans ?_
  exact Finset.sum_congr rfl fun o _ => if_pos (all_tiles i o)

/-- The query gradient's buffer after the loop, over what it held before the point's own tile. -/
theorem stores9_apply (G : BufTy.Contents (Elt Ideal) a9.view.ty) (x : EReal) (o : Fin 8) (r : Fin 512) (h : Fin 4) (l : Fin 128)
    (hG : a9.view.read (Elt Ideal) G (ix2 (rowAt o r) (lane h l)) = (x + (if o.val ≤ (own i).val then dqT (own i) x2 x3 x4 x5 x6 h o r l else 0) : EReal)) :
    a9.view.read (Elt Ideal) (a9.view.writes (Elt Ideal) G (stores9 c i a2 h2 a3 h3 a4 h4 a5 h5 a6 h6 a7 h7 a8 h8 a9 h9 x2 x3 x4 x5 x6 G)) (ix2 (rowAt o r) (lane h l))
      = (x + dqT (own i) x2 x3 x4 x5 x6 h o r l : EReal) := by
  refine (state_query c i a2 h2 a3 h3 a4 h4 a5 h5 a6 h6 a7 h7 a8 h8 a9 h9 x2 x3 x4 x5 x6 G o r h l (k0_t1_loop i).trips (Nat.le_refl _)).trans ?_
  rw [hG, add_assoc]
  have := all_tiles i o
  by_cases ho : o.val ≤ (own i).val
  · rw [if_pos ho, if_neg (by omega), add_zero]
  · rw [if_neg ho, if_pos (by omega), zero_add]

section Next

variable (hc : ¬ isFirst i) (x9 : Vec Ideal S4096x512 .f32)

theorem next_key (h : Fin 4) (p : Fin 512) (l : Fin 128) :
    (View.canon (runNext c i a2 h2 a3 h3 a4 h4 a5 h5 a6 h6 a7 h7 a8 h8 a9 h9 x2 x3 x4 x5 x6 hc x9).1 : S512x512.Idx → Elt Ideal .f32) (ix2 p (lane h l)) = ∑ o : Fin 8, dkT (own i) x2 x3 x4 x5 x6 h o p l := by
  rw [runNext_7]; exact stores7_apply c i a2 h2 a3 h3 a4 h4 a5 h5 a6 h6 a7 h7 a8 h8 a9 h9 x2 x3 x4 x5 x6 _ h p l

theorem next_value (h : Fin 4) (p : Fin 512) (l : Fin 128) :
    (View.canon (runNext c i a2 h2 a3 h3 a4 h4 a5 h5 a6 h6 a7 h7 a8 h8 a9 h9 x2 x3 x4 x5 x6 hc x9).2.1 : S512x512.Idx → Elt Ideal .f32) (ix2 p (lane h l)) = ∑ o : Fin 8, dvT (own i) x2 x4 x5 x6 h o p l := by
  rw [runNext_8]; exact stores8_apply c i a2 h2 a3 h3 a4 h4 a5 h5 a6 h6 a7 h7 a8 h8 a9 h9 x2 x3 x4 x5 x6 _ h p l

theorem next_query (o : Fin 8) (r : Fin 512) (h : Fin 4) (l : Fin 128) :
    a9.view.read (Elt Ideal) (a9.view.writes (Elt Ideal) (h9.unread x9) (runNext c i a2 h2 a3 h3 a4 h4 a5 h5 a6 h6 a7 h7 a8 h8 a9 h9 x2 x3 x4 x5 x6 hc x9).2.2.1) (ix2 (rowAt o r) (lane h l))
      = (x9 (ix2 (rowAt o r) (lane h l)) + dqT (own i) x2 x3 x4 x5 x6 h o r l : EReal) := by
  rw [runNext_9, View.writes_append]
  refine stores9_apply c i a2 h2 a3 h3 a4 h4 a5 h5 a6 h6 a7 h7 a8 h8 a9 h9 x2 x3 x4 x5 x6 _ _ o r h l ?_
  refine (ownPieces_read i a2 h2 a3 h3 a4 h4 a5 h5 a6 h6 x2 x3 x4 x5 x6 a9 (h9.unread x9) _ (fun h r l => ownTile_apply i a9 _ h r l) o r h l).trans ?_
  rw [h9.read_unread]

end Next

section First

variable (hc : isFirst i)

theorem first_key (h : Fin 4) (p : Fin 512) (l : Fin 128) :
    (View.canon (runFirst c i a2 h2 a3 h3 a4 h4 a5 h5 a6 h6 a7 h7 a8 h8 a9 h9 x2 x3 x4 x5 x6 hc).1 : S512x512.Idx → Elt Ideal .f32) (ix2 p (lane h l)) = ∑ o : Fin 8, dkT (own i) x2 x3 x4 x5 x6 h o p l := by
  rw [runFirst_7]; exact stores7_apply c i a2 h2 a3 h3 a4 h4 a5 h5 a6 h6 a7 h7 a8 h8 a9 h9 x2 x3 x4 x5 x6 _ h p l

theorem first_value (h : Fin 4) (p : Fin 512) (l : Fin 128) :
    (View.canon (runFirst c i a2 h2 a3 h3 a4 h4 a5 h5 a6 h6 a7 h7 a8 h8 a9 h9 x2 x3 x4 x5 x6 hc).2.1 : S512x512.Idx → Elt Ideal .f32) (ix2 p (lane h l)) = ∑ o : Fin 8, dvT (own i) x2 x4 x5 x6 h o p l := by
  rw [runFirst_8]; exact stores8_apply c i a2 h2 a3 h3 a4 h4 a5 h5 a6 h6 a7 h7 a8 h8 a9 h9 x2 x3 x4 x5 x6 _ h p l

theorem zeros_read (y : S4096x512.Idx) : a9.view.read (Elt Ideal) (a9.view.writes (Elt Ideal) a9.view.junk zeros) y = (0 : EReal) := by
  unfold zeros
  refine (View.read_writes_cons_unit_of_mem (Val := Elt Ideal) a9.view a9.view.junk inb_S4096x512_S4096x512_0_0 (k0_pay45 (F := Ideal)) [] y y (off' := ![0, 0]) rfl fun x => ?_).trans ?_
  · match x with
    | ⟨0, _⟩ => exact (Nat.zero_add _).symm
    | ⟨1, _⟩ => exact (Nat.zero_add _).symm
  · pointwise [k0_pay45]

/-- One more head's store onto those of the heads before it. -/
theorem first_step (L : List (View.Piece (Elt Ideal) S4096x512 .f32)) (g : Fin 4) {off : Fin 2 → ℕ}
    (inb : ∀ x, off x + S512x128.size x ≤ S4096x512.size x) (heq : off = ![512 * (own i).val, 128 * g.val])
    (hL : ∀ o r h l, a9.view.read (Elt Ideal) (a9.view.writes (Elt Ideal) a9.view.junk L) (ix2 (rowAt o r) (lane h l))
      = if o = own i ∧ h.val < g.val then dqT (own i) x2 x3 x4 x5 x6 h o r l else (0 : EReal)) (o : Fin 8) (r : Fin 512) (h : Fin 4) (l : Fin 128) :
    a9.view.read (Elt Ideal) (a9.view.writes (Elt Ideal) a9.view.junk (⟨Rect.unit (s := S4096x512) off S512x128.size inb,
        addQ (ownTile i a9 (a9.view.writes (Elt Ideal) a9.view.junk L) g) (ownS i a2 h2 a3 h3 a4 h4 a5 h5 a6 h6 x2 x3 x4 x5 x6 g) (staged a2 (h2.unread x2) g)⟩ :: L)) (ix2 (rowAt o r) (lane h l))
      = if o = own i ∧ h.val < g.val + 1 then dqT (own i) x2 x3 x4 x5 x6 h o r l else (0 : EReal) := by
  rw [read_piece a9 _ inb _ L (own i) g heq]
  by_cases hh : o = own i ∧ h = g
  · obtain ⟨rfl, rfl⟩ := hh
    rw [if_pos ⟨rfl, rfl⟩, if_pos ⟨rfl, by omega⟩]
    refine (addQ_tile (own i) x2 x3 x4 x5 x6 _ _ _ h (own i) (fun k q => ownS_apply i a2 h2 a3 h3 a4 h4 a5 h5 a6 h6 x2 x3 x4 x5 x6 h k q) (fun k l => staged_apply a2 h2 x2 h k l) r l).trans ?_
    rw [ownTile_apply, hL, if_neg (by omega), zero_add]
  · rw [if_neg hh, hL]
    by_cases ho : o = own i
    · have hne : h.val ≠ g.val := fun e => hh ⟨ho, Fin.ext e⟩
      by_cases hlt : h.val < g.val
      · rw [if_pos ⟨ho, hlt⟩, if_pos ⟨ho, by omega⟩]
      · rw [if_neg (fun e => hlt e.2), if_neg (fun e => by have := e.2; omega)]
    · rw [if_neg (fun e => ho e.1), if_neg (fun e => ho e.1)]

theorem first3_read (o : Fin 8) (r : Fin 512) (h : Fin 4) (l : Fin 128) :
    a9.view.read (Elt Ideal) (a9.view.writes (Elt Ideal) a9.view.junk (first3 i a2 h2 a3 h3 a4 h4 a5 h5 a6 h6 a9 x2 x3 x4 x5 x6)) (ix2 (rowAt o r) (lane h l))
      = (0 + (if o.val ≤ (own i).val then dqT (own i) x2 x3 x4 x5 x6 h o r l else 0) : EReal) := by
  have s0 := first_step i a2 h2 a3 h3 a4 h4 a5 h5 a6 h6 a9 x2 x3 x4 x5 x6 zeros 0 (k0_off1_inb i) (off1_eq i) (fun o r h l => by
    rw [if_neg (fun e => absurd e.2 (Nat.not_lt_zero _))]; exact zeros_read a9 _)
  have s1 := first_step i a2 h2 a3 h3 a4 h4 a5 h5 a6 h6 a9 x2 x3 x4 x5 x6 (first0 i a2 h2 a3 h3 a4 h4 a5 h5 a6 h6 a9 x2 x3 x4 x5 x6) 1 (k0_off3_inb i) (off3_eq i) s0
  have s2 := first_step i a2 h2 a3 h3 a4 h4 a5 h5 a6 h6 a9 x2 x3 x4 x5 x6 (first1 i a2 h2 a3 h3 a4 h4 a5 h5 a6 h6 a9 x2 x3 x4 x5 x6) 2 (k0_off5_inb i) (off5_eq i) s1
  have s3 := first_step i a2 h2 a3 h3 a4 h4 a5 h5 a6 h6 a9 x2 x3 x4 x5 x6 (first2 i a2 h2 a3 h3 a4 h4 a5 h5 a6 h6 a9 x2 x3 x4 x5 x6) 3 (k0_off7_inb i) (off7_eq i) s2
  refine (s3 o r h l).trans ?_
  rw [zero_add]
  have hh := h.isLt
  by_cases ho : o = own i
  · rw [if_pos ⟨ho, hh⟩, if_pos (by rw [ho])]
  · have ho' : o.val ≠ (own i).val := fun e => ho (Fin.ext e)
    rw [if_neg (fun e => ho e.1)]
    by_cases hlt : o.val ≤ (own i).val
    · rw [if_pos hlt, dqT_before _ _ _ _ _ _ _ _ _ _ (by omega)]
    · rw [if_neg hlt]

theorem first_query (o : Fin 8) (r : Fin 512) (h : Fin 4) (l : Fin 128) :
    (View.canon (runFirst c i a2 h2 a3 h3 a4 h4 a5 h5 a6 h6 a7 h7 a8 h8 a9 h9 x2 x3 x4 x5 x6 hc).2.2.1 : S4096x512.Idx → Elt Ideal .f32) (ix2 (rowAt o r) (lane h l)) = dqT (own i) x2 x3 x4 x5 x6 h o r l := by
  rw [← View.read_writes_junk_eq_canon a9.view, runFirst_9, View.writes_append]
  refine (stores9_apply c i a2 h2 a3 h3 a4 h4 a5 h5 a6 h6 a7 h7 a8 h8 a9 h9 x2 x3 x4 x5 x6 _ 0 o r h l (first3_read i a2 h2 a3 h3 a4 h4 a5 h5 a6 h6 a9 x2 x3 x4 x5 x6 o r h l)).trans ?_
  rw [zero_add]

end First

end Cert.Kernel2Ideal.Fox
-- ==== Proof.Fox.Frame.lean ====
/- The frame of the attention backward kernel: it stops, and leaves its arguments as they were.

What every grid point leaves in each result is read off the run of that point (`Proof/Fox/Run.lean`): the tile's key
and value gradients whole, and the query gradient over what the point before left. -/
module

public import proofs.«01_k».proof.Proof.Fox.Run

@[expose] public section

set_option maxRecDepth 8192

noncomputable section

namespace Cert.Kernel2Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel2Ideal.Gen

variable {F : FTy → Type} [FloatOps F] [Named F]

local notation "𝕄" => MT nD τ sig Unit (Elt F) ℕ (UR sig nD τ) ℕ

section Covers

variable (c : Dev nD) (i : grid0.Coords)
  (a2 : Memref sig .tc .vmem S512x512 .bf16) (h2 : a2.IsWhole)
  (a3 : Memref sig .tc .vmem S512x512 .bf16) (h3 : a3.IsWhole)
  (a4 : Memref sig .tc .vmem S4096x512 .bf16) (h4 : a4.IsWhole)
  (a5 : Memref sig .tc .vmem S4096x512 .bf16) (h5 : a5.IsWhole)
  (a6 : Memref sig .tc .vmem S2x8x8x512 .f32) (h6 : a6.IsWhole)
  (a7 : Memref sig .tc .vmem S512x512 .f32) (h7 : a7.IsWhole)
  (a8 : Memref sig .tc .vmem S512x512 .f32) (h8 : a8.IsWhole)
  (a9 : Memref sig .tc .vmem S4096x512 .f32) (h9 : a9.IsWhole)
  (x2 x3 : Vec F S512x512 .bf16) (x4 x5 : Vec F S4096x512 .bf16) (x6 : Vec F S2x8x8x512 .f32)

theorem first_covers7 (hc : isFirst i) (y : S512x512.Idx) : ∃ p ∈ (runFirst c i a2 h2 a3 h3 a4 h4 a5 h5 a6 h6 a7 h7 a8 h8 a9 h9 x2 x3 x4 x5 x6 hc).1, y ∈ p.1.set :=
  View.cover_of_tiledL (runFirst c i a2 h2 a3 h3 a4 h4 a5 h5 a6 h6 a7 h7 a8 h8 a9 h9 x2 x3 x4 x5 x6 hc).1 S512x128.size (by sl_kernel_rfl) y

theorem first_covers8 (hc : isFirst i) (y : S512x512.Idx) : ∃ p ∈ (runFirst c i a2 h2 a3 h3 a4 h4 a5 h5 a6 h6 a7 h7 a8 h8 a9 h9 x2 x3 x4 x5 x6 hc).2.1, y ∈ p.1.set :=
  View.cover_of_tiledL (runFirst c i a2 h2 a3 h3 a4 h4 a5 h5 a6 h6 a7 h7 a8 h8 a9 h9 x2 x3 x4 x5 x6 hc).2.1 S512x128.size (by sl_kernel_rfl) y

theorem next_covers7 (hc : ¬ isFirst i) (x9 : Vec F S4096x512 .f32) (y : S512x512.Idx) :
    ∃ p ∈ (runNext c i a2 h2 a3 h3 a4 h4 a5 h5 a6 h6 a7 h7 a8 h8 a9 h9 x2 x3 x4 x5 x6 hc x9).1, y ∈ p.1.set :=
  View.cover_of_tiledL (runNext c i a2 h2 a3 h3 a4 h4 a5 h5 a6 h6 a7 h7 a8 h8 a9 h9 x2 x3 x4 x5 x6 hc x9).1 S512x128.size (by sl_kernel_rfl) y

theorem next_covers8 (hc : ¬ isFirst i) (x9 : Vec F S4096x512 .f32) (y : S512x512.Idx) :
    ∃ p ∈ (runNext c i a2 h2 a3 h3 a4 h4 a5 h5 a6 h6 a7 h7 a8 h8 a9 h9 x2 x3 x4 x5 x6 hc x9).2.1, y ∈ p.1.set :=
  View.cover_of_tiledL (runNext c i a2 h2 a3 h3 a4 h4 a5 h5 a6 h6 a7 h7 a8 h8 a9 h9 x2 x3 x4 x5 x6 hc x9).2.1 S512x128.size (by sl_kernel_rfl) y

/-- The zeros stored first cover the query gradient. -/
theorem first_covers9 (hc : isFirst i) (y : S4096x512.Idx) : ∃ p ∈ (runFirst c i a2 h2 a3 h3 a4 h4 a5 h5 a6 h6 a7 h7 a8 h8 a9 h9 x2 x3 x4 x5 x6 hc).2.2.1, y ∈ p.1.set :=
  ⟨⟨Rect.unit (s := S4096x512) ![0, 0] S4096x512.size inb_S4096x512_S4096x512_0_0, k0_pay45⟩,
    by
      delta runFirst; dsimp only
      refine List.mem_append_right _ (List.mem_append_right _ (List.mem_cons_of_mem _ ?_))
      exact List.Mem.tail _ (.tail _ (.tail _ (.head _))), by
      refine (Rect.mem_set_unit (inb := inb_S4096x512_S4096x512_0_0)).mpr fun a => ?_
      fin_cases a
      · exact ⟨Nat.zero_le _, lt_of_lt_of_eq (y 0).isLt (Nat.zero_add _).symm⟩
      · exact ⟨Nat.zero_le _, lt_of_lt_of_eq (y 1).isLt (Nat.zero_add _).symm⟩⟩

theorem first_read7 (hc : isFirst i) (f) : a7.view.read (Elt F) (a7.view.writes (Elt F) f (runFirst c i a2 h2 a3 h3 a4 h4 a5 h5 a6 h6 a7 h7 a8 h8 a9 h9 x2 x3 x4 x5 x6 hc).1)
    = View.canon (runFirst c i a2 h2 a3 h3 a4 h4 a5 h5 a6 h6 a7 h7 a8 h8 a9 h9 x2 x3 x4 x5 x6 hc).1 := View.read_writes_eq_canon _ _ _ (first_covers7 c i a2 h2 a3 h3 a4 h4 a5 h5 a6 h6 a7 h7 a8 h8 a9 h9 x2 x3 x4 x5 x6 hc)

theorem first_read8 (hc : isFirst i) (f) : a8.view.read (Elt F) (a8.view.writes (Elt F) f (runFirst c i a2 h2 a3 h3 a4 h4 a5 h5 a6 h6 a7 h7 a8 h8 a9 h9 x2 x3 x4 x5 x6 hc).2.1)
    = View.canon (runFirst c i a2 h2 a3 h3 a4 h4 a5 h5 a6 h6 a7 h7 a8 h8 a9 h9 x2 x3 x4 x5 x6 hc).2.1 := View.read_writes_eq_canon _ _ _ (first_covers8 c i a2 h2 a3 h3 a4 h4 a5 h5 a6 h6 a7 h7 a8 h8 a9 h9 x2 x3 x4 x5 x6 hc)

theorem first_read9 (hc : isFirst i) (f) : a9.view.read (Elt F) (a9.view.writes (Elt F) f (runFirst c i a2 h2 a3 h3 a4 h4 a5 h5 a6 h6 a7 h7 a8 h8 a9 h9 x2 x3 x4 x5 x6 hc).2.2.1)
    = View.canon (runFirst c i a2 h2 a3 h3 a4 h4 a5 h5 a6 h6 a7 h7 a8 h8 a9 h9 x2 x3 x4 x5 x6 hc).2.2.1 := View.read_writes_eq_canon _ _ _ (first_covers9 c i a2 h2 a3 h3 a4 h4 a5 h5 a6 h6 a7 h7 a8 h8 a9 h9 x2 x3 x4 x5 x6 hc)

theorem next_read7 (hc : ¬ isFirst i) (x9) (f) : a7.view.read (Elt F) (a7.view.writes (Elt F) f (runNext c i a2 h2 a3 h3 a4 h4 a5 h5 a6 h6 a7 h7 a8 h8 a9 h9 x2 x3 x4 x5 x6 hc x9).1)
    = View.canon (runNext c i a2 h2 a3 h3 a4 h4 a5 h5 a6 h6 a7 h7 a8 h8 a9 h9 x2 x3 x4 x5 x6 hc x9).1 := View.read_writes_eq_canon _ _ _ (next_covers7 c i a2 h2 a3 h3 a4 h4 a5 h5 a6 h6 a7 h7 a8 h8 a9 h9 x2 x3 x4 x5 x6 hc x9)

theorem next_read8 (hc : ¬ isFirst i) (x9) (f) : a8.view.read (Elt F) (a8.view.writes (Elt F) f (runNext c i a2 h2 a3 h3 a4 h4 a5 h5 a6 h6 a7 h7 a8 h8 a9 h9 x2 x3 x4 x5 x6 hc x9).2.1)
    = View.canon (runNext c i a2 h2 a3 h3 a4 h4 a5 h5 a6 h6 a7 h7 a8 h8 a9 h9 x2 x3 x4 x5 x6 hc x9).2.1 := View.read_writes_eq_canon _ _ _ (next_covers8 c i a2 h2 a3 h3 a4 h4 a5 h5 a6 h6 a7 h7 a8 h8 a9 h9 x2 x3 x4 x5 x6 hc x9)

end Covers

variable (m : (ℓ : Loc nD τ sig) → Buf (Elt F) ℓ) (ρ : Dev nD → PrngReg)

/-- The body's test, point by point. -/
theorem isFirst_iff (t : Fin cfg0.N) : isFirst (grid0.coords t) ↔ t.val % 8 = 0 := by
  have ht : t.val < 16 := Nat.lt_of_lt_of_eq t.isLt N_0
  have e : (grid0.coords t 1).val = t.val / 1 % 8 := Pipeline.Grid.coords_val t 1 (by decide) rfl
  simp only [isFirst, e]
  word_cmp

/-- What point `t` leaves in the three results, `x9` being what it finds in the query gradient. -/
def left (c : Dev nD) (t : Fin cfg0.N) (x9 : Vec F S4096x512 .f32) :
    Vec F S512x512 .f32 × Vec F S512x512 .f32 × Vec F S4096x512 .f32 :=
  if hc : isFirst (grid0.coords t) then
    let r := runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) hc
    (View.canon r.1, View.canon r.2.1, View.canon r.2.2.1)
  else
    let r := runNext c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) hc x9
    (View.canon r.1, View.canon r.2.1, (st0_7 t).view.read (Elt F) ((st0_7 t).view.writes (Elt F) ((hstage0_7 ((cfg0.slots t 7).cast nbuf0_7)).unread x9) r.2.2.1))

/-- The results after point `n`: each point over what the one before it left. -/
def outs (c : Dev nD) : (n : ℕ) → n < cfg0.N → Vec F S512x512 .f32 × Vec F S512x512 .f32 × Vec F S4096x512 .f32
  | 0, hn => left m c ⟨0, hn⟩ k0_pay45
  | n + 1, hn => left m c ⟨n + 1, hn⟩ (outs c n (Nat.lt_of_succ_lt hn)).2.2

/-- The same at a point that is not the first. -/
theorem outs_next (c : Dev nD) (t : Fin cfg0.N) (h : t.val % 8 ≠ 0) :
    outs m c t.val t.isLt = left m c t (outs m c (t.val - 1) (Nat.lt_of_le_of_lt (Nat.sub_le _ _) t.isLt)).2.2 := by
  obtain ⟨n, hn⟩ := t
  cases n with
  | zero => exact absurd rfl h
  | succ n => rfl

/-- At the first point of a group nothing depends on what it finds. -/
theorem outs_first (c : Dev nD) (t : Fin cfg0.N) (h : t.val % 8 = 0) : outs m c t.val t.isLt = left m c t k0_pay45 := by
  obtain ⟨n, hn⟩ := t
  cases n with
  | zero => rfl
  | succ n =>
    have hc := (isFirst_iff ⟨n + 1, hn⟩).mpr h
    show left m c _ _ = left m c _ _
    unfold left; rw [dif_pos hc, dif_pos hc]

/-- The pipeline's data: the arrays as the region finds them, every operand's block in place, the results at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
    | ⟨6, _⟩ => (outs m c t.val t.isLt).2.1
    | ⟨7, _⟩ => (outs m c t.val t.isLt).2.2
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outs m c t.val t.isLt).1 := by dsimp only [dats]
theorem after_6 (c : Dev nD) (t : Fin cfg0.N) : (dats m 0 c).after 6 t = (outs m c t.val t.isLt).2.1 := by dsimp only [dats]
theorem after_7 (c : Dev nD) (t : Fin cfg0.N) : (dats m 0 c).after 7 t = (outs m c t.val t.isLt).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The query gradient's buffer is carried from point to point of a group. -/
theorem before_7 (c : Dev nD) (t : Fin cfg0.N) (h : t.val % 8 ≠ 0) (d) :
    (dats m 0 c).before 7 t d = (outs m c (t.val - 1) (Nat.lt_of_le_of_lt (Nat.sub_le _ _) t.isLt)).2.2 := by
  have hN : t.val < 16 := Nat.lt_of_lt_of_eq t.isLt N_0
  rw [Dat.before_out_kept _ 7 rfl t (by omega) (Bool.eq_false_iff.mpr fun h => by have := (flush0_7 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point. -/
theorem body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h : t.val % 8 = 0
  · have hc := (isFirst_iff t).mpr h
    rw [outs_first m c t h, left, dif_pos hc]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) hc).2.2.2 Set.univ _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    iintro ⟨⟨H0, H1, H2, H3, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact first_read7 _ _ _ _ _ _ _ _ _ _ _ _ _ _ _ _ _ _ _ _ _ _ _ _ _
    isplitl [H6]
    · unfold owns; iexists _; isplitr
      swap; · iexact H6
      ipureintro; exact first_read8 _ _ _ _ _ _ _ _ _ _ _ _ _ _ _ _ _ _ _ _ _ _ _ _ _
    unfold owns; iexists _; isplitr
    swap; · iexact H7
    ipureintro; exact first_read9 _ _ _ _ _ _ _ _ _ _ _ _ _ _ _ _ _ _ _ _ _ _ _ _ _

  · have hc := fun h' => h ((isFirst_iff t).mp h')
    rw [outs_next m c t h, left, dif_neg hc]; dsimp only
    simp only [before_7 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runNext c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) hc _).2.2.2 Set.univ _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexact H7
    iintro ⟨⟨H0, H1, H2, H3, H4⟩, ⟨%e5, H5⟩, ⟨%e6, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact next_read7 _ _ _ _ _ _ _ _ _ _ _ _ _ _ _ _ _ _ _ _ _ _ _ _ _ _
    isplitl [H6]
    · unfold owns; iexists _; isplitr
      swap; · iexact H6
      ipureintro; exact next_read8 _ _ _ _ _ _ _ _ _ _ _ _ _ _ _ _ _ _ _ _ _ _ _ _ _ _
    unfold owns; iexists _; isplitr
    swap; · iexact H7
    ipureintro; rfl

theorem bodyRow (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, bodyRow]
  exact triple_restated (body m c t) rfl .rfl fun _ => .rfl

set_option backward.isDefEq.respectTransparency.types false in
/-- The launch: every execution stops, with the arrays at what the data above says and the host lines after it run,
and every semaphore counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel2Ideal.Fox

end
-- ==== Proof.Fox.Blocks.lean ====
/- What each grid point of the attention backward kernel stages and leaves, at real arguments. -/
module

public import proofs.«01_k».proof.Proof.Fox.Values
public import proofs.«01_k».proof.Proof.Fox.Rows
public import proofs.«01_k».proof.Proof.Fox.Point
public import proofs.«01_k».proof.Proof.Fox.Frame

@[expose] public section

set_option maxRecDepth 16384

noncomputable section

namespace Cert.Kernel2Ideal.Fox

open Idealize.ShloMosaic Idealize.ShloMosaic.TcCoe Idealize.ShloMosaic.Tactic
open Cert.Kernel2Ideal Cert.Kernel2Ideal.Gen Cert.Attn Cert.Norm

theorem idx : ∀ t : Fin cfg0.N, win0_0.index t = ![t.val % 8, t.val / 8] ∧ win0_1.index t = ![t.val % 8, t.val / 8]
    ∧ win0_2.index t = ![0, t.val / 8] ∧ win0_3.index t = ![0, t.val / 8] ∧ win0_4.index t = ![t.val / 8, 0, 0, 0]
    ∧ win0_5.index t = ![t.val % 8, t.val / 8] ∧ win0_6.index t = ![t.val % 8, t.val / 8] ∧ win0_7.index t = ![0, t.val / 8] :=
  (by decide +kernel : ∀ t : Fin grid0.N, _)

/-- The key tile of point `t`, -/
def tile (t : Fin cfg0.N) : Fin 8 := ⟨t.val % 8, by omega⟩

/-- its head group, -/
def grp (t : Fin cfg0.N) : Fin 2 := ⟨t.val / 8, by have := Nat.lt_of_lt_of_eq t.isLt N_0; omega⟩

/-- and head `h` of a group, among all. -/
def hd (p : Fin 2) (h : Fin 4) : Fin 8 := ⟨4 * p.val + h.val, by omega⟩

theorem own_tile (t : Fin cfg0.N) : own (grid0.coords t) = tile t :=
  Fin.ext (show (grid0.coords t 1).val = t.val % 8 by
    have e : (grid0.coords t 1).val = t.val / 1 % 8 := Pipeline.Grid.coords_val t 1 (by decide) rfl
    rw [e, Nat.div_one])

variable (m : (ℓ : Loc nD τ sig) → Buf (Elt Ideal) ℓ) (c : Dev nD)

theorem blk_k (t : Fin cfg0.N) (k : Fin 512) (h : Fin 4) (l : Fin 128) :
    (iblk m c 0 t (ix2 k (lane h l)) : EReal) = V m c main_v74 (ix2 (rowAt (tile t) k) (col (hd (grp t) h) l)) := by
  blk_simp [iblk]; blk_ext [idx t, rowAt, lane, tile, col, hd, grp]
theorem blk_v (t : Fin cfg0.N) (k : Fin 512) (h : Fin 4) (l : Fin 128) :
    (iblk m c 1 t (ix2 k (lane h l)) : EReal) = V m c main_v90 (ix2 (rowAt (tile t) k) (col (hd (grp t) h) l)) := by
  blk_simp [iblk]; blk_ext [idx t, rowAt, lane, tile, col, hd, grp]
theorem blk_q (t : Fin cfg0.N) (i : Fin 4096) (h : Fin 4) (l : Fin 128) :
    (iblk m c 2 t (ix2 i (lane h l)) : EReal) = V m c main_v50 (ix2 i (col (hd (grp t) h) l)) := by
  blk_simp [iblk]; blk_ext [idx t, lane, col, hd, grp]
theorem blk_c (t : Fin cfg0.N) (i : Fin 4096) (h : Fin 4) (l : Fin 128) :
    (iblk m c 3 t (ix2 i (lane h l)) : EReal) = V m c main_v114 (ix2 i (col (hd (grp t) h) l)) := by
  blk_simp [iblk]; blk_ext [idx t, lane, col, hd, grp]
theorem blk_r (t : Fin cfg0.N) (h : Fin 4) (o : Fin 8) (r : Fin 512) :
    (iblk m c 4 t (rowIx h o r) : EReal)
      = V m c main_v117 (ix4 (⟨2 * (grp t).val + h.val / 2, by have := (grp t).isLt; omega⟩ : Fin 4) o (⟨h.val % 2, by omega⟩ : Fin 8) r) := by
  unfold rowIx
  blk_simp [iblk]; blk_ext [idx t, grp]

theorem left_key (t : Fin cfg0.N) (x9 : Vec Ideal S4096x512 .f32) (h : Fin 4) (p : Fin 512) (l : Fin 128) :
    ((left m c t x9).1 (ix2 p (lane h l)) : EReal)
      = ∑ o : Fin 8, dkT (tile t) (iblk m c 0 t) (iblk m c 1 t) (iblk m c 2 t) (iblk m c 3 t) (iblk m c 4 t) h o p l := by
  rw [← own_tile]
  unfold left
  split
  · rename_i hc
    exact first_key (hc := hc) ..
  · rename_i hc
    exact next_key (hc := hc) ..

theorem left_value (t : Fin cfg0.N) (x9 : Vec Ideal S4096x512 .f32) (h : Fin 4) (p : Fin 512) (l : Fin 128) :
    ((left m c t x9).2.1 (ix2 p (lane h l)) : EReal)
      = ∑ o : Fin 8, dvT (tile t) (iblk m c 0 t) (iblk m c 2 t) (iblk m c 3 t) (iblk m c 4 t) h o p l := by
  rw [← own_tile]
  unfold left
  split
  · rename_i hc
    exact first_value (hc := hc) ..
  · rename_i hc
    exact next_value (hc := hc) ..

theorem left_query_first (t : Fin cfg0.N) (ht : t.val % 8 = 0) (x9 : Vec Ideal S4096x512 .f32) (o : Fin 8) (r : Fin 512) (h : Fin 4) (l : Fin 128) :
    ((left m c t x9).2.2 (ix2 (rowAt o r) (lane h l)) : EReal)
      = dqT (tile t) (iblk m c 0 t) (iblk m c 1 t) (iblk m c 2 t) (iblk m c 3 t) (iblk m c 4 t) h o r l := by
  rw [← own_tile]
  unfold left
  rw [dif_pos ((isFirst_iff t).mpr ht)]
  exact first_query ..

/-- The query gradient of a point that is not a group's first, read off its run. -/
theorem left_third (t : Fin cfg0.N) (hc : ¬isFirst (grid0.coords t)) (x9 : Vec Ideal S4096x512 .f32) :
    (left m c t x9).2.2 = (st0_7 t).view.read (Elt Ideal) ((st0_7 t).view.writes (Elt Ideal) ((hstage0_7 ((cfg0.slots t 7).cast nbuf0_7)).unread x9)
      (runNext c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
        (iblk m c 0 t) (iblk m c 1 t) (iblk m c 2 t) (iblk m c 3 t) (iblk m c 4 t) hc x9).2.2.1) := by
  unfold left
  rw [dif_neg hc]

theorem left_query_next (t : Fin cfg0.N) (ht : t.val % 8 ≠ 0) (x9 : Vec Ideal S4096x512 .f32) (o : Fin 8) (r : Fin 512) (h : Fin 4) (l : Fin 128) :
    ((left m c t x9).2.2 (ix2 (rowAt o r) (lane h l)) : EReal)
      = x9 (ix2 (rowAt o r) (lane h l)) + dqT (tile t) (iblk m c 0 t) (iblk m c 1 t) (iblk m c 2 t) (iblk m c 3 t) (iblk m c 4 t) h o r l := by
  have hc : ¬isFirst (grid0.coords t) := fun e => ht ((isFirst_iff t).mp e)
  rw [left_third m c t hc, ← own_tile]
  exact next_query c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (iblk m c 0 t) (iblk m c 1 t) (iblk m c 2 t) (iblk m c 3 t) (iblk m c 4 t) hc x9 o r h l

end Cert.Kernel2Ideal.Fox
-- ==== Proof.Fox.Array.lean ====
/- What the three arrays of the attention backward kernel hold, at real arguments. -/
module

public import proofs.«01_k».proof.Proof.Fox.Blocks

@[expose] public section

set_option maxRecDepth 16384

noncomputable section

namespace Cert.Kernel2Ideal.Fox

open Idealize.ShloMosaic Idealize.ShloMosaic.TcCoe Idealize.ShloMosaic.Tactic
open Cert.Kernel2Ideal Cert.Kernel2Ideal.Gen Cert.Attn Cert.Norm

section Arrays

variable (q k v ct : Fin 8 → Fin 4096 → Fin 64 → ℝ) (f : Fin 8 → Fin 4096 → ℝ)

/-- The head and the lane of an array's column. -/
def headOf (x : Fin 1024) : Fin 8 := ⟨x.val / 128, by omega⟩
def laneOf (x : Fin 1024) : Fin 128 := ⟨x.val % 128, by omega⟩

theorem headOf_col (H : Fin 8) (l : Fin 128) : headOf (col H l) = H :=
  Fin.ext (by show (128 * H.val + l.val) / 128 = H.val; omega)
theorem laneOf_col (H : Fin 8) (l : Fin 128) : laneOf (col H l) = l :=
  Fin.ext (by show (128 * H.val + l.val) % 128 = l.val; omega)

/-- The gradients in a head's lanes. -/
def keyVal (H : Fin 8) (j : Fin 4096) (l : Fin 128) : ℝ := ∑ i, Attn.slope (q H) (k H) (v H) (ct H) (f H) i j * qL (q H) H.val i l
def valVal (H : Fin 8) (j : Fin 4096) (l : Fin 128) : ℝ := ∑ i, prob (q H) (k H) (f H) i j * cL (q H) (k H) (v H) (ct H) (f H) H.val i l
def queVal (H : Fin 8) (i : Fin 4096) (l : Fin 128) : ℝ := ∑ j, Attn.slope (q H) (k H) (v H) (ct H) (f H) i j * kL (k H) (f H) H.val j l

/-- The three arrays. -/
def keyArr : FVec Ideal S4096x1024 .f32 := fun y => (keyVal q k v ct f (headOf (y 1)) (y 0) (laneOf (y 1)) : EReal)
def valArr : FVec Ideal S4096x1024 .f32 := fun y => (valVal q k v ct f (headOf (y 1)) (y 0) (laneOf (y 1)) : EReal)
def queArr : FVec Ideal S4096x1024 .f32 := fun y => (queVal q k v ct f (headOf (y 1)) (y 0) (laneOf (y 1)) : EReal)

theorem keyArr_col (j : Fin 4096) (H : Fin 8) (l : Fin 128) : keyArr q k v ct f (ix2 j (col H l)) = (keyVal q k v ct f H j l : EReal) := by
  show (keyVal q k v ct f (headOf (col H l)) j (laneOf (col H l)) : EReal) = _
  rw [headOf_col, laneOf_col]
theorem valArr_col (j : Fin 4096) (H : Fin 8) (l : Fin 128) : valArr q k v ct f (ix2 j (col H l)) = (valVal q k v ct f H j l : EReal) := by
  show (valVal q k v ct f (headOf (col H l)) j (laneOf (col H l)) : EReal) = _
  rw [headOf_col, laneOf_col]
theorem queArr_col (j : Fin 4096) (H : Fin 8) (l : Fin 128) : queArr q k v ct f (ix2 j (col H l)) = (queVal q k v ct f H j l : EReal) := by
  show (queVal q k v ct f (headOf (col H l)) j (laneOf (col H l)) : EReal) = _
  rw [headOf_col, laneOf_col]

/-- The head and the lane of a block's column. -/
def headIn (x : Fin 512) : Fin 4 := ⟨x.val / 128, by omega⟩
def laneIn (x : Fin 512) : Fin 128 := ⟨x.val % 128, by omega⟩

/-- What one point adds to the query gradient. -/
def queTerm (t : Fin cfg0.N) (y : S4096x512.Idx) : EReal :=
  ((∑ r : Fin 512, Attn.slope (q (hd (grp t) (headIn (y 1)))) (k (hd (grp t) (headIn (y 1)))) (v (hd (grp t) (headIn (y 1)))) (ct (hd (grp t) (headIn (y 1))))
      (f (hd (grp t) (headIn (y 1)))) (y 0) (rowAt (tile t) r)
    * kL (k (hd (grp t) (headIn (y 1)))) (f (hd (grp t) (headIn (y 1)))) (hd (grp t) (headIn (y 1))).val (rowAt (tile t) r) (laneIn (y 1)) : ℝ) : EReal)

theorem queTerm_at (t : Fin cfg0.N) (i : Fin 4096) (h : Fin 4) (l : Fin 128) : queTerm q k v ct f t (ix2 i (lane h l))
    = ((∑ r : Fin 512, Attn.slope (q (hd (grp t) h)) (k (hd (grp t) h)) (v (hd (grp t) h)) (ct (hd (grp t) h)) (f (hd (grp t) h)) i (rowAt (tile t) r)
      * kL (k (hd (grp t) h)) (f (hd (grp t) h)) (hd (grp t) h).val (rowAt (tile t) r) l : ℝ) : EReal) := by
  have e1 : headIn (lane h l) = h := Fin.ext (by show (128 * h.val + l.val) / 128 = h.val; omega)
  have e2 : laneIn (lane h l) = l := Fin.ext (by show (128 * h.val + l.val) % 128 = l.val; omega)
  unfold queTerm
  show ((∑ r : Fin 512, Attn.slope (q (hd (grp t) (headIn (lane h l)))) (k (hd (grp t) (headIn (lane h l)))) (v (hd (grp t) (headIn (lane h l)))) (ct (hd (grp t) (headIn (lane h l))))
      (f (hd (grp t) (headIn (lane h l)))) i (rowAt (tile t) r)
    * kL (k (hd (grp t) (headIn (lane h l)))) (f (hd (grp t) (headIn (lane h l)))) (hd (grp t) (headIn (lane h l))).val (rowAt (tile t) r) (laneIn (lane h l)) : ℝ) : EReal) = _
  rw [e1, e2]

/-- The eight points of a group add up to the whole sum over the keys. -/
theorem queTerm_sum (t : Fin cfg0.N) (b : ℕ) (hb : b = 8 * (t.val / 8)) (hlt : ∀ s : Fin 8, b + s.val < cfg0.N) (i : Fin 4096) (h : Fin 4) (l : Fin 128) :
    ∑ s : Fin 8, queTerm q k v ct f ⟨b + s.val, hlt s⟩ (ix2 i (lane h l)) = (queVal q k v ct f (hd (grp t) h) i l : EReal) := by
  subst hb
  unfold queVal
  rw [Fin.sum_univ_tiles 8 512 rfl, ← coe_sum]
  refine Finset.sum_congr rfl fun s _ => ?_
  rw [queTerm_at]
  have e1 : grp ⟨8 * (t.val / 8) + s.val, hlt s⟩ = grp t := Fin.ext (by show (8 * (t.val / 8) + s.val) / 8 = t.val / 8; omega)
  have e2 : tile ⟨8 * (t.val / 8) + s.val, hlt s⟩ = s := Fin.ext (by show (8 * (t.val / 8) + s.val) % 8 = s.val; omega)
  rw [e1, e2]
  refine congrArg _ (Finset.sum_congr rfl fun r _ => ?_)
  have e : rowAt s r = ⟨s.val * 512 + r.val, by omega⟩ := Fin.ext (by show 512 * s.val + r.val = s.val * 512 + r.val; omega)
  rw [e]

end Arrays

variable (m : (ℓ : Loc nD τ sig) → Buf (Elt Ideal) ℓ) (c : Dev nD)

theorem emb_key (A : FVec Ideal S4096x1024 .f32) (t : Fin cfg0.N) (p : Fin 512) (h : Fin 4) (l : Fin 128) :
    A ((win0_5.blk t).view.emb (ix2 p (lane h l))) = A (ix2 (rowAt (tile t) p) (col (hd (grp t) h) l)) := by
  blk_ext [idx t, rowAt, lane, tile, col, hd, grp]
theorem emb_value (A : FVec Ideal S4096x1024 .f32) (t : Fin cfg0.N) (p : Fin 512) (h : Fin 4) (l : Fin 128) :
    A ((win0_6.blk t).view.emb (ix2 p (lane h l))) = A (ix2 (rowAt (tile t) p) (col (hd (grp t) h) l)) := by
  blk_ext [idx t, rowAt, lane, tile, col, hd, grp]
theorem emb_query (A : FVec Ideal S4096x1024 .f32) (t : Fin cfg0.N) (i : Fin 4096) (h : Fin 4) (l : Fin 128) :
    A ((win0_7.blk t).view.emb (ix2 i (lane h l))) = A (ix2 i (col (hd (grp t) h) l)) := by
  blk_ext [idx t, lane, col, hd, grp]

section Real

variable {q k v ct : Fin 8 → Fin 4096 → Fin 64 → ℝ} {f mr : Fin 8 → Fin 4096 → ℝ}
  (h0 : ∀ h i a, arg0 m c (ix3 h i a) = (q h i a : EReal)) (h1 : ∀ h i a, arg1 m c (ix3 h i a) = (k h i a : EReal))
  (h2 : ∀ h i a, arg2 m c (ix3 h i a) = (v h i a : EReal)) (h3 : ∀ h i, arg3 m c (ix2 h i) = (f h i : EReal))
  (h4 : ∀ h i a, arg4 m c (ix3 h i a) = (ct h i a : EReal))

include h1 h3 in
theorem real_k (t : Fin cfg0.N) (h : Fin 4) (r : Fin 512) (l : Fin 128) :
    (iblk m c 0 t (ix2 r (lane h l)) : EReal) = (kL (k (hd (grp t) h)) (f (hd (grp t) h)) (hd (grp t) h).val (rowAt (tile t) r) l : EReal) := by
  rw [blk_k, V_ka]
  exact augSplit_real k (fun h i => -f h i) h1 (fun h i => by
    show -(arg3 m c (ix2 h i) : EReal) = _
    rw [h3, EReal.coe_neg]) 72 (by decide) _ _ l

include h2 in
theorem real_v (t : Fin cfg0.N) (h : Fin 4) (r : Fin 512) (l : Fin 128) :
    (iblk m c 1 t (ix2 r (lane h l)) : EReal) = (vL (v (hd (grp t) h)) (hd (grp t) h).val (rowAt (tile t) r) l : EReal) := by
  rw [blk_v, V_va]
  exact aug_real v h2 128 (by decide) _ _ l

include h0 in
theorem real_q (t : Fin cfg0.N) (h : Fin 4) (i : Fin 4096) (l : Fin 128) :
    (iblk m c 2 t (ix2 i (lane h l)) : EReal) = (qL (q (hd (grp t) h)) (hd (grp t) h).val i l : EReal) := by
  rw [blk_q, V_qa]
  refine aug_real (fun h i d => q h i d * (1 / 8)) (fun h i d => ?_) 80 (by decide) _ _ l
  show (arg0 m c (ix3 h i d) : EReal) * Ideal.ofBits .f32 0x3E000000#32 = _
  rw [h0, eighth, EReal.coe_mul]

include h0 h1 h2 h3 h4 in
theorem real_c (t : Fin cfg0.N) (h : Fin 4) (i : Fin 4096) (l : Fin 128) :
    (iblk m c 3 t (ix2 i (lane h l)) : EReal)
      = (cL (q (hd (grp t) h)) (k (hd (grp t) h)) (v (hd (grp t) h)) (ct (hd (grp t) h)) (f (hd (grp t) h)) (hd (grp t) h).val i l : EReal) := by
  rw [blk_c, V_doa]
  exact augSplit_real ct (fun h i => -mean (q h) (k h) (v h) (ct h) (f h) i) h4 (fun h i => by
    show -(dls (arg2 m c) (arg4 m c) (argScr m c) (ix2 h i) : EReal) = _
    rw [dls_real q k v ct f h2 h4 (scr_real q k f h0 h1 h3), EReal.coe_neg]) 128 (by decide) _ _ l

variable (hm : ∀ h i, mxs (argScr m c) (ix3 h i 0) = (mr h i : EReal))

include h0 h1 h3 hm in
theorem real_r (t : Fin cfg0.N) (h : Fin 4) (o : Fin 8) (r : Fin 512) :
    (iblk m c 4 t (rowIx h o r) : EReal) = ((mr (hd (grp t) h) (rowAt o r)
      + Real.log (∑ j, sft (q (hd (grp t) h)) (k (hd (grp t) h)) (f (hd (grp t) h)) (mr (hd (grp t) h) (rowAt o r)) (rowAt o r) j) - f (hd (grp t) h) (rowAt o r) : ℝ) : EReal) := by
  rw [blk_r, V_rr, rrs_apply _ _ _ _ _ (by show h.val % 2 < 2; omega)]
  refine Eq.trans ?_ (rws_real q k f h3 (scr_real q k f h0 h1 h3) hm (hd (grp t) h) (rowAt o r))
  congr 2
  exact Fin.ext (by show 2 * (2 * (grp t).val + h.val / 2) + h.val % 2 = 4 * (grp t).val + h.val; omega)

include h0 h1 h2 h3 h4 hm

theorem point_key (t : Fin cfg0.N) (x9 : Vec Ideal S4096x512 .f32) (h : Fin 4) (p : Fin 512) (l : Fin 128) :
    ((left m c t x9).1 (ix2 p (lane h l)) : EReal) = (keyVal q k v ct f (hd (grp t) h) (rowAt (tile t) p) l : EReal) :=
  (left_key m c t x9 h p l).trans (dkT_real (hd (grp t) h).val _ _ _ _ _ (mr (hd (grp t) h)) (real_k m c h1 h3 t h) (real_v m c h2 t h) (real_q m c h0 t h)
    (real_c m c h0 h1 h2 h3 h4 t h) (real_r m c h0 h1 h3 hm t h) p l)

theorem point_value (t : Fin cfg0.N) (x9 : Vec Ideal S4096x512 .f32) (h : Fin 4) (p : Fin 512) (l : Fin 128) :
    ((left m c t x9).2.1 (ix2 p (lane h l)) : EReal) = (valVal q k v ct f (hd (grp t) h) (rowAt (tile t) p) l : EReal) :=
  (left_value m c t x9 h p l).trans (dvT_real (x3 := iblk m c 1 t) (hd (grp t) h).val _ _ _ _ _ (mr (hd (grp t) h)) (real_k m c h1 h3 t h) (real_v m c h2 t h) (real_q m c h0 t h)
    (real_c m c h0 h1 h2 h3 h4 t h) (real_r m c h0 h1 h3 hm t h) p l)

theorem array_key : (dats m 0 c).arrAt 5 cfg0.N = keyArr q k v ct f := by
  refine (dats m 0 c).arrAt_eq_of_covers 5 (keyArr q k v ct f) (by decide +kernel) fun t hf y => ?_
  blk_simp
  rw [after_5]
  idx_vars y
  obtain ⟨h, l, rfl⟩ := exists_lane y1
  refine Eq.trans ?_ ((emb_key (keyArr q k v ct f) t y0 h l).trans (keyArr_col q k v ct f _ _ _)).symm
  by_cases ht : t.val % 8 = 0
  · rw [outs_first m c t ht]; exact point_key m c h0 h1 h2 h3 h4 hm t _ h y0 l
  · rw [outs_next m c t ht]; exact point_key m c h0 h1 h2 h3 h4 hm t _ h y0 l

theorem array_value : (dats m 0 c).arrAt 6 cfg0.N = valArr q k v ct f := by
  refine (dats m 0 c).arrAt_eq_of_covers 6 (valArr q k v ct f) (by decide +kernel) fun t hf y => ?_
  blk_simp
  rw [after_6]
  idx_vars y
  obtain ⟨h, l, rfl⟩ := exists_lane y1
  refine Eq.trans ?_ ((emb_value (valArr q k v ct f) t y0 h l).trans (valArr_col q k v ct f _ _ _)).symm
  by_cases ht : t.val % 8 = 0
  · rw [outs_first m c t ht]; exact point_value m c h0 h1 h2 h3 h4 hm t _ h y0 l
  · rw [outs_next m c t ht]; exact point_value m c h0 h1 h2 h3 h4 hm t _ h y0 l

theorem point_query (t : Fin cfg0.N) (o : Fin 8) (r : Fin 512) (h : Fin 4) (l : Fin 128) :
    (dqT (tile t) (iblk m c 0 t) (iblk m c 1 t) (iblk m c 2 t) (iblk m c 3 t) (iblk m c 4 t) h o r l : EReal)
      = queTerm q k v ct f t (ix2 (rowAt o r) (lane h l)) :=
  (dqT_real (hd (grp t) h).val _ _ _ _ _ (mr (hd (grp t) h)) (real_k m c h1 h3 t h) (real_v m c h2 t h) (real_q m c h0 t h)
    (real_c m c h0 h1 h2 h3 h4 t h) (real_r m c h0 h1 h3 hm t h) o r l).trans (queTerm_at q k v ct f t _ h l).symm

theorem query_first (t : Fin cfg0.N) (ht : t.val % 8 = 0) (x9 : Vec Ideal S4096x512 .f32) (y : S4096x512.Idx) :
    ((left m c t x9).2.2 y : EReal) = 0 + queTerm q k v ct f t y := by
  idx_vars y
  obtain ⟨o, r, rfl⟩ := exists_rowAt y0
  obtain ⟨h, l, rfl⟩ := exists_lane y1
  rw [zero_add]
  exact (left_query_first m c t ht x9 o r h l).trans (point_query m c h0 h1 h2 h3 h4 hm t o r h l)

theorem query_next (t : Fin cfg0.N) (ht : t.val % 8 ≠ 0) (x9 : Vec Ideal S4096x512 .f32) (y : S4096x512.Idx) :
    ((left m c t x9).2.2 y : EReal) = x9 y + queTerm q k v ct f t y := by
  idx_vars y
  obtain ⟨o, r, rfl⟩ := exists_rowAt y0
  obtain ⟨h, l, rfl⟩ := exists_lane y1
  exact (left_query_next m c t ht x9 o r h l).trans (congrArg _ (point_query m c h0 h1 h2 h3 h4 hm t o r h l))

theorem array_query : (dats m 0 c).arrAt 7 cfg0.N = queArr q k v ct f := by
  refine (dats m 0 c).arrAt_eq_of_covers 7 (queArr q k v ct f) (by decide +kernel) fun t hf y => ?_
  blk_simp
  rw [after_7, Pipeline.eq_sum_fin_of_reset_step_apply_of_flush (fun n h => (outs m c n h).2.2) 8 (fun _ => 0)
    (queTerm q k v ct f)
    (fun t h j => by
      rw [outs_first m c t h]
      exact query_first m c h0 h1 h2 h3 h4 hm t h _ j)
    (fun t h j => by
      rw [outs_next m c t h]
      exact query_next m c h0 h1 h2 h3 h4 hm t h _ j)
    t ((flush0_7 t).mp hf) _, zero_add]
  idx_vars y
  obtain ⟨h, l, rfl⟩ := exists_lane y1
  refine Eq.trans ?_ ((emb_query (queArr q k v ct f) t y0 h l).trans (queArr_col q k v ct f _ _ _)).symm
  exact queTerm_sum q k v ct f t _ (by have := lt_of_lt_of_eq t.isLt N_0; omega) _ y0 h l

end Real

end Cert.Kernel2Ideal.Fox
-- ==== Proof.Fox.Results.lean ====
/- What the host lines after the attention backward kernel leave in the four results. -/
module

public import proofs.«01_k».proof.Proof.Fox.Array

@[expose] public section

set_option maxRecDepth 16384

noncomputable section

namespace Cert.Kernel2Ideal.Fox

open Idealize.ShloMosaic Idealize.ShloMosaic.TcCoe Idealize.ShloMosaic.Tactic
open Idealize.SL.Sem
open Cert.Kernel2Ideal Cert.Kernel2Ideal.Gen Cert.Attn Cert.Norm

/-- The first 64 lanes of every head. -/
def heads (a : FVec Ideal S4096x1024 .f32) : FVec Ideal S8x4096x64 .f32 :=
  transpose S8x4096x64 [1, 0, 2] (extractStridedSlice S4096x8x64 ![0, 0, 0] (shapeCast S4096x8x128 a shapeCasts_S4096x1024_S4096x8x128) slices_S4096x8x128_S4096x8x64_0_0_0)
    transposes_S4096x8x64_S8x4096x64_1_0_2

theorem heads_apply (a : FVec Ideal S4096x1024 .f32) (h : Fin 8) (i : Fin 4096) (d : Fin 64) :
    heads a (ix3 h i d) = a (ix2 i (col h ⟨d.val, by omega⟩)) := by
  unfold heads
  pointwise
  refine congrArg (fun x => a (ix2 i x)) (Fin.ext ?_)
  show h.val * 128 + d.val = 128 * h.val + d.val
  omega

section Column

variable (n n' : ℕ) (hn : S4096x1024.Slices ![0, n] S4096x1) (hn' : S4096x1024.Slices ![0, n'] S4096x1)

/-- One lane less another, over the rows. -/
def laneDiff (a b : FVec Ideal S4096x1024 .f32) : FVec Ideal S1x4096 .f32 :=
  broadcastInDim S1x4096 ![1] bcast_S4096_S1x4096_1 (subf
    (shapeCast S4096 (extractStridedSlice S4096x1 ![0, n] a hn) shapeCasts_S4096x1_S4096)
    (shapeCast S4096 (extractStridedSlice S4096x1 ![0, n'] b hn') shapeCasts_S4096x1_S4096))

theorem laneDiff_apply (a b : FVec Ideal S4096x1024 .f32) (i : Fin 4096) (hl : n < 1024) (hl' : n' < 1024) :
    laneDiff n n' hn hn' a b (ix2 0 i) = (a (ix2 i ⟨n, hl⟩) - b (ix2 i ⟨n', hl'⟩) : EReal) := by
  unfold laneDiff
  pointwise

end Column

/-- The head's own lanes of two arrays, one less the other. -/
def gateDiff (a b : FVec Ideal S4096x1024 .f32) : FVec Ideal S8x4096 .f32 :=
  concatenate S8x4096 0 [
    ⟨S1x4096, laneDiff 72 80 slices_S4096x1024_S4096x1_0_72 slices_S4096x1024_S4096x1_0_80 a b⟩,
    ⟨S1x4096, laneDiff 201 209 slices_S4096x1024_S4096x1_0_201 slices_S4096x1024_S4096x1_0_209 a b⟩,
    ⟨S1x4096, laneDiff 330 338 slices_S4096x1024_S4096x1_0_330 slices_S4096x1024_S4096x1_0_338 a b⟩,
    ⟨S1x4096, laneDiff 459 467 slices_S4096x1024_S4096x1_0_459 slices_S4096x1024_S4096x1_0_467 a b⟩,
    ⟨S1x4096, laneDiff 588 596 slices_S4096x1024_S4096x1_0_588 slices_S4096x1024_S4096x1_0_596 a b⟩,
    ⟨S1x4096, laneDiff 717 725 slices_S4096x1024_S4096x1_0_717 slices_S4096x1024_S4096x1_0_725 a b⟩,
    ⟨S1x4096, laneDiff 846 854 slices_S4096x1024_S4096x1_0_846 slices_S4096x1024_S4096x1_0_854 a b⟩,
    ⟨S1x4096, laneDiff 975 983 slices_S4096x1024_S4096x1_0_975 slices_S4096x1024_S4096x1_0_983 a b⟩]
    concatenates_S1x4096_S1x4096_S1x4096_S1x4096_S1x4096_S1x4096_S1x4096_S1x4096_S8x4096_d0

theorem gateDiff_apply (a b : FVec Ideal S4096x1024 .f32) (h : Fin 8) (i : Fin 4096) :
    gateDiff a b (ix2 h i) = (a (ix2 i (col h ⟨72 + h.val, by omega⟩)) - b (ix2 i (col h ⟨80 + h.val, by omega⟩)) : EReal) := by
  unfold gateDiff
  match h with
  | ⟨0, _⟩ => exact (show _ = laneDiff 72 80 slices_S4096x1024_S4096x1_0_72 slices_S4096x1024_S4096x1_0_80 a b (ix2 0 i) by generalize laneDiff 72 80 slices_S4096x1024_S4096x1_0_72 slices_S4096x1024_S4096x1_0_80 a b = y; pointwise).trans (laneDiff_apply 72 80 _ _ a b i (by decide) (by decide))
  | ⟨1, _⟩ => exact (show _ = laneDiff 201 209 slices_S4096x1024_S4096x1_0_201 slices_S4096x1024_S4096x1_0_209 a b (ix2 0 i) by generalize laneDiff 201 209 slices_S4096x1024_S4096x1_0_201 slices_S4096x1024_S4096x1_0_209 a b = y; pointwise).trans (laneDiff_apply 201 209 _ _ a b i (by decide) (by decide))
  | ⟨2, _⟩ => exact (show _ = laneDiff 330 338 slices_S4096x1024_S4096x1_0_330 slices_S4096x1024_S4096x1_0_338 a b (ix2 0 i) by generalize laneDiff 330 338 slices_S4096x1024_S4096x1_0_330 slices_S4096x1024_S4096x1_0_338 a b = y; pointwise).trans (laneDiff_apply 330 338 _ _ a b i (by decide) (by decide))
  | ⟨3, _⟩ => exact (show _ = laneDiff 459 467 slices_S4096x1024_S4096x1_0_459 slices_S4096x1024_S4096x1_0_467 a b (ix2 0 i) by generalize laneDiff 459 467 slices_S4096x1024_S4096x1_0_459 slices_S4096x1024_S4096x1_0_467 a b = y; pointwise).trans (laneDiff_apply 459 467 _ _ a b i (by decide) (by decide))
  | ⟨4, _⟩ => exact (show _ = laneDiff 588 596 slices_S4096x1024_S4096x1_0_588 slices_S4096x1024_S4096x1_0_596 a b (ix2 0 i) by generalize laneDiff 588 596 slices_S4096x1024_S4096x1_0_588 slices_S4096x1024_S4096x1_0_596 a b = y; pointwise).trans (laneDiff_apply 588 596 _ _ a b i (by decide) (by decide))
  | ⟨5, _⟩ => exact (show _ = laneDiff 717 725 slices_S4096x1024_S4096x1_0_717 slices_S4096x1024_S4096x1_0_725 a b (ix2 0 i) by generalize laneDiff 717 725 slices_S4096x1024_S4096x1_0_717 slices_S4096x1024_S4096x1_0_725 a b = y; pointwise).trans (laneDiff_apply 717 725 _ _ a b i (by decide) (by decide))
  | ⟨6, _⟩ => exact (show _ = laneDiff 846 854 slices_S4096x1024_S4096x1_0_846 slices_S4096x1024_S4096x1_0_854 a b (ix2 0 i) by generalize laneDiff 846 854 slices_S4096x1024_S4096x1_0_846 slices_S4096x1024_S4096x1_0_854 a b = y; pointwise).trans (laneDiff_apply 846 854 _ _ a b i (by decide) (by decide))
  | ⟨7, _⟩ => exact (show _ = laneDiff 975 983 slices_S4096x1024_S4096x1_0_975 slices_S4096x1024_S4096x1_0_983 a b (ix2 0 i) by generalize laneDiff 975 983 slices_S4096x1024_S4096x1_0_975 slices_S4096x1024_S4096x1_0_983 a b = y; pointwise).trans (laneDiff_apply 975 983 _ _ a b i (by decide) (by decide))

section After

variable (W : Valuation τ sig (Elt Ideal))

theorem after_dq : StableHlo.after hostOps1 W (Proc.devRef .tc main_v172)
    = mulf (heads (W (Proc.devRef .tc main_v118_2))) (broadcastInDim S8x4096x64 ![] bcast_S_S8x4096x64 (constant S_ .f32 0x3E000000#32)) := by
  simp only [hostOps1]
  after_reads_simp
  rfl

theorem after_dk : StableHlo.after hostOps1 W (Proc.devRef .tc main_v175) = heads (W (Proc.devRef .tc main_v118_0)) := by
  simp only [hostOps1]
  after_reads_simp
  rfl

theorem after_dv : StableHlo.after hostOps1 W (Proc.devRef .tc main_v178) = heads (W (Proc.devRef .tc main_v118_1)) := by
  simp only [hostOps1]
  after_reads_simp
  rfl

theorem after_df : StableHlo.after hostOps1 W (Proc.devRef .tc main_v167)
    = gateDiff (W (Proc.devRef .tc main_v118_2)) (W (Proc.devRef .tc main_v118_0)) := by
  simp only [hostOps1]
  after_reads_simp
  rfl

end After

section Real

variable (q k v ct : Fin 8 → Fin 4096 → Fin 64 → ℝ) (f : Fin 8 → Fin 4096 → ℝ)

theorem key_heads (h : Fin 8) (j : Fin 4096) (d : Fin 64) : heads (keyArr q k v ct f) (ix3 h j d) = (gradK (q h) (k h) (v h) (ct h) (f h) j d : EReal) := by
  rw [heads_apply, keyArr_col]
  refine congrArg _ (Finset.sum_congr rfl fun i _ => ?_)
  unfold qL
  rw [lane_low]
  ring

theorem value_heads (h : Fin 8) (j : Fin 4096) (d : Fin 64) : heads (valArr q k v ct f) (ix3 h j d) = (gradV (q h) (k h) (ct h) (f h) j d : EReal) := by
  rw [heads_apply, valArr_col]
  refine congrArg _ (Finset.sum_congr rfl fun i _ => ?_)
  unfold cL
  rw [lane_low]
  ring

theorem query_heads (h : Fin 8) (i : Fin 4096) (d : Fin 64) :
    mulf (heads (queArr q k v ct f)) (broadcastInDim S8x4096x64 ![] bcast_S_S8x4096x64 (constant S_ .f32 0x3E000000#32)) (ix3 h i d)
      = (gradQ (q h) (k h) (v h) (ct h) (f h) i d : EReal) := by
  show (heads (queArr q k v ct f) (ix3 h i d) : EReal) * Ideal.ofBits .f32 0x3E000000#32 = _
  rw [heads_apply, queArr_col, eighth, ← EReal.coe_mul]
  refine congrArg _ ?_
  unfold queVal gradQ
  rw [Finset.sum_mul]
  refine Finset.sum_congr rfl fun j _ => ?_
  unfold kL
  rw [lane_low]
  ring

theorem gate_diff (h : Fin 8) (i : Fin 4096) :
    gateDiff (queArr q k v ct f) (keyArr q k v ct f) (ix2 h i) = (gradF (q h) (k h) (v h) (ct h) (f h) i : EReal) := by
  rw [gateDiff_apply, queArr_col, keyArr_col, ← EReal.coe_sub]
  refine congrArg _ ?_
  have e1 : ∀ j, kL (k h) (f h) h.val j ⟨72 + h.val, by omega⟩ = 1 := fun j => by
    have e := lane_high (k h j) (-f h j) 0 0 72 h.val ⟨5 + h.val, by omega⟩
    rw [if_pos (show 67 + (5 + h.val) = 72 + h.val by omega)] at e
    rw [← e]
    exact congrArg (kL (k h) (f h) h.val j) (Fin.ext (by show 72 + h.val = 67 + (5 + h.val); omega))
  have e2 : ∀ j, qL (q h) h.val j ⟨80 + h.val, by omega⟩ = 1 := fun j => by
    have e := lane_high (fun d => q h j d * (1 / 8)) 1 1 1 80 h.val ⟨13 + h.val, by omega⟩
    rw [if_pos (show 67 + (13 + h.val) = 80 + h.val by omega)] at e
    rw [← e]
    exact congrArg (qL (q h) h.val j) (Fin.ext (by show 80 + h.val = 67 + (13 + h.val); omega))
  unfold queVal keyVal gradF
  simp only [e1, e2, mul_one]

end Real

variable (m : (ℓ : Loc nD τ sig) → Buf (Elt Ideal) ℓ) (ρ : Dev nD → PrngReg)

theorem tail_at (c : Dev nD) (b : Ref sig .tc) : Pipeline.afterTail₀ cfgs (dats m) 0 (V0 m) [hostOps1] c b
    = StableHlo.after hostOps1 (Pipeline.withArrays (cfgs 0).spec c (V0 m c) fun w => (dats m 0 c).arrAt w (cfgs 0).N) (Proc.devRef .tc b) := by
  unfold Pipeline.afterTail₀
  simp only [List.flatten_cons, List.flatten_nil, List.append_nil]

theorem found (c : Dev nD) (w : Fin cfg0.W) :
    Pipeline.withArrays (cfgs 0).spec c (V0 m c) (fun w => (dats m 0 c).arrAt w (cfgs 0).N) (Proc.devRef .tc (Pipeline.arrRef spec0 w)) = (dats m 0 c).arrAt w cfg0.N :=
  Pipeline.withArrays_arr spec0 launch0.win.arr_inj c (V0 m c) _ w

/-- The four results, from the three arrays. -/
theorem run : θ_run defs (onTc (τ := τ) (main (F := Ideal))) ⟨m, fun _ => 0, ρ⟩ (fun r => ∀ c : Dev nD,
    r.2.mem ((c.tc : Thread nD τ).loc main_v172)
      = mulf (heads ((dats m 0 c).arrAt 7 cfg0.N)) (broadcastInDim S8x4096x64 ![] bcast_S_S8x4096x64 (constant S_ .f32 0x3E000000#32))
    ∧ r.2.mem ((c.tc : Thread nD τ).loc main_v175) = heads ((dats m 0 c).arrAt 5 cfg0.N)
    ∧ r.2.mem ((c.tc : Thread nD τ).loc main_v178) = heads ((dats m 0 c).arrAt 6 cfg0.N)
    ∧ r.2.mem ((c.tc : Thread nD τ).loc main_v167) = gateDiff ((dats m 0 c).arrAt 7 cfg0.N) ((dats m 0 c).arrAt 5 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨
    (((h.1 c).2 main_v172 (Pipeline.mem_restRefs_of main_v172 (by decide) (by decide))).trans (tail_at m c _)).trans
      ((after_dq _).trans (by rw [show _ = (dats m 0 c).arrAt 7 cfg0.N from found m c 7])),
    (((h.1 c).2 main_v175 (Pipeline.mem_restRefs_of main_v175 (by decide) (by decide))).trans (tail_at m c _)).trans
      ((after_dk _).trans (by rw [show _ = (dats m 0 c).arrAt 5 cfg0.N from found m c 5])),
    (((h.1 c).2 main_v178 (Pipeline.mem_restRefs_of main_v178 (by decide) (by decide))).trans (tail_at m c _)).trans
      ((after_dv _).trans (by rw [show _ = (dats m 0 c).arrAt 6 cfg0.N from found m c 6])),
    (((h.1 c).2 main_v167 (Pipeline.mem_restRefs_of main_v167 (by decide) (by decide))).trans (tail_at m c _)).trans
      ((after_df _).trans (by rw [show _ = (dats m 0 c).arrAt 7 cfg0.N from found m c 7, show _ = (dats m 0 c).arrAt 5 cfg0.N from found m c 5])),
    ((h.1 c).2 main_arg0 (Pipeline.mem_restRefs_of main_arg0 (by decide) (by decide))).trans (Gen.W_main_arg0 m (dats m) c),
    ((h.1 c).2 main_arg1 (Pipeline.mem_restRefs_of main_arg1 (by decide) (by decide))).trans (Gen.W_main_arg1 m (dats m) c),
    ((h.1 c).2 main_arg2 (Pipeline.mem_restRefs_of main_arg2 (by decide) (by decide))).trans (Gen.W_main_arg2 m (dats m) c),
    ((h.1 c).2 main_arg3 (Pipeline.mem_restRefs_of main_arg3 (by decide) (by decide))).trans (Gen.W_main_arg3 m (dats m) c),
    ((h.1 c).2 main_arg4 (Pipeline.mem_restRefs_of main_arg4 (by decide) (by decide))).trans (Gen.W_main_arg4 m (dats m) c)⟩) (launch m ρ)

end Cert.Kernel2Ideal.Fox
-- ==== Proof.Fox.Reference.lean ====
/- What the reference's four gradients hold at real arguments. -/
module

public import proofs.«01_k».proof.Proof.Gen.Reference2Ideal.Read
public import proofs.«01_k».proof.Proof.Fox.Softmax

@[expose] public section

set_option maxRecDepth 16384

noncomputable section

namespace Cert.Reference2Ideal.Fox

open Idealize.ShloMosaic Idealize.ShloMosaic.TcCoe Idealize.SL.Sem
open Cert.Reference2Ideal Cert.Reference2Ideal.Gen Cert.Reference2Ideal.Read Cert.Attn Cert.Norm

section Layout

variable (x0 x1 x2 : FVec Ideal S8x4096x64 .f32) (x3 : FVec Ideal S8x4096 .f32) (x4 : FVec Ideal S8x4096x64 .f32)

theorem v34_at (h : Fin 8) (i j : Fin 4096) : val_main_v34 (F := Ideal) x0 x1 x3 (ix3 h i j) = val_main_v23 (F := Ideal) x0 x1 x3 (ix2 h i) := by
  unfold val_main_v34 val_main_v33; generalize val_main_v23 (F := Ideal) x0 x1 x3 = y; pointwise
theorem v37_at (h : Fin 8) (i : Fin 4096) : val_main_v37 (F := Ideal) x0 x1 x3 (ix2 h i) = ∑ j : Fin 4096, val_main_v36 (F := Ideal) x0 x1 x3 (ix3 h i j) := by
  unfold val_main_v37; generalize val_main_v36 (F := Ideal) x0 x1 x3 = y; pointwise [val_main_cst_9]
theorem v38_at (h : Fin 8) (i : Fin 4096) (z : Fin 1) : val_main_v38 (F := Ideal) x0 x1 x3 (ix3 h i z) = val_main_v37 (F := Ideal) x0 x1 x3 (ix2 h i) := by
  unfold val_main_v38; generalize val_main_v37 (F := Ideal) x0 x1 x3 = y; pointwise
theorem v39_at (h : Fin 8) (i j : Fin 4096) : val_main_v39 (F := Ideal) x0 x1 x3 (ix3 h i j) = val_main_v37 (F := Ideal) x0 x1 x3 (ix2 h i) := by
  unfold val_main_v39 val_main_v38; generalize val_main_v37 (F := Ideal) x0 x1 x3 = y; pointwise
theorem v54_at (h : Fin 8) (i j : Fin 4096) : val_main_v54 (F := Ideal) x0 x1 x3 (ix3 h i j) = val_main_v37 (F := Ideal) x0 x1 x3 (ix2 h i) := by
  unfold val_main_v54 val_main_v38; generalize val_main_v37 (F := Ideal) x0 x1 x3 = y; pointwise
theorem v48_at (h : Fin 8) (i j : Fin 4096) : val_main_v48 (F := Ideal) x0 x1 x3 (ix3 h i j) = val_main_v43 (F := Ideal) x0 x1 x3 (ix3 h i 0) := by
  unfold val_main_v48; generalize val_main_v43 (F := Ideal) x0 x1 x3 = y; pointwise
theorem v46_at (h : Fin 8) (j : Fin 4096) (a : Fin 64) : val_main_v46 (F := Ideal) x0 x1 x3 x4 (ix3 h j a)
    = ∑ i : Fin 4096, x4 (ix3 h i a) * val_main_v40 (F := Ideal) x0 x1 x3 (ix3 h i j) := by
  unfold val_main_v46 val_main_v45; generalize val_main_v40 (F := Ideal) x0 x1 x3 = y; pointwise
theorem v47_at (h : Fin 8) (i j : Fin 4096) : val_main_v47 (F := Ideal) x2 x4 (ix3 h i j) = ∑ a : Fin 64, x4 (ix3 h i a) * x2 (ix3 h j a) := by
  unfold val_main_v47; pointwise
theorem v57_at (h : Fin 8) (i j : Fin 4096) : val_main_v57 (F := Ideal) x0 x1 x2 x3 x4 (ix3 h i j)
    = -(∑ j : Fin 4096, val_main_v50 (F := Ideal) x0 x1 x2 x3 x4 (ix3 h i j) : EReal) := by
  unfold val_main_v57 val_main_v56 val_main_v53 val_main_v52 val_main_v51; generalize val_main_v50 (F := Ideal) x0 x1 x2 x3 x4 = y
  pointwise [val_main_cst_11, val_main_cst_12]
  simp only [Finset.univ_unique, Finset.sum_singleton]
theorem v68_at (h : Fin 8) (i : Fin 4096) : val_main_v68 (F := Ideal) x0 x1 x2 x3 x4 (ix2 h i)
    = ((∑ j : Fin 4096, -(val_main_v60 (F := Ideal) x0 x1 x2 x3 x4 (ix3 h j i) : EReal))
      + ∑ j : Fin 4096, val_main_v60 (F := Ideal) x0 x1 x2 x3 x4 (ix3 h i j) : EReal) := by
  unfold val_main_v68 val_main_v67 val_main_v66 val_main_v65 val_main_v64 val_main_v63 val_main_v62 val_main_v61
  generalize val_main_v60 (F := Ideal) x0 x1 x2 x3 x4 = y
  pointwise [val_main_cst_13, val_main_cst_14, val_main_cst_15, val_main_cst_16]
  simp only [Finset.univ_unique, Finset.sum_singleton]
theorem v71_at (h : Fin 8) (j : Fin 4096) (a : Fin 64) : val_main_v71 (F := Ideal) x0 x1 x2 x3 x4 (ix3 h j a)
    = ∑ i : Fin 4096, val_main_v60 (F := Ideal) x0 x1 x2 x3 x4 (ix3 h i j) * Ideal.ofBits .f32 0x3E000000#32 * x0 (ix3 h i a) := by
  unfold val_main_v71 val_main_v70; generalize val_main_v60 (F := Ideal) x0 x1 x2 x3 x4 = y
  pointwise [val_main_v69, val_main_cst_17]
theorem v72_at (h : Fin 8) (i : Fin 4096) (a : Fin 64) : val_main_v72 (F := Ideal) x0 x1 x2 x3 x4 (ix3 h i a)
    = ∑ j : Fin 4096, val_main_v60 (F := Ideal) x0 x1 x2 x3 x4 (ix3 h i j) * Ideal.ofBits .f32 0x3E000000#32 * x1 (ix3 h j a) := by
  unfold val_main_v72 val_main_v70; generalize val_main_v60 (F := Ideal) x0 x1 x2 x3 x4 = y
  pointwise [val_main_v69, val_main_cst_17]
theorem bit_at (h : Fin 8) (i j : Fin 4096) : val_main_v15_1 (F := Ideal) (ix3 h i j) = BitVec.ofBool (decide (j ≤ i)) := by
  rw [← causal_bit]
  pointwise [val_main_v15_1, val_main_v14, val_main_v12, val_main_v13, val_main_v10, val_main_v11, val_main_v9]
theorem v8_at (h : Fin 8) (i j : Fin 4096) : (val_main_v8 (F := Ideal) x0 x1 x3 (ix3 h i j) : EReal)
    = (∑ a : Fin 64, x0 (ix3 h i a) * x1 (ix3 h j a)) * Ideal.ofBits .f32 0x3E000000#32 + x3 (ix2 h i) - x3 (ix2 h j) := by
  pointwise [val_main_v8, val_main_v7, val_main_v6, val_main_v5, val_main_v4, val_main_v3, val_main_v2, val_main_v1, val_main_v0, val_main_cst]

end Layout

/-! ### At real arguments -/

variable (q k v ct : Fin 8 → Fin 4096 → Fin 64 → ℝ) (f : Fin 8 → Fin 4096 → ℝ)
  {x0 x1 x2 : FVec Ideal S8x4096x64 .f32} {x3 : FVec Ideal S8x4096 .f32} {x4 : FVec Ideal S8x4096x64 .f32}
  (h0 : ∀ h i a, x0 (ix3 h i a) = (q h i a : EReal)) (h1 : ∀ h i a, x1 (ix3 h i a) = (k h i a : EReal))
  (h2 : ∀ h i a, x2 (ix3 h i a) = (v h i a : EReal)) (h3 : ∀ h i, x3 (ix2 h i) = (f h i : EReal))
  (h4 : ∀ h i a, x4 (ix3 h i a) = (ct h i a : EReal))

include h0 h1 h3

theorem v15_real (h : Fin 8) (i j : Fin 4096) : val_main_v15_0 (F := Ideal) x0 x1 x3 (ix3 h i j)
    = if j ≤ i then (score (q h) (k h) (f h) i j : EReal) else ⊥ := by
  rw [val_main_v15_0_apply, bit_at, select_bit]
  refine if_congr Iff.rfl ?_ ?_
  · rw [v8_at, h3, h3, eighth]
    simp only [h0, h1, ← EReal.coe_mul, coe_sum, ← EReal.coe_add, ← EReal.coe_sub]
    rfl
  · pointwise [val_main_call0_v2, val_main_call0_v0, val_main_cst_0]
    exact minusInf

theorem v23_real : ∃ m : Fin 8 → Fin 4096 → ℝ, ∀ h i, val_main_v23 (F := Ideal) x0 x1 x3 (ix2 h i) = (m h i : EReal) := by
  obtain ⟨m, hm⟩ := row_max (val_main_v15_0 (F := Ideal) x0 x1 x3) (val_main_cst_1 (F := Ideal)) reducesTo_S8x4096x4096_S8x4096_d2 h_S_
    minusInf (fun h => score (q h) (k h) (f h)) (v15_real q k f h0 h1 h3)
  refine ⟨m, fun h i => ?_⟩
  rw [val_main_v23_apply]
  have e : val_main_v16 (F := Ideal) x0 x1 x3 (ix2 h i) = (m h i : EReal) := hm h i
  rw [e]
  have b : (val_main_v22 (F := Ideal) (ix2 h i) : EReal) = ⊥ := by
    pointwise [val_main_v22, val_main_cst_3]
    exact minusInf
  show max (val_main_v22 (F := Ideal) (ix2 h i) : EReal) (m h i : EReal) = _
  rw [b]
  exact max_eq_right bot_le

theorem v36_real {m : Fin 8 → Fin 4096 → ℝ} (hm : ∀ h i, val_main_v23 (F := Ideal) x0 x1 x3 (ix2 h i) = (m h i : EReal))
    (h : Fin 8) (i j : Fin 4096) : val_main_v36 (F := Ideal) x0 x1 x3 (ix3 h i j) = (sft (q h) (k h) (f h) (m h i) i j : EReal) := by
  rw [val_main_v36_apply, val_main_v35_apply, v34_at, v15_real q k f h0 h1 h3, hm]
  exact exp_masked _ _ _

theorem v37_real {m : Fin 8 → Fin 4096 → ℝ} (hm : ∀ h i, val_main_v23 (F := Ideal) x0 x1 x3 (ix2 h i) = (m h i : EReal))
    (h : Fin 8) (i : Fin 4096) : val_main_v37 (F := Ideal) x0 x1 x3 (ix2 h i) = ((∑ j, sft (q h) (k h) (f h) (m h i) i j : ℝ) : EReal) := by
  rw [v37_at, ← coe_sum]
  exact Finset.sum_congr rfl fun j _ => v36_real q k f h0 h1 h3 hm h i j

theorem v40_real (h : Fin 8) (i j : Fin 4096) : val_main_v40 (F := Ideal) x0 x1 x3 (ix3 h i j) = (prob (q h) (k h) (f h) i j : EReal) := by
  obtain ⟨m, hm⟩ := v23_real q k f h0 h1 h3
  rw [val_main_v40_apply, v39_at, v36_real q k f h0 h1 h3 hm, v37_real q k f h0 h1 h3 hm]
  refine (div_real _ (sum_sft_pos _ _ _ _ _).ne').trans ?_
  rw [sft_div]

include h4

theorem dv_real (h : Fin 8) (j : Fin 4096) (a : Fin 64) : val_main_v46 (F := Ideal) x0 x1 x3 x4 (ix3 h j a) = (gradV (q h) (k h) (ct h) (f h) j a : EReal) := by
  rw [v46_at]
  simp only [h4, v40_real q k f h0 h1 h3, ← EReal.coe_mul, coe_sum]
  rfl

include h2

theorem v60_real (h : Fin 8) (i j : Fin 4096) : val_main_v60 (F := Ideal) x0 x1 x2 x3 x4 (ix3 h i j) = (slope (q h) (k h) (v h) (ct h) (f h) i j : EReal) := by
  obtain ⟨m, hm⟩ := v23_real q k f h0 h1 h3
  have hL := (sum_sft_pos (q h) (k h) (f h) (m h i) i).ne'
  have e47 : ∀ j, val_main_v47 (F := Ideal) x2 x4 (ix3 h i j) = (cot (v h) (ct h) i j : EReal) := fun j => by
    rw [v47_at]
    simp only [h2, h4, ← EReal.coe_mul, coe_sum]
    rfl
  have e43 : val_main_v43 (F := Ideal) x0 x1 x3 (ix3 h i 0)
      = ((1 / ((∑ j, sft (q h) (k h) (f h) (m h i) i j) * ∑ j, sft (q h) (k h) (f h) (m h i) i j) : ℝ) : EReal) := by
    rw [val_main_v43_apply, val_main_v41_apply, v38_at, v37_real q k f h0 h1 h3 hm]
    have e42 : (val_main_v42 (F := Ideal) (ix3 h i 0) : EReal) = ((1 : ℝ) : EReal) := by
      pointwise [val_main_v42, val_main_cst_10]
      exact EReal.coe_one.symm
    rw [e42]
    show Ideal.div ((1 : ℝ) : EReal) ((_ : ℝ) * (_ : ℝ) : EReal) = _
    rw [← EReal.coe_mul]
    exact div_real _ (mul_ne_zero hL hL)
  have e50 : ∀ j, val_main_v50 (F := Ideal) x0 x1 x2 x3 x4 (ix3 h i j)
      = ((cot (v h) (ct h) i j * (1 / ((∑ j, sft (q h) (k h) (f h) (m h i) i j) * ∑ j, sft (q h) (k h) (f h) (m h i) i j))
          * sft (q h) (k h) (f h) (m h i) i j : ℝ) : EReal) := fun j => by
    rw [val_main_v50_apply, val_main_v49_apply, v48_at, e43, e47, v36_real q k f h0 h1 h3 hm]
    rw [EReal.coe_mul, EReal.coe_mul]
    rfl
  have e59 : val_main_v59 (F := Ideal) x0 x1 x2 x3 x4 (ix3 h i j) = (slope (q h) (k h) (v h) (ct h) (f h) i j : EReal) := by
    rw [val_main_v59_apply, val_main_v58_apply, val_main_v55_apply, v57_at, v54_at, e47, v36_real q k f h0 h1 h3 hm, v37_real q k f h0 h1 h3 hm,
      Finset.sum_congr rfl fun j _ => e50 j, coe_sum]
    rw [← slope_quotient (q h) (k h) (v h) (ct h) (f h) (m h i) i j, EReal.coe_mul, EReal.coe_add, EReal.coe_neg, ← div_real _ hL]
    rfl
  rw [val_main_v60_apply, bit_at, select_bit, e59]
  by_cases hji : j ≤ i
  · rw [if_pos hji]
  · rw [if_neg hji]
    have z : slope (q h) (k h) (v h) (ct h) (f h) i j = 0 := by
      unfold Attn.slope prob wgt
      rw [if_neg hji, zero_div, zero_mul]
    rw [z]
    pointwise [val_main_call1_v0, val_main_call1_cst]
    rfl

theorem dq_real (h : Fin 8) (i : Fin 4096) (a : Fin 64) : val_main_v72 (F := Ideal) x0 x1 x2 x3 x4 (ix3 h i a) = (gradQ (q h) (k h) (v h) (ct h) (f h) i a : EReal) := by
  rw [v72_at, eighth]
  simp only [v60_real q k v ct f h0 h1 h2 h3 h4, h1, ← EReal.coe_mul, coe_sum]
  rfl

theorem dk_real (h : Fin 8) (j : Fin 4096) (a : Fin 64) : val_main_v71 (F := Ideal) x0 x1 x2 x3 x4 (ix3 h j a) = (gradK (q h) (k h) (v h) (ct h) (f h) j a : EReal) := by
  rw [v71_at, eighth]
  simp only [v60_real q k v ct f h0 h1 h2 h3 h4, h0, ← EReal.coe_mul, coe_sum]
  rfl

theorem df_real (h : Fin 8) (i : Fin 4096) : val_main_v68 (F := Ideal) x0 x1 x2 x3 x4 (ix2 h i) = (gradF (q h) (k h) (v h) (ct h) (f h) i : EReal) := by
  rw [v68_at]
  simp only [v60_real q k v ct f h0 h1 h2 h3 h4, ← EReal.coe_neg, coe_sum, ← EReal.coe_add]
  refine congrArg _ ?_
  unfold gradF
  rw [Finset.sum_neg_distrib]
  ring

end Cert.Reference2Ideal.Fox
-- ==== Proof.Fox.Rounded.lean ====
/- The frame of the kernel as it is compiled, from the run over any float type.

The idealized program differs from the compiled one in one word: the value written where a key lies after its
query. Reading that word as its bits gives the compiled program back. -/
module

public import proofs.«01_k».proof.Proof.Fox.Frame
public import proofs.«01_k».proof.Proof.Gen.Kernel2
public import proofs.«01_k».proof.Defs
public import Idealize.ShloMosaic.Lib.Tactic

@[expose] public section

set_option maxRecDepth 65536

noncomputable section

namespace Cert.Kernel2Ideal.Fox

open Idealize.ShloMosaic Idealize.ShloMosaic.TcCoe Idealize.ShloMosaic.Tactic
open Idealize.SL Idealize.SL.Sem

/-- Every named constant read as the bits it is compiled with. -/
local instance namedBits : Named Bits := ⟨fun _ _ φ bits => FloatOps.ofBits φ bits⟩

variable {F : FTy → Type} [FloatOps F] [Named F]

/-- Every execution stops with the arguments as they were and every semaphore counter at zero. -/
abbrev Ends (F : FTy → Type) [FloatOps F] [Named F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem ends : Ends F := fun m ρ _ =>
  (θ_run defs _ _).mono (fun r h => ⟨fun c => ⟨
    ((h.1 c).2 main_arg0 (Pipeline.mem_restRefs_of main_arg0 (by decide) (by decide))).trans (Gen.W_main_arg0 m (dats m) c),
    ((h.1 c).2 main_arg1 (Pipeline.mem_restRefs_of main_arg1 (by decide) (by decide))).trans (Gen.W_main_arg1 m (dats m) c),
    ((h.1 c).2 main_arg2 (Pipeline.mem_restRefs_of main_arg2 (by decide) (by decide))).trans (Gen.W_main_arg2 m (dats m) c),
    ((h.1 c).2 main_arg3 (Pipeline.mem_restRefs_of main_arg3 (by decide) (by decide))).trans (Gen.W_main_arg3 m (dats m) c),
    ((h.1 c).2 main_arg4 (Pipeline.mem_restRefs_of main_arg4 (by decide) (by decide))).trans (Gen.W_main_arg4 m (dats m) c)⟩, h.2⟩) (launch m ρ)

theorem ends_rounded : Cert.quiescent_Kernel2 :=
  (show Ends Bits = Cert.quiescent_Kernel2 by sl_kernel_rfl).mp ends

theorem ends_ideal : Cert.quiescent_Kernel2Ideal :=
  (show Ends Ideal = Cert.quiescent_Kernel2Ideal by sl_kernel_rfl).mp ends

end Cert.Kernel2Ideal.Fox

end
-- ==== Proof.Fox.Equal.lean ====
/- The attention backward kernel computes the gradients that the reference computes. -/
module

public import proofs.«01_k».proof.Proof.Fox.Results
public import proofs.«01_k».proof.Proof.Fox.Reference
public import proofs.«01_k».proof.Proof.Fox.Rounded
public import proofs.«01_k».proof.Proof.FiniteArgs
public import proofs.«01_k».proof.Proof.Gen.Pre_fox_finite
public import proofs.«01_k».proof.Defs

@[expose] public section

set_option maxRecDepth 16384

noncomputable section

namespace Cert.Fox

open Idealize.ShloMosaic Idealize.ShloMosaic.TcCoe Idealize.SL.Sem
open Cert.Attn Cert.Norm

/-- The reference leaves its arguments and its semaphores as they were. -/
theorem frame_reference : Cert.quiescent_Reference2Ideal := fun m ρ _ =>
  (θ_run _ _ _).mono (fun _ h => ⟨fun c => (h c).2.2.2.2, sem_eq_zero_of_no_sems (by decide) _⟩) (Cert.Reference2Ideal.Value.run m ρ)

section

variable {m : (ℓ : Loc Cert.Kernel2Ideal.nD Cert.Kernel2Ideal.τ Cert.Kernel2Ideal.sig) → Buf (Elt Ideal) ℓ}

/-- Under the precondition the five arrays hold reals. -/
theorem real_args (h : Cert.Pre_Kernel2Ideal_fox_finite m) (c : Dev Cert.Kernel2Ideal.nD) :
    ∃ (q k v ct : Fin 8 → Fin 4096 → Fin 64 → ℝ) (f : Fin 8 → Fin 4096 → ℝ),
      (∀ h i a, Kernel2Ideal.Fox.arg0 m c (ix3 h i a) = (q h i a : EReal)) ∧ (∀ h i a, Kernel2Ideal.Fox.arg1 m c (ix3 h i a) = (k h i a : EReal))
      ∧ (∀ h i a, Kernel2Ideal.Fox.arg2 m c (ix3 h i a) = (v h i a : EReal)) ∧ (∀ h i, Kernel2Ideal.Fox.arg3 m c (ix2 h i) = (f h i : EReal))
      ∧ (∀ h i a, Kernel2Ideal.Fox.arg4 m c (ix3 h i a) = (ct h i a : EReal)) := by
  obtain ⟨h0, h1, h2, h3, h4⟩ := h c
  obtain ⟨q, hq⟩ := lift (Kernel2Ideal.Fox.arg0 m c) fun i => finite_of_all _ _ h0 i
  obtain ⟨k, hk⟩ := lift (Kernel2Ideal.Fox.arg1 m c) fun i => finite_of_all _ _ h1 i
  obtain ⟨v, hv⟩ := lift (Kernel2Ideal.Fox.arg2 m c) fun i => finite_of_all _ _ h2 i
  obtain ⟨f, hf⟩ := lift (Kernel2Ideal.Fox.arg3 m c) fun i => finite_of_all _ _ h3 i
  obtain ⟨ct, hct⟩ := lift (Kernel2Ideal.Fox.arg4 m c) fun i => finite_of_all _ _ h4 i
  exact ⟨fun h i a => q (ix3 h i a), fun h i a => k (ix3 h i a), fun h i a => v (ix3 h i a), fun h i a => ct (ix3 h i a), fun h i => f (ix2 h i),
    fun h i a => hq _, fun h i a => hk _, fun h i a => hv _, fun h i => hf _, fun h i a => hct _⟩

end

/-- The four gradients. -/
theorem algebraic_fox : Cert.algebraic_Kernel2Ideal_Reference2Ideal_pre_fox_finite := by
  intro m g m' g' hpre hagree
  refine ⟨fun c => _, fun c => _, fun c => _, fun c => _, Cert.Kernel2Ideal.Fox.run m g, ?_⟩
  refine (θ_run _ _ _).mono (fun r h c => ?_) (Cert.Reference2Ideal.Value.run m' g')
  obtain ⟨r0, r1, r2, r3, hargs⟩ := h c
  obtain ⟨e0, e1, e2, e3, e4⟩ := hagree c
  obtain ⟨q, k, v, ct, f, h0, h1, h2, h3, h4⟩ := real_args hpre c
  obtain ⟨mr, hm⟩ := Kernel2Ideal.Fox.mxs_real q k f (Kernel2Ideal.Fox.scr_real q k f h0 h1 h3)
  refine ⟨r0.trans ?_, r1.trans ?_, r2.trans ?_, r3.trans ?_, hargs⟩
  · beta_reduce
    rw [Reference2Ideal.Read.val_main_v72_eq, e0, e1, e2, e3, e4, Kernel2Ideal.Fox.array_query m c h0 h1 h2 h3 h4 hm]
    refine funext fun y => ?_
    obtain ⟨h, i, a, rfl⟩ : ∃ h i a, y = ix3 h i a := ⟨_, _, _, eq_ix3 y⟩
    exact (Reference2Ideal.Fox.dq_real q k v ct f h0 h1 h2 h3 h4 h i a).trans (Kernel2Ideal.Fox.query_heads q k v ct f h i a).symm
  · beta_reduce
    rw [Reference2Ideal.Read.val_main_v71_eq, e0, e1, e2, e3, e4, Kernel2Ideal.Fox.array_key m c h0 h1 h2 h3 h4 hm]
    refine funext fun y => ?_
    obtain ⟨h, i, a, rfl⟩ : ∃ h i a, y = ix3 h i a := ⟨_, _, _, eq_ix3 y⟩
    exact (Reference2Ideal.Fox.dk_real q k v ct f h0 h1 h2 h3 h4 h i a).trans (Kernel2Ideal.Fox.key_heads q k v ct f h i a).symm
  · beta_reduce
    rw [Reference2Ideal.Read.val_main_v46_eq, e0, e1, e3, e4, Kernel2Ideal.Fox.array_value m c h0 h1 h2 h3 h4 hm]
    refine funext fun y => ?_
    obtain ⟨h, i, a, rfl⟩ : ∃ h i a, y = ix3 h i a := ⟨_, _, _, eq_ix3 y⟩
    exact (Reference2Ideal.Fox.dv_real q k ct f h0 h1 h3 h4 h i a).trans (Kernel2Ideal.Fox.value_heads q k v ct f h i a).symm
  · beta_reduce
    rw [Reference2Ideal.Read.val_main_v68_eq, e0, e1, e2, e3, e4, Kernel2Ideal.Fox.array_query m c h0 h1 h2 h3 h4 hm, Kernel2Ideal.Fox.array_key m c h0 h1 h2 h3 h4 hm]
    refine funext fun y => ?_
    obtain ⟨h, i, rfl⟩ : ∃ h i, y = ix2 h i := ⟨_, _, eq_ix2 y⟩
    exact (Reference2Ideal.Fox.df_real q k v ct f h0 h1 h2 h3 h4 h i).trans (Kernel2Ideal.Fox.gate_diff q k v ct f h i).symm

end Cert.Fox
-- ==== Proof.Loss.Math.lean ====
module

public import proofs.«01_k».proof.Proof.FiniteArgs

@[expose] public section

/-! The output projection's loss and its gradients over the reals, row by row, and the scalar facts that both programs' spellings
of them need. -/

noncomputable section

namespace Cert.Loss

open Idealize.ShloMosaic

/-! ### Scalars -/

/-- The logistic function. -/
def sg (g : ℝ) : ℝ := 1 / (1 + Real.exp (-g))

theorem ofBits_one : Ideal.ofBits .f32 0x3F800000#32 = ((1 : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_mean : Ideal.ofBits .f32 0x3A800000#32 = ((1 / 1024 : ℝ) : EReal) := by
  simp [Ideal.ofBits, Ideal.ieee]; rw [← EReal.coe_mul]; norm_num

/-- One over one plus an exponential is the logistic function. -/
theorem sg_coe (g : ℝ) : Ideal.div ((1 : ℝ) : EReal) (((1 : ℝ) : EReal) + ((Real.exp (-g) : ℝ) : EReal)) = ((sg g : ℝ) : EReal) := by
  rw [← EReal.coe_add, Norm.div_real _ (by positivity)]; rfl

/-! ### The step's loss and gradients

`x` and `t` are the residual stream and the target, `a` and `m` the two outer parts of the mixed heads, `o` and `g` the attention's
output and its gate, `w` the projection. -/

variable (x t : Fin 4096 → Fin 1024 → ℝ) (a m : Fin 4096 → Fin 256 → ℝ) (o g : Fin 4096 → Fin 512 → ℝ) (w : Fin 1024 → Fin 1024 → ℝ)

/-- The gate's value. -/
def gate (i : Fin 4096) (j : Fin 512) : ℝ := g i j * sg (g i j)

/-- The mixed heads. -/
def mix (i : Fin 4096) (k : Fin 1024) : ℝ :=
  if h : k.val < 256 then a i ⟨k.val, h⟩
  else if h' : k.val < 768 then o i ⟨k.val - 256, by omega⟩ * gate g i ⟨k.val - 256, by omega⟩
  else m i ⟨k.val - 768, by omega⟩

/-- The step's error. -/
def err (i : Fin 4096) (l : Fin 1024) : ℝ := x i l + (∑ k, mix a m o g i k * w k l) - t i l

/-- The gradient of the error, and of `x`. -/
def dy (i : Fin 4096) (l : Fin 1024) : ℝ := err x t a m o g w i l * (1 / 1024)

/-- The gradient of the mixed heads. -/
def dmix (i : Fin 4096) (k : Fin 1024) : ℝ := ∑ l, dy x t a m o g w i l * w k l

/-- The gradient of the projection. -/
def dw (k l : Fin 1024) : ℝ := ∑ i, mix a m o g i k * dy x t a m o g w i l

/-- A row's mean squared error. -/
def mse (i : Fin 4096) : ℝ := (∑ l, err x t a m o g w i l * err x t a m o g w i l) * (1 / 1024)

/-- The gradient of the gated part of the mixed heads. -/
def dgated (i : Fin 4096) (j : Fin 512) : ℝ := dmix x t a m o g w i ⟨256 + j.val, by omega⟩

/-- The gradient of the attention's output. -/
def dout (i : Fin 4096) (j : Fin 512) : ℝ := dgated x t a m o g w i j * gate g i j

/-- The gradient of the gate. -/
def dgate (i : Fin 4096) (j : Fin 512) : ℝ :=
  dgated x t a m o g w i j * o i j * (sg (g i j) * (1 + g i j * (1 - sg (g i j))))

/-- A head's sum of gradient times output. -/
def dsum (i : Fin 4096) (h : Fin 8) : ℝ :=
  ∑ b : Fin 64, dout x t a m o g w i ⟨h.val * 64 + b.val, by omega⟩ * o i ⟨h.val * 64 + b.val, by omega⟩

/-- A head's gradient in its first 64 lanes, its negated sum in the next lane, and zeros. -/
def blocks (i : Fin 4096) (y : Fin 1024) : ℝ :=
  if h : y.val % 128 < 64 then dout x t a m o g w i ⟨y.val / 128 * 64 + y.val % 128, by omega⟩
  else if y.val % 128 = 64 then -dsum x t a m o g w i ⟨y.val / 128, by omega⟩
  else 0

/-! ### Lanes -/

/-- A sum over 128 lanes kept in the first 64. -/
theorem sum_low (f : Fin 128 → EReal) : (∑ k : Fin 128, if k.val < 64 then f k else 0) = ∑ b : Fin 64, f ⟨b.val, by omega⟩ := by
  refine (Fin.sum_univ_add (a := 64) (b := 64) _).trans ?_
  have h1 : ∀ b : Fin 64, (if (Fin.castAdd 64 b).val < 64 then f (Fin.castAdd 64 b) else 0) = f ⟨b.val, by omega⟩ := fun b => if_pos b.isLt
  have h2 : ∀ b : Fin 64, (if (Fin.natAdd 64 b).val < 64 then f (Fin.natAdd 64 b) else 0) = 0 :=
    fun b => if_neg (by show ¬ (64 + b.val < 64); omega)
  rw [Finset.sum_congr rfl fun b _ => h1 b, Finset.sum_congr rfl fun b _ => h2 b, Finset.sum_const_zero, add_zero]

/-- A sum over 128 lanes kept in the last 64. -/
theorem sum_high (f : Fin 128 → EReal) : (∑ k : Fin 128, if k.val < 64 then 0 else f k) = ∑ b : Fin 64, f ⟨64 + b.val, by omega⟩ := by
  refine (Fin.sum_univ_add (a := 64) (b := 64) _).trans ?_
  have h1 : ∀ b : Fin 64, (if (Fin.castAdd 64 b).val < 64 then 0 else f (Fin.castAdd 64 b)) = 0 := fun b => if_pos b.isLt
  have h2 : ∀ b : Fin 64, (if (Fin.natAdd 64 b).val < 64 then 0 else f (Fin.natAdd 64 b)) = f ⟨64 + b.val, by omega⟩ :=
    fun b => if_neg (by show ¬ (64 + b.val < 64); omega)
  rw [Finset.sum_congr rfl fun b _ => h1 b, Finset.sum_congr rfl fun b _ => h2 b, Finset.sum_const_zero, zero_add]

/-- Whether column `y` is lane `o` of row `k`'s block of 128, as 32-bit arithmetic has it. -/
theorem lane_bit (k : Fin 128) (y : Fin 1024) (o : ℕ) (ho : o < 128) :
    (BitVec.ofNat 32 y.val == BitVec.ofNat 32 k.val * 128#32 + BitVec.ofNat 32 o) = decide (y.val = k.val * 128 + o) := by
  rw [Bool.eq_iff_iff, beq_iff_eq, decide_eq_true_iff, ← BitVec.toNat_inj]
  have hy := y.isLt
  have hk := k.isLt
  simp only [BitVec.toNat_ofNat, BitVec.toNat_add, BitVec.toNat_mul]
  omega

/-- Row sums against the indicator of a lane pick the lane's entry. -/
theorem sum_lane (f : Fin 128 → EReal) (y : Fin 1024) (o : ℕ) (ho : o < 128) :
    (∑ k : Fin 128, if y.val = k.val * 128 + o then f k else 0) = if y.val % 128 = o then f ⟨y.val / 128, by omega⟩ else 0 := by
  have hy := y.isLt
  split
  · rename_i h
    rw [Finset.sum_eq_single (⟨y.val / 128, by omega⟩ : Fin 128)]
    · exact if_pos (by show y.val = y.val / 128 * 128 + o; omega)
    · intro b _ hb
      exact if_neg fun h' => hb (Fin.ext (by show b.val = y.val / 128; omega))
    · intro h'; exact absurd (Finset.mem_univ _) h'
  · rename_i h
    exact Finset.sum_eq_zero fun b _ => if_neg fun h' => h (by omega)

end Cert.Loss

end
-- ==== Proof.Loss.Operands.lean ====
module

public import proofs.«01_k».proof.Proof.Gen.Kernel3Ideal.Value
public import proofs.«01_k».proof.Proof.Loss.Math
public import proofs.«01_k».proof.Proof.Pieces
public import Idealize.ShloMosaic.Lib.Pipeline.ValueKit
public import Idealize.ShloMosaic.Lib.Pointwise
public import Idealize.ShloMosaic.Lib.Claim

@[expose] public section

/-! What each staged block of the call holds, over the arguments of the program at real values. -/

set_option maxRecDepth 16384

noncomputable section

namespace Cert.Loss

open Idealize.ShloMosaic Idealize.ShloMosaic.TcCoe Idealize.SL.Sem
open Idealize.ShloMosaic.Pipeline (Dat)
open Cert.Kernel3Ideal Cert.Kernel3Ideal.Gen Cert.Kernel3Ideal.Value

variable (μ : (ℓ : Loc nD τ sig) → Buf (Elt Ideal) ℓ) (c : Dev nD)

/-! ### The arguments by row and column -/

def X (i : Fin 4096) (l : Fin 1024) : EReal := μ (c.tc.loc main_arg0) (ix2 i l)
def T (i : Fin 4096) (l : Fin 1024) : EReal := μ (c.tc.loc main_arg1) (ix2 i l)
def A (i : Fin 4096) (l : Fin 256) : EReal := μ (c.tc.loc main_arg2) (ix2 i l)
def O (i : Fin 4096) (l : Fin 512) : EReal := μ (c.tc.loc main_arg3) (ix2 i l)
def G (i : Fin 4096) (l : Fin 512) : EReal := μ (c.tc.loc main_arg4) (ix2 i l)
def M (i : Fin 4096) (l : Fin 256) : EReal := μ (c.tc.loc main_arg5) (ix2 i l)
def W (i : Fin 1024) (l : Fin 1024) : EReal := μ (c.tc.loc main_arg6) (ix2 i l)

/-- The arguments hold these reals. -/
structure Holds (x t : Fin 4096 → Fin 1024 → ℝ) (a m : Fin 4096 → Fin 256 → ℝ) (o g : Fin 4096 → Fin 512 → ℝ)
    (w : Fin 1024 → Fin 1024 → ℝ) : Prop where
  x : ∀ i l, X μ c i l = ((x i l : ℝ) : EReal)
  t : ∀ i l, T μ c i l = ((t i l : ℝ) : EReal)
  a : ∀ i l, A μ c i l = ((a i l : ℝ) : EReal)
  o : ∀ i l, O μ c i l = ((o i l : ℝ) : EReal)
  g : ∀ i l, G μ c i l = ((g i l : ℝ) : EReal)
  m : ∀ i l, M μ c i l = ((m i l : ℝ) : EReal)
  w : ∀ i l, W μ c i l = ((w i l : ℝ) : EReal)

/-- The array row of row `r` of the block at grid point `p`. -/
def rowOf (p : Fin cfg0.N) (r : Fin 512) : Fin 4096 :=
  ⟨p.val * 512 + r.val, by have := lt_of_lt_of_eq p.isLt N_0; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![t.val, 0] ∧ win0_7.index t = ![t.val, 0]
    ∧ win0_9.index t = ![t.val, 0] ∧ win0_10.index t = ![t.val, 0] ∧ win0_11.index t = ![t.val, 0]
    ∧ win0_12.index t = ![0, 0] ∧ win0_13.index t = ![0, 0] ∧ win0_14.index t = ![t.val, 0] ∧ win0_15.index t = ![t.val, 0] :=
  (by decide +kernel : ∀ t : Fin grid0.N, _)

/-! ### What the host lines leave -/

theorem V_a (i : Fin 4096) (k : Fin 256) : (V μ c main_v3 (ix2 i k) : EReal) = A μ c i k := by
  simp only [V, hostOps0, hostOps0_1, List.flatten_cons, List.flatten_nil, List.cons_append, List.nil_append, List.append_nil]
  after_results
  pointwise
  rfl

theorem V_m (i : Fin 4096) (k : Fin 256) : (V μ c main_v5 (ix2 i k) : EReal) = M μ c i k := by
  simp only [V, hostOps0, hostOps0_1, List.flatten_cons, List.flatten_nil, List.cons_append, List.nil_append, List.append_nil]
  after_results
  pointwise
  rfl

theorem V_w (i k : Fin 1024) : (V μ c main_v6 (ix2 i k) : EReal) = W μ c i k := by
  simp only [V, hostOps0, hostOps0_1, List.flatten_cons, List.flatten_nil, List.cons_append, List.nil_append, List.append_nil]
  after_results
  pointwise
  rfl

/-- The gated output of the attention. -/
theorem V_og (i : Fin 4096) (k : Fin 512) {o g : ℝ} (ho : O μ c i k = ((o : ℝ) : EReal))
    (hg : G μ c i k = ((g : ℝ) : EReal)) : (V μ c main_v4 (ix2 i k) : EReal) = ((o * (g * sg g) : ℝ) : EReal) := by
  have h : V μ c main_v4 (ix2 i k)
      = (truncf FTy.bf16 (mulf (μ (c.tc.loc main_arg3)) (mulf (μ (c.tc.loc main_arg4))
          (Host.divf (broadcastInDim S4096x512 ![] bcast_S_S4096x512 (constant (F := Ideal) S_ FTy.f32 0x3F800000#32))
            (addf (broadcastInDim S4096x512 ![] bcast_S_S4096x512 (constant (F := Ideal) S_ FTy.f32 0x3F800000#32))
              (Host.exp (Host.negf (μ (c.tc.loc main_arg4)))))))) bitsLt_bf16_f32 : FVec Ideal S4096x512 .bf16) (ix2 i k) := by
    simp only [V, hostOps0, hostOps0_1, List.flatten_cons, List.flatten_nil, List.cons_append, List.nil_append, List.append_nil]
    after_results_simp
    rfl
  rw [h]
  pointwise
  show (O μ c i k * (G μ c i k * Ideal.div 1 (1 + Ideal.exp (-G μ c i k))) : EReal) = _
  rw [ho, hg, ← EReal.coe_one, ← EReal.coe_neg, Ideal.exp_coe, sg_coe, ← EReal.coe_mul, ← EReal.coe_mul]

/-! ### The staged blocks -/

variable {x t : Fin 4096 → Fin 1024 → ℝ} {a m : Fin 4096 → Fin 256 → ℝ} {o g : Fin 4096 → Fin 512 → ℝ} {w : Fin 1024 → Fin 1024 → ℝ}
variable (H : Holds μ c x t a m o g w) (p : Fin cfg0.N)
include H

theorem blk_x (r : Fin 512) (l : Fin 1024) : (iblk μ c 0 p (ix2 r l) : EReal) = ((x (rowOf p r) l : ℝ) : EReal) := by
  rw [← H.x]; unfold rowOf X
  blk_point [iblk, V, idx p]
theorem blk_t (r : Fin 512) (l : Fin 1024) : (iblk μ c 1 p (ix2 r l) : EReal) = ((t (rowOf p r) l : ℝ) : EReal) := by
  rw [← H.t]; unfold rowOf T
  blk_point [iblk, V, idx p]
theorem blk_g (r : Fin 512) (l : Fin 512) : (iblk μ c 6 p (ix2 r l) : EReal) = ((g (rowOf p r) l : ℝ) : EReal) := by
  rw [← H.g]; unfold rowOf G
  blk_point [iblk, V, idx p]
theorem blk_o (r : Fin 512) (l : Fin 512) : (iblk μ c 7 p (ix2 r l) : EReal) = ((o (rowOf p r) l : ℝ) : EReal) := by
  rw [← H.o]; unfold rowOf O
  blk_point [iblk, V, idx p]
theorem blk_a (r : Fin 512) (k : Fin 256) : (iblk μ c 2 p (ix2 r k) : EReal) = ((a (rowOf p r) k : ℝ) : EReal) :=
  (show _ = V μ c main_v3 (ix2 (rowOf p r) k) by blk_simp [iblk]; blk_ext [idx p, rowOf]).trans ((V_a μ c _ _).trans (H.a _ _))
theorem blk_og (r : Fin 512) (k : Fin 512) :
    (iblk μ c 3 p (ix2 r k) : EReal) = ((o (rowOf p r) k * gate g (rowOf p r) k : ℝ) : EReal) :=
  (show _ = V μ c main_v4 (ix2 (rowOf p r) k) by blk_simp [iblk]; blk_ext [idx p, rowOf]).trans (V_og μ c _ _ (H.o _ _) (H.g _ _))
theorem blk_m (r : Fin 512) (k : Fin 256) : (iblk μ c 4 p (ix2 r k) : EReal) = ((m (rowOf p r) k : ℝ) : EReal) :=
  (show _ = V μ c main_v5 (ix2 (rowOf p r) k) by blk_simp [iblk]; blk_ext [idx p, rowOf]).trans ((V_m μ c _ _).trans (H.m _ _))
theorem blk_w (k l : Fin 1024) : (iblk μ c 5 p (ix2 k l) : EReal) = ((w k l : ℝ) : EReal) :=
  (show _ = V μ c main_v6 (ix2 k l) by blk_simp [iblk]; blk_ext [idx p]).trans ((V_w μ c _ _).trans (H.w _ _))

end Cert.Loss

end
-- ==== Proof.Loss.Point.lean ====
module

public import proofs.«01_k».proof.Proof.Loss.Operands

@[expose] public section

/-! What one grid point computes, element by element, from blocks of real values. -/

set_option maxRecDepth 16384

noncomputable section

namespace Cert.Loss

open Idealize.ShloMosaic Idealize.ShloMosaic.TcCoe Idealize.SL.Sem
open Cert.Kernel3Ideal Cert.Kernel3Ideal.Gen

section Products

variable {S : FVec Ideal S512x1024 .bf16} {Xb Tb E : FVec Ideal S512x1024 .f32} {Wb : FVec Ideal S1024x1024 .bf16}
variable {s xb tb e : Fin 512 → Fin 1024 → ℝ} {wb : Fin 1024 → Fin 1024 → ℝ}

theorem err_at (hS : ∀ r k, (S (ix2 r k) : EReal) = ((s r k : ℝ) : EReal)) (hX : ∀ r k, (Xb (ix2 r k) : EReal) = ((xb r k : ℝ) : EReal))
    (hT : ∀ r k, (Tb (ix2 r k) : EReal) = ((tb r k : ℝ) : EReal)) (hW : ∀ k l, (Wb (ix2 k l) : EReal) = ((wb k l : ℝ) : EReal)) (r : Fin 512) (l : Fin 1024) :
    (k0_pay7 (F := Ideal) S Xb Wb Tb (ix2 r l) : EReal) = ((xb r l + (∑ k, s r k * wb k l) - tb r l : ℝ) : EReal) := by
  pointwise [k0_pay7]
  simp only [hS, hX, hT, hW, ← EReal.coe_mul, Norm.coe_sum, ← EReal.coe_add, ← EReal.coe_sub]

theorem dy_at (hE : ∀ r k, (E (ix2 r k) : EReal) = ((e r k : ℝ) : EReal)) (r : Fin 512) (l : Fin 1024) :
    (k0_pay11 E (ix2 r l) : EReal) = ((e r l * (1 / 1024) : ℝ) : EReal) := by
  pointwise [k0_pay11]
  simp only [hE, ofBits_mean, ← EReal.coe_mul]

theorem dmix_at (hE : ∀ r k, (E (ix2 r k) : EReal) = ((e r k : ℝ) : EReal)) (hW : ∀ k l, (Wb (ix2 k l) : EReal) = ((wb k l : ℝ) : EReal))
    (r : Fin 512) (k : Fin 1024) : (k0_pay13 E Wb (ix2 r k) : EReal) = ((∑ l, e r l * (1 / 1024) * wb k l : ℝ) : EReal) := by
  pointwise [k0_pay13, k0_pay12, k0_pay11]
  simp only [hE, hW, ofBits_mean, ← EReal.coe_mul, Norm.coe_sum]

theorem dma_at (hE : ∀ r k, (E (ix2 r k) : EReal) = ((e r k : ℝ) : EReal)) (hW : ∀ k l, (Wb (ix2 k l) : EReal) = ((wb k l : ℝ) : EReal))
    (r : Fin 512) (k : Fin 256) : (k0_pay14 E Wb (ix2 r k) : EReal) = ((∑ l, e r l * (1 / 1024) * wb ⟨k.val, by omega⟩ l : ℝ) : EReal) := by
  rw [← dmix_at hE hW]; pointwise [k0_pay14]

theorem dmm_at (hE : ∀ r k, (E (ix2 r k) : EReal) = ((e r k : ℝ) : EReal)) (hW : ∀ k l, (Wb (ix2 k l) : EReal) = ((wb k l : ℝ) : EReal))
    (r : Fin 512) (k : Fin 256) : (k0_pay15 E Wb (ix2 r k) : EReal) = ((∑ l, e r l * (1 / 1024) * wb ⟨768 + k.val, by omega⟩ l : ℝ) : EReal) := by
  rw [← dmix_at hE hW]; pointwise [k0_pay15]

theorem dw_at (hS : ∀ r k, (S (ix2 r k) : EReal) = ((s r k : ℝ) : EReal)) (hE : ∀ r k, (E (ix2 r k) : EReal) = ((e r k : ℝ) : EReal))
    (v : FVec Ideal S1024x1024 .f32) (k l : Fin 1024) :
    (k0_pay16 S E v (ix2 k l) : EReal) = v (ix2 k l) + ((∑ r, s r k * (e r l * (1 / 1024)) : ℝ) : EReal) := by
  pointwise [k0_pay16, k0_pay12, k0_pay11]
  simp only [hS, hE, ofBits_mean, ← EReal.coe_mul, Norm.coe_sum]

theorem loss_at (hE : ∀ r k, (k0_pay7 (F := Ideal) S Xb Wb Tb (ix2 r k) : EReal) = ((e r k : ℝ) : EReal))
    (v : FVec Ideal S1x128 .f32) (z : Fin 1) (y : Fin 128) :
    (k0_pay10 (F := Ideal) (k0_pay8 S Xb Wb Tb) k0_pay9 v (ix2 z y) : EReal)
      = v (ix2 z y) + ((1 / 2 * ∑ r, (∑ l, e r l * e r l) * (1 / 1024) : ℝ) : EReal) := by
  unfold k0_pay8
  generalize k0_pay7 (F := Ideal) S Xb Wb Tb = u at hE ⊢
  pointwise [k0_pay10, k0_pay9]
  simp only [hE, ofBits_mean, ofBits_half, ← EReal.coe_mul, Norm.coe_sum]

end Products

/-! ### Selections by lane -/

theorem sel_lt {α : Type} (y : Fin 128) (a b : α) :
    Scalar.select (IntOp.cmpi .slt (BitVec.ofNat 32 y.val) 64#32) a b = if y.val < 64 then a else b := by
  rw [show IntOp.cmpi .slt (BitVec.ofNat 32 y.val) 64#32 = BitVec.ofBool (decide (y.val < 64)) from
    (by decide +kernel : ∀ y : Fin 128, IntOp.cmpi .slt (BitVec.ofNat 32 y.val) 64#32 = BitVec.ofBool (decide (y.val < 64))) y]
  unfold Scalar.select
  by_cases h : y.val < 64 <;> simp [h]

theorem sel_eq {α : Type} (y : Fin 128) (n : ℕ) (hn : n < 8) (a b : α) :
    Scalar.select (IntOp.cmpi .eq (BitVec.ofNat 32 y.val) (BitVec.ofNat 32 n)) a b = if y.val = n then a else b := by
  rw [show IntOp.cmpi .eq (BitVec.ofNat 32 y.val) (BitVec.ofNat 32 n) = BitVec.ofBool (decide (y.val = n)) from
    (by decide +kernel : ∀ (y : Fin 128) (n : Fin 8), IntOp.cmpi .eq (BitVec.ofNat 32 y.val) (BitVec.ofNat 32 n.val)
      = BitVec.ofBool (decide (y.val = n.val))) y ⟨n, hn⟩]
  unfold Scalar.select
  by_cases h : y.val = n <;> simp [h]

theorem sel_lane {α : Type} (k : Fin 128) (y : Fin 1024) (o : ℕ) (ho : o < 128) (a b : α) :
    Scalar.select (IntOp.cmpi .eq (BitVec.ofNat 32 y.val) (IntOp.addi (IntOp.muli (BitVec.ofNat 32 k.val) 128#32) (BitVec.ofNat 32 o))) a b
      = if y.val = k.val * 128 + o then a else b := by
  rw [show IntOp.cmpi .eq (BitVec.ofNat 32 y.val) (IntOp.addi (IntOp.muli (BitVec.ofNat 32 k.val) 128#32) (BitVec.ofNat 32 o))
    = BitVec.ofBool (decide (y.val = k.val * 128 + o)) from congrArg BitVec.ofBool (lane_bit k y o ho)]
  unfold Scalar.select
  by_cases h : y.val = k.val * 128 + o <;> simp [h]

/-! ### The gates of a pair of heads -/

theorem sg_kernel (g : ℝ) : Ideal.div 1 (1 + Ideal.exp (0 - (g : EReal))) = ((sg g : ℝ) : EReal) := by
  rw [zero_sub, ← EReal.coe_neg, Ideal.exp_coe, ← EReal.coe_one, sg_coe]

theorem one_sub_coe (r : ℝ) : (1 : EReal) - (r : EReal) = ((1 - r : ℝ) : EReal) := by rw [EReal.coe_sub, EReal.coe_one]
theorem one_add_coe (r : ℝ) : (1 : EReal) + (r : EReal) = ((1 + r : ℝ) : EReal) := by rw [EReal.coe_add, EReal.coe_one]

section Gates

variable {D : FVec Ideal S512x1024 .f32} {Gb Ob : FVec Ideal S512x128 .f32} {d : Fin 512 → Fin 1024 → ℝ} {gb ob : Fin 512 → Fin 128 → ℝ}
variable (hD : ∀ r k, (D (ix2 r k) : EReal) = ((d r k : ℝ) : EReal)) (hG : ∀ r k, (Gb (ix2 r k) : EReal) = ((gb r k : ℝ) : EReal))
include hD hG

theorem dout0_at (r : Fin 512) (b : Fin 128) :
    (k0_pay21 (F := Ideal) D Gb (ix2 r b) : EReal) = ((d r ⟨256 + b.val, by omega⟩ * (gb r b * sg (gb r b)) : ℝ) : EReal) := by
  pointwise [k0_pay21, k0_pay20, k0_pay19]
  simp only [hD, hG, sg_kernel, ← EReal.coe_mul]

theorem dout1_at (r : Fin 512) (b : Fin 128) :
    (k0_pay27 (F := Ideal) D Gb (ix2 r b) : EReal) = ((d r ⟨384 + b.val, by omega⟩ * (gb r b * sg (gb r b)) : ℝ) : EReal) := by
  pointwise [k0_pay27, k0_pay26, k0_pay25]
  simp only [hD, hG, sg_kernel, ← EReal.coe_mul]

theorem dout2_at (r : Fin 512) (b : Fin 128) :
    (k0_pay35 (F := Ideal) D Gb (ix2 r b) : EReal) = ((d r ⟨512 + b.val, by omega⟩ * (gb r b * sg (gb r b)) : ℝ) : EReal) := by
  pointwise [k0_pay35, k0_pay34, k0_pay33]
  simp only [hD, hG, sg_kernel, ← EReal.coe_mul]

theorem dout3_at (r : Fin 512) (b : Fin 128) :
    (k0_pay41 (F := Ideal) D Gb (ix2 r b) : EReal) = ((d r ⟨640 + b.val, by omega⟩ * (gb r b * sg (gb r b)) : ℝ) : EReal) := by
  pointwise [k0_pay41, k0_pay40, k0_pay39]
  simp only [hD, hG, sg_kernel, ← EReal.coe_mul]

theorem dgate0_at (hO : ∀ r k, (Ob (ix2 r k) : EReal) = ((ob r k : ℝ) : EReal)) (r : Fin 512) (b : Fin 128) :
    (k0_pay22 (F := Ideal) D Gb Ob (ix2 r b) : EReal)
      = ((d r ⟨256 + b.val, by omega⟩ * ob r b * (sg (gb r b) * (1 + gb r b * (1 - sg (gb r b)))) : ℝ) : EReal) := by
  pointwise [k0_pay22, k0_pay20, k0_pay19]
  simp only [hD, hG, hO, sg_kernel, one_sub_coe, one_add_coe, ← EReal.coe_mul]

theorem dgate1_at (hO : ∀ r k, (Ob (ix2 r k) : EReal) = ((ob r k : ℝ) : EReal)) (r : Fin 512) (b : Fin 128) :
    (k0_pay28 (F := Ideal) D Gb Ob (ix2 r b) : EReal)
      = ((d r ⟨384 + b.val, by omega⟩ * ob r b * (sg (gb r b) * (1 + gb r b * (1 - sg (gb r b)))) : ℝ) : EReal) := by
  pointwise [k0_pay28, k0_pay26, k0_pay25]
  simp only [hD, hG, hO, sg_kernel, one_sub_coe, one_add_coe, ← EReal.coe_mul]

theorem dgate2_at (hO : ∀ r k, (Ob (ix2 r k) : EReal) = ((ob r k : ℝ) : EReal)) (r : Fin 512) (b : Fin 128) :
    (k0_pay36 (F := Ideal) D Gb Ob (ix2 r b) : EReal)
      = ((d r ⟨512 + b.val, by omega⟩ * ob r b * (sg (gb r b) * (1 + gb r b * (1 - sg (gb r b)))) : ℝ) : EReal) := by
  pointwise [k0_pay36, k0_pay34, k0_pay33]
  simp only [hD, hG, hO, sg_kernel, one_sub_coe, one_add_coe, ← EReal.coe_mul]

theorem dgate3_at (hO : ∀ r k, (Ob (ix2 r k) : EReal) = ((ob r k : ℝ) : EReal)) (r : Fin 512) (b : Fin 128) :
    (k0_pay43 (F := Ideal) Gb (k0_pay39 Gb) (k0_pay42 D Ob) (ix2 r b) : EReal)
      = ((d r ⟨640 + b.val, by omega⟩ * ob r b * (sg (gb r b) * (1 + gb r b * (1 - sg (gb r b)))) : ℝ) : EReal) := by
  pointwise [k0_pay43, k0_pay42, k0_pay40, k0_pay39]
  simp only [hD, hG, hO, sg_kernel, one_sub_coe, one_add_coe, ← EReal.coe_mul]

end Gates

/-! ### The heads' sums -/

/-- The first 64 lanes' sum of products. -/
def lows (p ob : Fin 512 → Fin 128 → ℝ) (r : Fin 512) : ℝ := ∑ b : Fin 64, p r ⟨b.val, by omega⟩ * ob r ⟨b.val, by omega⟩
/-- The last 64 lanes' sum of products. -/
def highs (p ob : Fin 512 → Fin 128 → ℝ) (r : Fin 512) : ℝ := ∑ b : Fin 64, p r ⟨64 + b.val, by omega⟩ * ob r ⟨64 + b.val, by omega⟩

/-- The lane numbers. -/
abbrev lanes : IVec S512x128 32 := iota .tc S512x128 32 [1] iota_S512x128_d1_w32

section Sums

variable {D : FVec Ideal S512x1024 .f32} {Pb Gb Ob v : FVec Ideal S512x128 .f32} {p ob : Fin 512 → Fin 128 → ℝ}

theorem sums0_at (hP : ∀ r b, (k0_pay21 (F := Ideal) D Gb (ix2 r b) : EReal) = ((p r b : ℝ) : EReal))
    (hO : ∀ r k, (Ob (ix2 r k) : EReal) = ((ob r k : ℝ) : EReal)) (r : Fin 512) (y : Fin 128) :
    (k0_pay23 (F := Ideal) D lanes k0_pay17 k0_pay18 Gb Ob (ix2 r y) : EReal)
      = if y.val = 1 then ((highs p ob r : ℝ) : EReal) else if y.val = 0 then ((lows p ob r : ℝ) : EReal) else 0 := by
  generalize hu : k0_pay21 (F := Ideal) D Gb = u at hP
  unfold k0_pay23
  rw [hu]
  pointwise [k0_pay17, k0_pay18]
  simp only [hP, hO, sel_lt, sum_low, sum_high, ← EReal.coe_mul, Norm.coe_sum]
  rw [sel_eq y 1 (by omega), sel_eq y 0 (by omega)]
  rfl

theorem sums1_at (hP : ∀ r b, (k0_pay27 (F := Ideal) D Gb (ix2 r b) : EReal) = ((p r b : ℝ) : EReal))
    (hO : ∀ r k, (Ob (ix2 r k) : EReal) = ((ob r k : ℝ) : EReal)) (r : Fin 512) (y : Fin 128) :
    (k0_pay31 (F := Ideal) lanes k0_pay17 (k0_pay29 D Gb Ob) (k0_pay30 D lanes k0_pay17 v Gb Ob) 3#32 (ix2 r y) : EReal)
      = if y.val = 3 then ((highs p ob r : ℝ) : EReal) else if y.val = 2 then ((lows p ob r : ℝ) : EReal) else v (ix2 r y) := by
  unfold k0_pay31 k0_pay30 k0_pay29
  generalize hu : k0_pay27 (F := Ideal) D Gb = u at hP ⊢
  pointwise [k0_pay17]
  simp only [hP, hO, sel_lt, sum_low, sum_high, ← EReal.coe_mul, Norm.coe_sum]
  rw [sel_eq y 3 (by omega), sel_eq y 2 (by omega)]
  rfl

theorem sums2_at (hP : ∀ r b, (Pb (ix2 r b) : EReal) = ((p r b : ℝ) : EReal))
    (hO : ∀ r k, (Ob (ix2 r k) : EReal) = ((ob r k : ℝ) : EReal)) (r : Fin 512) (y : Fin 128) :
    (k0_pay37 (F := Ideal) lanes k0_pay17 v Ob Pb (ix2 r y) : EReal)
      = if y.val = 5 then ((highs p ob r : ℝ) : EReal) else if y.val = 4 then ((lows p ob r : ℝ) : EReal) else v (ix2 r y) := by
  pointwise [k0_pay37, k0_pay17]
  simp only [hP, hO, sel_lt, sum_low, sum_high, ← EReal.coe_mul, Norm.coe_sum]
  rw [sel_eq y 5 (by omega), sel_eq y 4 (by omega)]
  rfl

theorem sums3_at (hP : ∀ r b, (Pb (ix2 r b) : EReal) = ((p r b : ℝ) : EReal))
    (hO : ∀ r k, (Ob (ix2 r k) : EReal) = ((ob r k : ℝ) : EReal)) (r : Fin 512) (y : Fin 128) :
    (k0_pay45 (F := Ideal) lanes k0_pay17 v Ob Pb (ix2 r y) : EReal)
      = 0 - (if y.val = 7 then ((highs p ob r : ℝ) : EReal) else if y.val = 6 then ((lows p ob r : ℝ) : EReal) else v (ix2 r y)) := by
  pointwise [k0_pay45, k0_pay17]
  simp only [hP, hO, sel_lt, sum_low, sum_high, ← EReal.coe_mul, Norm.coe_sum]
  rw [sel_eq y 7 (by omega), sel_eq y 6 (by omega)]
  rfl

end Sums

section Parts

variable (i : IVec S512x128 32) (j : IVec S512x128 1) (v ob pb : FVec Ideal S512x128 .f32) (r : Fin 512) (k : Fin 128)

theorem part0_at : (k0_pay46 (F := Ideal) i j v ob pb (ix2 r k) : EReal) = k0_pay45 (F := Ideal) i j v ob pb (ix2 r k) := by
  unfold k0_pay46
  generalize k0_pay45 (F := Ideal) i j v ob pb = u
  pointwise

theorem part1_at : (k0_pay47 (F := Ideal) i j v ob pb (ix2 r k) : EReal)
    = k0_pay45 (F := Ideal) i j v ob pb (ix2 r k) - k0_pay45 (F := Ideal) i j v ob pb (ix2 r k) := by
  unfold k0_pay47 k0_pay46
  generalize k0_pay45 (F := Ideal) i j v ob pb = u
  pointwise

end Parts

theorem pick {k n n' : ℕ} {a a' b b' : ℝ} (ha : a = a') (hb : b = b') (e : EReal) :
    (if k = n then (a : EReal) else if k = n' then (b : EReal) else e) = if k = n then (a' : EReal) else if k = n' then (b' : EReal) else e := by
  rw [ha, hb]

/-- The three rounded parts of the sums, each set into its lane of its head's block: the first is the whole sum, the others zero. -/
theorem spread_at {A : FVec Ideal S512x128 .bf16} {B : FVec Ideal S512x128 .f32} {α : Fin 512 → Fin 128 → ℝ}
    (hA : ∀ r k, (A (ix2 r k) : EReal) = ((α r k : ℝ) : EReal)) (hB : ∀ r k, (B (ix2 r k) : EReal) = 0) (r : Fin 512) (y : Fin 1024) :
    (k0_pay48 (F := Ideal) A B (ix2 r y) : EReal) = if y.val % 128 = 64 then ((α r ⟨y.val / 128, by omega⟩ : ℝ) : EReal) else 0 := by
  pointwise [k0_pay48]
  simp only [hA, hB]
  rw [Finset.sum_congr rfl fun k _ => sel_lane k y 64 (by omega) _ _, sum_lane (fun k => ((α r k : ℝ) : EReal)) y 64 (by omega),
    Finset.sum_congr rfl fun k _ => sel_lane k y 65 (by omega) _ _, Finset.sum_congr rfl fun k _ => sel_lane k y 66 (by omega) _ _]
  simp only [sub_zero, ite_self, Finset.sum_const_zero, add_zero]

section Blocks

variable (P : FVec Ideal S512x128 .f32) (V : FVec Ideal S512x1024 .f32) (r : Fin 512) (y : Fin 128)

theorem block0_at (A : FVec Ideal S512x128 .bf16) (B : FVec Ideal S512x128 .f32) : (k0_pay49 (F := Ideal) k0_pay17 P A B (ix2 r y) : EReal)
    = if y.val < 64 then P (ix2 r y) else k0_pay48 (F := Ideal) A B (ix2 r ⟨0 + y.val, by omega⟩) := by
  unfold k0_pay49
  generalize k0_pay48 (F := Ideal) A B = u
  pointwise [k0_pay17]
  exact sel_lt y _ _

theorem block1_at : (k0_pay50 (F := Ideal) k0_pay17 P V (ix2 r y) : EReal)
    = if y.val < 64 then P (ix2 r ⟨(y.val + 128 - 64) % 128, Nat.mod_lt _ (by omega)⟩) else V (ix2 r ⟨128 + y.val, by omega⟩) := by
  pointwise [k0_pay50, k0_pay17]
  exact sel_lt y _ _

theorem block2_at : (k0_pay51 (F := Ideal) k0_pay17 P V (ix2 r y) : EReal)
    = if y.val < 64 then P (ix2 r y) else V (ix2 r ⟨256 + y.val, by omega⟩) := by
  pointwise [k0_pay51, k0_pay17]
  exact sel_lt y _ _

theorem block3_at : (k0_pay52 (F := Ideal) k0_pay17 P V (ix2 r y) : EReal)
    = if y.val < 64 then P (ix2 r ⟨(y.val + 128 - 64) % 128, Nat.mod_lt _ (by omega)⟩) else V (ix2 r ⟨384 + y.val, by omega⟩) := by
  pointwise [k0_pay52, k0_pay17]
  exact sel_lt y _ _

theorem block4_at : (k0_pay53 (F := Ideal) k0_pay17 P V (ix2 r y) : EReal)
    = if y.val < 64 then P (ix2 r y) else V (ix2 r ⟨512 + y.val, by omega⟩) := by
  pointwise [k0_pay53, k0_pay17]
  exact sel_lt y _ _

theorem block5_at : (k0_pay54 (F := Ideal) k0_pay17 P V (ix2 r y) : EReal)
    = if y.val < 64 then P (ix2 r ⟨(y.val + 128 - 64) % 128, Nat.mod_lt _ (by omega)⟩) else V (ix2 r ⟨640 + y.val, by omega⟩) := by
  pointwise [k0_pay54, k0_pay17]
  exact sel_lt y _ _

theorem block6_at : (k0_pay55 (F := Ideal) k0_pay17 P V (ix2 r y) : EReal)
    = if y.val < 64 then P (ix2 r y) else V (ix2 r ⟨768 + y.val, by omega⟩) := by
  pointwise [k0_pay55, k0_pay17]
  exact sel_lt y _ _

theorem block7_at : (k0_pay1 (F := Ideal) (k0_pay56 k0_pay17 P V) (ix2 r y) : EReal)
    = if y.val < 64 then P (ix2 r ⟨(y.val + 128 - 64) % 128, Nat.mod_lt _ (by omega)⟩) else V (ix2 r ⟨896 + y.val, by omega⟩) := by
  pointwise [k0_pay56, k0_pay1, k0_pay17]
  exact sel_lt y _ _

end Blocks

end Cert.Loss

end
-- ==== Proof.Loss.Array.lean ====
module

public import proofs.«01_k».proof.Proof.Loss.Point

@[expose] public section

/-! What one grid point of the call leaves in the blocks of its first five outputs, and what their arrays then hold. -/

set_option maxRecDepth 16384

noncomputable section

namespace Cert.Loss

open Idealize.ShloMosaic Idealize.ShloMosaic.TcCoe Idealize.SL.Sem
open Idealize.ShloMosaic.Pipeline (Dat)
open Cert.Kernel3Ideal Cert.Kernel3Ideal.Gen Cert.Kernel3Ideal.Value

variable (μ : (ℓ : Loc nD τ sig) → Buf (Elt Ideal) ℓ) (c : Dev nD)

/-- The three stores into the scratch that gathers a row block of the mixed heads. -/
abbrev stores (a : FVec Ideal S512x256 .bf16) (b : FVec Ideal S512x512 .bf16) (d : FVec Ideal S512x256 .bf16) :
    List (View.Piece (Elt Ideal) S512x1024 .bf16) :=
  [⟨Rect.unit ![0, 768] ![512, 256] inb_S512x1024_S512x256_0_768, k0_pay6 (F := Ideal) d⟩,
    ⟨Rect.unit ![0, 256] ![512, 512] inb_S512x1024_S512x512_0_256, k0_pay5 (F := Ideal) b⟩,
    ⟨Rect.unit ![0, 0] ![512, 256] inb_S512x1024_S512x256_0_0, k0_pay4 (F := Ideal) a⟩]

/-- The scratch at point `p`, read back whole. -/
abbrev gathered (p : Fin cfg0.N) : FVec Ideal S512x1024 .bf16 :=
  (View.whole cc0_scratch0).readCov (stores (iblk μ c 2 p) (iblk μ c 3 p) (iblk μ c 4 p))
    (Rect.unit (s := S512x1024) ![0, 0] ![512, 1024] inb_S512x1024_S512x1024_0_0).toLoadRect

/-- The point's errors. -/
abbrev errs (p : Fin cfg0.N) : FVec Ideal S512x1024 .f32 := k0_pay7 (gathered μ c p) (iblk μ c 0 p) (iblk μ c 5 p) (iblk μ c 1 p)

variable {x t : Fin 4096 → Fin 1024 → ℝ} {a m : Fin 4096 → Fin 256 → ℝ} {o g : Fin 4096 → Fin 512 → ℝ} {w : Fin 1024 → Fin 1024 → ℝ}

section

variable (H : Holds μ c x t a m o g w) (p : Fin cfg0.N)
include H

theorem gathered_apply (r : Fin 512) (k : Fin 1024) : (gathered μ c p (ix2 r k) : EReal) = ((mix a m o g (rowOf p r) k : ℝ) : EReal) := by
  unfold gathered
  rw [Pieces.readCov_whole]
  unfold stores
  rw [Pieces.canon_cols (R := 512) (C := 1024) (o := 768) (n := 256),
    Pieces.canon_cols (R := 512) (C := 1024) (o := 256) (n := 512),
    Pieces.canon_cols (R := 512) (C := 1024) (o := 0) (n := 256)]
  have hk := k.isLt
  unfold mix
  by_cases h1 : 768 ≤ k.val
  · rw [dif_pos (by omega), dif_neg (by omega), dif_neg (by omega)]
    pointwise [k0_pay6]
    exact blk_m μ c H p r _
  rw [dif_neg (by omega)]
  by_cases h2 : 256 ≤ k.val
  · rw [dif_pos (by omega), dif_neg (by omega), dif_pos (by omega)]
    pointwise [k0_pay5]
    exact blk_og μ c H p r _
  rw [dif_neg (by omega), dif_pos (by omega), dif_pos (by omega)]
  pointwise [k0_pay4]
  exact blk_a μ c H p r _

theorem errs_apply (r : Fin 512) (l : Fin 1024) : (errs μ c p (ix2 r l) : EReal) = ((err x t a m o g w (rowOf p r) l : ℝ) : EReal) :=
  err_at (gathered_apply μ c H p) (blk_x μ c H p) (blk_t μ c H p) (blk_w μ c H p) r l

end

/-! ### What each point leaves -/

theorem out_dy (p : Fin cfg0.N) : (outsAt0 μ c p.val p.isLt).1 = k0_pay11 (errs μ c p) := by
  by_cases h : p.val % 8 = 0
  · rw [outsAt0_A μ c p h]; frame_out
  · rw [outsAt0_B μ c p h]; frame_out

theorem out_dma (p : Fin cfg0.N) : (outsAt0 μ c p.val p.isLt).2.1 = k0_pay14 (errs μ c p) (iblk μ c 5 p) := by
  by_cases h : p.val % 8 = 0
  · rw [outsAt0_A μ c p h]; frame_out
  · rw [outsAt0_B μ c p h]; frame_out

theorem out_dmm (p : Fin cfg0.N) : (outsAt0 μ c p.val p.isLt).2.2.1 = k0_pay15 (errs μ c p) (iblk μ c 5 p) := by
  by_cases h : p.val % 8 = 0
  · rw [outsAt0_A μ c p h]; frame_out
  · rw [outsAt0_B μ c p h]; frame_out

/-! ### The arrays -/

section

variable (x t : Fin 4096 → Fin 1024 → ℝ) (a m : Fin 4096 → Fin 256 → ℝ) (o g : Fin 4096 → Fin 512 → ℝ) (w : Fin 1024 → Fin 1024 → ℝ)

/-- The gradient of `x`. -/
def dyArr : FVec Ideal S4096x1024 .f32 := fun y => ((dy x t a m o g w (y 0) (y 1) : ℝ) : EReal)
/-- The gradients of the mixed heads' two outer parts. -/
def dmaArr : FVec Ideal S4096x256 .f32 := fun y => ((dmix x t a m o g w (y 0) ⟨(y 1).val, Nat.lt_of_lt_of_le (y 1).isLt (by decide)⟩ : ℝ) : EReal)
def dmmArr : FVec Ideal S4096x256 .f32 :=
  fun y => ((dmix x t a m o g w (y 0) ⟨768 + (y 1).val, Nat.add_lt_add_left (y 1).isLt 768⟩ : ℝ) : EReal)
/-- The gradient of the projection. -/
def dwArr : FVec Ideal S1024x1024 .f32 := fun y => ((dw x t a m o g w (y 0) (y 1) : ℝ) : EReal)
/-- The loss, in every lane. -/
def lossArr : FVec Ideal S1x128 .f32 := fun _ => ((1 / 2 * ∑ i, mse x t a m o g w i : ℝ) : EReal)

end

theorem emb_dy (A : FVec Ideal S4096x1024 .f32) (p : Fin cfg0.N) (r : Fin 512) (l : Fin 1024) :
    A ((win0_9.blk p).view.emb (ix2 r l)) = A (ix2 (rowOf p r) l) := by
  blk_ext [idx p, rowOf]
theorem emb_dma (A : FVec Ideal S4096x256 .f32) (p : Fin cfg0.N) (r : Fin 512) (l : Fin 256) :
    A ((win0_10.blk p).view.emb (ix2 r l)) = A (ix2 (rowOf p r) l) := by
  blk_ext [idx p, rowOf]
theorem emb_dmm (A : FVec Ideal S4096x256 .f32) (p : Fin cfg0.N) (r : Fin 512) (l : Fin 256) :
    A ((win0_11.blk p).view.emb (ix2 r l)) = A (ix2 (rowOf p r) l) := by
  blk_ext [idx p, rowOf]

variable (H : Holds μ c x t a m o g w)
include H

theorem array_dy : (dats μ 0 c).arrAt 9 cfg0.N = dyArr x t a m o g w := by
  refine (dats μ 0 c).arrAt_eq_of_covers 9 (dyArr x t a m o g w) (by decide +kernel) fun p hf y => ?_
  blk_simp
  rw [after0_9, out_dy]
  idx_vars y
  exact (dy_at (errs_apply μ c H p) y0 y1).trans (emb_dy (dyArr x t a m o g w) p y0 y1).symm

theorem array_dma : (dats μ 0 c).arrAt 10 cfg0.N = dmaArr x t a m o g w := by
  refine (dats μ 0 c).arrAt_eq_of_covers 10 (dmaArr x t a m o g w) (by decide +kernel) fun p hf y => ?_
  blk_simp
  rw [after0_10, out_dma]
  idx_vars y
  exact (dma_at (errs_apply μ c H p) (blk_w μ c H p) y0 y1).trans (emb_dma (dmaArr x t a m o g w) p y0 y1).symm

theorem array_dmm : (dats μ 0 c).arrAt 11 cfg0.N = dmmArr x t a m o g w := by
  refine (dats μ 0 c).arrAt_eq_of_covers 11 (dmmArr x t a m o g w) (by decide +kernel) fun p hf y => ?_
  blk_simp
  rw [after0_11, out_dmm]
  idx_vars y
  exact (dmm_at (errs_apply μ c H p) (blk_w μ c H p) y0 y1).trans (emb_dmm (dmmArr x t a m o g w) p y0 y1).symm

/-! ### The two accumulated outputs -/

omit H in
theorem zero_dw (y : S1024x1024.Idx) : k0_pay2 (F := Ideal) y = 0 := by
  pointwise [k0_pay2]
omit H in
theorem zero_loss (y : S1x128.Idx) : k0_pay3 (F := Ideal) y = 0 := by
  pointwise [k0_pay3]

/-- What a point adds to the gradient of the projection. -/
def dwTerm (x t : Fin 4096 → Fin 1024 → ℝ) (a m : Fin 4096 → Fin 256 → ℝ) (o g : Fin 4096 → Fin 512 → ℝ) (w : Fin 1024 → Fin 1024 → ℝ)
    (p : Fin cfg0.N) (y : S1024x1024.Idx) : EReal :=
  ((∑ r, mix a m o g (rowOf p r) (y 0) * dy x t a m o g w (rowOf p r) (y 1) : ℝ) : EReal)

/-- What a point adds to the loss. -/
def lossTerm (x t : Fin 4096 → Fin 1024 → ℝ) (a m : Fin 4096 → Fin 256 → ℝ) (o g : Fin 4096 → Fin 512 → ℝ) (w : Fin 1024 → Fin 1024 → ℝ)
    (p : Fin cfg0.N) (y : S1x128.Idx) : EReal :=
  ((1 / 2 * ∑ r, mse x t a m o g w (rowOf p r) : ℝ) : EReal)

theorem step_dw (p : Fin cfg0.N) (v : FVec Ideal S1024x1024 .f32) (y : S1024x1024.Idx) :
    k0_pay16 (gathered μ c p) (errs μ c p) v y = v y + dwTerm x t a m o g w p y := by
  idx_vars y
  exact dw_at (gathered_apply μ c H p) (errs_apply μ c H p) v y0 y1

theorem step_loss (p : Fin cfg0.N) (v : FVec Ideal S1x128 .f32) (y : S1x128.Idx) :
    k0_pay10 (k0_pay8 (gathered μ c p) (iblk μ c 0 p) (iblk μ c 5 p) (iblk μ c 1 p)) k0_pay9 v y = v y + lossTerm x t a m o g w p y := by
  idx_vars y
  exact loss_at (errs_apply μ c H p) v y0 y1

omit H in
theorem rowOf_tile (s : Fin 8) (h : 0 + s.val < cfg0.N) (r : Fin 512) : rowOf ⟨0 + s.val, h⟩ r = ⟨s.val * 512 + r.val, by omega⟩ :=
  Fin.ext (by show (0 + s.val) * 512 + r.val = s.val * 512 + r.val; omega)

omit H in
theorem dw_sum (b : ℕ) (hb : b = 0) (h : ∀ s : Fin 8, b + s.val < cfg0.N) (y : S1024x1024.Idx) :
    ∑ s : Fin 8, dwTerm x t a m o g w ⟨b + s.val, h s⟩ y = dwArr x t a m o g w y := by
  subst hb
  unfold dwTerm dwArr dw
  rw [Norm.coe_sum, Fin.sum_univ_tiles 8 512 rfl]
  simp only [rowOf_tile]

omit H in
theorem loss_sum (b : ℕ) (hb : b = 0) (h : ∀ s : Fin 8, b + s.val < cfg0.N) (y : S1x128.Idx) :
    ∑ s : Fin 8, lossTerm x t a m o g w ⟨b + s.val, h s⟩ y = lossArr x t a m o g w y := by
  subst hb
  unfold lossTerm lossArr
  rw [Norm.coe_sum, Fin.sum_univ_tiles 8 512 rfl, ← Finset.mul_sum]
  simp only [rowOf_tile]

theorem array_dw : (dats μ 0 c).arrAt 12 cfg0.N = dwArr x t a m o g w := by
  refine (dats μ 0 c).arrAt_eq_of_covers 12 (dwArr x t a m o g w) (by decide +kernel) fun p hf y => ?_
  blk_simp
  rw [after0_12, Pipeline.eq_sum_fin_of_reset_step_apply_of_flush (fun n h => (outsAt0 μ c n h).2.2.2.1) 8 (fun _ => 0)
    (dwTerm x t a m o g w)
    (fun p h j => by
      rw [outsAt0_A μ c p h]; frame_out
      exact (step_dw μ c H p _ j).trans (congrArg (· + _) (zero_dw j)))
    (fun p h j => by
      rw [outsAt0_B μ c p h]; frame_out
      exact step_dw μ c H p _ j)
    p ((flush0_12 p).mp hf) _, zero_add]
  have hy : dwArr x t a m o g w ((win0_12.blk p).view.emb y) = dwArr x t a m o g w y := by
    idx_vars y
    blk_ext [idx p]
  exact (dw_sum _ (by have := lt_of_lt_of_eq p.isLt N_0; omega) _ y).trans hy.symm

theorem array_loss : (dats μ 0 c).arrAt 13 cfg0.N = lossArr x t a m o g w := by
  refine (dats μ 0 c).arrAt_eq_of_covers 13 (lossArr x t a m o g w) (by decide +kernel) fun p hf y => ?_
  blk_simp
  rw [after0_13, Pipeline.eq_sum_fin_of_reset_step_apply_of_flush (fun n h => (outsAt0 μ c n h).2.2.2.2.1) 8 (fun _ => 0)
    (lossTerm x t a m o g w)
    (fun p h j => by
      rw [outsAt0_A μ c p h]; frame_out
      exact (step_loss μ c H p _ j).trans (congrArg (· + _) (zero_loss j)))
    (fun p h j => by
      rw [outsAt0_B μ c p h]; frame_out
      exact step_loss μ c H p _ j)
    p ((flush0_13 p).mp hf) _, zero_add]
  exact loss_sum _ (by have := lt_of_lt_of_eq p.isLt N_0; omega) _ y

end Cert.Loss

end
-- ==== Proof.Loss.Heads.lean ====
module

public import proofs.«01_k».proof.Proof.Loss.Array

@[expose] public section

/-! What one grid point of the call leaves in the blocks of the heads' gradients, and what their two arrays then hold. -/

set_option maxRecDepth 16384

noncomputable section

namespace Cert.Loss

open Idealize.ShloMosaic Idealize.ShloMosaic.TcCoe Idealize.SL.Sem
open Idealize.ShloMosaic.Pipeline (Dat)
open Cert.Kernel3Ideal Cert.Kernel3Ideal.Gen Cert.Kernel3Ideal.Value

variable (μ : (ℓ : Loc nD τ sig) → Buf (Elt Ideal) ℓ) (c : Dev nD)

/-! ### The slices of a pair of heads -/

theorem ld_cols {e : EltTy} {n off : ℕ} (B : Vec Ideal ⟨2, ![512, n]⟩ e)
    (inb : ∀ a, (![0, off] : Fin 2 → ℕ) a + (![512, 128] : Fin 2 → ℕ) a ≤ (⟨2, ![512, n]⟩ : Shape).size a) (r : Fin 512) (b : Fin 128)
    (hb : off + b.val < n) :
    View.ld B (Rect.unit (s := ⟨2, ![512, n]⟩) ![0, off] ![512, 128] inb) (ix2 r b) = B (ix2 r ⟨off + b.val, hb⟩) := by
  show B _ = B _
  congr 1
  funext a; apply Fin.ext; match a with
      | ⟨0, _⟩ => show 0 + 1 * r.val = r.val; omega
      | ⟨1, _⟩ => show off + 1 * b.val = off + b.val; omega

variable (p : Fin cfg0.N)

/-- The gradient of the point's mixed heads. -/
abbrev dmixs : FVec Ideal S512x1024 .f32 := k0_pay13 (errs μ c p) (iblk μ c 5 p)
abbrev gs0 : FVec Ideal S512x128 .f32 := View.ld (iblk μ c 6 p) (Rect.unit (s := S512x512) ![0, 0] ![512, 128] inb_S512x512_S512x128_0_0)
abbrev os0 : FVec Ideal S512x128 .f32 := View.ld (iblk μ c 7 p) (Rect.unit (s := S512x512) ![0, 0] ![512, 128] inb_S512x512_S512x128_0_0)
abbrev gs1 : FVec Ideal S512x128 .f32 := View.ld (iblk μ c 6 p) (Rect.unit (s := S512x512) ![0, 128] ![512, 128] inb_S512x512_S512x128_0_128)
abbrev os1 : FVec Ideal S512x128 .f32 := View.ld (iblk μ c 7 p) (Rect.unit (s := S512x512) ![0, 128] ![512, 128] inb_S512x512_S512x128_0_128)
abbrev gs2 : FVec Ideal S512x128 .f32 := View.ld (iblk μ c 6 p) (Rect.unit (s := S512x512) ![0, 256] ![512, 128] inb_S512x512_S512x128_0_256)
abbrev os2 : FVec Ideal S512x128 .f32 := View.ld (iblk μ c 7 p) (Rect.unit (s := S512x512) ![0, 256] ![512, 128] inb_S512x512_S512x128_0_256)
abbrev gs3 : FVec Ideal S512x128 .f32 := View.ld (iblk μ c 6 p) (Rect.unit (s := S512x512) ![0, 384] ![512, 128] inb_S512x512_S512x128_0_384)
abbrev os3 : FVec Ideal S512x128 .f32 := View.ld (iblk μ c 7 p) (Rect.unit (s := S512x512) ![0, 384] ![512, 128] inb_S512x512_S512x128_0_384)
abbrev ds0 : FVec Ideal S512x128 .f32 := k0_pay21 (dmixs μ c p) (gs0 μ c p)
abbrev ds1 : FVec Ideal S512x128 .f32 := k0_pay27 (dmixs μ c p) (gs1 μ c p)
abbrev ds2 : FVec Ideal S512x128 .f32 := k0_pay35 (dmixs μ c p) (gs2 μ c p)
abbrev ds3 : FVec Ideal S512x128 .f32 := k0_pay41 (dmixs μ c p) (gs3 μ c p)
/-- The eight heads' sums, a lane each, and their negations as the three rounded parts. -/
abbrev sums0 : FVec Ideal S512x128 .f32 := k0_pay23 (dmixs μ c p) lanes k0_pay17 k0_pay18 (gs0 μ c p) (os0 μ c p)
abbrev sums1 : FVec Ideal S512x128 .f32 :=
  k0_pay31 lanes k0_pay17 (k0_pay29 (dmixs μ c p) (gs1 μ c p) (os1 μ c p))
    (k0_pay30 (dmixs μ c p) lanes k0_pay17 (sums0 μ c p) (gs1 μ c p) (os1 μ c p)) 3#32
abbrev sums2 : FVec Ideal S512x128 .f32 := k0_pay37 lanes k0_pay17 (sums1 μ c p) (os2 μ c p) (ds2 μ c p)
abbrev negs : FVec Ideal S512x128 .f32 := k0_pay45 lanes k0_pay17 (sums2 μ c p) (os3 μ c p) (ds3 μ c p)
abbrev part0 : FVec Ideal S512x128 .bf16 := k0_pay46 lanes k0_pay17 (sums2 μ c p) (os3 μ c p) (ds3 μ c p)
abbrev part1 : FVec Ideal S512x128 .f32 := k0_pay47 lanes k0_pay17 (sums2 μ c p) (os3 μ c p) (ds3 μ c p)
abbrev spread : FVec Ideal S512x1024 .f32 := k0_pay48 (part0 μ c p) (part1 μ c p)

/-- The eight stores of the heads' blocks, and the four of the gates' gradients. -/
abbrev heads : List (View.Piece (Elt Ideal) S512x1024 .bf16) :=
  [⟨Rect.unit ![0, 896] ![512, 128] inb_S512x1024_S512x128_0_896, k0_pay1 (F := Ideal) (k0_pay56 k0_pay17 (ds3 μ c p) (spread μ c p))⟩,
    ⟨Rect.unit ![0, 768] ![512, 128] inb_S512x1024_S512x128_0_768, k0_pay55 (F := Ideal) k0_pay17 (ds3 μ c p) (spread μ c p)⟩,
    ⟨Rect.unit ![0, 640] ![512, 128] inb_S512x1024_S512x128_0_640, k0_pay54 (F := Ideal) k0_pay17 (ds2 μ c p) (spread μ c p)⟩,
    ⟨Rect.unit ![0, 512] ![512, 128] inb_S512x1024_S512x128_0_512, k0_pay53 (F := Ideal) k0_pay17 (ds2 μ c p) (spread μ c p)⟩,
    ⟨Rect.unit ![0, 384] ![512, 128] inb_S512x1024_S512x128_0_384, k0_pay52 (F := Ideal) k0_pay17 (ds1 μ c p) (spread μ c p)⟩,
    ⟨Rect.unit ![0, 256] ![512, 128] inb_S512x1024_S512x128_0_256, k0_pay51 (F := Ideal) k0_pay17 (ds1 μ c p) (spread μ c p)⟩,
    ⟨Rect.unit ![0, 128] ![512, 128] inb_S512x1024_S512x128_0_128, k0_pay50 (F := Ideal) k0_pay17 (ds0 μ c p) (spread μ c p)⟩,
    ⟨Rect.unit ![0, 0] ![512, 128] inb_S512x1024_S512x128_0_0, k0_pay49 (F := Ideal) k0_pay17 (ds0 μ c p) (part0 μ c p) (part1 μ c p)⟩]
abbrev gates : List (View.Piece (Elt Ideal) S512x512 .bf16) :=
  [⟨Rect.unit ![0, 384] ![512, 128] inb_S512x512_S512x128_0_384, k0_pay43 (F := Ideal) (gs3 μ c p) (k0_pay39 (gs3 μ c p)) (k0_pay42 (dmixs μ c p) (os3 μ c p))⟩,
    ⟨Rect.unit ![0, 256] ![512, 128] inb_S512x512_S512x128_0_256, k0_pay36 (F := Ideal) (dmixs μ c p) (gs2 μ c p) (os2 μ c p)⟩,
    ⟨Rect.unit ![0, 128] ![512, 128] inb_S512x512_S512x128_0_128, k0_pay28 (F := Ideal) (dmixs μ c p) (gs1 μ c p) (os1 μ c p)⟩,
    ⟨Rect.unit ![0, 0] ![512, 128] inb_S512x512_S512x128_0_0, k0_pay22 (F := Ideal) (dmixs μ c p) (gs0 μ c p) (os0 μ c p)⟩]

theorem out_heads : (outsAt0 μ c p.val p.isLt).2.2.2.2.2.1 = View.canon (heads μ c p) := by
  by_cases h : p.val % 8 = 0
  · rw [outsAt0_A μ c p h]; frame_out; rfl
  · rw [outsAt0_B μ c p h]; frame_out; rfl

theorem out_gates : (outsAt0 μ c p.val p.isLt).2.2.2.2.2.2.1 = View.canon (gates μ c p) := by
  by_cases h : p.val % 8 = 0
  · rw [outsAt0_A μ c p h]; frame_out; rfl
  · rw [outsAt0_B μ c p h]; frame_out; rfl

variable {x t : Fin 4096 → Fin 1024 → ℝ} {a m : Fin 4096 → Fin 256 → ℝ} {o g : Fin 4096 → Fin 512 → ℝ} {w : Fin 1024 → Fin 1024 → ℝ}

section

variable (H : Holds μ c x t a m o g w)
include H

theorem dmixs_apply (r : Fin 512) (k : Fin 1024) : (dmixs μ c p (ix2 r k) : EReal) = ((dmix x t a m o g w (rowOf p r) k : ℝ) : EReal) :=
  dmix_at (errs_apply μ c H p) (blk_w μ c H p) r k

theorem gs0_apply (r : Fin 512) (b : Fin 128) : (gs0 μ c p (ix2 r b) : EReal) = ((g (rowOf p r) ⟨0 + b.val, by omega⟩ : ℝ) : EReal) :=
  (ld_cols (iblk μ c 6 p) _ r b (by omega)).trans (blk_g μ c H p r _)
theorem os0_apply (r : Fin 512) (b : Fin 128) : (os0 μ c p (ix2 r b) : EReal) = ((o (rowOf p r) ⟨0 + b.val, by omega⟩ : ℝ) : EReal) :=
  (ld_cols (iblk μ c 7 p) _ r b (by omega)).trans (blk_o μ c H p r _)
theorem gs1_apply (r : Fin 512) (b : Fin 128) : (gs1 μ c p (ix2 r b) : EReal) = ((g (rowOf p r) ⟨128 + b.val, by omega⟩ : ℝ) : EReal) :=
  (ld_cols (iblk μ c 6 p) _ r b (by omega)).trans (blk_g μ c H p r _)
theorem os1_apply (r : Fin 512) (b : Fin 128) : (os1 μ c p (ix2 r b) : EReal) = ((o (rowOf p r) ⟨128 + b.val, by omega⟩ : ℝ) : EReal) :=
  (ld_cols (iblk μ c 7 p) _ r b (by omega)).trans (blk_o μ c H p r _)
theorem gs2_apply (r : Fin 512) (b : Fin 128) : (gs2 μ c p (ix2 r b) : EReal) = ((g (rowOf p r) ⟨256 + b.val, by omega⟩ : ℝ) : EReal) :=
  (ld_cols (iblk μ c 6 p) _ r b (by omega)).trans (blk_g μ c H p r _)
theorem os2_apply (r : Fin 512) (b : Fin 128) : (os2 μ c p (ix2 r b) : EReal) = ((o (rowOf p r) ⟨256 + b.val, by omega⟩ : ℝ) : EReal) :=
  (ld_cols (iblk μ c 7 p) _ r b (by omega)).trans (blk_o μ c H p r _)
theorem gs3_apply (r : Fin 512) (b : Fin 128) : (gs3 μ c p (ix2 r b) : EReal) = ((g (rowOf p r) ⟨384 + b.val, by omega⟩ : ℝ) : EReal) :=
  (ld_cols (iblk μ c 6 p) _ r b (by omega)).trans (blk_g μ c H p r _)
theorem os3_apply (r : Fin 512) (b : Fin 128) : (os3 μ c p (ix2 r b) : EReal) = ((o (rowOf p r) ⟨384 + b.val, by omega⟩ : ℝ) : EReal) :=
  (ld_cols (iblk μ c 7 p) _ r b (by omega)).trans (blk_o μ c H p r _)
theorem ds0_apply (r : Fin 512) (b : Fin 128) :
    (ds0 μ c p (ix2 r b) : EReal) = ((dout x t a m o g w (rowOf p r) ⟨0 + b.val, by omega⟩ : ℝ) : EReal) := by
  refine (dout0_at (dmixs_apply μ c p H) (gs0_apply μ c p H) r b).trans ?_
  rw [show (⟨256 + b.val, by omega⟩ : Fin 1024) = ⟨256 + (0 + b.val), by omega⟩ from Fin.ext (by show 256 + b.val = 256 + (0 + b.val); omega)]
  rfl
theorem dg0_apply (r : Fin 512) (b : Fin 128) :
    (k0_pay22 (F := Ideal) (dmixs μ c p) (gs0 μ c p) (os0 μ c p) (ix2 r b) : EReal)
      = ((dgate x t a m o g w (rowOf p r) ⟨0 + b.val, by omega⟩ : ℝ) : EReal) := by
  refine (dgate0_at (dmixs_apply μ c p H) (gs0_apply μ c p H) (os0_apply μ c p H) r b).trans ?_
  rw [show (⟨256 + b.val, by omega⟩ : Fin 1024) = ⟨256 + (0 + b.val), by omega⟩ from Fin.ext (by show 256 + b.val = 256 + (0 + b.val); omega)]
  rfl
theorem ds1_apply (r : Fin 512) (b : Fin 128) :
    (ds1 μ c p (ix2 r b) : EReal) = ((dout x t a m o g w (rowOf p r) ⟨128 + b.val, by omega⟩ : ℝ) : EReal) := by
  refine (dout1_at (dmixs_apply μ c p H) (gs1_apply μ c p H) r b).trans ?_
  rw [show (⟨384 + b.val, by omega⟩ : Fin 1024) = ⟨256 + (128 + b.val), by omega⟩ from Fin.ext (by show 384 + b.val = 256 + (128 + b.val); omega)]
  rfl
theorem dg1_apply (r : Fin 512) (b : Fin 128) :
    (k0_pay28 (F := Ideal) (dmixs μ c p) (gs1 μ c p) (os1 μ c p) (ix2 r b) : EReal)
      = ((dgate x t a m o g w (rowOf p r) ⟨128 + b.val, by omega⟩ : ℝ) : EReal) := by
  refine (dgate1_at (dmixs_apply μ c p H) (gs1_apply μ c p H) (os1_apply μ c p H) r b).trans ?_
  rw [show (⟨384 + b.val, by omega⟩ : Fin 1024) = ⟨256 + (128 + b.val), by omega⟩ from Fin.ext (by show 384 + b.val = 256 + (128 + b.val); omega)]
  rfl
theorem ds2_apply (r : Fin 512) (b : Fin 128) :
    (ds2 μ c p (ix2 r b) : EReal) = ((dout x t a m o g w (rowOf p r) ⟨256 + b.val, by omega⟩ : ℝ) : EReal) := by
  refine (dout2_at (dmixs_apply μ c p H) (gs2_apply μ c p H) r b).trans ?_
  rw [show (⟨512 + b.val, by omega⟩ : Fin 1024) = ⟨256 + (256 + b.val), by omega⟩ from Fin.ext (by show 512 + b.val = 256 + (256 + b.val); omega)]
  rfl
theorem dg2_apply (r : Fin 512) (b : Fin 128) :
    (k0_pay36 (F := Ideal) (dmixs μ c p) (gs2 μ c p) (os2 μ c p) (ix2 r b) : EReal)
      = ((dgate x t a m o g w (rowOf p r) ⟨256 + b.val, by omega⟩ : ℝ) : EReal) := by
  refine (dgate2_at (dmixs_apply μ c p H) (gs2_apply μ c p H) (os2_apply μ c p H) r b).trans ?_
  rw [show (⟨512 + b.val, by omega⟩ : Fin 1024) = ⟨256 + (256 + b.val), by omega⟩ from Fin.ext (by show 512 + b.val = 256 + (256 + b.val); omega)]
  rfl
theorem ds3_apply (r : Fin 512) (b : Fin 128) :
    (ds3 μ c p (ix2 r b) : EReal) = ((dout x t a m o g w (rowOf p r) ⟨384 + b.val, by omega⟩ : ℝ) : EReal) := by
  refine (dout3_at (dmixs_apply μ c p H) (gs3_apply μ c p H) r b).trans ?_
  rw [show (⟨640 + b.val, by omega⟩ : Fin 1024) = ⟨256 + (384 + b.val), by omega⟩ from Fin.ext (by show 640 + b.val = 256 + (384 + b.val); omega)]
  rfl
theorem dg3_apply (r : Fin 512) (b : Fin 128) :
    (k0_pay43 (F := Ideal) (gs3 μ c p) (k0_pay39 (gs3 μ c p)) (k0_pay42 (dmixs μ c p) (os3 μ c p)) (ix2 r b) : EReal)
      = ((dgate x t a m o g w (rowOf p r) ⟨384 + b.val, by omega⟩ : ℝ) : EReal) := by
  refine (dgate3_at (dmixs_apply μ c p H) (gs3_apply μ c p H) (os3_apply μ c p H) r b).trans ?_
  rw [show (⟨640 + b.val, by omega⟩ : Fin 1024) = ⟨256 + (384 + b.val), by omega⟩ from Fin.ext (by show 640 + b.val = 256 + (384 + b.val); omega)]
  rfl

/-! ### The sums and their negations -/

omit H in
theorem lows_dsum (i : Fin 512 → Fin 4096) (q : ℕ) (hq : 128 * q + 128 ≤ 512) (r : Fin 512) :
    lows (fun r b => dout x t a m o g w (i r) ⟨128 * q + b.val, by omega⟩) (fun r b => o (i r) ⟨128 * q + b.val, by omega⟩) r
      = dsum x t a m o g w (i r) ⟨2 * q, by omega⟩ := by
  unfold lows dsum
  refine Finset.sum_congr rfl fun b _ => ?_
  have e : (⟨128 * q + b.val, by omega⟩ : Fin 512) = ⟨2 * q * 64 + b.val, by omega⟩ := Fin.ext (by show 128 * q + b.val = 2 * q * 64 + b.val; omega)
  show dout x t a m o g w (i r) ⟨128 * q + b.val, _⟩ * o (i r) ⟨128 * q + b.val, _⟩ = _
  rw [e]
omit H in
theorem highs_dsum (i : Fin 512 → Fin 4096) (q : ℕ) (hq : 128 * q + 128 ≤ 512) (r : Fin 512) :
    highs (fun r b => dout x t a m o g w (i r) ⟨128 * q + b.val, by omega⟩) (fun r b => o (i r) ⟨128 * q + b.val, by omega⟩) r
      = dsum x t a m o g w (i r) ⟨2 * q + 1, by omega⟩ := by
  unfold highs dsum
  refine Finset.sum_congr rfl fun b _ => ?_
  have e : (⟨128 * q + (64 + b.val), by omega⟩ : Fin 512) = ⟨(2 * q + 1) * 64 + b.val, by omega⟩ :=
    Fin.ext (by show 128 * q + (64 + b.val) = (2 * q + 1) * 64 + b.val; omega)
  show dout x t a m o g w (i r) ⟨128 * q + (64 + b.val), _⟩ * o (i r) ⟨128 * q + (64 + b.val), _⟩ = _
  rw [e]

/-- The negated sum of head `k` in lane `k`. -/
def neg (x t : Fin 4096 → Fin 1024 → ℝ) (a m : Fin 4096 → Fin 256 → ℝ) (o g : Fin 4096 → Fin 512 → ℝ) (w : Fin 1024 → Fin 1024 → ℝ)
    (i : Fin 4096) (k : Fin 128) : ℝ :=
  if h : k.val < 8 then -dsum x t a m o g w i ⟨k.val, h⟩ else 0

theorem negs_apply (r : Fin 512) (k : Fin 128) : (negs μ c p (ix2 r k) : EReal) = ((neg x t a m o g w (rowOf p r) k : ℝ) : EReal) := by
  have e3 := (sums3_at (v := sums2 μ c p) (ds3_apply μ c p H) (os3_apply μ c p H) r k).trans
    (congrArg (0 - ·) (pick (highs_dsum (rowOf p) 3 (by omega) r) (lows_dsum (rowOf p) 3 (by omega) r) _))
  have e2 : (sums2 μ c p (ix2 r k) : EReal) = _ := (sums2_at (v := sums1 μ c p) (ds2_apply μ c p H) (os2_apply μ c p H) r k).trans
    (pick (highs_dsum (rowOf p) 2 (by omega) r) (lows_dsum (rowOf p) 2 (by omega) r) _)
  have e1 : (sums1 μ c p (ix2 r k) : EReal) = _ := (sums1_at (v := sums0 μ c p) (ds1_apply μ c p H) (os1_apply μ c p H) r k).trans
    (pick (highs_dsum (rowOf p) 1 (by omega) r) (lows_dsum (rowOf p) 1 (by omega) r) _)
  have e0 : (sums0 μ c p (ix2 r k) : EReal) = _ := (sums0_at (ds0_apply μ c p H) (os0_apply μ c p H) r k).trans
    (pick (highs_dsum (rowOf p) 0 (by omega) r) (lows_dsum (rowOf p) 0 (by omega) r) _)
  refine e3.trans ?_
  beta_reduce
  rw [e2, e1, e0]
  unfold neg
  rw [zero_sub]
  by_cases hk : k.val < 8
  · rw [dif_pos hk, EReal.coe_neg]
    congr 1
    obtain ⟨k, hk'⟩ := k
    have hk : k < 8 := hk
    interval_cases k <;> rfl
  · rw [dif_neg hk, if_neg (by omega), if_neg (by omega), if_neg (by omega), if_neg (by omega), if_neg (by omega), if_neg (by omega),
      if_neg (by omega), if_neg (by omega), neg_zero, EReal.coe_zero]

theorem part0_apply (r : Fin 512) (k : Fin 128) : (part0 μ c p (ix2 r k) : EReal) = ((neg x t a m o g w (rowOf p r) k : ℝ) : EReal) :=
  (part0_at _ _ _ _ _ r k).trans (negs_apply μ c p H r k)

theorem part1_apply (r : Fin 512) (k : Fin 128) : (part1 μ c p (ix2 r k) : EReal) = 0 := by
  have h := negs_apply μ c p H r k
  refine (part1_at _ _ _ _ _ r k).trans ?_
  show (negs μ c p (ix2 r k) - negs μ c p (ix2 r k) : EReal) = 0
  rw [h, ← EReal.coe_sub, sub_self, EReal.coe_zero]

theorem spread_apply (r : Fin 512) (y : Fin 1024) : (spread μ c p (ix2 r y) : EReal)
    = if y.val % 128 = 64 then ((neg x t a m o g w (rowOf p r) ⟨y.val / 128, by omega⟩ : ℝ) : EReal) else 0 :=
  spread_at (part0_apply μ c p H) (part1_apply μ c p H) r y

omit H in
theorem dout_idx {i : Fin 4096} {j j' : Fin 512} (h : j.val = j'.val) :
    ((dout x t a m o g w i j : ℝ) : EReal) = ((dout x t a m o g w i j' : ℝ) : EReal) := by rw [Fin.ext h]
omit H in
theorem dgate_idx {i : Fin 4096} {j j' : Fin 512} (h : j.val = j'.val) :
    ((dgate x t a m o g w i j : ℝ) : EReal) = ((dgate x t a m o g w i j' : ℝ) : EReal) := by rw [Fin.ext h]
omit H in
theorem blocks_idx {i : Fin 4096} {j j' : Fin 1024} (h : j.val = j'.val) :
    ((blocks x t a m o g w i j : ℝ) : EReal) = ((blocks x t a m o g w i j' : ℝ) : EReal) := by rw [Fin.ext h]

/-- A lane of a head's block. -/
theorem block_value (r : Fin 512) (h : Fin 8) (y : Fin 128) (u v : EReal)
    (hu : ∀ hy : y.val < 64, u = ((dout x t a m o g w (rowOf p r) ⟨h.val * 64 + y.val, by omega⟩ : ℝ) : EReal))
    (hv : v = spread μ c p (ix2 r ⟨128 * h.val + y.val, by omega⟩)) (Y : Fin 1024) (hY : Y.val = 128 * h.val + y.val) :
    (if y.val < 64 then u else v) = ((blocks x t a m o g w (rowOf p r) Y : ℝ) : EReal) := by
  have hh := h.isLt
  have hy' := y.isLt
  have hd : Y.val / 128 = h.val := by omega
  have hm : Y.val % 128 = y.val := by omega
  unfold blocks
  by_cases hy : y.val < 64
  · rw [if_pos hy, dif_pos (by omega), hu hy]
    exact dout_idx (by show h.val * 64 + y.val = Y.val / 128 * 64 + Y.val % 128; omega)
  · rw [if_neg hy, dif_neg (by omega), hv, show (⟨128 * h.val + y.val, by omega⟩ : Fin 1024) = Y from Fin.ext hY.symm, spread_apply μ c p H]
    by_cases h64 : Y.val % 128 = 64
    · rw [if_pos h64, if_pos h64]
      unfold neg
      rw [dif_pos (show Y.val / 128 < 8 by omega)]
    · rw [if_neg h64, if_neg h64, EReal.coe_zero]

theorem head0_apply (r : Fin 512) (y : Fin 128) : (k0_pay49 (F := Ideal) k0_pay17 (ds0 μ c p) (part0 μ c p) (part1 μ c p) (ix2 r y) : EReal)
    = ((blocks x t a m o g w (rowOf p r) ⟨0 + y.val, by omega⟩ : ℝ) : EReal) := by
  rw [block0_at]
  exact block_value μ c p H r 0 y _ _ (fun hy => (ds0_apply μ c p H r _).trans
    (dout_idx (by show 0 + y.val = 0 * 64 + y.val; omega))) rfl _ rfl
theorem head1_apply (r : Fin 512) (y : Fin 128) : (k0_pay50 (F := Ideal) k0_pay17 (ds0 μ c p) (spread μ c p) (ix2 r y) : EReal)
    = ((blocks x t a m o g w (rowOf p r) ⟨128 + y.val, by omega⟩ : ℝ) : EReal) := by
  rw [block1_at]
  exact block_value μ c p H r 1 y _ _ (fun hy => (ds0_apply μ c p H r _).trans
    (dout_idx (by show 0 + (y.val + 128 - 64) % 128 = 1 * 64 + y.val; omega))) rfl _ rfl
theorem head2_apply (r : Fin 512) (y : Fin 128) : (k0_pay51 (F := Ideal) k0_pay17 (ds1 μ c p) (spread μ c p) (ix2 r y) : EReal)
    = ((blocks x t a m o g w (rowOf p r) ⟨256 + y.val, by omega⟩ : ℝ) : EReal) := by
  rw [block2_at]
  exact block_value μ c p H r 2 y _ _ (fun hy => (ds1_apply μ c p H r _).trans
    (dout_idx (by show 128 + y.val = 2 * 64 + y.val; omega))) rfl _ rfl
theorem head3_apply (r : Fin 512) (y : Fin 128) : (k0_pay52 (F := Ideal) k0_pay17 (ds1 μ c p) (spread μ c p) (ix2 r y) : EReal)
    = ((blocks x t a m o g w (rowOf p r) ⟨384 + y.val, by omega⟩ : ℝ) : EReal) := by
  rw [block3_at]
  exact block_value μ c p H r 3 y _ _ (fun hy => (ds1_apply μ c p H r _).trans
    (dout_idx (by show 128 + (y.val + 128 - 64) % 128 = 3 * 64 + y.val; omega))) rfl _ rfl
theorem head4_apply (r : Fin 512) (y : Fin 128) : (k0_pay53 (F := Ideal) k0_pay17 (ds2 μ c p) (spread μ c p) (ix2 r y) : EReal)
    = ((blocks x t a m o g w (rowOf p r) ⟨512 + y.val, by omega⟩ : ℝ) : EReal) := by
  rw [block4_at]
  exact block_value μ c p H r 4 y _ _ (fun hy => (ds2_apply μ c p H r _).trans
    (dout_idx (by show 256 + y.val = 4 * 64 + y.val; omega))) rfl _ rfl
theorem head5_apply (r : Fin 512) (y : Fin 128) : (k0_pay54 (F := Ideal) k0_pay17 (ds2 μ c p) (spread μ c p) (ix2 r y) : EReal)
    = ((blocks x t a m o g w (rowOf p r) ⟨640 + y.val, by omega⟩ : ℝ) : EReal) := by
  rw [block5_at]
  exact block_value μ c p H r 5 y _ _ (fun hy => (ds2_apply μ c p H r _).trans
    (dout_idx (by show 256 + (y.val + 128 - 64) % 128 = 5 * 64 + y.val; omega))) rfl _ rfl
theorem head6_apply (r : Fin 512) (y : Fin 128) : (k0_pay55 (F := Ideal) k0_pay17 (ds3 μ c p) (spread μ c p) (ix2 r y) : EReal)
    = ((blocks x t a m o g w (rowOf p r) ⟨768 + y.val, by omega⟩ : ℝ) : EReal) := by
  rw [block6_at]
  exact block_value μ c p H r 6 y _ _ (fun hy => (ds3_apply μ c p H r _).trans
    (dout_idx (by show 384 + y.val = 6 * 64 + y.val; omega))) rfl _ rfl
theorem head7_apply (r : Fin 512) (y : Fin 128) : (k0_pay1 (F := Ideal) (k0_pay56 k0_pay17 (ds3 μ c p) (spread μ c p)) (ix2 r y) : EReal)
    = ((blocks x t a m o g w (rowOf p r) ⟨896 + y.val, by omega⟩ : ℝ) : EReal) := by
  rw [block7_at]
  exact block_value μ c p H r 7 y _ _ (fun hy => (ds3_apply μ c p H r _).trans
    (dout_idx (by show 384 + (y.val + 128 - 64) % 128 = 7 * 64 + y.val; omega))) rfl _ rfl

theorem heads_apply (r : Fin 512) (Y : Fin 1024) : (View.canon (heads μ c p) (ix2 r Y) : EReal) = ((blocks x t a m o g w (rowOf p r) Y : ℝ) : EReal) := by
  unfold heads
  rw [Pieces.canon_cols (R := 512) (C := 1024) (o := 896) (n := 128),
    Pieces.canon_cols (R := 512) (C := 1024) (o := 768) (n := 128),
    Pieces.canon_cols (R := 512) (C := 1024) (o := 640) (n := 128),
    Pieces.canon_cols (R := 512) (C := 1024) (o := 512) (n := 128),
    Pieces.canon_cols (R := 512) (C := 1024) (o := 384) (n := 128),
    Pieces.canon_cols (R := 512) (C := 1024) (o := 256) (n := 128),
    Pieces.canon_cols (R := 512) (C := 1024) (o := 128) (n := 128),
    Pieces.canon_cols (R := 512) (C := 1024) (o := 0) (n := 128)]
  have hY := Y.isLt
  by_cases h7 : 896 ≤ Y.val
  · rw [dif_pos (by omega)]
    exact (head7_apply μ c p H r _).trans (blocks_idx (by show 896 + (Y.val - 896) = Y.val; omega))
  rw [dif_neg (by omega)]
  by_cases h6 : 768 ≤ Y.val
  · rw [dif_pos (by omega)]
    exact (head6_apply μ c p H r _).trans (blocks_idx (by show 768 + (Y.val - 768) = Y.val; omega))
  rw [dif_neg (by omega)]
  by_cases h5 : 640 ≤ Y.val
  · rw [dif_pos (by omega)]
    exact (head5_apply μ c p H r _).trans (blocks_idx (by show 640 + (Y.val - 640) = Y.val; omega))
  rw [dif_neg (by omega)]
  by_cases h4 : 512 ≤ Y.val
  · rw [dif_pos (by omega)]
    exact (head4_apply μ c p H r _).trans (blocks_idx (by show 512 + (Y.val - 512) = Y.val; omega))
  rw [dif_neg (by omega)]
  by_cases h3 : 384 ≤ Y.val
  · rw [dif_pos (by omega)]
    exact (head3_apply μ c p H r _).trans (blocks_idx (by show 384 + (Y.val - 384) = Y.val; omega))
  rw [dif_neg (by omega)]
  by_cases h2 : 256 ≤ Y.val
  · rw [dif_pos (by omega)]
    exact (head2_apply μ c p H r _).trans (blocks_idx (by show 256 + (Y.val - 256) = Y.val; omega))
  rw [dif_neg (by omega)]
  by_cases h1 : 128 ≤ Y.val
  · rw [dif_pos (by omega)]
    exact (head1_apply μ c p H r _).trans (blocks_idx (by show 128 + (Y.val - 128) = Y.val; omega))
  rw [dif_neg (by omega)]
  rw [dif_pos (by omega)]
  exact (head0_apply μ c p H r _).trans (blocks_idx (by show 0 + (Y.val - 0) = Y.val; omega))

theorem gates_apply (r : Fin 512) (j : Fin 512) : (View.canon (gates μ c p) (ix2 r j) : EReal) = ((dgate x t a m o g w (rowOf p r) j : ℝ) : EReal) := by
  unfold gates
  rw [Pieces.canon_cols (R := 512) (C := 512) (o := 384) (n := 128),
    Pieces.canon_cols (R := 512) (C := 512) (o := 256) (n := 128),
    Pieces.canon_cols (R := 512) (C := 512) (o := 128) (n := 128),
    Pieces.canon_cols (R := 512) (C := 512) (o := 0) (n := 128)]
  have hj := j.isLt
  by_cases h3 : 384 ≤ j.val
  · rw [dif_pos (by omega)]
    exact (dg3_apply μ c p H r _).trans (dgate_idx (by show 384 + (j.val - 384) = j.val; omega))
  rw [dif_neg (by omega)]
  by_cases h2 : 256 ≤ j.val
  · rw [dif_pos (by omega)]
    exact (dg2_apply μ c p H r _).trans (dgate_idx (by show 256 + (j.val - 256) = j.val; omega))
  rw [dif_neg (by omega)]
  by_cases h1 : 128 ≤ j.val
  · rw [dif_pos (by omega)]
    exact (dg1_apply μ c p H r _).trans (dgate_idx (by show 128 + (j.val - 128) = j.val; omega))
  rw [dif_neg (by omega)]
  rw [dif_pos (by omega)]
  exact (dg0_apply μ c p H r _).trans (dgate_idx (by show 0 + (j.val - 0) = j.val; omega))

end

/-! ### The arrays -/

/-- The heads' blocks. -/
def headArr (x t : Fin 4096 → Fin 1024 → ℝ) (a m : Fin 4096 → Fin 256 → ℝ) (o g : Fin 4096 → Fin 512 → ℝ) (w : Fin 1024 → Fin 1024 → ℝ) :
    FVec Ideal S4096x1024 .bf16 := fun y => ((blocks x t a m o g w (y 0) (y 1) : ℝ) : EReal)
/-- The gradient of the gate. -/
def gateArr (x t : Fin 4096 → Fin 1024 → ℝ) (a m : Fin 4096 → Fin 256 → ℝ) (o g : Fin 4096 → Fin 512 → ℝ) (w : Fin 1024 → Fin 1024 → ℝ) :
    FVec Ideal S4096x512 .bf16 := fun y => ((dgate x t a m o g w (y 0) (y 1) : ℝ) : EReal)

theorem emb_heads (A : FVec Ideal S4096x1024 .bf16) (r : Fin 512) (l : Fin 1024) :
    A ((win0_14.blk p).view.emb (ix2 r l)) = A (ix2 (rowOf p r) l) := by
  blk_ext [idx p, rowOf]
theorem emb_gates (A : FVec Ideal S4096x512 .bf16) (r : Fin 512) (l : Fin 512) :
    A ((win0_15.blk p).view.emb (ix2 r l)) = A (ix2 (rowOf p r) l) := by
  blk_ext [idx p, rowOf]

variable (H : Holds μ c x t a m o g w)
include H

theorem array_heads : (dats μ 0 c).arrAt 14 cfg0.N = headArr x t a m o g w := by
  refine (dats μ 0 c).arrAt_eq_of_covers 14 (headArr x t a m o g w) (by decide +kernel) fun p hf y => ?_
  blk_simp
  rw [after0_14, out_heads]
  idx_vars y
  exact (heads_apply μ c p H y0 y1).trans (emb_heads p (headArr x t a m o g w) y0 y1).symm

theorem array_gates : (dats μ 0 c).arrAt 15 cfg0.N = gateArr x t a m o g w := by
  refine (dats μ 0 c).arrAt_eq_of_covers 15 (gateArr x t a m o g w) (by decide +kernel) fun p hf y => ?_
  blk_simp
  rw [after0_15, out_gates]
  idx_vars y
  exact (gates_apply μ c p H y0 y1).trans (emb_gates p (gateArr x t a m o g w) y0 y1).symm

end Cert.Loss

end
-- ==== Proof.Loss.Reference.lean ====
module

public import proofs.«01_k».proof.Proof.Gen.Reference3Ideal.Read
public import proofs.«01_k».proof.Proof.Loss.Math
public import Idealize.ShloMosaic.Lib.Pointwise

@[expose] public section

/-! What the reference's loss and gradients hold at real arguments. -/

set_option maxRecDepth 16384

noncomputable section

namespace Cert.Reference3Ideal.Loss

open Idealize.ShloMosaic Idealize.ShloMosaic.TcCoe Idealize.SL.Sem
open Cert.Reference3Ideal Cert.Reference3Ideal.Gen Cert.Reference3Ideal.Read Cert.Loss

section Layout

variable (x0 x1 : FVec Ideal S4096x1024 .f32) (x2 : FVec Ideal S4096x256 .f32) (x3 x4 : FVec Ideal S4096x512 .f32)
  (x5 : FVec Ideal S4096x256 .f32) (x6 : FVec Ideal S1024x1024 .f32)

theorem v2_at (i : Fin 4096) (k : Fin 1024) : (val_main_v2 (F := Ideal) x2 x3 x4 x5 (ix2 i k) : EReal)
    = if h : k.val < 256 then x2 (ix2 i ⟨k.val, h⟩)
      else if h' : k.val < 768 then val_main_v1 (F := Ideal) x3 x4 (ix2 i ⟨k.val - 256, by omega⟩)
      else x5 (ix2 i ⟨k.val - 768, by omega⟩) := by
  unfold val_main_v2; generalize val_main_v1 (F := Ideal) x3 x4 = y; pointwise
  have hk := k.isLt
  by_cases h : k.val < 256
  · rw [dif_pos h, dif_pos h]
  · rw [dif_neg h, dif_neg h]
    by_cases h' : k.val < 768
    · rw [dif_pos h', dif_pos (by omega)]
    · rw [dif_neg h', dif_neg (by omega)]
      congr 2
theorem v3_at (i : Fin 4096) (l : Fin 1024) : (val_main_v3 (F := Ideal) x2 x3 x4 x5 x6 (ix2 i l) : EReal)
    = ∑ k : Fin 1024, val_main_v2 (F := Ideal) x2 x3 x4 x5 (ix2 i k) * x6 (ix2 k l) := by
  unfold val_main_v3; generalize val_main_v2 (F := Ideal) x2 x3 x4 x5 = y; pointwise
theorem v9_at (i : Fin 4096) : (val_main_v9 (F := Ideal) x0 x1 x2 x3 x4 x5 x6 (ix1 i) : EReal)
    = ∑ l : Fin 1024, val_main_v6 (F := Ideal) x0 x1 x2 x3 x4 x5 x6 (ix2 i l) := by
  unfold val_main_v9; generalize val_main_v6 (F := Ideal) x0 x1 x2 x3 x4 x5 x6 = y; pointwise [val_main_cst_0]
theorem v37_at (z : Fin 1) (l : Fin 128) : (val_main_v37 (F := Ideal) x0 x1 x2 x3 x4 x5 x6 (ix2 z l) : EReal)
    = Ideal.ofBits .f32 0x3F000000#32 * ∑ i : Fin 4096, val_main_v11 (F := Ideal) x0 x1 x2 x3 x4 x5 x6 (ix1 i) := by
  unfold val_main_v37 val_main_v13 val_main_v12; generalize val_main_v11 (F := Ideal) x0 x1 x2 x3 x4 x5 x6 = y
  pointwise [val_main_cst_2, val_main_cst_3]
theorem v18_at (i : Fin 4096) (l : Fin 1024) : (val_main_v18 (F := Ideal) (ix2 i l) : EReal)
    = Ideal.div (Ideal.ofBits .f32 0x3F000000#32 * Ideal.ofBits .f32 0x3F800000#32) (Ideal.ofBits .f32 0x44800000#32) := by
  rw [ofBits_one]
  pointwise [val_main_v18, val_main_v17, val_main_v16, val_main_v15, val_main_v14, val_main_cst_4, val_main_cst_5, val_main_cst_6]
  exact congrArg (fun u => Ideal.div u _) (mul_one _).symm
theorem v21_at (k l : Fin 1024) : (val_main_v21 (F := Ideal) x0 x1 x2 x3 x4 x5 x6 (ix2 k l) : EReal)
    = ∑ i : Fin 4096, val_main_v19 (F := Ideal) x0 x1 x2 x3 x4 x5 x6 (ix2 i l) * val_main_v2 (F := Ideal) x2 x3 x4 x5 (ix2 i k) := by
  unfold val_main_v21 val_main_v20; generalize val_main_v19 (F := Ideal) x0 x1 x2 x3 x4 x5 x6 = y
  generalize val_main_v2 (F := Ideal) x2 x3 x4 x5 = z; pointwise
theorem v22_at (i : Fin 4096) (k : Fin 1024) : (val_main_v22 (F := Ideal) x0 x1 x2 x3 x4 x5 x6 (ix2 i k) : EReal)
    = ∑ l : Fin 1024, val_main_v19 (F := Ideal) x0 x1 x2 x3 x4 x5 x6 (ix2 i l) * x6 (ix2 k l) := by
  unfold val_main_v22; generalize val_main_v19 (F := Ideal) x0 x1 x2 x3 x4 x5 x6 = y; pointwise
theorem v23_at (i : Fin 4096) (k : Fin 256) : (val_main_v23 (F := Ideal) x0 x1 x2 x3 x4 x5 x6 (ix2 i k) : EReal)
    = val_main_v22 (F := Ideal) x0 x1 x2 x3 x4 x5 x6 (ix2 i ⟨k.val, by omega⟩) := by
  unfold val_main_v23; generalize val_main_v22 (F := Ideal) x0 x1 x2 x3 x4 x5 x6 = y; pointwise
theorem v24_at (i : Fin 4096) (k : Fin 512) : (val_main_v24 (F := Ideal) x0 x1 x2 x3 x4 x5 x6 (ix2 i k) : EReal)
    = val_main_v22 (F := Ideal) x0 x1 x2 x3 x4 x5 x6 (ix2 i ⟨256 + k.val, by omega⟩) := by
  unfold val_main_v24; generalize val_main_v22 (F := Ideal) x0 x1 x2 x3 x4 x5 x6 = y; pointwise
theorem v25_at (i : Fin 4096) (k : Fin 256) : (val_main_v25 (F := Ideal) x0 x1 x2 x3 x4 x5 x6 (ix2 i k) : EReal)
    = val_main_v22 (F := Ideal) x0 x1 x2 x3 x4 x5 x6 (ix2 i ⟨768 + k.val, by omega⟩) := by
  unfold val_main_v25; generalize val_main_v22 (F := Ideal) x0 x1 x2 x3 x4 x5 x6 = y; pointwise
theorem v31_at (i : Fin 4096) (h : Fin 8) : (val_main_v31 (F := Ideal) x0 x1 x2 x3 x4 x5 x6 (ix2 i h) : EReal)
    = ∑ b : Fin 64, val_main_v30 (F := Ideal) x0 x1 x2 x3 x4 x5 x6 (ix3 i h b) := by
  unfold val_main_v31; generalize val_main_v30 (F := Ideal) x0 x1 x2 x3 x4 x5 x6 = y; pointwise [val_main_cst_7]
theorem heads_at (v : FVec Ideal S4096x512 .f32) (i : Fin 4096) (h : Fin 8) (b : Fin 64) :
    shapeCast S4096x8x64 v shapeCasts_S4096x512_S4096x8x64 (ix3 i h b) = v (ix2 i ⟨h.val * 64 + b.val, by omega⟩) :=
  shapeCast_apply v shapeCasts_S4096x512_S4096x8x64 _ _ (by
    rewrite [Shape.rowMajor_val_two, Shape.rowMajor_val_three]
    show i.val * 512 + (h.val * 64 + b.val) = (i.val * 8 + h.val) * 64 + b.val; omega)
theorem v36_at (i : Fin 4096) (h : Fin 8) (b : Fin 128) : (val_main_v36 (F := Ideal) x0 x1 x2 x3 x4 x5 x6 (ix3 i h b) : EReal)
    = if hb : b.val < 64 then val_main_v33 (F := Ideal) x0 x1 x2 x3 x4 x5 x6 (ix3 i h ⟨b.val, hb⟩)
      else if b.val = 64 then -(val_main_v31 (F := Ideal) x0 x1 x2 x3 x4 x5 x6 (ix2 i h) : EReal) else 0 := by
  unfold val_main_v36 val_main_v34 val_main_v32; generalize val_main_v33 (F := Ideal) x0 x1 x2 x3 x4 x5 x6 = y
  generalize val_main_v31 (F := Ideal) x0 x1 x2 x3 x4 x5 x6 = z; pointwise [val_main_v35, val_main_cst_8]
  by_cases hb : b.val < 64
  · rw [dif_pos hb, dif_pos hb]
  · rw [dif_neg hb, dif_neg hb]
    by_cases h' : b.val = 64
    · rw [if_pos h']; simp [h']
    · rw [if_neg h']; exact if_neg (by omega)
theorem v38_at (i : Fin 4096) (y : Fin 1024) : (val_main_v38 (F := Ideal) x0 x1 x2 x3 x4 x5 x6 (ix2 i y) : EReal)
    = val_main_v36 (F := Ideal) x0 x1 x2 x3 x4 x5 x6 (ix3 i ⟨y.val / 128, by omega⟩ ⟨y.val % 128, by omega⟩) := by
  unfold val_main_v38; generalize val_main_v36 (F := Ideal) x0 x1 x2 x3 x4 x5 x6 = z
  exact shapeCast_apply z shapeCasts_S4096x8x128_S4096x1024 _ _ (by
    rewrite [Shape.rowMajor_val_two, Shape.rowMajor_val_three]
    show (i.val * 8 + y.val / 128) * 128 + y.val % 128 = i.val * 1024 + y.val; omega)

end Layout

/-! ### At real arguments -/

variable (x t : Fin 4096 → Fin 1024 → ℝ) (a m : Fin 4096 → Fin 256 → ℝ) (o g : Fin 4096 → Fin 512 → ℝ) (w : Fin 1024 → Fin 1024 → ℝ)

/-- The reference's arguments hold these reals. -/
structure Holds (x0 x1 : FVec Ideal S4096x1024 .f32) (x2 : FVec Ideal S4096x256 .f32) (x3 x4 : FVec Ideal S4096x512 .f32)
    (x5 : FVec Ideal S4096x256 .f32) (x6 : FVec Ideal S1024x1024 .f32) : Prop where
  x : ∀ i l, (x0 (ix2 i l) : EReal) = ((x i l : ℝ) : EReal)
  t : ∀ i l, (x1 (ix2 i l) : EReal) = ((t i l : ℝ) : EReal)
  a : ∀ i l, (x2 (ix2 i l) : EReal) = ((a i l : ℝ) : EReal)
  o : ∀ i l, (x3 (ix2 i l) : EReal) = ((o i l : ℝ) : EReal)
  g : ∀ i l, (x4 (ix2 i l) : EReal) = ((g i l : ℝ) : EReal)
  m : ∀ i l, (x5 (ix2 i l) : EReal) = ((m i l : ℝ) : EReal)
  w : ∀ i l, (x6 (ix2 i l) : EReal) = ((w i l : ℝ) : EReal)

variable {x t a m o g w} {x0 x1 : FVec Ideal S4096x1024 .f32} {x2 : FVec Ideal S4096x256 .f32} {x3 x4 : FVec Ideal S4096x512 .f32}
  {x5 : FVec Ideal S4096x256 .f32} {x6 : FVec Ideal S1024x1024 .f32} (H : Holds x t a m o g w x0 x1 x2 x3 x4 x5 x6)

include H

theorem sigmoid_real (i : Fin 4096) (j : Fin 512) : (val_main_v0_2 (F := Ideal) x4 (ix2 i j) : EReal) = ((sg (g i j) : ℝ) : EReal) := by
  rw [← sg_coe]
  pointwise [val_main_v0_2, val_main_call0_v4, val_main_call0_v3, val_main_call0_v2, val_main_call0_v1, val_main_call0_v0, val_main_call0_cst, val_main_call0_cst_0]
  rw [H.g]
  rfl

theorem gate_real (i : Fin 4096) (j : Fin 512) : (val_main_v0_0 (F := Ideal) x4 (ix2 i j) : EReal) = ((gate g i j : ℝ) : EReal) := by
  rw [val_main_v0_0_apply]
  show (x4 (ix2 i j) * val_main_v0_2 (F := Ideal) x4 (ix2 i j) : EReal) = _
  rw [H.g, sigmoid_real H, ← EReal.coe_mul]; rfl

theorem slope_real (i : Fin 4096) (j : Fin 512) : (val_main_v0_1 (F := Ideal) x4 (ix2 i j) : EReal)
    = ((sg (g i j) * (1 - sg (g i j)) : ℝ) : EReal) := by
  have h1 : (val_main_call0_v6 (F := Ideal) (ix2 i j) : EReal) = ((1 : ℝ) : EReal) := by
    pointwise [val_main_call0_v6, val_main_call0_cst_1]; rfl
  rw [val_main_v0_1_apply, val_main_call0_v7_apply]
  show (val_main_v0_2 (F := Ideal) x4 (ix2 i j) * (val_main_call0_v6 (F := Ideal) (ix2 i j) - val_main_v0_2 (F := Ideal) x4 (ix2 i j)) : EReal) = _
  rw [h1, sigmoid_real H, ← EReal.coe_sub, ← EReal.coe_mul]

theorem mix_real (i : Fin 4096) (k : Fin 1024) : (val_main_v2 (F := Ideal) x2 x3 x4 x5 (ix2 i k) : EReal) = ((mix a m o g i k : ℝ) : EReal) := by
  rw [v2_at]
  unfold mix
  split
  · exact H.a _ _
  · split
    · rw [val_main_v1_apply]
      show (x3 (ix2 i ⟨k.val - 256, _⟩) * val_main_v0_0 (F := Ideal) x4 (ix2 i ⟨k.val - 256, _⟩) : EReal) = _
      rw [H.o, gate_real H, ← EReal.coe_mul]
    · exact H.m _ _

theorem err_real (i : Fin 4096) (l : Fin 1024) : (val_main_v5 (F := Ideal) x0 x1 x2 x3 x4 x5 x6 (ix2 i l) : EReal)
    = ((err x t a m o g w i l : ℝ) : EReal) := by
  rw [val_main_v5_apply, val_main_v4_apply]
  show (x0 (ix2 i l) + val_main_v3 (F := Ideal) x2 x3 x4 x5 x6 (ix2 i l) - x1 (ix2 i l) : EReal) = _
  rw [v3_at]
  simp only [mix_real H, H.x, H.t, H.w, ← EReal.coe_mul, Norm.coe_sum, ← EReal.coe_add, ← EReal.coe_sub]
  rfl

theorem dy_real (i : Fin 4096) (l : Fin 1024) : (val_main_v19 (F := Ideal) x0 x1 x2 x3 x4 x5 x6 (ix2 i l) : EReal)
    = ((dy x t a m o g w i l : ℝ) : EReal) := by
  have h2 : (val_main_v7 (F := Ideal) (ix2 i l) : EReal) = ((2 : ℝ) : EReal) := by
    rw [← ofBits_two]; pointwise [val_main_v7, val_main_cst]
  rw [val_main_v19_apply, val_main_v8_apply]
  show (val_main_v18 (F := Ideal) (ix2 i l) * (val_main_v7 (F := Ideal) (ix2 i l) * val_main_v5 (F := Ideal) x0 x1 x2 x3 x4 x5 x6 (ix2 i l)) : EReal) = _
  rw [v18_at, h2, err_real H, ofBits_half, ofBits_one, Norm.ofBits_1024, ← EReal.coe_mul, Norm.div_real _ (by norm_num), ← EReal.coe_mul, ← EReal.coe_mul]
  unfold dy
  congr 1; ring

theorem dmix_real (i : Fin 4096) (k : Fin 1024) : (val_main_v22 (F := Ideal) x0 x1 x2 x3 x4 x5 x6 (ix2 i k) : EReal)
    = ((dmix x t a m o g w i k : ℝ) : EReal) := by
  rw [v22_at]
  simp only [dy_real H, H.w, ← EReal.coe_mul, Norm.coe_sum]
  rfl

theorem dw_real (k l : Fin 1024) : (val_main_v21 (F := Ideal) x0 x1 x2 x3 x4 x5 x6 (ix2 k l) : EReal)
    = ((dw x t a m o g w k l : ℝ) : EReal) := by
  rw [v21_at]
  simp only [dy_real H, mix_real H, ← EReal.coe_mul, Norm.coe_sum]
  unfold dw
  congr 1; exact Finset.sum_congr rfl fun i _ => mul_comm _ _

theorem loss_real (z : Fin 1) (l : Fin 128) : (val_main_v37 (F := Ideal) x0 x1 x2 x3 x4 x5 x6 (ix2 z l) : EReal)
    = ((1 / 2 * ∑ i, mse x t a m o g w i : ℝ) : EReal) := by
  have hr : ∀ i : Fin 4096, (val_main_v11 (F := Ideal) x0 x1 x2 x3 x4 x5 x6 (ix1 i) : EReal) = ((mse x t a m o g w i : ℝ) : EReal) := by
    intro i
    have h10 : (val_main_v10 (F := Ideal) (ix1 i) : EReal) = ((1024 : ℝ) : EReal) := by
      rw [← Norm.ofBits_1024]; pointwise [val_main_v10, val_main_cst_1]
    have h6 : ∀ l, (val_main_v6 (F := Ideal) x0 x1 x2 x3 x4 x5 x6 (ix2 i l) : EReal)
        = ((err x t a m o g w i l * err x t a m o g w i l : ℝ) : EReal) := by
      intro l
      rw [val_main_v6_apply]
      show (val_main_v5 (F := Ideal) x0 x1 x2 x3 x4 x5 x6 (ix2 i l) * val_main_v5 (F := Ideal) x0 x1 x2 x3 x4 x5 x6 (ix2 i l) : EReal) = _
      rw [err_real H, ← EReal.coe_mul]
    rw [val_main_v11_apply]
    show Ideal.div (val_main_v9 (F := Ideal) x0 x1 x2 x3 x4 x5 x6 (ix1 i) : EReal) (val_main_v10 (F := Ideal) (ix1 i) : EReal) = _
    rw [h10, v9_at]
    simp only [h6, Norm.coe_sum]
    rw [Norm.div_real _ (by norm_num)]
    unfold mse
    congr 1; ring
  rw [v37_at]
  simp only [hr, Norm.coe_sum]
  rw [ofBits_half, ← EReal.coe_mul]

theorem dout_real (i : Fin 4096) (j : Fin 512) : (val_main_v27 (F := Ideal) x0 x1 x2 x3 x4 x5 x6 (ix2 i j) : EReal)
    = ((dout x t a m o g w i j : ℝ) : EReal) := by
  rw [val_main_v27_apply]
  show (val_main_v24 (F := Ideal) x0 x1 x2 x3 x4 x5 x6 (ix2 i j) * val_main_v0_0 (F := Ideal) x4 (ix2 i j) : EReal) = _
  rw [v24_at, dmix_real H, gate_real H, ← EReal.coe_mul]; rfl

theorem dgate_real (i : Fin 4096) (j : Fin 512) : (val_main_v40 (F := Ideal) x0 x1 x2 x3 x4 x5 x6 (ix2 i j) : EReal)
    = ((dgate x t a m o g w i j : ℝ) : EReal) := by
  show (x3 (ix2 i j) * val_main_v24 (F := Ideal) x0 x1 x2 x3 x4 x5 x6 (ix2 i j) * val_main_v0_2 (F := Ideal) x4 (ix2 i j)
    + x4 (ix2 i j) * (x3 (ix2 i j) * val_main_v24 (F := Ideal) x0 x1 x2 x3 x4 x5 x6 (ix2 i j)) * val_main_v0_1 (F := Ideal) x4 (ix2 i j) : EReal) = _
  rw [v24_at, dmix_real H, sigmoid_real H, slope_real H, H.o, H.g]
  simp only [← EReal.coe_mul, ← EReal.coe_add]
  unfold dgate dgated
  congr 1; ring

theorem dsum_real (i : Fin 4096) (h : Fin 8) : (val_main_v31 (F := Ideal) x0 x1 x2 x3 x4 x5 x6 (ix2 i h) : EReal)
    = ((dsum x t a m o g w i h : ℝ) : EReal) := by
  rw [v31_at]
  have hb : ∀ b : Fin 64, (val_main_v30 (F := Ideal) x0 x1 x2 x3 x4 x5 x6 (ix3 i h b) : EReal)
      = ((dout x t a m o g w i ⟨h.val * 64 + b.val, by omega⟩ * o i ⟨h.val * 64 + b.val, by omega⟩ : ℝ) : EReal) := by
    intro b
    refine (heads_at (val_main_v29 (F := Ideal) x0 x1 x2 x3 x4 x5 x6) i h b).trans ?_
    rw [val_main_v29_apply]
    show (val_main_v27 (F := Ideal) x0 x1 x2 x3 x4 x5 x6 (ix2 i ⟨h.val * 64 + b.val, _⟩) * x3 (ix2 i ⟨h.val * 64 + b.val, _⟩) : EReal) = _
    rw [dout_real H, H.o, ← EReal.coe_mul]
  simp only [hb, Norm.coe_sum]
  rfl

theorem blocks_real (i : Fin 4096) (y : Fin 1024) : (val_main_v39 (F := Ideal) x0 x1 x2 x3 x4 x5 x6 (ix2 i y) : EReal)
    = ((blocks x t a m o g w i y : ℝ) : EReal) := by
  show (val_main_v38 (F := Ideal) x0 x1 x2 x3 x4 x5 x6 (ix2 i y) : EReal) = _
  rw [v38_at, v36_at]
  unfold blocks
  split
  · exact (heads_at (val_main_v27 (F := Ideal) x0 x1 x2 x3 x4 x5 x6) i _ _).trans (dout_real H _ _)
  · split
    · rw [dsum_real H, EReal.coe_neg]
    · exact EReal.coe_zero.symm

end Cert.Reference3Ideal.Loss

end
-- ==== Proof.Loss.Equal.lean ====
/- The output projection's call computes the loss and the gradients that the reference computes. -/
module

public import proofs.«01_k».proof.Proof.Loss.Heads
public import proofs.«01_k».proof.Proof.Loss.Reference
public import proofs.«01_k».proof.Proof.Gen.Pre_loss_finite
public import proofs.«01_k».proof.Defs

@[expose] public section

set_option maxRecDepth 16384

noncomputable section

namespace Cert.Loss

open Idealize.ShloMosaic Idealize.ShloMosaic.TcCoe Idealize.SL.Sem

/-- The reference leaves its arguments and its semaphores as they were. -/
theorem frame_reference : Cert.quiescent_Reference3Ideal := fun m ρ _ =>
  (θ_run _ _ _).mono (fun _ h => ⟨fun c => (h c).2.2.2.2.2.2.2, sem_eq_zero_of_no_sems (by decide) _⟩) (Cert.Reference3Ideal.Value.run m ρ)

/-- Under the precondition the seven arrays hold reals. -/
theorem real_args {m : (ℓ : Loc Cert.Kernel3Ideal.nD Cert.Kernel3Ideal.τ Cert.Kernel3Ideal.sig) → Buf (Elt Ideal) ℓ}
    (h : Cert.Pre_Kernel3Ideal_loss_finite m) (c : Dev Cert.Kernel3Ideal.nD) :
    ∃ (x t : Fin 4096 → Fin 1024 → ℝ) (a mm : Fin 4096 → Fin 256 → ℝ) (o g : Fin 4096 → Fin 512 → ℝ) (w : Fin 1024 → Fin 1024 → ℝ),
      Holds m c x t a mm o g w := by
  obtain ⟨h0, h1, h2, h3, h4, h5, h6⟩ := h c
  obtain ⟨x, hx⟩ := Norm.lift (fun p : Fin 4096 × Fin 1024 => X m c p.1 p.2) fun p => finite_of_all _ _ h0 _
  obtain ⟨t, ht⟩ := Norm.lift (fun p : Fin 4096 × Fin 1024 => T m c p.1 p.2) fun p => finite_of_all _ _ h1 _
  obtain ⟨a, ha⟩ := Norm.lift (fun p : Fin 4096 × Fin 256 => A m c p.1 p.2) fun p => finite_of_all _ _ h2 _
  obtain ⟨o, ho⟩ := Norm.lift (fun p : Fin 4096 × Fin 512 => O m c p.1 p.2) fun p => finite_of_all _ _ h3 _
  obtain ⟨g, hg⟩ := Norm.lift (fun p : Fin 4096 × Fin 512 => G m c p.1 p.2) fun p => finite_of_all _ _ h4 _
  obtain ⟨mm, hm⟩ := Norm.lift (fun p : Fin 4096 × Fin 256 => M m c p.1 p.2) fun p => finite_of_all _ _ h5 _
  obtain ⟨w, hw⟩ := Norm.lift (fun p : Fin 1024 × Fin 1024 => W m c p.1 p.2) fun p => finite_of_all _ _ h6 _
  exact ⟨fun i l => x (i, l), fun i l => t (i, l), fun i l => a (i, l), fun i l => mm (i, l), fun i l => o (i, l), fun i l => g (i, l),
    fun i l => w (i, l), fun i l => hx (i, l), fun i l => ht (i, l), fun i l => ha (i, l), fun i l => ho (i, l), fun i l => hg (i, l),
    fun i l => hm (i, l), fun i l => hw (i, l)⟩

/-- The loss and the six gradients. -/
theorem algebraic_loss : Cert.algebraic_Kernel3Ideal_Reference3Ideal_pre_loss_finite := by
  intro m g m' g' hpre hagree
  choose x t a mm o gt w H using real_args hpre
  refine ⟨fun c => dyArr (x c) (t c) (a c) (mm c) (o c) (gt c) (w c), fun c => dmaArr (x c) (t c) (a c) (mm c) (o c) (gt c) (w c),
    fun c => dmmArr (x c) (t c) (a c) (mm c) (o c) (gt c) (w c), fun c => dwArr (x c) (t c) (a c) (mm c) (o c) (gt c) (w c),
    fun c => lossArr (x c) (t c) (a c) (mm c) (o c) (gt c) (w c), fun c => headArr (x c) (t c) (a c) (mm c) (o c) (gt c) (w c),
    fun c => gateArr (x c) (t c) (a c) (mm c) (o c) (gt c) (w c), ?_, ?_⟩
  · refine (θ_run _ _ _).mono (fun r h c => ?_) (Cert.Kernel3Ideal.Value.run_blocks m g)
    obtain ⟨h9, h10, h11, h12, h13, h14, h15, _, hargs⟩ := h c
    exact ⟨h9.trans (array_dy m c (H c)), h10.trans (array_dma m c (H c)), h11.trans (array_dmm m c (H c)), h12.trans (array_dw m c (H c)),
      h13.trans (array_loss m c (H c)), h14.trans (array_heads m c (H c)), h15.trans (array_gates m c (H c)), hargs⟩
  · refine (θ_run _ _ _).mono (fun r h c => ?_) (Cert.Reference3Ideal.Value.run m' g')
    obtain ⟨r0, r1, r2, r3, r4, r5, r6, hargs⟩ := h c
    obtain ⟨e0, e1, e2, e3, e4, e5, e6⟩ := hagree c
    have R : Cert.Reference3Ideal.Loss.Holds (x c) (t c) (a c) (mm c) (o c) (gt c) (w c) (m' (c.tc.loc Cert.Reference3Ideal.main_arg0))
        (m' (c.tc.loc Cert.Reference3Ideal.main_arg1)) (m' (c.tc.loc Cert.Reference3Ideal.main_arg2)) (m' (c.tc.loc Cert.Reference3Ideal.main_arg3))
        (m' (c.tc.loc Cert.Reference3Ideal.main_arg4)) (m' (c.tc.loc Cert.Reference3Ideal.main_arg5)) (m' (c.tc.loc Cert.Reference3Ideal.main_arg6)) := by
      rw [e0, e1, e2, e3, e4, e5, e6]
      exact ⟨(H c).x, (H c).t, (H c).a, (H c).o, (H c).g, (H c).m, (H c).w⟩
    refine ⟨r0.trans ?_, r1.trans ?_, r2.trans ?_, r3.trans ?_, r4.trans ?_, r5.trans ?_, r6.trans ?_, hargs⟩
    · refine funext fun y => ?_
      obtain ⟨i, l, rfl⟩ : ∃ i l, y = ix2 i l := ⟨_, _, eq_ix2 y⟩
      exact Cert.Reference3Ideal.Loss.dy_real R i l
    · refine funext fun y => ?_
      obtain ⟨i, l, rfl⟩ : ∃ i l, y = ix2 i l := ⟨_, _, eq_ix2 y⟩
      exact (Cert.Reference3Ideal.Loss.v23_at _ _ _ _ _ _ _ i l).trans (Cert.Reference3Ideal.Loss.dmix_real R i _)
    · refine funext fun y => ?_
      obtain ⟨i, l, rfl⟩ : ∃ i l, y = ix2 i l := ⟨_, _, eq_ix2 y⟩
      exact (Cert.Reference3Ideal.Loss.v25_at _ _ _ _ _ _ _ i l).trans (Cert.Reference3Ideal.Loss.dmix_real R i _)
    · refine funext fun y => ?_
      obtain ⟨i, l, rfl⟩ : ∃ i l, y = ix2 i l := ⟨_, _, eq_ix2 y⟩
      exact Cert.Reference3Ideal.Loss.dw_real R i l
    · refine funext fun y => ?_
      obtain ⟨i, l, rfl⟩ : ∃ i l, y = ix2 i l := ⟨_, _, eq_ix2 y⟩
      exact Cert.Reference3Ideal.Loss.loss_real R i l
    · beta_reduce
      rw [Cert.Reference3Ideal.Read.val_main_v39_eq]
      refine funext fun y => ?_
      obtain ⟨i, l, rfl⟩ : ∃ i l, y = ix2 i l := ⟨_, _, eq_ix2 y⟩
      exact Cert.Reference3Ideal.Loss.blocks_real R i l
    · beta_reduce
      rw [Cert.Reference3Ideal.Read.val_main_v40_eq]
      refine funext fun y => ?_
      obtain ⟨i, l, rfl⟩ : ∃ i l, y = ix2 i l := ⟨_, _, eq_ix2 y⟩
      exact Cert.Reference3Ideal.Loss.dgate_real R i l

end Cert.Loss

end
-- ==== Proof.InW.Math.lean ====
module

public import proofs.«01_k».proof.Proof.Loss.Math

@[expose] public section

/-! The gradients of the attention's normalized queries and keys over the reals, and the sums over a pair of heads that the version
takes them from. -/

noncomputable section

namespace Cert.InW

open Idealize.ShloMosaic

theorem ofBits_eighth : Ideal.ofBits .f32 0x3E000000#32 = ((1 / 8 : ℝ) : EReal) := by
  simp [Ideal.ofBits, Ideal.ieee]; rw [← EReal.coe_mul]; norm_num

theorem ofBits_part : Ideal.ofBits .f32 0x3C800000#32 = ((1 / 64 : ℝ) : EReal) := by
  simp [Ideal.ofBits, Ideal.ieee]; rw [← EReal.coe_mul]; norm_num

/-- The constant the norms add to a mean of squares. -/
def eps : ℝ := Norm.ofBits_eps.choose

theorem eps_pos : 0 < eps := Norm.ofBits_eps.choose_spec.1

theorem ofBits_eps : Ideal.ofBits .f32 0x358637BD#32 = ((eps : ℝ) : EReal) := Norm.ofBits_eps.choose_spec.2

/-- The reciprocal root mean square of a head's row. -/
def rr (x : Fin 64 → ℝ) : ℝ := (√(Norm.ms 64 eps x))⁻¹

/-- The gradient of the norm of a head's row `x` for the cotangent `a`. -/
def grad (x a : Fin 64 → ℝ) (l : Fin 64) : ℝ := rr x * (a l - x l * rr x * ((∑ k, x k * rr x * a k) / 64))

/-- The same, as a chain of derivatives spells it. -/
theorem grad_chain (x a : Fin 64 → ℝ) (l : Fin 64) :
    grad x a l = a l * rr x
        + x l * ((∑ k, x k * a k) * (-(1/2) * (rr x / Norm.ms 64 eps x)) / 64)
        + ((∑ k, x k * a k) * (-(1/2) * (rr x / Norm.ms 64 eps x)) / 64) * x l :=
  Norm.grad_real (by norm_num) eps_pos x a l

theorem rr_coe (x : Fin 64 → ℝ) :
    Ideal.rsqrt (((∑ k, x k * x k : ℝ) : EReal) * ((1 / 64 : ℝ) : EReal) + ((eps : ℝ) : EReal)) = ((rr x : ℝ) : EReal) := by
  rw [← EReal.coe_mul, ← EReal.coe_add, mul_one_div]
  exact Norm.rsqrt_real (Norm.ms_pos (by norm_num) eps_pos x)

/-- A head's row in a pair's 128 lanes, the head that lane `b` is of. -/
def half (f : Fin 128 → ℝ) (b : Fin 128) (k : Fin 64) : ℝ := f ⟨b.val / 64 * 64 + k.val, by omega⟩

/-- The sum over the head that lane `b` is of. -/
theorem sum_half (f : Fin 128 → ℝ) (b : Fin 128) :
    (if b.val < 64 then (∑ k : Fin 128, if k.val < 64 then ((f k : ℝ) : EReal) else 0) else ∑ k : Fin 128, if k.val < 64 then 0 else ((f k : ℝ) : EReal))
      = ((∑ k : Fin 64, half f b k : ℝ) : EReal) := by
  have hb := b.isLt
  by_cases h : b.val < 64
  · rw [if_pos h, Loss.sum_low (fun k => ((f k : ℝ) : EReal)), Norm.coe_sum]
    congr 1
    refine Finset.sum_congr rfl fun k _ => ?_
    exact congrArg f (Fin.ext (by show k.val = b.val / 64 * 64 + k.val; omega))
  · rw [if_neg h, Loss.sum_high (fun k => ((f k : ℝ) : EReal)), Norm.coe_sum]
    congr 1
    refine Finset.sum_congr rfl fun k _ => ?_
    exact congrArg f (Fin.ext (by show 64 + k.val = b.val / 64 * 64 + k.val; omega))

/-! ### The step's gradients

`x` holds the projected queries and keys of a row, `q` and `k` the cotangents of the normalized ones, `u` and `v` the norms' gains. -/

variable (x : Fin 4096 → Fin 1024 → ℝ) (q k : Fin 4096 → Fin 512 → ℝ) (u v : Fin 64 → ℝ)

/-- The cotangent of a head's row before the gain and the scale. -/
def cot (i : Fin 4096) (j : Fin 1024) : ℝ :=
  if h : j.val < 512 then q i ⟨j.val, h⟩ * (1 / 8) * u ⟨j.val % 64, by omega⟩
  else k i ⟨j.val - 512, by omega⟩ * v ⟨j.val % 64, by omega⟩

/-- A head's row, the head that column `j` is of. -/
def row (f : Fin 1024 → ℝ) (j : Fin 1024) (l : Fin 64) : ℝ := f ⟨j.val / 64 * 64 + l.val, by omega⟩

/-- The gradient of the queries and keys. -/
def dqk (i : Fin 4096) (j : Fin 1024) : ℝ := grad (row (x i) j) (row (cot q k u v i) j) ⟨j.val % 64, by omega⟩

end Cert.InW

end
-- ==== Proof.InW.Operands.lean ====
module

public import proofs.«01_k».proof.Proof.Gen.Kernel5Ideal.Value
public import proofs.«01_k».proof.Proof.InW.Math
public import proofs.«01_k».proof.Proof.Pieces
public import Idealize.ShloMosaic.Lib.Pipeline.ValueKit
public import Idealize.ShloMosaic.Lib.Pointwise
public import Idealize.ShloMosaic.Lib.Claim

@[expose] public section

/-! What each staged block of the call holds, over the arguments of the program. -/

set_option maxRecDepth 16384

noncomputable section

namespace Cert.InW

open Idealize.ShloMosaic Idealize.ShloMosaic.TcCoe Idealize.SL.Sem
open Idealize.ShloMosaic.Pipeline (Dat)
open Cert.Kernel5Ideal Cert.Kernel5Ideal.Gen Cert.Kernel5Ideal.Value

variable (μ : (ℓ : Loc nD τ sig) → Buf (Elt Ideal) ℓ) (c : Dev nD)

/-! ### The arguments by row and column -/

def X (i : Fin 4096) (l : Fin 1024) : EReal := μ (c.tc.loc main_arg1) (ix2 i l)
def U (l : Fin 64) : EReal := μ (c.tc.loc main_arg4) (ix2 (0 : Fin 1) l)
def V' (l : Fin 64) : EReal := μ (c.tc.loc main_arg5) (ix2 (0 : Fin 1) l)
def Q (i : Fin 4096) (l : Fin 512) : EReal := μ (c.tc.loc main_arg7) (ix2 i l)
def K (i : Fin 4096) (l : Fin 512) : EReal := μ (c.tc.loc main_arg8) (ix2 i l)
def D (i : Fin 4096) (l : Fin 512) : EReal := μ (c.tc.loc main_arg9) (ix2 i l)

/-- The arguments hold these reals. -/
structure Holds (x : Fin 4096 → Fin 1024 → ℝ) (q k : Fin 4096 → Fin 512 → ℝ) (u v : Fin 64 → ℝ) : Prop where
  x : ∀ i l, X μ c i l = ((x i l : ℝ) : EReal)
  q : ∀ i l, Q μ c i l = ((q i l : ℝ) : EReal)
  k : ∀ i l, K μ c i l = ((k i l : ℝ) : EReal)
  u : ∀ l, U μ c l = ((u l : ℝ) : EReal)
  v : ∀ l, V' μ c l = ((v l : ℝ) : EReal)

/-- The array row of row `r` of the block at grid point `p`: the points take the blocks last first. -/
def rowOf (p : Fin cfg0.N) (r : Fin 512) : Fin 4096 :=
  ⟨(7 - p.val) * 512 + r.val, by have := lt_of_lt_of_eq p.isLt N_0; omega⟩

theorem idx : ∀ t : Fin cfg0.N, win0_4.index t = ![7 - t.val, 0] ∧ win0_5.index t = ![7 - t.val, 0] ∧ win0_6.index t = ![7 - t.val, 0]
    ∧ win0_7.index t = ![7 - t.val, 0] ∧ win0_10.index t = ![0, 0] ∧ win0_11.index t = ![0, 0]
    ∧ win0_13.index t = ![7 - t.val, 0] ∧ win0_14.index t = ![7 - t.val, 0] :=
  (by decide +kernel : ∀ t : Fin grid0.N, _)

/-! ### What the host lines leave -/

/-- A lane of a head's block of 128, the head's own 64 lanes first. -/
theorem blocks_at (a b : FVec Ideal S4096x8x64 .f32) (i : Fin 4096) (j : Fin 1024) (hj : j.val % 128 < 64) :
    (shapeCast S4096x1024 (concatenate S4096x8x128 2 [⟨S4096x8x64, a⟩, ⟨S4096x8x64, b⟩] concatenates_S4096x8x64_S4096x8x64_S4096x8x128_d2)
      shapeCasts_S4096x8x128_S4096x1024 (ix2 i j) : EReal) = a (ix3 i ⟨j.val / 128, by omega⟩ ⟨j.val % 128, hj⟩) := by
  refine (shapeCast_apply _ shapeCasts_S4096x8x128_S4096x1024 _ (ix3 i (⟨j.val / 128, by omega⟩ : Fin 8) (⟨j.val % 128, by omega⟩ : Fin 128)) (by
    rewrite [Shape.rowMajor_val_two, Shape.rowMajor_val_three]
    show (i.val * 8 + j.val / 128) * 128 + j.val % 128 = i.val * 1024 + j.val; omega)).trans ?_
  pointwise
  rw [dif_pos hj]

theorem heads_at (v : FVec Ideal S4096x512 .f32) (i : Fin 4096) (h : Fin 8) (b : Fin 64) :
    shapeCast S4096x8x64 v shapeCasts_S4096x512_S4096x8x64 (ix3 i h b) = v (ix2 i ⟨h.val * 64 + b.val, by omega⟩) :=
  shapeCast_apply v shapeCasts_S4096x512_S4096x8x64 _ _ (by
    rewrite [Shape.rowMajor_val_two, Shape.rowMajor_val_three]
    show i.val * 512 + (h.val * 64 + b.val) = (i.val * 8 + h.val) * 64 + b.val; omega)

theorem V_q (i : Fin 4096) (j : Fin 1024) (hj : j.val % 128 < 64) :
    (V μ c main_v10 (ix2 i j) : EReal) = Q μ c i ⟨j.val / 128 * 64 + j.val % 128, by omega⟩ := by
  simp only [V, hostOps0, hostOps0_1, List.flatten_cons, List.flatten_nil, List.cons_append, List.nil_append, List.append_nil]
  after_results
  exact (blocks_at _ _ i j hj).trans (heads_at _ i _ _)

theorem V_k (i : Fin 4096) (j : Fin 1024) (hj : j.val % 128 < 64) :
    (V μ c main_v13 (ix2 i j) : EReal) = K μ c i ⟨j.val / 128 * 64 + j.val % 128, by omega⟩ := by
  simp only [V, hostOps0, hostOps0_1, List.flatten_cons, List.flatten_nil, List.cons_append, List.nil_append, List.append_nil]
  after_results
  exact (blocks_at _ _ i j hj).trans (heads_at _ i _ _)

theorem V_d (i : Fin 4096) (j : Fin 1024) (hj : j.val % 128 < 64) :
    (V μ c main_v16 (ix2 i j) : EReal) = D μ c i ⟨j.val / 128 * 64 + j.val % 128, by omega⟩ := by
  simp only [V, hostOps0, hostOps0_1, List.flatten_cons, List.flatten_nil, List.cons_append, List.nil_append, List.append_nil]
  after_results
  exact (blocks_at _ _ i j hj).trans (heads_at _ i _ _)

/-- Eight copies of a gain side by side. -/
theorem eight (a : FVec Ideal S1x64 .f32) (z : Fin 1) (j : Fin 512) :
    (concatenate S1x512 1 [⟨S1x64, a⟩, ⟨S1x64, a⟩, ⟨S1x64, a⟩, ⟨S1x64, a⟩, ⟨S1x64, a⟩, ⟨S1x64, a⟩, ⟨S1x64, a⟩, ⟨S1x64, a⟩]
        concatenates_S1x64_S1x64_S1x64_S1x64_S1x64_S1x64_S1x64_S1x64_S1x512_d1 (ix2 z j) : EReal)
      = a (ix2 (0 : Fin 1) ⟨j.val % 64, by omega⟩) := by
  have hj := j.isLt
  have hz : z = 0 := Subsingleton.elim _ _
  subst hz
  pointwise
  repeat' split
  all_goals exact congrArg a (congrArg (ix2 (0 : Fin 1)) (Fin.ext (by dsimp only; omega)))

theorem V_u (z : Fin 1) (j : Fin 512) : (V μ c main_v19 (ix2 z j) : EReal) = U μ c ⟨j.val % 64, by omega⟩ := by
  simp only [V, hostOps0, hostOps0_1, List.flatten_cons, List.flatten_nil, List.cons_append, List.nil_append, List.append_nil]
  after_results
  exact eight _ z j

theorem V_v (z : Fin 1) (j : Fin 512) : (V μ c main_v20 (ix2 z j) : EReal) = V' μ c ⟨j.val % 64, by omega⟩ := by
  simp only [V, hostOps0, hostOps0_1, List.flatten_cons, List.flatten_nil, List.cons_append, List.nil_append, List.append_nil]
  after_results
  exact eight _ z j

/-! ### The staged blocks -/

variable (p : Fin cfg0.N)

theorem blk_x (r : Fin 512) (l : Fin 1024) : (iblk μ c 7 p (ix2 r l) : EReal) = X μ c (rowOf p r) l := by
  unfold rowOf X
  blk_point [iblk, V, idx p]
theorem blk_q (r : Fin 512) (j : Fin 1024) (hj : j.val % 128 < 64) :
    (iblk μ c 4 p (ix2 r j) : EReal) = Q μ c (rowOf p r) ⟨j.val / 128 * 64 + j.val % 128, by omega⟩ :=
  (show _ = V μ c main_v10 (ix2 (rowOf p r) j) by blk_simp [iblk]; blk_ext [idx p, rowOf]).trans (V_q μ c _ _ hj)
theorem blk_k (r : Fin 512) (j : Fin 1024) (hj : j.val % 128 < 64) :
    (iblk μ c 5 p (ix2 r j) : EReal) = K μ c (rowOf p r) ⟨j.val / 128 * 64 + j.val % 128, by omega⟩ :=
  (show _ = V μ c main_v13 (ix2 (rowOf p r) j) by blk_simp [iblk]; blk_ext [idx p, rowOf]).trans (V_k μ c _ _ hj)
theorem blk_d (r : Fin 512) (j : Fin 1024) (hj : j.val % 128 < 64) :
    (iblk μ c 6 p (ix2 r j) : EReal) = D μ c (rowOf p r) ⟨j.val / 128 * 64 + j.val % 128, by omega⟩ :=
  (show _ = V μ c main_v16 (ix2 (rowOf p r) j) by blk_simp [iblk]; blk_ext [idx p, rowOf]).trans (V_d μ c _ _ hj)
theorem blk_u (z : Fin 1) (j : Fin 512) : (iblk μ c 10 p (ix2 z j) : EReal) = U μ c ⟨j.val % 64, by omega⟩ :=
  (show _ = V μ c main_v19 (ix2 z j) by blk_simp [iblk]; blk_ext [idx p]).trans (V_u μ c _ _)
theorem blk_v (z : Fin 1) (j : Fin 512) : (iblk μ c 11 p (ix2 z j) : EReal) = V' μ c ⟨j.val % 64, by omega⟩ :=
  (show _ = V μ c main_v20 (ix2 z j) by blk_simp [iblk]; blk_ext [idx p]).trans (V_v μ c _ _)

end Cert.InW

end
-- ==== Proof.InW.Point.lean ====
module

public import proofs.«01_k».proof.Proof.Gen.Kernel5Ideal.Skeleton
public import proofs.«01_k».proof.Proof.InW.Math
public import Idealize.ShloMosaic.Lib.Pipeline.ValueKit
public import Idealize.ShloMosaic.Lib.Pointwise
public import Idealize.ShloMosaic.Lib.Claim
public import proofs.«01_k».proof.Proof.Loss.Point

@[expose] public section

/-! What a grid point computes for one pair of heads, element by element, from blocks of real values. -/

set_option maxRecDepth 16384

noncomputable section

namespace Cert.InW

open Idealize.ShloMosaic Idealize.ShloMosaic.TcCoe Idealize.SL.Sem
open Cert.Kernel5Ideal Cert.Kernel5Ideal.Gen

/-- Two heads' blocks of 128 lanes, of which 64 are the head's own, as the two halves of one block. -/
def pair (a b : FVec Ideal S512x128 .f32) : FVec Ideal S512x128 .f32 :=
  select (k0_pay10) (shapeCast S512x128 a shapeCasts_S512x128_S512x128)
    (dynamicRotate 1 64#32 none (shapeCast S512x128 b shapeCasts_S512x128_S512x128) rotates_S512x128_d1)

/-- The sum over each head's lanes, in each of its lanes. -/
def pairSum (a : FVec Ideal S512x128 .f32) : FVec Ideal S512x128 .f32 :=
  select (k0_pay10)
    (broadcastTo S512x128 (shapeCast S512x1 (shapeCast S512x1 (multiReduction .add [1] S512
      (select k0_pay10 a (broadcast S512x128 (Scalar.ofBits (F := Ideal) .f32 0x00000000#32))) 0x00000000#32 reduces_S512x128_S512 (.inl rfl) rfl)
      shapeCasts_S512_S512x1) shapeCasts_S512x1_S512x1) broadcasts_S512x1_S512x128)
    (broadcastTo S512x128 (shapeCast S512x1 (shapeCast S512x1 (multiReduction .add [1] S512
      (select k0_pay10 (broadcast S512x128 (Scalar.ofBits (F := Ideal) .f32 0x00000000#32)) a) 0x00000000#32 reduces_S512x128_S512 (.inl rfl) rfl)
      shapeCasts_S512_S512x1) shapeCasts_S512x1_S512x1) broadcasts_S512x1_S512x128)

/-- The reciprocal root mean squares of the pair. -/
def pairR (x : FVec Ideal S512x128 .f32) : FVec Ideal S512x128 .f32 :=
  rsqrt (addf (mulf (pairSum (mulf x x)) (broadcast S512x128 (Scalar.ofBits (F := Ideal) .f32 0x3C800000#32)))
    (broadcast S512x128 (Scalar.ofBits (F := Ideal) .f32 0x358637BD#32)))

/-- The scaled cotangent times the gain. -/
def pairA (s : BitVec 32) (a b : FVec Ideal S512x128 .f32) (g : FVec Ideal S1x128 .f32) : FVec Ideal S512x128 .f32 :=
  mulf (mulf (pair a b) (broadcast S512x128 (Scalar.ofBits (F := Ideal) .f32 s)))
    (broadcastTo S512x128 (shapeCast S1x128 g shapeCasts_S1x128_S1x128) broadcasts_S1x128_S512x128)

/-- The gradient of the pair's norms. -/
def tile (s : BitVec 32) (a b x : FVec Ideal S512x128 .f32) (g : FVec Ideal S1x128 .f32) : FVec Ideal S512x128 .bf16 :=
  truncf .bf16 (mulf (pairR x) (subf (pairA s a b g) (mulf (mulf x (pairR x))
    (mulf (pairSum (mulf (mulf x (pairR x)) (pairA s a b g))) (broadcast S512x128 (Scalar.ofBits (F := Ideal) .f32 0x3C800000#32)))))) bitsLt_bf16_f32

theorem pair_at (a b : FVec Ideal S512x128 .f32) (r : Fin 512) (y : Fin 128) :
    (pair a b (ix2 r y) : EReal) = if y.val < 64 then a (ix2 r y) else b (ix2 r ⟨y.val % 64, by omega⟩) := by
  pointwise [pair, k0_pay10]
  rw [Loss.sel_lt]
  by_cases h : y.val < 64
  · rw [if_pos h, if_pos h]
  · rw [if_neg h, if_neg h]
    refine congrArg b (congrArg (ix2 r) (Fin.ext ?_))
    show (y.val + 128 - 64) % 128 = y.val % 64
    omega

variable {a b x : FVec Ideal S512x128 .f32} {g : FVec Ideal S1x128 .f32} {s : BitVec 32} {w : ℝ} {A X : Fin 512 → Fin 128 → ℝ} {G : Fin 128 → ℝ}

theorem pairSum_at (hX : ∀ r y, (x (ix2 r y) : EReal) = ((X r y : ℝ) : EReal)) (r : Fin 512) (y : Fin 128) :
    (pairSum x (ix2 r y) : EReal) = ((∑ k, half (X r) y k : ℝ) : EReal) := by
  have h := sum_half (X r) y
  generalize ((∑ k, half (X r) y k : ℝ) : EReal) = z at h ⊢
  pointwise [pairSum, k0_pay10]
  simp only [Loss.sel_lt, hX]
  exact h

theorem pairR_at (hX : ∀ r y, (x (ix2 r y) : EReal) = ((X r y : ℝ) : EReal)) (r : Fin 512) (y : Fin 128) :
    (pairR x (ix2 r y) : EReal) = ((rr (half (X r) y) : ℝ) : EReal) := by
  have h := pairSum_at (x := mulf x x) (X := fun r y => X r y * X r y)
    (fun r y => (show (mulf x x (ix2 r y) : EReal) = x (ix2 r y) * x (ix2 r y) from rfl).trans (by rw [hX, ← EReal.coe_mul])) r y
  rw [← rr_coe]
  unfold pairR
  generalize pairSum (mulf x x) = z at h ⊢
  pointwise
  rw [h, ofBits_part, ofBits_eps]
  rfl

theorem pairA_at (hs : Ideal.ofBits .f32 s = ((w : ℝ) : EReal)) (hA : ∀ r y, (pair a b (ix2 r y) : EReal) = ((A r y : ℝ) : EReal))
    (hG : ∀ z y, (g (ix2 z y) : EReal) = ((G y : ℝ) : EReal)) (r : Fin 512) (y : Fin 128) :
    (pairA s a b g (ix2 r y) : EReal) = ((A r y * w * G y : ℝ) : EReal) := by
  unfold pairA
  generalize pair a b = z at hA ⊢
  pointwise
  rw [hA, hs, hG, ← EReal.coe_mul, ← EReal.coe_mul]

theorem tile_at (hs : Ideal.ofBits .f32 s = ((w : ℝ) : EReal)) (hA : ∀ r y, (pair a b (ix2 r y) : EReal) = ((A r y : ℝ) : EReal))
    (hX : ∀ r y, (x (ix2 r y) : EReal) = ((X r y : ℝ) : EReal)) (hG : ∀ z y, (g (ix2 z y) : EReal) = ((G y : ℝ) : EReal)) (r : Fin 512) (y : Fin 128) :
    (tile s a b x g (ix2 r y) : EReal) = ((grad (half (X r) y) (half (fun y => A r y * w * G y) y) ⟨y.val % 64, by omega⟩ : ℝ) : EReal) := by
  have hR := pairR_at hX
  have hA' := pairA_at hs hA hG
  have hy : ∀ f : Fin 128 → ℝ, half f y ⟨y.val % 64, by omega⟩ = f y := fun f => congrArg f (Fin.ext (by show y.val / 64 * 64 + y.val % 64 = y.val; omega))
  unfold tile
  generalize pairR x = u at hR ⊢
  generalize pairA s a b g = v at hA' ⊢
  have h := pairSum_at (x := mulf (mulf x u) v) (X := fun r y => X r y * rr (half (X r) y) * (A r y * w * G y))
    (fun r y => (show (mulf (mulf x u) v (ix2 r y) : EReal) = x (ix2 r y) * u (ix2 r y) * v (ix2 r y) from rfl).trans
      (by rw [hX, hR, hA', ← EReal.coe_mul, ← EReal.coe_mul])) r y
  generalize pairSum (mulf (mulf x u) v) = z at h ⊢
  pointwise
  rw [hX, hR, hA', h, ofBits_part]
  simp only [← EReal.coe_mul, ← EReal.coe_sub]
  unfold grad
  rw [hy, hy, mul_one_div]
  have e : ∀ k : Fin 64, half (fun y => X r y * rr (half (X r) y) * (A r y * w * G y)) y k
      = half (X r) y k * rr (half (X r) y) * half (fun y => A r y * w * G y) y k := by
    intro k
    unfold half
    have h2 : ∀ l : Fin 64, (⟨(y.val / 64 * 64 + k.val) / 64 * 64 + l.val, by omega⟩ : Fin 128) = ⟨y.val / 64 * 64 + l.val, by omega⟩ :=
      fun l => Fin.ext (by show (y.val / 64 * 64 + k.val) / 64 * 64 + l.val = y.val / 64 * 64 + l.val; omega)
    simp only [h2]
  rw [Finset.sum_congr rfl fun k _ => e k]

end Cert.InW

end
-- ==== Proof.InW.Array.lean ====
module

public import proofs.«01_k».proof.Proof.InW.Operands
public import proofs.«01_k».proof.Proof.InW.Point

@[expose] public section

/-! What one grid point of the call leaves in the blocks of the queries', keys' and values' gradients, and what their arrays then hold. -/

set_option maxRecDepth 16384

noncomputable section

namespace Cert.InW

open Idealize.ShloMosaic Idealize.ShloMosaic.TcCoe Idealize.SL.Sem
open Idealize.ShloMosaic.Pipeline (Dat)
open Cert.Kernel5Ideal Cert.Kernel5Ideal.Gen Cert.Kernel5Ideal.Value

/-! ### The payloads of the stores are the pairs' gradients -/

section

variable (a b x : FVec Ideal S512x128 .f32) (g : FVec Ideal S1x128 .f32)

theorem tile0 : k0_pay24 k0_pay10 (k0_pay17 k0_pay10 x) (k0_pay18 k0_pay10 x) (k0_pay20 k0_pay10 (k0_pay14 a) b g) (k0_pay22 k0_pay10 (k0_pay14 a) b x g) (k0_pay23 k0_pay10 (k0_pay14 a) b x g) = tile 0x3E000000#32 a b x g := rfl
theorem tile1 : k0_pay38 k0_pay10 (k0_pay31 k0_pay10 x) (k0_pay32 k0_pay10 x) (k0_pay34 k0_pay10 a b g) (k0_pay35 k0_pay10 a b x g) (k0_pay36 k0_pay10 a b x g) k0_pay37 = tile 0x3E000000#32 a b x g := rfl
theorem tile2 : k0_pay52 k0_pay10 (k0_pay46 k0_pay10 x) (k0_pay47 k0_pay10 x) (k0_pay49 k0_pay10 a b g) (k0_pay50 k0_pay10 a b x g) (k0_pay51 k0_pay10 a b x g) = tile 0x3E000000#32 a b x g := rfl
theorem tile3 : k0_pay65 k0_pay10 (k0_pay58 k0_pay10 x) (k0_pay59 k0_pay10 x) (k0_pay61 k0_pay10 (k0_pay55 a) b g) (k0_pay63 k0_pay10 (k0_pay55 a) b x g) (k0_pay64 k0_pay10 (k0_pay55 a) b x g) = tile 0x3E000000#32 a b x g := rfl
theorem tile4 : k0_pay76 (k0_pay72 k0_pay10 (k0_pay71 x)) (k0_pay75 k0_pay10 (k0_pay68 a) (k0_pay69 b) x (k0_pay71 x) g) = tile 0x3F800000#32 a b x g := rfl
theorem tile5 : k0_pay88 k0_pay10 (k0_pay79 a) (k0_pay80 b) x (k0_pay83 k0_pay10 x) (k0_pay84 k0_pay10 x) g = tile 0x3F800000#32 a b x g := rfl
theorem tile6 : k0_pay98 k0_pay10 (k0_pay94 k0_pay10 x) (k0_pay95 k0_pay10 x) (k0_pay97 k0_pay10 a b g) = tile 0x3F800000#32 a b x g := rfl
theorem tile7 : k0_pay108 k0_pay10 (k0_pay100 a) (k0_pay101 b) x (k0_pay103 x) (k0_pay104 k0_pay10 x) g = tile 0x3F800000#32 a b x g := rfl
theorem vals0 : k0_pay13 a b = truncf (F := Ideal) .bf16 (pair a b) bitsLt_bf16_f32 := rfl
theorem vals1 : k0_pay27 k0_pay10 a b = truncf (F := Ideal) .bf16 (pair a b) bitsLt_bf16_f32 := rfl
theorem vals2 : k0_pay42 (k0_pay41 k0_pay10 a b) = truncf (F := Ideal) .bf16 (pair a b) bitsLt_bf16_f32 := rfl
theorem vals3 : k0_pay54 k0_pay10 a b = truncf (F := Ideal) .bf16 (pair a b) bitsLt_bf16_f32 := rfl

end

/-! ### Slices by column -/

theorem ld_at {e : EltTy} {R n w off : ℕ} (B : Vec Ideal ⟨2, ![R, n]⟩ e)
    (inb : ∀ a, (![0, off] : Fin 2 → ℕ) a + (![R, w] : Fin 2 → ℕ) a ≤ (⟨2, ![R, n]⟩ : Shape).size a) (r : Fin R) (b : Fin w)
    (hb : off + b.val < n) :
    View.ld B (Rect.unit (s := ⟨2, ![R, n]⟩) ![0, off] ![R, w] inb) (ix2 r b) = B (ix2 r ⟨off + b.val, hb⟩) := by
  show B _ = B _
  congr 1
  funext a; apply Fin.ext; match a with
      | ⟨0, _⟩ => show 0 + 1 * r.val = r.val; omega
      | ⟨1, _⟩ => show off + 1 * b.val = off + b.val; omega

variable (μ : (ℓ : Loc nD τ sig) → Buf (Elt Ideal) ℓ) (c : Dev nD) (p : Fin cfg0.N)

abbrev qs0 : FVec Ideal S512x128 .f32 := View.ld (iblk μ c 4 p) (Rect.unit (s := S512x1024) ![0, 0] ![512, 128] inb_S512x1024_S512x128_0_0)
abbrev qs1 : FVec Ideal S512x128 .f32 := View.ld (iblk μ c 4 p) (Rect.unit (s := S512x1024) ![0, 128] ![512, 128] inb_S512x1024_S512x128_0_128)
abbrev qs2 : FVec Ideal S512x128 .f32 := View.ld (iblk μ c 4 p) (Rect.unit (s := S512x1024) ![0, 256] ![512, 128] inb_S512x1024_S512x128_0_256)
abbrev qs3 : FVec Ideal S512x128 .f32 := View.ld (iblk μ c 4 p) (Rect.unit (s := S512x1024) ![0, 384] ![512, 128] inb_S512x1024_S512x128_0_384)
abbrev qs4 : FVec Ideal S512x128 .f32 := View.ld (iblk μ c 4 p) (Rect.unit (s := S512x1024) ![0, 512] ![512, 128] inb_S512x1024_S512x128_0_512)
abbrev qs5 : FVec Ideal S512x128 .f32 := View.ld (iblk μ c 4 p) (Rect.unit (s := S512x1024) ![0, 640] ![512, 128] inb_S512x1024_S512x128_0_640)
abbrev qs6 : FVec Ideal S512x128 .f32 := View.ld (iblk μ c 4 p) (Rect.unit (s := S512x1024) ![0, 768] ![512, 128] inb_S512x1024_S512x128_0_768)
abbrev qs7 : FVec Ideal S512x128 .f32 := View.ld (iblk μ c 4 p) (Rect.unit (s := S512x1024) ![0, 896] ![512, 128] inb_S512x1024_S512x128_0_896)
abbrev ks0 : FVec Ideal S512x128 .f32 := View.ld (iblk μ c 5 p) (Rect.unit (s := S512x1024) ![0, 0] ![512, 128] inb_S512x1024_S512x128_0_0)
abbrev ks1 : FVec Ideal S512x128 .f32 := View.ld (iblk μ c 5 p) (Rect.unit (s := S512x1024) ![0, 128] ![512, 128] inb_S512x1024_S512x128_0_128)
abbrev ks2 : FVec Ideal S512x128 .f32 := View.ld (iblk μ c 5 p) (Rect.unit (s := S512x1024) ![0, 256] ![512, 128] inb_S512x1024_S512x128_0_256)
abbrev ks3 : FVec Ideal S512x128 .f32 := View.ld (iblk μ c 5 p) (Rect.unit (s := S512x1024) ![0, 384] ![512, 128] inb_S512x1024_S512x128_0_384)
abbrev ks4 : FVec Ideal S512x128 .f32 := View.ld (iblk μ c 5 p) (Rect.unit (s := S512x1024) ![0, 512] ![512, 128] inb_S512x1024_S512x128_0_512)
abbrev ks5 : FVec Ideal S512x128 .f32 := View.ld (iblk μ c 5 p) (Rect.unit (s := S512x1024) ![0, 640] ![512, 128] inb_S512x1024_S512x128_0_640)
abbrev ks6 : FVec Ideal S512x128 .f32 := View.ld (iblk μ c 5 p) (Rect.unit (s := S512x1024) ![0, 768] ![512, 128] inb_S512x1024_S512x128_0_768)
abbrev ks7 : FVec Ideal S512x128 .f32 := View.ld (iblk μ c 5 p) (Rect.unit (s := S512x1024) ![0, 896] ![512, 128] inb_S512x1024_S512x128_0_896)
abbrev ds0 : FVec Ideal S512x128 .f32 := View.ld (iblk μ c 6 p) (Rect.unit (s := S512x1024) ![0, 0] ![512, 128] inb_S512x1024_S512x128_0_0)
abbrev ds1 : FVec Ideal S512x128 .f32 := View.ld (iblk μ c 6 p) (Rect.unit (s := S512x1024) ![0, 128] ![512, 128] inb_S512x1024_S512x128_0_128)
abbrev ds2 : FVec Ideal S512x128 .f32 := View.ld (iblk μ c 6 p) (Rect.unit (s := S512x1024) ![0, 256] ![512, 128] inb_S512x1024_S512x128_0_256)
abbrev ds3 : FVec Ideal S512x128 .f32 := View.ld (iblk μ c 6 p) (Rect.unit (s := S512x1024) ![0, 384] ![512, 128] inb_S512x1024_S512x128_0_384)
abbrev ds4 : FVec Ideal S512x128 .f32 := View.ld (iblk μ c 6 p) (Rect.unit (s := S512x1024) ![0, 512] ![512, 128] inb_S512x1024_S512x128_0_512)
abbrev ds5 : FVec Ideal S512x128 .f32 := View.ld (iblk μ c 6 p) (Rect.unit (s := S512x1024) ![0, 640] ![512, 128] inb_S512x1024_S512x128_0_640)
abbrev ds6 : FVec Ideal S512x128 .f32 := View.ld (iblk μ c 6 p) (Rect.unit (s := S512x1024) ![0, 768] ![512, 128] inb_S512x1024_S512x128_0_768)
abbrev ds7 : FVec Ideal S512x128 .f32 := View.ld (iblk μ c 6 p) (Rect.unit (s := S512x1024) ![0, 896] ![512, 128] inb_S512x1024_S512x128_0_896)
abbrev xs0 : FVec Ideal S512x128 .f32 := View.ld (iblk μ c 7 p) (Rect.unit (s := S512x1024) ![0, 0] ![512, 128] inb_S512x1024_S512x128_0_0)
abbrev xs1 : FVec Ideal S512x128 .f32 := View.ld (iblk μ c 7 p) (Rect.unit (s := S512x1024) ![0, 128] ![512, 128] inb_S512x1024_S512x128_0_128)
abbrev xs2 : FVec Ideal S512x128 .f32 := View.ld (iblk μ c 7 p) (Rect.unit (s := S512x1024) ![0, 256] ![512, 128] inb_S512x1024_S512x128_0_256)
abbrev xs3 : FVec Ideal S512x128 .f32 := View.ld (iblk μ c 7 p) (Rect.unit (s := S512x1024) ![0, 384] ![512, 128] inb_S512x1024_S512x128_0_384)
abbrev xs4 : FVec Ideal S512x128 .f32 := View.ld (iblk μ c 7 p) (Rect.unit (s := S512x1024) ![0, 512] ![512, 128] inb_S512x1024_S512x128_0_512)
abbrev xs5 : FVec Ideal S512x128 .f32 := View.ld (iblk μ c 7 p) (Rect.unit (s := S512x1024) ![0, 640] ![512, 128] inb_S512x1024_S512x128_0_640)
abbrev xs6 : FVec Ideal S512x128 .f32 := View.ld (iblk μ c 7 p) (Rect.unit (s := S512x1024) ![0, 768] ![512, 128] inb_S512x1024_S512x128_0_768)
abbrev xs7 : FVec Ideal S512x128 .f32 := View.ld (iblk μ c 7 p) (Rect.unit (s := S512x1024) ![0, 896] ![512, 128] inb_S512x1024_S512x128_0_896)
abbrev us0 : FVec Ideal S1x128 .f32 := View.ld (iblk μ c 10 p) (Rect.unit (s := S1x512) ![0, 0] ![1, 128] inb_S1x512_S1x128_0_0)
abbrev us1 : FVec Ideal S1x128 .f32 := View.ld (iblk μ c 10 p) (Rect.unit (s := S1x512) ![0, 128] ![1, 128] inb_S1x512_S1x128_0_128)
abbrev us2 : FVec Ideal S1x128 .f32 := View.ld (iblk μ c 10 p) (Rect.unit (s := S1x512) ![0, 256] ![1, 128] inb_S1x512_S1x128_0_256)
abbrev us3 : FVec Ideal S1x128 .f32 := View.ld (iblk μ c 10 p) (Rect.unit (s := S1x512) ![0, 384] ![1, 128] inb_S1x512_S1x128_0_384)
abbrev vs0 : FVec Ideal S1x128 .f32 := View.ld (iblk μ c 11 p) (Rect.unit (s := S1x512) ![0, 0] ![1, 128] inb_S1x512_S1x128_0_0)
abbrev vs1 : FVec Ideal S1x128 .f32 := View.ld (iblk μ c 11 p) (Rect.unit (s := S1x512) ![0, 128] ![1, 128] inb_S1x512_S1x128_0_128)
abbrev vs2 : FVec Ideal S1x128 .f32 := View.ld (iblk μ c 11 p) (Rect.unit (s := S1x512) ![0, 256] ![1, 128] inb_S1x512_S1x128_0_256)
abbrev vs3 : FVec Ideal S1x128 .f32 := View.ld (iblk μ c 11 p) (Rect.unit (s := S1x512) ![0, 384] ![1, 128] inb_S1x512_S1x128_0_384)

/-- The eight stores of the queries' and keys' gradients, and the four of the values'. -/
abbrev qks : List (View.Piece (Elt Ideal) S512x1024 .bf16) :=
  [⟨Rect.unit ![0, 896] ![512, 128] inb_S512x1024_S512x128_0_896, k0_pay108 (F := Ideal) k0_pay10 (k0_pay100 (ks6 μ c p)) (k0_pay101 (ks7 μ c p)) (xs7 μ c p) (k0_pay103 (xs7 μ c p)) (k0_pay104 k0_pay10 (xs7 μ c p)) (vs3 μ c p)⟩,
    ⟨Rect.unit ![0, 768] ![512, 128] inb_S512x1024_S512x128_0_768, k0_pay98 (F := Ideal) k0_pay10 (k0_pay94 k0_pay10 (xs6 μ c p)) (k0_pay95 k0_pay10 (xs6 μ c p)) (k0_pay97 k0_pay10 (ks4 μ c p) (ks5 μ c p) (vs2 μ c p))⟩,
    ⟨Rect.unit ![0, 640] ![512, 128] inb_S512x1024_S512x128_0_640, k0_pay88 (F := Ideal) k0_pay10 (k0_pay79 (ks2 μ c p)) (k0_pay80 (ks3 μ c p)) (xs5 μ c p) (k0_pay83 k0_pay10 (xs5 μ c p)) (k0_pay84 k0_pay10 (xs5 μ c p)) (vs1 μ c p)⟩,
    ⟨Rect.unit ![0, 512] ![512, 128] inb_S512x1024_S512x128_0_512, k0_pay76 (F := Ideal) (k0_pay72 k0_pay10 (k0_pay71 (xs4 μ c p))) (k0_pay75 k0_pay10 (k0_pay68 (ks0 μ c p)) (k0_pay69 (ks1 μ c p)) (xs4 μ c p) (k0_pay71 (xs4 μ c p)) (vs0 μ c p))⟩,
    ⟨Rect.unit ![0, 384] ![512, 128] inb_S512x1024_S512x128_0_384, k0_pay65 (F := Ideal) k0_pay10 (k0_pay58 k0_pay10 (xs3 μ c p)) (k0_pay59 k0_pay10 (xs3 μ c p)) (k0_pay61 k0_pay10 (k0_pay55 (qs6 μ c p)) (qs7 μ c p) (us3 μ c p)) (k0_pay63 k0_pay10 (k0_pay55 (qs6 μ c p)) (qs7 μ c p) (xs3 μ c p) (us3 μ c p)) (k0_pay64 k0_pay10 (k0_pay55 (qs6 μ c p)) (qs7 μ c p) (xs3 μ c p) (us3 μ c p))⟩,
    ⟨Rect.unit ![0, 256] ![512, 128] inb_S512x1024_S512x128_0_256, k0_pay52 (F := Ideal) k0_pay10 (k0_pay46 k0_pay10 (xs2 μ c p)) (k0_pay47 k0_pay10 (xs2 μ c p)) (k0_pay49 k0_pay10 (qs4 μ c p) (qs5 μ c p) (us2 μ c p)) (k0_pay50 k0_pay10 (qs4 μ c p) (qs5 μ c p) (xs2 μ c p) (us2 μ c p)) (k0_pay51 k0_pay10 (qs4 μ c p) (qs5 μ c p) (xs2 μ c p) (us2 μ c p))⟩,
    ⟨Rect.unit ![0, 128] ![512, 128] inb_S512x1024_S512x128_0_128, k0_pay38 (F := Ideal) k0_pay10 (k0_pay31 k0_pay10 (xs1 μ c p)) (k0_pay32 k0_pay10 (xs1 μ c p)) (k0_pay34 k0_pay10 (qs2 μ c p) (qs3 μ c p) (us1 μ c p)) (k0_pay35 k0_pay10 (qs2 μ c p) (qs3 μ c p) (xs1 μ c p) (us1 μ c p)) (k0_pay36 k0_pay10 (qs2 μ c p) (qs3 μ c p) (xs1 μ c p) (us1 μ c p)) k0_pay37⟩,
    ⟨Rect.unit ![0, 0] ![512, 128] inb_S512x1024_S512x128_0_0, k0_pay24 (F := Ideal) k0_pay10 (k0_pay17 k0_pay10 (xs0 μ c p)) (k0_pay18 k0_pay10 (xs0 μ c p)) (k0_pay20 k0_pay10 (k0_pay14 (qs0 μ c p)) (qs1 μ c p) (us0 μ c p)) (k0_pay22 k0_pay10 (k0_pay14 (qs0 μ c p)) (qs1 μ c p) (xs0 μ c p) (us0 μ c p)) (k0_pay23 k0_pay10 (k0_pay14 (qs0 μ c p)) (qs1 μ c p) (xs0 μ c p) (us0 μ c p))⟩]
abbrev vs : List (View.Piece (Elt Ideal) S512x512 .bf16) :=
  [⟨Rect.unit ![0, 384] ![512, 128] inb_S512x512_S512x128_0_384, k0_pay54 (F := Ideal) k0_pay10 (ds6 μ c p) (ds7 μ c p)⟩,
    ⟨Rect.unit ![0, 256] ![512, 128] inb_S512x512_S512x128_0_256, k0_pay42 (F := Ideal) (k0_pay41 k0_pay10 (ds4 μ c p) (ds5 μ c p))⟩,
    ⟨Rect.unit ![0, 128] ![512, 128] inb_S512x512_S512x128_0_128, k0_pay27 (F := Ideal) k0_pay10 (ds2 μ c p) (ds3 μ c p)⟩,
    ⟨Rect.unit ![0, 0] ![512, 128] inb_S512x512_S512x128_0_0, k0_pay13 (F := Ideal) (ds0 μ c p) (ds1 μ c p)⟩]

theorem out_qk : (outsAt0 μ c p.val p.isLt).2.1 = View.canon (qks μ c p) := by
  by_cases h : p.val % 8 = 0
  · rw [outsAt0_A μ c p h h (by omega)]; frame_out; rfl
  · by_cases h7 : p.val % 8 = 7
    · rw [outsAt0_C μ c p h h h7]; frame_out; rfl
    · rw [outsAt0_B μ c p h h h7]; frame_out; rfl

theorem out_v : (outsAt0 μ c p.val p.isLt).2.2.1 = View.canon (vs μ c p) := by
  by_cases h : p.val % 8 = 0
  · rw [outsAt0_A μ c p h h (by omega)]; frame_out; rfl
  · by_cases h7 : p.val % 8 = 7
    · rw [outsAt0_C μ c p h h h7]; frame_out; rfl
    · rw [outsAt0_B μ c p h h h7]; frame_out; rfl

/-! ### The values' gradient -/

theorem blk_d_of (r : Fin 512) (j : Fin 1024) (l : Fin 512) (hj : j.val % 128 < 64) (hl : j.val / 128 * 64 + j.val % 128 = l.val) :
    (iblk μ c 6 p (ix2 r j) : EReal) = D μ c (rowOf p r) l :=
  (blk_d μ c p r j hj).trans (congrArg (D μ c (rowOf p r)) (Fin.ext hl))

theorem v0_apply (r : Fin 512) (y : Fin 128) : (k0_pay13 (F := Ideal) (ds0 μ c p) (ds1 μ c p) (ix2 r y) : EReal) = D μ c (rowOf p r) ⟨0 + y.val, by omega⟩ := by
  rw [vals0]
  refine (show (_ : EReal) = pair (ds0 μ c p) (ds1 μ c p) (ix2 r y) from rfl).trans ?_
  rw [pair_at]
  split
  · exact (ld_at (iblk μ c 6 p) _ r y (by omega)).trans (blk_d_of μ c p r _ _ (by show (0 + y.val) % 128 < 64; omega)
      (by show (0 + y.val) / 128 * 64 + (0 + y.val) % 128 = 0 + y.val; omega))
  · exact (ld_at (iblk μ c 6 p) _ r _ (by show 128 + y.val % 64 < 1024; omega)).trans (blk_d_of μ c p r _ _ (by show (128 + y.val % 64) % 128 < 64; omega)
      (by show (128 + y.val % 64) / 128 * 64 + (128 + y.val % 64) % 128 = 0 + y.val; omega))
theorem v1_apply (r : Fin 512) (y : Fin 128) : (k0_pay27 (F := Ideal) k0_pay10 (ds2 μ c p) (ds3 μ c p) (ix2 r y) : EReal) = D μ c (rowOf p r) ⟨128 + y.val, by omega⟩ := by
  rw [vals1]
  refine (show (_ : EReal) = pair (ds2 μ c p) (ds3 μ c p) (ix2 r y) from rfl).trans ?_
  rw [pair_at]
  split
  · exact (ld_at (iblk μ c 6 p) _ r y (by omega)).trans (blk_d_of μ c p r _ _ (by show (256 + y.val) % 128 < 64; omega)
      (by show (256 + y.val) / 128 * 64 + (256 + y.val) % 128 = 128 + y.val; omega))
  · exact (ld_at (iblk μ c 6 p) _ r _ (by show 384 + y.val % 64 < 1024; omega)).trans (blk_d_of μ c p r _ _ (by show (384 + y.val % 64) % 128 < 64; omega)
      (by show (384 + y.val % 64) / 128 * 64 + (384 + y.val % 64) % 128 = 128 + y.val; omega))
theorem v2_apply (r : Fin 512) (y : Fin 128) : (k0_pay42 (F := Ideal) (k0_pay41 k0_pay10 (ds4 μ c p) (ds5 μ c p)) (ix2 r y) : EReal) = D μ c (rowOf p r) ⟨256 + y.val, by omega⟩ := by
  rw [vals2]
  refine (show (_ : EReal) = pair (ds4 μ c p) (ds5 μ c p) (ix2 r y) from rfl).trans ?_
  rw [pair_at]
  split
  · exact (ld_at (iblk μ c 6 p) _ r y (by omega)).trans (blk_d_of μ c p r _ _ (by show (512 + y.val) % 128 < 64; omega)
      (by show (512 + y.val) / 128 * 64 + (512 + y.val) % 128 = 256 + y.val; omega))
  · exact (ld_at (iblk μ c 6 p) _ r _ (by show 640 + y.val % 64 < 1024; omega)).trans (blk_d_of μ c p r _ _ (by show (640 + y.val % 64) % 128 < 64; omega)
      (by show (640 + y.val % 64) / 128 * 64 + (640 + y.val % 64) % 128 = 256 + y.val; omega))
theorem v3_apply (r : Fin 512) (y : Fin 128) : (k0_pay54 (F := Ideal) k0_pay10 (ds6 μ c p) (ds7 μ c p) (ix2 r y) : EReal) = D μ c (rowOf p r) ⟨384 + y.val, by omega⟩ := by
  rw [vals3]
  refine (show (_ : EReal) = pair (ds6 μ c p) (ds7 μ c p) (ix2 r y) from rfl).trans ?_
  rw [pair_at]
  split
  · exact (ld_at (iblk μ c 6 p) _ r y (by omega)).trans (blk_d_of μ c p r _ _ (by show (768 + y.val) % 128 < 64; omega)
      (by show (768 + y.val) / 128 * 64 + (768 + y.val) % 128 = 384 + y.val; omega))
  · exact (ld_at (iblk μ c 6 p) _ r _ (by show 896 + y.val % 64 < 1024; omega)).trans (blk_d_of μ c p r _ _ (by show (896 + y.val % 64) % 128 < 64; omega)
      (by show (896 + y.val % 64) / 128 * 64 + (896 + y.val % 64) % 128 = 384 + y.val; omega))

theorem vs_apply (r : Fin 512) (Y : Fin 512) : (View.canon (vs μ c p) (ix2 r Y) : EReal) = D μ c (rowOf p r) Y := by
  unfold vs
  rw [Pieces.canon_cols (R := 512) (C := 512) (o := 384) (n := 128),
    Pieces.canon_cols (R := 512) (C := 512) (o := 256) (n := 128),
    Pieces.canon_cols (R := 512) (C := 512) (o := 128) (n := 128),
    Pieces.canon_cols (R := 512) (C := 512) (o := 0) (n := 128)]
  have hY := Y.isLt
  by_cases h3 : 384 ≤ Y.val
  · rw [dif_pos (by omega)]
    exact (v3_apply μ c p r _).trans (congrArg (D μ c (rowOf p r)) (Fin.ext (by show 384 + (Y.val - 384) = Y.val; omega)))
  rw [dif_neg (by omega)]
  by_cases h2 : 256 ≤ Y.val
  · rw [dif_pos (by omega)]
    exact (v2_apply μ c p r _).trans (congrArg (D μ c (rowOf p r)) (Fin.ext (by show 256 + (Y.val - 256) = Y.val; omega)))
  rw [dif_neg (by omega)]
  by_cases h1 : 128 ≤ Y.val
  · rw [dif_pos (by omega)]
    exact (v1_apply μ c p r _).trans (congrArg (D μ c (rowOf p r)) (Fin.ext (by show 128 + (Y.val - 128) = Y.val; omega)))
  rw [dif_neg (by omega)]
  rw [dif_pos (by omega)]
  exact (v0_apply μ c p r _).trans (congrArg (D μ c (rowOf p r)) (Fin.ext (by show 0 + (Y.val - 0) = Y.val; omega)))

/-! ### The queries' and keys' gradients -/

variable {x : Fin 4096 → Fin 1024 → ℝ} {q k : Fin 4096 → Fin 512 → ℝ} {u v : Fin 64 → ℝ}

theorem dqk_idx {i : Fin 4096} {j j' : Fin 1024} (h : j.val = j'.val) :
    ((dqk x q k u v i j : ℝ) : EReal) = ((dqk x q k u v i j' : ℝ) : EReal) := by rw [Fin.ext h]

/-- A pair's rows, in the row of all the heads. -/
theorem grad_pair (o : ℕ) (ho : o % 128 = 0) (ho' : o + 128 ≤ 1024) (X A : Fin 128 → ℝ) (F B : Fin 1024 → ℝ) (y : Fin 128)
    (hX : ∀ y, X y = F ⟨o + y.val, by omega⟩) (hA : ∀ y, A y = B ⟨o + y.val, by omega⟩) :
    grad (half X y) (half A y) ⟨y.val % 64, by omega⟩ = grad (row F ⟨o + y.val, by omega⟩) (row B ⟨o + y.val, by omega⟩) ⟨(o + y.val) % 64, by omega⟩ := by
  have hy := y.isLt
  have e1 : half X y = row F ⟨o + y.val, by omega⟩ := funext fun l => (hX _).trans (congrArg F (Fin.ext (by
    show o + (y.val / 64 * 64 + l.val) = (o + y.val) / 64 * 64 + l.val; omega)))
  have e2 : half A y = row B ⟨o + y.val, by omega⟩ := funext fun l => (hA _).trans (congrArg B (Fin.ext (by
    show o + (y.val / 64 * 64 + l.val) = (o + y.val) / 64 * 64 + l.val; omega)))
  have e3 : (⟨y.val % 64, by omega⟩ : Fin 64) = ⟨(o + y.val) % 64, by omega⟩ := Fin.ext (by show y.val % 64 = (o + y.val) % 64; omega)
  rw [e1, e2, e3]

theorem cot_q (i : Fin 4096) (o : ℕ) (ho : o + 128 ≤ 512) (y : Fin 128) :
    q i ⟨o + y.val, by omega⟩ * (1 / 8) * u ⟨(o + y.val) % 64, by omega⟩ = cot q k u v i ⟨o + y.val, by omega⟩ := by
  unfold cot
  rw [dif_pos (show o + y.val < 512 by omega)]

theorem cot_k (i : Fin 4096) (o : ℕ) (ho : o + 128 ≤ 512) (y : Fin 128) :
    k i ⟨o + y.val, by omega⟩ * 1 * v ⟨(o + y.val) % 64, by omega⟩ = cot q k u v i ⟨512 + o + y.val, by omega⟩ := by
  unfold cot
  rw [dif_neg (show ¬ 512 + o + y.val < 512 by omega), mul_one]
  congr 1
  · exact congrArg (k i) (Fin.ext (by show o + y.val = 512 + o + y.val - 512; omega))
  · exact congrArg v (Fin.ext (by show (o + y.val) % 64 = (512 + o + y.val) % 64; omega))

section

variable (H : Holds μ c x q k u v)
include H

theorem blk_q_of (r : Fin 512) (j : Fin 1024) (l : Fin 512) (hj : j.val % 128 < 64) (hl : j.val / 128 * 64 + j.val % 128 = l.val) :
    (iblk μ c 4 p (ix2 r j) : EReal) = ((q (rowOf p r) l : ℝ) : EReal) :=
  (blk_q μ c p r j hj).trans ((congrArg (Q μ c (rowOf p r)) (Fin.ext hl)).trans (H.q _ _))
theorem blk_k_of (r : Fin 512) (j : Fin 1024) (l : Fin 512) (hj : j.val % 128 < 64) (hl : j.val / 128 * 64 + j.val % 128 = l.val) :
    (iblk μ c 5 p (ix2 r j) : EReal) = ((k (rowOf p r) l : ℝ) : EReal) :=
  (blk_k μ c p r j hj).trans ((congrArg (K μ c (rowOf p r)) (Fin.ext hl)).trans (H.k _ _))
theorem xs0_apply (r : Fin 512) (y : Fin 128) : (xs0 μ c p (ix2 r y) : EReal) = ((x (rowOf p r) ⟨0 + y.val, by omega⟩ : ℝ) : EReal) :=
  (ld_at (iblk μ c 7 p) _ r y (by omega)).trans ((blk_x μ c p r _).trans (H.x _ _))
theorem xs1_apply (r : Fin 512) (y : Fin 128) : (xs1 μ c p (ix2 r y) : EReal) = ((x (rowOf p r) ⟨128 + y.val, by omega⟩ : ℝ) : EReal) :=
  (ld_at (iblk μ c 7 p) _ r y (by omega)).trans ((blk_x μ c p r _).trans (H.x _ _))
theorem xs2_apply (r : Fin 512) (y : Fin 128) : (xs2 μ c p (ix2 r y) : EReal) = ((x (rowOf p r) ⟨256 + y.val, by omega⟩ : ℝ) : EReal) :=
  (ld_at (iblk μ c 7 p) _ r y (by omega)).trans ((blk_x μ c p r _).trans (H.x _ _))
theorem xs3_apply (r : Fin 512) (y : Fin 128) : (xs3 μ c p (ix2 r y) : EReal) = ((x (rowOf p r) ⟨384 + y.val, by omega⟩ : ℝ) : EReal) :=
  (ld_at (iblk μ c 7 p) _ r y (by omega)).trans ((blk_x μ c p r _).trans (H.x _ _))
theorem xs4_apply (r : Fin 512) (y : Fin 128) : (xs4 μ c p (ix2 r y) : EReal) = ((x (rowOf p r) ⟨512 + y.val, by omega⟩ : ℝ) : EReal) :=
  (ld_at (iblk μ c 7 p) _ r y (by omega)).trans ((blk_x μ c p r _).trans (H.x _ _))
theorem xs5_apply (r : Fin 512) (y : Fin 128) : (xs5 μ c p (ix2 r y) : EReal) = ((x (rowOf p r) ⟨640 + y.val, by omega⟩ : ℝ) : EReal) :=
  (ld_at (iblk μ c 7 p) _ r y (by omega)).trans ((blk_x μ c p r _).trans (H.x _ _))
theorem xs6_apply (r : Fin 512) (y : Fin 128) : (xs6 μ c p (ix2 r y) : EReal) = ((x (rowOf p r) ⟨768 + y.val, by omega⟩ : ℝ) : EReal) :=
  (ld_at (iblk μ c 7 p) _ r y (by omega)).trans ((blk_x μ c p r _).trans (H.x _ _))
theorem xs7_apply (r : Fin 512) (y : Fin 128) : (xs7 μ c p (ix2 r y) : EReal) = ((x (rowOf p r) ⟨896 + y.val, by omega⟩ : ℝ) : EReal) :=
  (ld_at (iblk μ c 7 p) _ r y (by omega)).trans ((blk_x μ c p r _).trans (H.x _ _))
theorem us0_apply (z : Fin 1) (y : Fin 128) : (us0 μ c p (ix2 z y) : EReal) = ((u ⟨(0 + y.val) % 64, by omega⟩ : ℝ) : EReal) :=
  (ld_at (iblk μ c 10 p) _ z y (by omega)).trans ((blk_u μ c p _ _).trans (H.u _))
theorem us1_apply (z : Fin 1) (y : Fin 128) : (us1 μ c p (ix2 z y) : EReal) = ((u ⟨(128 + y.val) % 64, by omega⟩ : ℝ) : EReal) :=
  (ld_at (iblk μ c 10 p) _ z y (by omega)).trans ((blk_u μ c p _ _).trans (H.u _))
theorem us2_apply (z : Fin 1) (y : Fin 128) : (us2 μ c p (ix2 z y) : EReal) = ((u ⟨(256 + y.val) % 64, by omega⟩ : ℝ) : EReal) :=
  (ld_at (iblk μ c 10 p) _ z y (by omega)).trans ((blk_u μ c p _ _).trans (H.u _))
theorem us3_apply (z : Fin 1) (y : Fin 128) : (us3 μ c p (ix2 z y) : EReal) = ((u ⟨(384 + y.val) % 64, by omega⟩ : ℝ) : EReal) :=
  (ld_at (iblk μ c 10 p) _ z y (by omega)).trans ((blk_u μ c p _ _).trans (H.u _))
theorem vs0_apply (z : Fin 1) (y : Fin 128) : (vs0 μ c p (ix2 z y) : EReal) = ((v ⟨(0 + y.val) % 64, by omega⟩ : ℝ) : EReal) :=
  (ld_at (iblk μ c 11 p) _ z y (by omega)).trans ((blk_v μ c p _ _).trans (H.v _))
theorem vs1_apply (z : Fin 1) (y : Fin 128) : (vs1 μ c p (ix2 z y) : EReal) = ((v ⟨(128 + y.val) % 64, by omega⟩ : ℝ) : EReal) :=
  (ld_at (iblk μ c 11 p) _ z y (by omega)).trans ((blk_v μ c p _ _).trans (H.v _))
theorem vs2_apply (z : Fin 1) (y : Fin 128) : (vs2 μ c p (ix2 z y) : EReal) = ((v ⟨(256 + y.val) % 64, by omega⟩ : ℝ) : EReal) :=
  (ld_at (iblk μ c 11 p) _ z y (by omega)).trans ((blk_v μ c p _ _).trans (H.v _))
theorem vs3_apply (z : Fin 1) (y : Fin 128) : (vs3 μ c p (ix2 z y) : EReal) = ((v ⟨(384 + y.val) % 64, by omega⟩ : ℝ) : EReal) :=
  (ld_at (iblk μ c 11 p) _ z y (by omega)).trans ((blk_v μ c p _ _).trans (H.v _))
theorem qp0_apply (r : Fin 512) (y : Fin 128) :
    (pair (qs0 μ c p) (qs1 μ c p) (ix2 r y) : EReal) = ((q (rowOf p r) ⟨0 + y.val, by omega⟩ : ℝ) : EReal) := by
  rw [pair_at]
  split
  · exact (ld_at (iblk μ c 4 p) _ r y (by omega)).trans (blk_q_of μ c p H r _ _ (by show (0 + y.val) % 128 < 64; omega)
      (by show (0 + y.val) / 128 * 64 + (0 + y.val) % 128 = 0 + y.val; omega))
  · exact (ld_at (iblk μ c 4 p) _ r _ (by show 128 + y.val % 64 < 1024; omega)).trans (blk_q_of μ c p H r _ _
      (by show (128 + y.val % 64) % 128 < 64; omega)
      (by show (128 + y.val % 64) / 128 * 64 + (128 + y.val % 64) % 128 = 0 + y.val; omega))
theorem qp1_apply (r : Fin 512) (y : Fin 128) :
    (pair (qs2 μ c p) (qs3 μ c p) (ix2 r y) : EReal) = ((q (rowOf p r) ⟨128 + y.val, by omega⟩ : ℝ) : EReal) := by
  rw [pair_at]
  split
  · exact (ld_at (iblk μ c 4 p) _ r y (by omega)).trans (blk_q_of μ c p H r _ _ (by show (256 + y.val) % 128 < 64; omega)
      (by show (256 + y.val) / 128 * 64 + (256 + y.val) % 128 = 128 + y.val; omega))
  · exact (ld_at (iblk μ c 4 p) _ r _ (by show 384 + y.val % 64 < 1024; omega)).trans (blk_q_of μ c p H r _ _
      (by show (384 + y.val % 64) % 128 < 64; omega)
      (by show (384 + y.val % 64) / 128 * 64 + (384 + y.val % 64) % 128 = 128 + y.val; omega))
theorem qp2_apply (r : Fin 512) (y : Fin 128) :
    (pair (qs4 μ c p) (qs5 μ c p) (ix2 r y) : EReal) = ((q (rowOf p r) ⟨256 + y.val, by omega⟩ : ℝ) : EReal) := by
  rw [pair_at]
  split
  · exact (ld_at (iblk μ c 4 p) _ r y (by omega)).trans (blk_q_of μ c p H r _ _ (by show (512 + y.val) % 128 < 64; omega)
      (by show (512 + y.val) / 128 * 64 + (512 + y.val) % 128 = 256 + y.val; omega))
  · exact (ld_at (iblk μ c 4 p) _ r _ (by show 640 + y.val % 64 < 1024; omega)).trans (blk_q_of μ c p H r _ _
      (by show (640 + y.val % 64) % 128 < 64; omega)
      (by show (640 + y.val % 64) / 128 * 64 + (640 + y.val % 64) % 128 = 256 + y.val; omega))
theorem qp3_apply (r : Fin 512) (y : Fin 128) :
    (pair (qs6 μ c p) (qs7 μ c p) (ix2 r y) : EReal) = ((q (rowOf p r) ⟨384 + y.val, by omega⟩ : ℝ) : EReal) := by
  rw [pair_at]
  split
  · exact (ld_at (iblk μ c 4 p) _ r y (by omega)).trans (blk_q_of μ c p H r _ _ (by show (768 + y.val) % 128 < 64; omega)
      (by show (768 + y.val) / 128 * 64 + (768 + y.val) % 128 = 384 + y.val; omega))
  · exact (ld_at (iblk μ c 4 p) _ r _ (by show 896 + y.val % 64 < 1024; omega)).trans (blk_q_of μ c p H r _ _
      (by show (896 + y.val % 64) % 128 < 64; omega)
      (by show (896 + y.val % 64) / 128 * 64 + (896 + y.val % 64) % 128 = 384 + y.val; omega))
theorem kp0_apply (r : Fin 512) (y : Fin 128) :
    (pair (ks0 μ c p) (ks1 μ c p) (ix2 r y) : EReal) = ((k (rowOf p r) ⟨0 + y.val, by omega⟩ : ℝ) : EReal) := by
  rw [pair_at]
  split
  · exact (ld_at (iblk μ c 5 p) _ r y (by omega)).trans (blk_k_of μ c p H r _ _ (by show (0 + y.val) % 128 < 64; omega)
      (by show (0 + y.val) / 128 * 64 + (0 + y.val) % 128 = 0 + y.val; omega))
  · exact (ld_at (iblk μ c 5 p) _ r _ (by show 128 + y.val % 64 < 1024; omega)).trans (blk_k_of μ c p H r _ _
      (by show (128 + y.val % 64) % 128 < 64; omega)
      (by show (128 + y.val % 64) / 128 * 64 + (128 + y.val % 64) % 128 = 0 + y.val; omega))
theorem kp1_apply (r : Fin 512) (y : Fin 128) :
    (pair (ks2 μ c p) (ks3 μ c p) (ix2 r y) : EReal) = ((k (rowOf p r) ⟨128 + y.val, by omega⟩ : ℝ) : EReal) := by
  rw [pair_at]
  split
  · exact (ld_at (iblk μ c 5 p) _ r y (by omega)).trans (blk_k_of μ c p H r _ _ (by show (256 + y.val) % 128 < 64; omega)
      (by show (256 + y.val) / 128 * 64 + (256 + y.val) % 128 = 128 + y.val; omega))
  · exact (ld_at (iblk μ c 5 p) _ r _ (by show 384 + y.val % 64 < 1024; omega)).trans (blk_k_of μ c p H r _ _
      (by show (384 + y.val % 64) % 128 < 64; omega)
      (by show (384 + y.val % 64) / 128 * 64 + (384 + y.val % 64) % 128 = 128 + y.val; omega))
theorem kp2_apply (r : Fin 512) (y : Fin 128) :
    (pair (ks4 μ c p) (ks5 μ c p) (ix2 r y) : EReal) = ((k (rowOf p r) ⟨256 + y.val, by omega⟩ : ℝ) : EReal) := by
  rw [pair_at]
  split
  · exact (ld_at (iblk μ c 5 p) _ r y (by omega)).trans (blk_k_of μ c p H r _ _ (by show (512 + y.val) % 128 < 64; omega)
      (by show (512 + y.val) / 128 * 64 + (512 + y.val) % 128 = 256 + y.val; omega))
  · exact (ld_at (iblk μ c 5 p) _ r _ (by show 640 + y.val % 64 < 1024; omega)).trans (blk_k_of μ c p H r _ _
      (by show (640 + y.val % 64) % 128 < 64; omega)
      (by show (640 + y.val % 64) / 128 * 64 + (640 + y.val % 64) % 128 = 256 + y.val; omega))
theorem kp3_apply (r : Fin 512) (y : Fin 128) :
    (pair (ks6 μ c p) (ks7 μ c p) (ix2 r y) : EReal) = ((k (rowOf p r) ⟨384 + y.val, by omega⟩ : ℝ) : EReal) := by
  rw [pair_at]
  split
  · exact (ld_at (iblk μ c 5 p) _ r y (by omega)).trans (blk_k_of μ c p H r _ _ (by show (768 + y.val) % 128 < 64; omega)
      (by show (768 + y.val) / 128 * 64 + (768 + y.val) % 128 = 384 + y.val; omega))
  · exact (ld_at (iblk μ c 5 p) _ r _ (by show 896 + y.val % 64 < 1024; omega)).trans (blk_k_of μ c p H r _ _
      (by show (896 + y.val % 64) % 128 < 64; omega)
      (by show (896 + y.val % 64) / 128 * 64 + (896 + y.val % 64) % 128 = 384 + y.val; omega))
theorem qk0_apply (r : Fin 512) (y : Fin 128) : (k0_pay24 (F := Ideal) k0_pay10 (k0_pay17 k0_pay10 (xs0 μ c p)) (k0_pay18 k0_pay10 (xs0 μ c p)) (k0_pay20 k0_pay10 (k0_pay14 (qs0 μ c p)) (qs1 μ c p) (us0 μ c p)) (k0_pay22 k0_pay10 (k0_pay14 (qs0 μ c p)) (qs1 μ c p) (xs0 μ c p) (us0 μ c p)) (k0_pay23 k0_pay10 (k0_pay14 (qs0 μ c p)) (qs1 μ c p) (xs0 μ c p) (us0 μ c p)) (ix2 r y) : EReal)
    = ((dqk x q k u v (rowOf p r) ⟨0 + y.val, by omega⟩ : ℝ) : EReal) := by
  rw [tile0]
  exact (tile_at ofBits_eighth (qp0_apply μ c p H) (xs0_apply μ c p H) (us0_apply μ c p H) r y).trans
    (congrArg (fun z : ℝ => (z : EReal)) (grad_pair 0 (by norm_num) (by norm_num) _ _ (x (rowOf p r)) (cot q k u v (rowOf p r)) y (fun _ => rfl)
      fun y => cot_q (rowOf p r) 0 (by norm_num) y))
theorem qk1_apply (r : Fin 512) (y : Fin 128) : (k0_pay38 (F := Ideal) k0_pay10 (k0_pay31 k0_pay10 (xs1 μ c p)) (k0_pay32 k0_pay10 (xs1 μ c p)) (k0_pay34 k0_pay10 (qs2 μ c p) (qs3 μ c p) (us1 μ c p)) (k0_pay35 k0_pay10 (qs2 μ c p) (qs3 μ c p) (xs1 μ c p) (us1 μ c p)) (k0_pay36 k0_pay10 (qs2 μ c p) (qs3 μ c p) (xs1 μ c p) (us1 μ c p)) k0_pay37 (ix2 r y) : EReal)
    = ((dqk x q k u v (rowOf p r) ⟨128 + y.val, by omega⟩ : ℝ) : EReal) := by
  rw [tile1]
  exact (tile_at ofBits_eighth (qp1_apply μ c p H) (xs1_apply μ c p H) (us1_apply μ c p H) r y).trans
    (congrArg (fun z : ℝ => (z : EReal)) (grad_pair 128 (by norm_num) (by norm_num) _ _ (x (rowOf p r)) (cot q k u v (rowOf p r)) y (fun _ => rfl)
      fun y => cot_q (rowOf p r) 128 (by norm_num) y))
theorem qk2_apply (r : Fin 512) (y : Fin 128) : (k0_pay52 (F := Ideal) k0_pay10 (k0_pay46 k0_pay10 (xs2 μ c p)) (k0_pay47 k0_pay10 (xs2 μ c p)) (k0_pay49 k0_pay10 (qs4 μ c p) (qs5 μ c p) (us2 μ c p)) (k0_pay50 k0_pay10 (qs4 μ c p) (qs5 μ c p) (xs2 μ c p) (us2 μ c p)) (k0_pay51 k0_pay10 (qs4 μ c p) (qs5 μ c p) (xs2 μ c p) (us2 μ c p)) (ix2 r y) : EReal)
    = ((dqk x q k u v (rowOf p r) ⟨256 + y.val, by omega⟩ : ℝ) : EReal) := by
  rw [tile2]
  exact (tile_at ofBits_eighth (qp2_apply μ c p H) (xs2_apply μ c p H) (us2_apply μ c p H) r y).trans
    (congrArg (fun z : ℝ => (z : EReal)) (grad_pair 256 (by norm_num) (by norm_num) _ _ (x (rowOf p r)) (cot q k u v (rowOf p r)) y (fun _ => rfl)
      fun y => cot_q (rowOf p r) 256 (by norm_num) y))
theorem qk3_apply (r : Fin 512) (y : Fin 128) : (k0_pay65 (F := Ideal) k0_pay10 (k0_pay58 k0_pay10 (xs3 μ c p)) (k0_pay59 k0_pay10 (xs3 μ c p)) (k0_pay61 k0_pay10 (k0_pay55 (qs6 μ c p)) (qs7 μ c p) (us3 μ c p)) (k0_pay63 k0_pay10 (k0_pay55 (qs6 μ c p)) (qs7 μ c p) (xs3 μ c p) (us3 μ c p)) (k0_pay64 k0_pay10 (k0_pay55 (qs6 μ c p)) (qs7 μ c p) (xs3 μ c p) (us3 μ c p)) (ix2 r y) : EReal)
    = ((dqk x q k u v (rowOf p r) ⟨384 + y.val, by omega⟩ : ℝ) : EReal) := by
  rw [tile3]
  exact (tile_at ofBits_eighth (qp3_apply μ c p H) (xs3_apply μ c p H) (us3_apply μ c p H) r y).trans
    (congrArg (fun z : ℝ => (z : EReal)) (grad_pair 384 (by norm_num) (by norm_num) _ _ (x (rowOf p r)) (cot q k u v (rowOf p r)) y (fun _ => rfl)
      fun y => cot_q (rowOf p r) 384 (by norm_num) y))
theorem qk4_apply (r : Fin 512) (y : Fin 128) : (k0_pay76 (F := Ideal) (k0_pay72 k0_pay10 (k0_pay71 (xs4 μ c p))) (k0_pay75 k0_pay10 (k0_pay68 (ks0 μ c p)) (k0_pay69 (ks1 μ c p)) (xs4 μ c p) (k0_pay71 (xs4 μ c p)) (vs0 μ c p)) (ix2 r y) : EReal)
    = ((dqk x q k u v (rowOf p r) ⟨512 + y.val, by omega⟩ : ℝ) : EReal) := by
  rw [tile4]
  exact (tile_at Loss.ofBits_one (kp0_apply μ c p H) (xs4_apply μ c p H) (vs0_apply μ c p H) r y).trans
    (congrArg (fun z : ℝ => (z : EReal)) (grad_pair 512 (by norm_num) (by norm_num) _ _ (x (rowOf p r)) (cot q k u v (rowOf p r)) y (fun _ => rfl)
      fun y => cot_k (rowOf p r) 0 (by norm_num) y))
theorem qk5_apply (r : Fin 512) (y : Fin 128) : (k0_pay88 (F := Ideal) k0_pay10 (k0_pay79 (ks2 μ c p)) (k0_pay80 (ks3 μ c p)) (xs5 μ c p) (k0_pay83 k0_pay10 (xs5 μ c p)) (k0_pay84 k0_pay10 (xs5 μ c p)) (vs1 μ c p) (ix2 r y) : EReal)
    = ((dqk x q k u v (rowOf p r) ⟨640 + y.val, by omega⟩ : ℝ) : EReal) := by
  rw [tile5]
  exact (tile_at Loss.ofBits_one (kp1_apply μ c p H) (xs5_apply μ c p H) (vs1_apply μ c p H) r y).trans
    (congrArg (fun z : ℝ => (z : EReal)) (grad_pair 640 (by norm_num) (by norm_num) _ _ (x (rowOf p r)) (cot q k u v (rowOf p r)) y (fun _ => rfl)
      fun y => cot_k (rowOf p r) 128 (by norm_num) y))
theorem qk6_apply (r : Fin 512) (y : Fin 128) : (k0_pay98 (F := Ideal) k0_pay10 (k0_pay94 k0_pay10 (xs6 μ c p)) (k0_pay95 k0_pay10 (xs6 μ c p)) (k0_pay97 k0_pay10 (ks4 μ c p) (ks5 μ c p) (vs2 μ c p)) (ix2 r y) : EReal)
    = ((dqk x q k u v (rowOf p r) ⟨768 + y.val, by omega⟩ : ℝ) : EReal) := by
  rw [tile6]
  exact (tile_at Loss.ofBits_one (kp2_apply μ c p H) (xs6_apply μ c p H) (vs2_apply μ c p H) r y).trans
    (congrArg (fun z : ℝ => (z : EReal)) (grad_pair 768 (by norm_num) (by norm_num) _ _ (x (rowOf p r)) (cot q k u v (rowOf p r)) y (fun _ => rfl)
      fun y => cot_k (rowOf p r) 256 (by norm_num) y))
theorem qk7_apply (r : Fin 512) (y : Fin 128) : (k0_pay108 (F := Ideal) k0_pay10 (k0_pay100 (ks6 μ c p)) (k0_pay101 (ks7 μ c p)) (xs7 μ c p) (k0_pay103 (xs7 μ c p)) (k0_pay104 k0_pay10 (xs7 μ c p)) (vs3 μ c p) (ix2 r y) : EReal)
    = ((dqk x q k u v (rowOf p r) ⟨896 + y.val, by omega⟩ : ℝ) : EReal) := by
  rw [tile7]
  exact (tile_at Loss.ofBits_one (kp3_apply μ c p H) (xs7_apply μ c p H) (vs3_apply μ c p H) r y).trans
    (congrArg (fun z : ℝ => (z : EReal)) (grad_pair 896 (by norm_num) (by norm_num) _ _ (x (rowOf p r)) (cot q k u v (rowOf p r)) y (fun _ => rfl)
      fun y => cot_k (rowOf p r) 384 (by norm_num) y))

theorem qks_apply (r : Fin 512) (Y : Fin 1024) : (View.canon (qks μ c p) (ix2 r Y) : EReal) = ((dqk x q k u v (rowOf p r) Y : ℝ) : EReal) := by
  unfold qks
  rw [Pieces.canon_cols (R := 512) (C := 1024) (o := 896) (n := 128),
    Pieces.canon_cols (R := 512) (C := 1024) (o := 768) (n := 128),
    Pieces.canon_cols (R := 512) (C := 1024) (o := 640) (n := 128),
    Pieces.canon_cols (R := 512) (C := 1024) (o := 512) (n := 128),
    Pieces.canon_cols (R := 512) (C := 1024) (o := 384) (n := 128),
    Pieces.canon_cols (R := 512) (C := 1024) (o := 256) (n := 128),
    Pieces.canon_cols (R := 512) (C := 1024) (o := 128) (n := 128),
    Pieces.canon_cols (R := 512) (C := 1024) (o := 0) (n := 128)]
  have hY := Y.isLt
  by_cases h7 : 896 ≤ Y.val
  · rw [dif_pos (by omega)]
    exact (qk7_apply μ c p H r _).trans (dqk_idx (by show 896 + (Y.val - 896) = Y.val; omega))
  rw [dif_neg (by omega)]
  by_cases h6 : 768 ≤ Y.val
  · rw [dif_pos (by omega)]
    exact (qk6_apply μ c p H r _).trans (dqk_idx (by show 768 + (Y.val - 768) = Y.val; omega))
  rw [dif_neg (by omega)]
  by_cases h5 : 640 ≤ Y.val
  · rw [dif_pos (by omega)]
    exact (qk5_apply μ c p H r _).trans (dqk_idx (by show 640 + (Y.val - 640) = Y.val; omega))
  rw [dif_neg (by omega)]
  by_cases h4 : 512 ≤ Y.val
  · rw [dif_pos (by omega)]
    exact (qk4_apply μ c p H r _).trans (dqk_idx (by show 512 + (Y.val - 512) = Y.val; omega))
  rw [dif_neg (by omega)]
  by_cases h3 : 384 ≤ Y.val
  · rw [dif_pos (by omega)]
    exact (qk3_apply μ c p H r _).trans (dqk_idx (by show 384 + (Y.val - 384) = Y.val; omega))
  rw [dif_neg (by omega)]
  by_cases h2 : 256 ≤ Y.val
  · rw [dif_pos (by omega)]
    exact (qk2_apply μ c p H r _).trans (dqk_idx (by show 256 + (Y.val - 256) = Y.val; omega))
  rw [dif_neg (by omega)]
  by_cases h1 : 128 ≤ Y.val
  · rw [dif_pos (by omega)]
    exact (qk1_apply μ c p H r _).trans (dqk_idx (by show 128 + (Y.val - 128) = Y.val; omega))
  rw [dif_neg (by omega)]
  rw [dif_pos (by omega)]
  exact (qk0_apply μ c p H r _).trans (dqk_idx (by show 0 + (Y.val - 0) = Y.val; omega))

end

/-! ### The arrays -/

/-- The gradient of the queries and keys. -/
def qkArr (x : Fin 4096 → Fin 1024 → ℝ) (q k : Fin 4096 → Fin 512 → ℝ) (u v : Fin 64 → ℝ) : FVec Ideal S4096x1024 .bf16 :=
  fun y => ((dqk x q k u v (y 0) (y 1) : ℝ) : EReal)
/-- The gradient of the values. -/
def vArr : FVec Ideal S4096x512 .bf16 := fun y => D μ c (y 0) (y 1)

theorem emb_qk (A : FVec Ideal S4096x1024 .bf16) (r : Fin 512) (l : Fin 1024) :
    A ((win0_13.blk p).view.emb (ix2 r l)) = A (ix2 (rowOf p r) l) := by
  blk_ext [idx p, rowOf]
theorem emb_v (A : FVec Ideal S4096x512 .bf16) (r : Fin 512) (l : Fin 512) :
    A ((win0_14.blk p).view.emb (ix2 r l)) = A (ix2 (rowOf p r) l) := by
  blk_ext [idx p, rowOf]

theorem array_v : (dats μ 0 c).arrAt 14 cfg0.N = vArr μ c := by
  refine (dats μ 0 c).arrAt_eq_of_covers 14 (vArr μ c) (by decide +kernel) fun p hf y => ?_
  blk_simp
  rw [after0_14, out_v]
  idx_vars y
  exact (vs_apply μ c p y0 y1).trans (emb_v p (vArr μ c) y0 y1).symm

theorem array_qk (H : Holds μ c x q k u v) : (dats μ 0 c).arrAt 13 cfg0.N = qkArr x q k u v := by
  refine (dats μ 0 c).arrAt_eq_of_covers 13 (qkArr x q k u v) (by decide +kernel) fun p hf y => ?_
  blk_simp
  rw [after0_13, out_qk]
  idx_vars y
  exact (qks_apply μ c p H y0 y1).trans (emb_qk p (qkArr x q k u v) y0 y1).symm

end Cert.InW

end
-- ==== Proof.InW.Reference.lean ====
module

public import proofs.«01_k».proof.Proof.Gen.Reference5Ideal.Read
public import proofs.«01_k».proof.Proof.InW.Math
public import Idealize.ShloMosaic.Lib.Pointwise

@[expose] public section

/-! What the reference's gradients of the queries and keys hold at real arguments. -/

set_option maxRecDepth 16384

noncomputable section

namespace Cert.Reference5Ideal.InW

open Idealize.ShloMosaic Idealize.ShloMosaic.TcCoe Idealize.SL.Sem
open Cert.Reference5Ideal Cert.Reference5Ideal.Gen Cert.Reference5Ideal.Read Cert.InW

/-! ### The norm's gradient, for the queries or the keys -/

/-- The mean of squares of each head's row, plus the norm's constant. -/
def means (y : FVec Ideal S4096x8x64 .f32) : FVec Ideal S4096x8x1 .f32 :=
  addf (Host.divf (broadcastInDim S4096x8x1 ![0, 1] bcast_S4096x8_S4096x8x1_0_1
      (Host.reduceAdd (mulf y y) (val_main_cst (F := Ideal)) reducesTo_S4096x8x64_S4096x8_d2 h_S_)) (val_main_v7 (F := Ideal))) (val_main_v9 (F := Ideal))

/-- The sum the gradient multiplies by the row, once on each side of the square. -/
def pulls (y b : FVec Ideal S4096x8x64 .f32) : FVec Ideal S4096x8x64 .f32 :=
  broadcastInDim S4096x8x64 ![0, 1] bcast_S4096x8_S4096x8x64_0_1
    (Host.reduceAdd (Host.divf (mulf (shapeCast S4096x8x1 (Host.reduceAdd (mulf y b) (val_main_cst_8 (F := Ideal)) reducesTo_S4096x8x64_S4096x8_d2 h_S_)
        shapeCasts_S4096x8_S4096x8x1) (mulf (val_main_v13 (F := Ideal)) (Host.divf (Host.rsqrt (means y)) (means y)))) (val_main_v49 (F := Ideal)))
      (val_main_cst_10 (F := Ideal)) reducesTo_S4096x8x1_S4096x8_d2 h_S_)

/-- The gradient of the norm of `y` for the cotangent `b`. -/
def back (y b : FVec Ideal S4096x8x64 .f32) : FVec Ideal S4096x8x64 .f32 :=
  addf (addf (mulf b (broadcastInDim S4096x8x64 ![0, 1, 2] bcast_S4096x8x1_S4096x8x64_0_1_2 (Host.rsqrt (means y)))) (mulf y (pulls y b)))
    (mulf (pulls y b) y)

theorem v76_back (x1 : FVec Ideal S4096x1024 .f32) (x4 : FVec Ideal S1x64 .f32) (x7 : FVec Ideal S4096x512 .f32) :
    val_main_v76 (F := Ideal) x1 x4 x7 = back (val_main_v2 (F := Ideal) x1) (val_main_v62 (F := Ideal) x4 x7) := rfl
theorem v56_back (x1 : FVec Ideal S4096x1024 .f32) (x5 : FVec Ideal S1x64 .f32) (x8 : FVec Ideal S4096x512 .f32) :
    val_main_v56 (F := Ideal) x1 x5 x8 = back (val_main_v22 (F := Ideal) x1) (val_main_v42 (F := Ideal) x5 x8) := rfl

section

variable {y b : FVec Ideal S4096x8x64 .f32} {Y B : Fin 4096 → Fin 8 → Fin 64 → ℝ}

theorem means_at (hY : ∀ i h l, (y (ix3 i h l) : EReal) = ((Y i h l : ℝ) : EReal)) (i : Fin 4096) (h : Fin 8) (z : Fin 1) :
    (means y (ix3 i h z) : EReal) = ((Norm.ms 64 eps (Y i h) : ℝ) : EReal) := by
  pointwise [means, val_main_cst, val_main_v7, val_main_v9, val_main_cst_0, val_main_cst_1]
  simp only [hY]
  rw [Norm.ofBits_64, ofBits_eps]
  exact Norm.ms_coe (by norm_num) _

theorem pulls_at (hY : ∀ i h l, (y (ix3 i h l) : EReal) = ((Y i h l : ℝ) : EReal)) (hB : ∀ i h l, (b (ix3 i h l) : EReal) = ((B i h l : ℝ) : EReal))
    (i : Fin 4096) (h : Fin 8) (l : Fin 64) : (pulls y b (ix3 i h l) : EReal)
      = (((∑ k, Y i h k * B i h k) * (-(1/2) * (rr (Y i h) / Norm.ms 64 eps (Y i h))) / 64 : ℝ) : EReal) := by
  have hp := Norm.ms_pos (c := 64) (by norm_num) eps_pos (Y i h)
  have hm := fun z => means_at hY i h z
  unfold pulls
  generalize means y = w at hm ⊢
  pointwise [val_main_cst_8, val_main_v13, val_main_v49, val_main_cst_2, val_main_cst_9, val_main_cst_10]
  simp only [Finset.univ_unique, Finset.sum_singleton, hY, hB]
  rw [hm, Norm.ofBits_neg_half, Norm.ofBits_64, Norm.rsqrt_real hp, Norm.div_real _ hp.ne']
  simp only [← EReal.coe_mul, Norm.coe_sum]
  rw [Norm.div_real _ (by norm_num)]
  rfl

theorem back_at (hY : ∀ i h l, (y (ix3 i h l) : EReal) = ((Y i h l : ℝ) : EReal)) (hB : ∀ i h l, (b (ix3 i h l) : EReal) = ((B i h l : ℝ) : EReal))
    (i : Fin 4096) (h : Fin 8) (l : Fin 64) : (back y b (ix3 i h l) : EReal) = ((grad (Y i h) (B i h) l : ℝ) : EReal) := by
  have hp := Norm.ms_pos (c := 64) (by norm_num) eps_pos (Y i h)
  have hm := fun z => means_at hY i h z
  have hq := pulls_at hY hB i h l
  rw [grad_chain]
  unfold back
  generalize means y = w at hm ⊢
  generalize pulls y b = q at hq ⊢
  pointwise
  rw [hm, hq, hY, hB, Norm.rsqrt_real hp]
  simp only [← EReal.coe_mul, ← EReal.coe_add]
  rfl

end

/-! ### The operands by head -/

theorem heads_at (v : FVec Ideal S4096x512 .f32) (i : Fin 4096) (h : Fin 8) (b : Fin 64) :
    shapeCast S4096x8x64 v shapeCasts_S4096x512_S4096x8x64 (ix3 i h b) = v (ix2 i ⟨h.val * 64 + b.val, by omega⟩) :=
  shapeCast_apply v shapeCasts_S4096x512_S4096x8x64 _ _ (by
    rewrite [Shape.rowMajor_val_two, Shape.rowMajor_val_three]
    show i.val * 512 + (h.val * 64 + b.val) = (i.val * 8 + h.val) * 64 + b.val; omega)

theorem flat_at (v : FVec Ideal S4096x8x64 .f32) (i : Fin 4096) (j : Fin 512) :
    shapeCast S4096x512 v shapeCasts_S4096x8x64_S4096x512 (ix2 i j) = v (ix3 i ⟨j.val / 64, by omega⟩ ⟨j.val % 64, by omega⟩) :=
  shapeCast_apply v shapeCasts_S4096x8x64_S4096x512 _ _ (by
    rewrite [Shape.rowMajor_val_two, Shape.rowMajor_val_three]
    show (i.val * 8 + j.val / 64) * 64 + j.val % 64 = i.val * 512 + j.val; omega)

theorem gain_at (g : FVec Ideal S1x64 .f32) (z z' : Fin 1) (l : Fin 64) : shapeCast S1x1x64 g shapeCasts_S1x64_S1x1x64 (ix3 z z' l) = g (ix2 (0 : Fin 1) l) :=
  shapeCast_apply g shapeCasts_S1x64_S1x1x64 _ _ (by
    rewrite [Shape.rowMajor_val_two, Shape.rowMajor_val_three]
    show 0 * 64 + l.val = (z.val * 1 + z'.val) * 64 + l.val; omega)

section

variable (x1 : FVec Ideal S4096x1024 .f32) (x4 x5 : FVec Ideal S1x64 .f32) (x7 x8 : FVec Ideal S4096x512 .f32)

theorem v2_at (i : Fin 4096) (h : Fin 8) (l : Fin 64) : (val_main_v2 (F := Ideal) x1 (ix3 i h l) : EReal) = x1 (ix2 i ⟨h.val * 64 + l.val, by omega⟩) := by
  refine (heads_at _ i h l).trans ?_
  pointwise [val_main_v0]
theorem v22_at (i : Fin 4096) (h : Fin 8) (l : Fin 64) : (val_main_v22 (F := Ideal) x1 (ix3 i h l) : EReal)
    = x1 (ix2 i ⟨512 + (h.val * 64 + l.val), by omega⟩) := by
  refine (heads_at _ i h l).trans ?_
  pointwise [val_main_v1]
theorem v61_at (i : Fin 4096) (h : Fin 8) (l : Fin 64) : (val_main_v61 (F := Ideal) x4 (ix3 i h l) : EReal) = x4 (ix2 (0 : Fin 1) l) := by
  rw [← gain_at x4 0 0 l]
  show _ = val_main_v3 (F := Ideal) x4 (ix3 0 0 l)
  unfold val_main_v61
  generalize val_main_v3 (F := Ideal) x4 = g
  pointwise
theorem v60_at (i : Fin 4096) (h : Fin 8) (l : Fin 64) : (val_main_v60 (F := Ideal) x7 (ix3 i h l) : EReal)
    = x7 (ix2 i ⟨h.val * 64 + l.val, by omega⟩) * Ideal.ofBits .f32 0x3E000000#32 := by
  refine (heads_at _ i h l).trans ?_
  pointwise [val_main_v59, val_main_v58, val_main_cst_11]
theorem v79_at (i : Fin 4096) (j : Fin 1024) : (val_main_v79 (F := Ideal) x1 x4 x5 x7 x8 (ix2 i j) : EReal)
    = if h : j.val < 512 then val_main_v76 (F := Ideal) x1 x4 x7 (ix3 i ⟨j.val / 64, by omega⟩ ⟨j.val % 64, by omega⟩)
      else val_main_v56 (F := Ideal) x1 x5 x8 (ix3 i ⟨(j.val - 512) / 64, by omega⟩ ⟨(j.val - 512) % 64, by omega⟩) := by
  have hj := j.isLt
  refine (show _ = val_main_v78 (F := Ideal) x1 x4 x5 x7 x8 (ix2 i j) from rfl).trans ?_
  have e1 := fun j => flat_at (val_main_v76 (F := Ideal) x1 x4 x7) i j
  have e2 := fun j => flat_at (val_main_v56 (F := Ideal) x1 x5 x8) i j
  unfold val_main_v78 val_main_v77 val_main_v57
  generalize val_main_v76 (F := Ideal) x1 x4 x7 = a at e1 ⊢
  generalize val_main_v56 (F := Ideal) x1 x5 x8 = b at e2 ⊢
  generalize shapeCast S4096x512 a shapeCasts_S4096x8x64_S4096x512 = a' at e1 ⊢
  generalize shapeCast S4096x512 b shapeCasts_S4096x8x64_S4096x512 = b' at e2 ⊢
  pointwise
  by_cases h : j.val < 512
  · rw [dif_pos h, dif_pos h]
    exact e1 _
  · rw [dif_neg h, dif_neg h]
    exact e2 _

end

/-! ### At real arguments -/

variable {x : Fin 4096 → Fin 1024 → ℝ} {q k : Fin 4096 → Fin 512 → ℝ} {u v : Fin 64 → ℝ}

/-- The reference's gradient of the queries and keys. -/
theorem dqk_real {x1 : FVec Ideal S4096x1024 .f32} {x4 x5 : FVec Ideal S1x64 .f32} {x7 x8 : FVec Ideal S4096x512 .f32}
    (hx : ∀ i l, (x1 (ix2 i l) : EReal) = ((x i l : ℝ) : EReal)) (hq : ∀ i l, (x7 (ix2 i l) : EReal) = ((q i l : ℝ) : EReal))
    (hk : ∀ i l, (x8 (ix2 i l) : EReal) = ((k i l : ℝ) : EReal)) (hu : ∀ l, (x4 (ix2 (0 : Fin 1) l) : EReal) = ((u l : ℝ) : EReal))
    (hv : ∀ l, (x5 (ix2 (0 : Fin 1) l) : EReal) = ((v l : ℝ) : EReal)) (i : Fin 4096) (j : Fin 1024) :
    (val_main_v79 (F := Ideal) x1 x4 x5 x7 x8 (ix2 i j) : EReal) = ((dqk x q k u v i j : ℝ) : EReal) := by
  have hj := j.isLt
  rw [v79_at]
  unfold dqk
  by_cases h : j.val < 512
  · rw [dif_pos h, v76_back, back_at (Y := fun i h l => x i ⟨h.val * 64 + l.val, by omega⟩) (B := fun i h l => q i ⟨h.val * 64 + l.val, by omega⟩ * (1 / 8) * u l)
      (fun i h l => (v2_at x1 i h l).trans (hx _ _))
      (fun i h l => by
        refine (show _ = (val_main_v60 (F := Ideal) x7 (ix3 i h l) * val_main_v61 (F := Ideal) x4 (ix3 i h l) : EReal) from rfl).trans ?_
        rw [v60_at, v61_at, hq, hu, ofBits_eighth, ← EReal.coe_mul, ← EReal.coe_mul])]
    congr 2
    funext l
    unfold row cot
    rw [dif_pos (by show j.val / 64 * 64 + l.val < 512; omega)]
    congr 2
    exact Fin.ext (by show l.val = (j.val / 64 * 64 + l.val) % 64; omega)
  · rw [dif_neg h, v56_back, back_at (Y := fun i h l => x i ⟨512 + (h.val * 64 + l.val), by omega⟩) (B := fun i h l => k i ⟨h.val * 64 + l.val, by omega⟩ * v l)
      (fun i h l => (v22_at x1 i h l).trans (hx _ _))
      (fun i h l => by
        refine (show _ = (val_main_v40 (F := Ideal) x8 (ix3 i h l) * val_main_v41 (F := Ideal) x5 (ix3 i h l) : EReal) from rfl).trans ?_
        refine (congrArg₂ (fun a b : EReal => a * b) (heads_at x8 i h l) (v61_at x5 i h l)).trans ?_
        rw [hk, hv, ← EReal.coe_mul])]
    congr 1
    have e1 : (fun l : Fin 64 => x i ⟨512 + ((j.val - 512) / 64 * 64 + l.val), by omega⟩) = row (x i) j := funext fun l => congrArg (x i) (Fin.ext (by
      show 512 + ((j.val - 512) / 64 * 64 + l.val) = j.val / 64 * 64 + l.val; omega))
    have e2 : (fun l : Fin 64 => k i ⟨(j.val - 512) / 64 * 64 + l.val, by omega⟩ * v l) = row (cot q k u v i) j := by
      funext l
      unfold row cot
      rw [dif_neg (by show ¬ j.val / 64 * 64 + l.val < 512; omega)]
      congr 1
      · exact congrArg (k i) (Fin.ext (by show (j.val - 512) / 64 * 64 + l.val = j.val / 64 * 64 + l.val - 512; omega))
      · exact congrArg v (Fin.ext (by show l.val = (j.val / 64 * 64 + l.val) % 64; omega))
    have e3 : (⟨(j.val - 512) % 64, by omega⟩ : Fin 64) = ⟨j.val % 64, by omega⟩ := Fin.ext (by show (j.val - 512) % 64 = j.val % 64; omega)
    rw [e3]
    exact congrArg₂ (fun a b => grad a b _) e1 e2

end Cert.Reference5Ideal.InW

end
-- ==== Proof.InW.Equal.lean ====
/- The input projection's weight-side call computes the gradients of the queries, keys and values that the reference computes. -/
module

public import proofs.«01_k».proof.Proof.InW.Array
public import proofs.«01_k».proof.Proof.InW.Reference
public import proofs.«01_k».proof.Proof.Gen.Pre_in_w_finite
public import proofs.«01_k».proof.Defs

@[expose] public section

set_option maxRecDepth 16384

noncomputable section

namespace Cert.InW

open Idealize.ShloMosaic Idealize.ShloMosaic.TcCoe Idealize.SL.Sem

/-- The reference leaves its arguments and its semaphores as they were. -/
theorem frame_reference : Cert.quiescent_Reference5Ideal := fun m ρ _ =>
  (θ_run _ _ _).mono (fun _ h => ⟨fun c => (h c).2.2, sem_eq_zero_of_no_sems (by decide) _⟩) (Cert.Reference5Ideal.Value.run m ρ)

/-- Under the precondition the five arrays hold reals. -/
theorem real_args {m : (ℓ : Loc Cert.Kernel5Ideal.nD Cert.Kernel5Ideal.τ Cert.Kernel5Ideal.sig) → Buf (Elt Ideal) ℓ}
    (h : Cert.Pre_Kernel5Ideal_in_w_finite m) (c : Dev Cert.Kernel5Ideal.nD) :
    ∃ (x : Fin 4096 → Fin 1024 → ℝ) (q k : Fin 4096 → Fin 512 → ℝ) (u v : Fin 64 → ℝ), Holds m c x q k u v := by
  obtain ⟨h0, h1, h2, h3, h4⟩ := h c
  obtain ⟨x, hx⟩ := Norm.lift (fun p : Fin 4096 × Fin 1024 => X m c p.1 p.2) fun p => finite_of_all _ _ h0 _
  obtain ⟨u, hu⟩ := Norm.lift (fun l : Fin 64 => U m c l) fun l => finite_of_all _ _ h1 _
  obtain ⟨v, hv⟩ := Norm.lift (fun l : Fin 64 => V' m c l) fun l => finite_of_all _ _ h2 _
  obtain ⟨q, hq⟩ := Norm.lift (fun p : Fin 4096 × Fin 512 => Q m c p.1 p.2) fun p => finite_of_all _ _ h3 _
  obtain ⟨k, hk⟩ := Norm.lift (fun p : Fin 4096 × Fin 512 => K m c p.1 p.2) fun p => finite_of_all _ _ h4 _
  exact ⟨fun i l => x (i, l), fun i l => q (i, l), fun i l => k (i, l), u, v, fun i l => hx (i, l), fun i l => hq (i, l), fun i l => hk (i, l), hu, hv⟩

/-- The gradients of the queries, keys and values. -/
theorem algebraic_in_w : Cert.algebraic_Kernel5Ideal_Reference5Ideal_pre_in_w_finite := by
  intro m g m' g' hpre hagree
  choose x q k u v H using real_args hpre
  refine ⟨fun c => qkArr (x c) (q c) (k c) (u c) (v c), fun c => vArr m c, ?_, ?_⟩
  · refine (θ_run _ _ _).mono (fun r h c => ?_) (Cert.Kernel5Ideal.Value.run_blocks m g)
    obtain ⟨h12, h13, h14, h15, h16, h17, h18, hargs⟩ := h c
    exact ⟨h13.trans (array_qk m c (H c)), h14.trans (array_v m c), hargs⟩
  · refine (θ_run _ _ _).mono (fun r h c => ?_) (Cert.Reference5Ideal.Value.run m' g')
    obtain ⟨r0, r1, hargs⟩ := h c
    obtain ⟨e0, e1, e2, e3, e4, e5, e6, e7, e8, e9, e10, e11, e12⟩ := hagree c
    refine ⟨r0.trans ?_, r1.trans ?_, hargs⟩
    · rw [Cert.Reference5Ideal.Read.val_main_v79_eq, e1, e4, e5, e7, e8]
      refine funext fun y => ?_
      obtain ⟨i, l, rfl⟩ : ∃ i l, y = ix2 i l := ⟨_, _, eq_ix2 y⟩
      exact Cert.Reference5Ideal.InW.dqk_real (H c).x (H c).q (H c).k (H c).u (H c).v i l
    · rw [e9]
      refine funext fun y => ?_
      obtain ⟨i, l, rfl⟩ : ∃ i l, y = ix2 i l := ⟨_, _, eq_ix2 y⟩
      rfl

end Cert.InW

end
-- ==== Proof.Gain.Operands.lean ====
module

public import proofs.«01_k».proof.Proof.Gen.Kernel6Ideal.Value
public import proofs.«01_k».proof.Proof.InW.Math
public import proofs.«01_k».proof.Proof.Pieces
public import Idealize.ShloMosaic.Lib.Pipeline.ValueKit
public import Idealize.ShloMosaic.Lib.Pointwise
public import Idealize.ShloMosaic.Lib.Claim

@[expose] public section

/-! What each staged block of the call holds, over the arguments of the program. -/

set_option maxRecDepth 16384

noncomputable section

namespace Cert.Gain

open Idealize.ShloMosaic Idealize.ShloMosaic.TcCoe Idealize.SL.Sem
open Idealize.ShloMosaic.Pipeline (Dat)
open Cert.Kernel6Ideal Cert.Kernel6Ideal.Gen Cert.Kernel6Ideal.Value

variable (μ : (ℓ : Loc nD τ sig) → Buf (Elt Ideal) ℓ) (c : Dev nD)

/-! ### The arguments by row and column -/

def X (i : Fin 4096) (l : Fin 1024) : EReal := μ (c.tc.loc main_arg1) (ix2 i l)
def Q (i : Fin 4096) (l : Fin 512) : EReal := μ (c.tc.loc main_arg7) (ix2 i l)
def K (i : Fin 4096) (l : Fin 512) : EReal := μ (c.tc.loc main_arg8) (ix2 i l)
/-- The array row of row `r` of the block at grid point `p`: the points take the blocks last first. -/
def rowOf (p : Fin cfg0.N) (r : Fin 512) : Fin 4096 :=
  ⟨(7 - p.val) * 512 + r.val, by have := lt_of_lt_of_eq p.isLt N_0; omega⟩

theorem idx : ∀ t : Fin cfg0.N, win0_4.index t = ![7 - t.val, 0] ∧ win0_5.index t = ![7 - t.val, 0] ∧ win0_7.index t = ![7 - t.val, 0]
    ∧ win0_16.index t = ![0, 0] ∧ win0_17.index t = ![0, 0] :=
  (by decide +kernel : ∀ t : Fin grid0.N, _)

/-! ### What the host lines leave -/

/-- A lane of a head's block of 128, the head's own 64 lanes first. -/
theorem blocks_at (a b : FVec Ideal S4096x8x64 .f32) (i : Fin 4096) (j : Fin 1024) (hj : j.val % 128 < 64) :
    (shapeCast S4096x1024 (concatenate S4096x8x128 2 [⟨S4096x8x64, a⟩, ⟨S4096x8x64, b⟩] concatenates_S4096x8x64_S4096x8x64_S4096x8x128_d2)
      shapeCasts_S4096x8x128_S4096x1024 (ix2 i j) : EReal) = a (ix3 i ⟨j.val / 128, by omega⟩ ⟨j.val % 128, hj⟩) := by
  refine (shapeCast_apply _ shapeCasts_S4096x8x128_S4096x1024 _ (ix3 i (⟨j.val / 128, by omega⟩ : Fin 8) (⟨j.val % 128, by omega⟩ : Fin 128)) (by
    rewrite [Shape.rowMajor_val_two, Shape.rowMajor_val_three]
    show (i.val * 8 + j.val / 128) * 128 + j.val % 128 = i.val * 1024 + j.val; omega)).trans ?_
  pointwise
  rw [dif_pos hj]

theorem heads_at (v : FVec Ideal S4096x512 .f32) (i : Fin 4096) (h : Fin 8) (b : Fin 64) :
    shapeCast S4096x8x64 v shapeCasts_S4096x512_S4096x8x64 (ix3 i h b) = v (ix2 i ⟨h.val * 64 + b.val, by omega⟩) :=
  shapeCast_apply v shapeCasts_S4096x512_S4096x8x64 _ _ (by
    rewrite [Shape.rowMajor_val_two, Shape.rowMajor_val_three]
    show i.val * 512 + (h.val * 64 + b.val) = (i.val * 8 + h.val) * 64 + b.val; omega)

theorem V_q (i : Fin 4096) (j : Fin 1024) (hj : j.val % 128 < 64) :
    (V μ c main_v10 (ix2 i j) : EReal) = Q μ c i ⟨j.val / 128 * 64 + j.val % 128, by omega⟩ := by
  simp only [V, hostOps0, hostOps0_1, List.flatten_cons, List.flatten_nil, List.cons_append, List.nil_append, List.append_nil]
  after_results
  exact (blocks_at _ _ i j hj).trans (heads_at _ i _ _)

theorem V_k (i : Fin 4096) (j : Fin 1024) (hj : j.val % 128 < 64) :
    (V μ c main_v13 (ix2 i j) : EReal) = K μ c i ⟨j.val / 128 * 64 + j.val % 128, by omega⟩ := by
  simp only [V, hostOps0, hostOps0_1, List.flatten_cons, List.flatten_nil, List.cons_append, List.nil_append, List.append_nil]
  after_results
  exact (blocks_at _ _ i j hj).trans (heads_at _ i _ _)

/-! ### The staged blocks -/

variable (p : Fin cfg0.N)

theorem blk_x (r : Fin 512) (l : Fin 1024) : (iblk μ c 7 p (ix2 r l) : EReal) = X μ c (rowOf p r) l := by
  unfold rowOf X
  blk_point [iblk, V, idx p]
theorem blk_q (r : Fin 512) (j : Fin 1024) (hj : j.val % 128 < 64) :
    (iblk μ c 4 p (ix2 r j) : EReal) = Q μ c (rowOf p r) ⟨j.val / 128 * 64 + j.val % 128, by omega⟩ :=
  (show _ = V μ c main_v10 (ix2 (rowOf p r) j) by blk_simp [iblk]; blk_ext [idx p, rowOf]).trans (V_q μ c _ _ hj)
theorem blk_k (r : Fin 512) (j : Fin 1024) (hj : j.val % 128 < 64) :
    (iblk μ c 5 p (ix2 r j) : EReal) = K μ c (rowOf p r) ⟨j.val / 128 * 64 + j.val % 128, by omega⟩ :=
  (show _ = V μ c main_v13 (ix2 (rowOf p r) j) by blk_simp [iblk]; blk_ext [idx p, rowOf]).trans (V_k μ c _ _ hj)

end Cert.Gain

end
-- ==== Proof.Gain.Math.lean ====
module

public import proofs.«01_k».proof.Proof.InW.Math

@[expose] public section

/-! The gains' gradients: over all rows and heads, the sum of the cotangent times the normalised row, in extended reals. -/

noncomputable section

namespace Cert.Gain

open Idealize.ShloMosaic

/-- The reciprocal root mean square of a head's row. -/
def rr (x : Fin 64 → EReal) : EReal := Norm.rs (Ideal.ofBits .f32 0x42800000#32) (Ideal.ofBits .f32 0x358637BD#32) x

/-- What row `i` adds at lane `j` of the queries' heads. -/
def termQ (X : Fin 4096 → Fin 1024 → EReal) (Q : Fin 4096 → Fin 512 → EReal) (i : Fin 4096) (j : Fin 512) : EReal :=
  Q i j * Ideal.ofBits .f32 0x3E000000#32 * (X i ⟨j.val, by omega⟩ * rr (fun k => X i ⟨j.val / 64 * 64 + k.val, by omega⟩))

/-- What row `i` adds at lane `j` of the keys' heads. -/
def termK (X : Fin 4096 → Fin 1024 → EReal) (K : Fin 4096 → Fin 512 → EReal) (i : Fin 4096) (j : Fin 512) : EReal :=
  K i j * Ideal.ofBits .f32 0x3F800000#32 * (X i ⟨512 + j.val, by omega⟩ * rr (fun k => X i ⟨512 + (j.val / 64 * 64 + k.val), by omega⟩))

/-- The gradient of the queries' gain, twice over the 128 lanes. -/
def dqg (X : Fin 4096 → Fin 1024 → EReal) (Q : Fin 4096 → Fin 512 → EReal) (y : Fin 128) : EReal :=
  ∑ i, ∑ h : Fin 8, termQ X Q i ⟨h.val * 64 + y.val % 64, by omega⟩

/-- The gradient of the keys' gain, twice over the 128 lanes. -/
def dkg (X : Fin 4096 → Fin 1024 → EReal) (K : Fin 4096 → Fin 512 → EReal) (y : Fin 128) : EReal :=
  ∑ i, ∑ h : Fin 8, termK X K i ⟨h.val * 64 + y.val % 64, by omega⟩

end Cert.Gain

end
-- ==== Proof.Gain.Point.lean ====
module

public import proofs.«01_k».proof.Proof.Gen.Kernel6Ideal.Skeleton
public import proofs.«01_k».proof.Proof.Gain.Math
public import proofs.«01_k».proof.Proof.Loss.Point
public import proofs.«01_k».proof.Proof.Pieces
public import Idealize.ShloMosaic.Lib.Pipeline.ValueKit
public import Idealize.ShloMosaic.Lib.Pointwise
public import Idealize.ShloMosaic.Lib.Claim

@[expose] public section

/-! What a grid point adds to the gains' accumulators, element by element, in extended reals. -/

set_option maxRecDepth 16384

noncomputable section

namespace Cert.Gain

open Idealize.ShloMosaic Idealize.ShloMosaic.TcCoe Idealize.SL.Sem
open Cert.Kernel6Ideal Cert.Kernel6Ideal.Gen

/-! ### The normalised rows -/

/-- Multiplying by the reciprocal of the number of lanes divides by it. -/
theorem mul_part (z : EReal) : z * Ideal.ofBits .f32 0x3C800000#32 = Ideal.div z (Ideal.ofBits .f32 0x42800000#32) := by
  rw [InW.ofBits_part, Norm.ofBits_64]
  unfold Ideal.div
  rw [if_neg (by exact_mod_cast (by norm_num : (64 : ℝ) ≠ 0)), ← EReal.coe_inv, one_div]

/-- A head's row in a pair's 128 lanes, the head that lane `b` is of. -/
def half (f : Fin 128 → EReal) (b : Fin 128) (k : Fin 64) : EReal := f ⟨b.val / 64 * 64 + k.val, by omega⟩

/-- The sum over the head that lane `b` is of. -/
theorem sum_half (f : Fin 128 → EReal) (b : Fin 128) :
    (if b.val < 64 then (∑ k : Fin 128, if k.val < 64 then f k else 0) else ∑ k : Fin 128, if k.val < 64 then 0 else f k) = ∑ k : Fin 64, half f b k := by
  have hb := b.isLt
  by_cases h : b.val < 64
  · rw [if_pos h, Loss.sum_low]
    exact Finset.sum_congr rfl fun k _ => congrArg f (Fin.ext (by show k.val = b.val / 64 * 64 + k.val; omega))
  · rw [if_neg h, Loss.sum_high]
    exact Finset.sum_congr rfl fun k _ => congrArg f (Fin.ext (by show 64 + k.val = b.val / 64 * 64 + k.val; omega))

/-- Two heads' blocks of 128 lanes, of which 64 are the head's own, as the two halves of one block. -/
def pair (a b : FVec Ideal S512x128 .f32) : FVec Ideal S512x128 .f32 :=
  select (k0_pay10) (shapeCast S512x128 a shapeCasts_S512x128_S512x128)
    (dynamicRotate 1 64#32 none (shapeCast S512x128 b shapeCasts_S512x128_S512x128) rotates_S512x128_d1)

/-- The sum over each head's lanes, in each of its lanes. -/
def pairSum (a : FVec Ideal S512x128 .f32) : FVec Ideal S512x128 .f32 :=
  select (k0_pay10)
    (broadcastTo S512x128 (shapeCast S512x1 (shapeCast S512x1 (multiReduction .add [1] S512
      (select k0_pay10 a (broadcast S512x128 (Scalar.ofBits (F := Ideal) .f32 0x00000000#32))) 0x00000000#32 reduces_S512x128_S512 (.inl rfl) rfl)
      shapeCasts_S512_S512x1) shapeCasts_S512x1_S512x1) broadcasts_S512x1_S512x128)
    (broadcastTo S512x128 (shapeCast S512x1 (shapeCast S512x1 (multiReduction .add [1] S512
      (select k0_pay10 (broadcast S512x128 (Scalar.ofBits (F := Ideal) .f32 0x00000000#32)) a) 0x00000000#32 reduces_S512x128_S512 (.inl rfl) rfl)
      shapeCasts_S512_S512x1) shapeCasts_S512x1_S512x1) broadcasts_S512x1_S512x128)

/-- The reciprocal root mean squares of the pair. -/
def pairR (x : FVec Ideal S512x128 .f32) : FVec Ideal S512x128 .f32 :=
  rsqrt (addf (mulf (pairSum (mulf x x)) (broadcast S512x128 (Scalar.ofBits (F := Ideal) .f32 0x3C800000#32)))
    (broadcast S512x128 (Scalar.ofBits (F := Ideal) .f32 0x358637BD#32)))

/-- The scaled cotangent times the normalised rows. -/
def pairG (s : BitVec 32) (a b x : FVec Ideal S512x128 .f32) : FVec Ideal S512x128 .f32 :=
  mulf (mulf (pair a b) (broadcast S512x128 (Scalar.ofBits (F := Ideal) .f32 s))) (mulf x (pairR x))

/-- Its sum over the rows, added to what the accumulator holds. -/
def step (s : BitVec 32) (a b x : FVec Ideal S512x128 .f32) (v : FVec Ideal S1x128 .f32) : FVec Ideal S1x128 .f32 :=
  shapeCast S1x128 (addf v (shapeCast S1x128 (multiReduction .add [0] S128 (pairG s a b x) 0x00000000#32 reduces_S512x128_S128 (.inl rfl) rfl)
    shapeCasts_S128_S1x128)) shapeCasts_S1x128_S1x128

theorem pair_at (a b : FVec Ideal S512x128 .f32) (r : Fin 512) (y : Fin 128) :
    (pair a b (ix2 r y) : EReal) = if y.val < 64 then a (ix2 r y) else b (ix2 r ⟨y.val % 64, by omega⟩) := by
  pointwise [pair, k0_pay10]
  rw [Loss.sel_lt]
  by_cases h : y.val < 64
  · rw [if_pos h, if_pos h]
  · rw [if_neg h, if_neg h]
    refine congrArg b (congrArg (ix2 r) (Fin.ext ?_))
    show (y.val + 128 - 64) % 128 = y.val % 64
    omega

section

variable {a b x : FVec Ideal S512x128 .f32} {v : FVec Ideal S1x128 .f32} {s : BitVec 32} {w : EReal} {A X : Fin 512 → Fin 128 → EReal}

theorem pairSum_at (hX : ∀ r y, (x (ix2 r y) : EReal) = X r y) (r : Fin 512) (y : Fin 128) :
    (pairSum x (ix2 r y) : EReal) = ∑ k, half (X r) y k := by
  have h := sum_half (X r) y
  generalize (∑ k, half (X r) y k) = z at h ⊢
  pointwise [pairSum, k0_pay10]
  simp only [Loss.sel_lt, hX]
  exact h

theorem pairR_at (hX : ∀ r y, (x (ix2 r y) : EReal) = X r y) (r : Fin 512) (y : Fin 128) :
    (pairR x (ix2 r y) : EReal) = rr (half (X r) y) := by
  have h := pairSum_at (x := mulf x x) (X := fun r y => X r y * X r y)
    (fun r y => (show (mulf x x (ix2 r y) : EReal) = x (ix2 r y) * x (ix2 r y) from rfl).trans (by rw [hX])) r y
  have e : rr (half (X r) y) = Ideal.rsqrt ((∑ k, half (fun y => X r y * X r y) y k) * Ideal.ofBits .f32 0x3C800000#32 + Ideal.ofBits .f32 0x358637BD#32) := by
    rw [mul_part]; rfl
  rw [e]
  unfold pairR
  generalize pairSum (mulf x x) = z at h ⊢
  generalize (∑ k, half (fun y => X r y * X r y) y k) = t at h ⊢
  pointwise
  rw [h]

theorem step_at (hs : Ideal.ofBits .f32 s = w) (hA : ∀ r y, (pair a b (ix2 r y) : EReal) = A r y)
    (hX : ∀ r y, (x (ix2 r y) : EReal) = X r y) (z : Fin 1) (y : Fin 128) :
    (step s a b x v (ix2 z y) : EReal) = v (ix2 z y) + ∑ r, A r y * w * (X r y * rr (half (X r) y)) := by
  have h : ∀ r y, (pairG s a b x (ix2 r y) : EReal) = A r y * w * (X r y * rr (half (X r) y)) := by
    intro r y
    have hR := pairR_at hX r y
    rw [← hR, ← hA, ← hX, ← hs]
    unfold pairG
    generalize pair a b = z at hA ⊢
    generalize pairR x = u at hR ⊢
    rfl
  have e : (∑ r, A r y * w * (X r y * rr (half (X r) y))) = ∑ r, pairG s a b x (ix2 r y) := Finset.sum_congr rfl fun r _ => (h r y).symm
  rw [e]
  unfold step
  generalize pairG s a b x = u at h ⊢
  pointwise

end

/-! ### The payloads of the stores are the pairs' steps -/

section

variable (a b x : FVec Ideal S512x128 .f32) (v : FVec Ideal S1x128 .f32)

theorem acc0 : k0_pay25 (k0_pay18 k0_pay10 x) (k0_pay19 k0_pay10 (k0_pay14 a) b) v = step 0x3E000000#32 a b x v := rfl
theorem acc1 : k0_pay39 (k0_pay32 k0_pay10 x) (k0_pay33 k0_pay10 a b) v = step 0x3E000000#32 a b x v := rfl
theorem acc2 : k0_pay53 (k0_pay47 k0_pay10 x) (k0_pay48 k0_pay10 a b) v = step 0x3E000000#32 a b x v := rfl
theorem acc3 : k0_pay66 (k0_pay59 k0_pay10 x) (k0_pay60 k0_pay10 (k0_pay55 a) b) v = step 0x3E000000#32 a b x v := rfl
theorem acc4 : k0_pay77 (k0_pay73 k0_pay10 x (k0_pay71 x)) (k0_pay74 k0_pay10 (k0_pay68 a) (k0_pay69 b)) v = step 0x3F800000#32 a b x v := rfl
theorem acc5 : k0_pay90 v (k0_pay89 k0_pay10 (k0_pay79 a) (k0_pay80 b) x (k0_pay83 k0_pay10 x) (k0_pay84 k0_pay10 x)) = step 0x3F800000#32 a b x v := rfl
theorem acc6 : k0_pay99 (k0_pay95 k0_pay10 x) (k0_pay96 k0_pay10 a b) v = step 0x3F800000#32 a b x v := rfl
theorem acc7 : k0_pay109 (k0_pay106 k0_pay10 x (k0_pay103 x) (k0_pay104 k0_pay10 x)) (k0_pay107 k0_pay10 (k0_pay100 a) (k0_pay101 b)) v = step 0x3F800000#32 a b x v := rfl

end

theorem zero_q (y : S1x512.Idx) : (k0_pay6 (F := Ideal) y : EReal) = 0 := by pointwise [k0_pay6]
theorem zero_k (y : S1x512.Idx) : (k0_pay7 (F := Ideal) y : EReal) = 0 := by pointwise [k0_pay7]

/-! ### A row of four blocks of lanes, each read, added to and written in turn -/

theorem ld_at {e : EltTy} {R n w off : ℕ} (B : Vec Ideal ⟨2, ![R, n]⟩ e)
    (inb : ∀ a, (![0, off] : Fin 2 → ℕ) a + (![R, w] : Fin 2 → ℕ) a ≤ (⟨2, ![R, n]⟩ : Shape).size a) (r : Fin R) (b : Fin w)
    (hb : off + b.val < n) :
    View.ld B (Rect.unit (s := ⟨2, ![R, n]⟩) ![0, off] ![R, w] inb) (ix2 r b) = B (ix2 r ⟨off + b.val, hb⟩) := by
  show B _ = B _
  congr 1
  funext a; apply Fin.ext; match a with
      | ⟨0, _⟩ => show 0 + 1 * r.val = r.val; omega
      | ⟨1, _⟩ => show off + 1 * b.val = off + b.val; omega

theorem readCov_cols {e : EltTy} {R C o n : ℕ} {sig : RefSig} {κ : Kind} {sp : Space} (v : View sig κ sp ⟨2, ![R, C]⟩ e)
    (inb : ∀ a, (![0, o] : Fin 2 → ℕ) a + (![R, n] : Fin 2 → ℕ) a ≤ (⟨2, ![R, C]⟩ : Shape).size a)
    (L : List (View.Piece (Elt Ideal) ⟨2, ![R, C]⟩ e)) (r : Fin R) (b : Fin n) (hb : o + b.val < C) :
    (v.readCov L (Rect.unit (s := ⟨2, ![R, C]⟩) ![0, o] ![R, n] inb).toLoadRect : (⟨2, ![R, n]⟩ : Shape).Idx → Elt Ideal e) (ix2 r b)
      = View.canon L (ix2 r ⟨o + b.val, hb⟩) := by
  rw [View.readCov_eq_canon']
  show View.canon L _ = _
  congr 1
  funext a; apply Fin.ext; match a with
      | ⟨0, _⟩ => show 0 + 1 * r.val = r.val; omega
      | ⟨1, _⟩ => show o + 1 * b.val = o + b.val; omega

variable {sig : RefSig} {κ : Kind} {sp : Space} (w : View sig κ sp S1x512 .f32)

/-- One block read back from the writes so far, added to and written. -/
theorem again {o : ℕ} (ho : o + 128 ≤ 512) {L : List (View.Piece (Elt Ideal) S1x512 .f32)} {A T : Fin 512 → EReal} {P : FVec Ideal S1x128 .f32 → FVec Ideal S1x128 .f32}
    (inb : ∀ a, (![0, o] : Fin 2 → ℕ) a + (![1, 128] : Fin 2 → ℕ) a ≤ S1x512.size a)
    (hL : ∀ z Y, (View.canon L (ix2 z Y) : EReal) = A Y)
    (hP : ∀ v z y hy, (P v (ix2 z y) : EReal) = v (ix2 z y) + T ⟨o + y.val, hy⟩) (z : Fin 1) (Y : Fin 512) :
    (View.canon (⟨Rect.unit (s := S1x512) ![0, o] ![1, 128] inb, P (w.readCov L (Rect.unit (s := S1x512) ![0, o] ![1, 128] inb).toLoadRect)⟩ :: L) (ix2 z Y) : EReal)
      = if o ≤ Y.val ∧ Y.val < o + 128 then A Y + T Y else A Y := by
  rw [Pieces.canon_cols (R := 1) (C := 512) (o := o) (n := 128)]
  split
  · rename_i h
    have e : ∀ h', (⟨o + (Y.val - o), h'⟩ : Fin 512) = Y := fun _ => Fin.ext (by show o + (Y.val - o) = Y.val; omega)
    rw [hP _ _ _ (by show o + (Y.val - o) < 512; omega)]
    refine congrArg₂ (· + ·) ?_ (congrArg T (e _))
    exact (readCov_cols (R := 1) (C := 512) w inb L z ⟨Y.val - o, by omega⟩ (by show o + (Y.val - o) < 512; omega)).trans ((hL _ _).trans (congrArg A (e _)))
  · exact hL z Y

abbrev r0 : Rect S1x512 := Rect.unit (s := S1x512) ![0, 0] ![1, 128] inb_S1x512_S1x128_0_0
abbrev r1 : Rect S1x512 := Rect.unit (s := S1x512) ![0, 128] ![1, 128] inb_S1x512_S1x128_0_128
abbrev r2 : Rect S1x512 := Rect.unit (s := S1x512) ![0, 256] ![1, 128] inb_S1x512_S1x128_0_256
abbrev r3 : Rect S1x512 := Rect.unit (s := S1x512) ![0, 384] ![1, 128] inb_S1x512_S1x128_0_384

section

variable (P0 P1 P2 P3 : FVec Ideal S1x128 .f32 → FVec Ideal S1x128 .f32) (Z : FVec Ideal S1x512 .f32)

/-- The writes of the point that starts the sums. -/
abbrev l0 : List (View.Piece (Elt Ideal) S1x512 .f32) := [⟨Rect.unit (s := S1x512) ![0, 0] ![1, 512] inb_S1x512_S1x512_0_0, Z⟩]
abbrev l1 : List (View.Piece (Elt Ideal) S1x512 .f32) := ⟨r0, P0 (w.readCov (l0 Z) r0.toLoadRect)⟩ :: l0 Z
abbrev l2 : List (View.Piece (Elt Ideal) S1x512 .f32) := ⟨r1, P1 (w.readCov (l1 w P0 Z) r1.toLoadRect)⟩ :: l1 w P0 Z
abbrev l3 : List (View.Piece (Elt Ideal) S1x512 .f32) := ⟨r2, P2 (w.readCov (l2 w P0 P1 Z) r2.toLoadRect)⟩ :: l2 w P0 P1 Z
abbrev l4 : List (View.Piece (Elt Ideal) S1x512 .f32) := ⟨r3, P3 (w.readCov (l3 w P0 P1 P2 Z) r3.toLoadRect)⟩ :: l3 w P0 P1 P2 Z

/-- The writes of a point that goes on with them, over what the buffer held. -/
abbrev n4 (v : Vec Ideal S1x512 .f32) : List (View.Piece (Elt Ideal) S1x512 .f32) :=
  [⟨r3, P3 (View.ld v r3)⟩, ⟨r2, P2 (View.ld v r2)⟩, ⟨r1, P1 (View.ld v r1)⟩, ⟨r0, P0 (View.ld v r0)⟩]

variable {P0 P1 P2 P3} {Z} {T : Fin 512 → EReal}
  (h0 : ∀ v z y hy, (P0 v (ix2 z y) : EReal) = v (ix2 z y) + T ⟨0 + y.val, hy⟩)
  (h1 : ∀ v z y hy, (P1 v (ix2 z y) : EReal) = v (ix2 z y) + T ⟨128 + y.val, hy⟩)
  (h2 : ∀ v z y hy, (P2 v (ix2 z y) : EReal) = v (ix2 z y) + T ⟨256 + y.val, hy⟩)
  (h3 : ∀ v z y hy, (P3 v (ix2 z y) : EReal) = v (ix2 z y) + T ⟨384 + y.val, hy⟩)
include h0 h1 h2 h3

theorem first_at (hZ : ∀ y, (Z y : EReal) = 0) (z : Fin 1) (Y : Fin 512) : (View.canon (l4 w P0 P1 P2 P3 Z) (ix2 z Y) : EReal) = 0 + T Y := by
  have g0 : ∀ z Y, (View.canon (l0 Z) (ix2 z Y) : EReal) = (fun _ => (0 : EReal)) Y := by
    intro z Y
    unfold l0
    rw [Pieces.canon_cols (R := 1) (C := 512) (o := 0) (n := 512), dif_pos (by omega)]
    exact hZ _
  have g1 := again w (by norm_num) inb_S1x512_S1x128_0_0 g0 h0
  have g2 := again w (by norm_num) inb_S1x512_S1x128_0_128 g1 h1
  have g3 := again w (by norm_num) inb_S1x512_S1x128_0_256 g2 h2
  have g4 := again w (by norm_num) inb_S1x512_S1x128_0_384 g3 h3
  refine (g4 z Y).trans ?_
  have := Y.isLt
  split_ifs <;> first | rfl | (exfalso; omega)

theorem next_at (v : Vec Ideal S1x512 .f32) (z : Fin 1) (Y : Fin 512) : (View.canon (n4 P0 P1 P2 P3 v) (ix2 z Y) : EReal) = v (ix2 z Y) + T Y := by
  unfold n4
  rw [Pieces.canon_cols (R := 1) (C := 512) (o := 384) (n := 128), Pieces.canon_cols (R := 1) (C := 512) (o := 256) (n := 128),
    Pieces.canon_cols (R := 1) (C := 512) (o := 128) (n := 128), Pieces.canon_cols (R := 1) (C := 512) (o := 0) (n := 128)]
  have hY := Y.isLt
  have e : ∀ o h', o ≤ Y.val → (⟨o + (Y.val - o), h'⟩ : Fin 512) = Y := fun o _ h => Fin.ext (by show o + (Y.val - o) = Y.val; omega)
  by_cases c3 : 384 ≤ Y.val
  · rw [dif_pos (by omega), h3 _ _ _ (by show 384 + (Y.val - 384) < 512; omega)]
    exact congrArg₂ (· + ·) ((ld_at (R := 1) (n := 512) v _ z ⟨Y.val - 384, by omega⟩ (by show 384 + (Y.val - 384) < 512; omega)).trans
      (congrArg v (congrArg (ix2 z) (e 384 _ c3)))) (congrArg T (e 384 _ c3))
  rw [dif_neg (by omega)]
  by_cases c2 : 256 ≤ Y.val
  · rw [dif_pos (by omega), h2 _ _ _ (by show 256 + (Y.val - 256) < 512; omega)]
    exact congrArg₂ (· + ·) ((ld_at (R := 1) (n := 512) v _ z ⟨Y.val - 256, by omega⟩ (by show 256 + (Y.val - 256) < 512; omega)).trans
      (congrArg v (congrArg (ix2 z) (e 256 _ c2)))) (congrArg T (e 256 _ c2))
  rw [dif_neg (by omega)]
  by_cases c1 : 128 ≤ Y.val
  · rw [dif_pos (by omega), h1 _ _ _ (by show 128 + (Y.val - 128) < 512; omega)]
    exact congrArg₂ (· + ·) ((ld_at (R := 1) (n := 512) v _ z ⟨Y.val - 128, by omega⟩ (by show 128 + (Y.val - 128) < 512; omega)).trans
      (congrArg v (congrArg (ix2 z) (e 128 _ c1)))) (congrArg T (e 128 _ c1))
  rw [dif_neg (by omega), dif_pos (by omega), h0 _ _ _ (by show 0 + (Y.val - 0) < 512; omega)]
  exact congrArg₂ (· + ·) ((ld_at (R := 1) (n := 512) v _ z ⟨Y.val - 0, by omega⟩ (by show 0 + (Y.val - 0) < 512; omega)).trans
    (congrArg v (congrArg (ix2 z) (e 0 _ (by omega))))) (congrArg T (e 0 _ (by omega)))

end

/-! ### The lanes of all heads folded onto one head's, twice -/

/-- The eight heads' sums at lane `y`. -/
def folded (S : Fin 512 → EReal) (y : Fin 128) : EReal := ∑ h : Fin 8, S ⟨h.val * 64 + y.val % 64, by omega⟩

theorem fold_sum (S : Fin 512 → EReal) (y : Fin 128) :
    S ⟨y.val, by omega⟩ + S ⟨128 + y.val, by omega⟩ + S ⟨256 + y.val, by omega⟩ + S ⟨384 + y.val, by omega⟩
      + (S ⟨(y.val + 128 - 64) % 128, by omega⟩ + S ⟨128 + (y.val + 128 - 64) % 128, by omega⟩ + S ⟨256 + (y.val + 128 - 64) % 128, by omega⟩
        + S ⟨384 + (y.val + 128 - 64) % 128, by omega⟩) = folded S y := by
  have hy := y.isLt
  have e : ∀ (a b : ℕ) (ha : a < 512) (hb : b < 512), a = b → S ⟨a, ha⟩ = S ⟨b, hb⟩ := fun a b _ _ h => congrArg S (Fin.ext h)
  unfold folded
  rw [Fin.sum_univ_eight]
  by_cases h : y.val < 64
  · rw [e y.val (0 * 64 + y.val % 64) _ (by omega) (by omega), e (128 + y.val) (2 * 64 + y.val % 64) _ (by omega) (by omega),
      e (256 + y.val) (4 * 64 + y.val % 64) _ (by omega) (by omega), e (384 + y.val) (6 * 64 + y.val % 64) _ (by omega) (by omega),
      e ((y.val + 128 - 64) % 128) (1 * 64 + y.val % 64) _ (by omega) (by omega), e (128 + (y.val + 128 - 64) % 128) (3 * 64 + y.val % 64) _ (by omega) (by omega),
      e (256 + (y.val + 128 - 64) % 128) (5 * 64 + y.val % 64) _ (by omega) (by omega), e (384 + (y.val + 128 - 64) % 128) (7 * 64 + y.val % 64) _ (by omega) (by omega)]
    show _ = S ⟨0 * 64 + y.val % 64, _⟩ + S ⟨1 * 64 + y.val % 64, _⟩ + S ⟨2 * 64 + y.val % 64, _⟩ + S ⟨3 * 64 + y.val % 64, _⟩
      + S ⟨4 * 64 + y.val % 64, _⟩ + S ⟨5 * 64 + y.val % 64, _⟩ + S ⟨6 * 64 + y.val % 64, _⟩ + S ⟨7 * 64 + y.val % 64, _⟩
    ac_rfl
  · rw [e y.val (1 * 64 + y.val % 64) _ (by omega) (by omega), e (128 + y.val) (3 * 64 + y.val % 64) _ (by omega) (by omega),
      e (256 + y.val) (5 * 64 + y.val % 64) _ (by omega) (by omega), e (384 + y.val) (7 * 64 + y.val % 64) _ (by omega) (by omega),
      e ((y.val + 128 - 64) % 128) (0 * 64 + y.val % 64) _ (by omega) (by omega), e (128 + (y.val + 128 - 64) % 128) (2 * 64 + y.val % 64) _ (by omega) (by omega),
      e (256 + (y.val + 128 - 64) % 128) (4 * 64 + y.val % 64) _ (by omega) (by omega), e (384 + (y.val + 128 - 64) % 128) (6 * 64 + y.val % 64) _ (by omega) (by omega)]
    show _ = S ⟨0 * 64 + y.val % 64, _⟩ + S ⟨1 * 64 + y.val % 64, _⟩ + S ⟨2 * 64 + y.val % 64, _⟩ + S ⟨3 * 64 + y.val % 64, _⟩
      + S ⟨4 * 64 + y.val % 64, _⟩ + S ⟨5 * 64 + y.val % 64, _⟩ + S ⟨6 * 64 + y.val % 64, _⟩ + S ⟨7 * 64 + y.val % 64, _⟩
    ac_rfl

theorem fold_q {v : FVec Ideal S1x512 .f32} {S : Fin 512 → EReal} (hv : ∀ z Y, (v (ix2 z Y) : EReal) = S Y) (z : Fin 1) (y : Fin 128) :
    (k0_pay1 (F := Ideal) v (ix2 z y) : EReal) = folded S y := by
  rw [← fold_sum]
  pointwise [k0_pay1]
  simp only [hv]

theorem fold_k {v : FVec Ideal S1x512 .f32} {S : Fin 512 → EReal} (hv : ∀ z Y, (v (ix2 z Y) : EReal) = S Y) (z : Fin 1) (y : Fin 128) :
    (k0_pay2 (F := Ideal) v (ix2 z y) : EReal) = folded S y := by
  rw [← fold_sum]
  pointwise [k0_pay2]
  simp only [hv]

theorem folded_q (X : Fin 4096 → Fin 1024 → EReal) (Q : Fin 4096 → Fin 512 → EReal) (y : Fin 128) : folded (fun j => ∑ i, termQ X Q i j) y = dqg X Q y :=
  Finset.sum_comm

theorem folded_k (X : Fin 4096 → Fin 1024 → EReal) (K : Fin 4096 → Fin 512 → EReal) (y : Fin 128) : folded (fun j => ∑ i, termK X K i j) y = dkg X K y :=
  Finset.sum_comm

end Cert.Gain

end
-- ==== Proof.Gain.Array.lean ====
module

public import proofs.«01_k».proof.Proof.Gain.Operands
public import proofs.«01_k».proof.Proof.Gain.Point
public import Idealize.ShloMosaic.Lib.Pipeline.ReadBack

@[expose] public section

/-! What the grid points leave in the gains' accumulators, and what the gains' gradients then hold. -/

set_option maxRecDepth 16384

noncomputable section

namespace Cert.Gain

open Idealize.ShloMosaic Idealize.ShloMosaic.TcCoe Idealize.SL.Sem
open Idealize.ShloMosaic.Pipeline (Dat)
open Cert.Kernel6Ideal Cert.Kernel6Ideal.Gen Cert.Kernel6Ideal.Value

variable (μ : (ℓ : Loc nD τ sig) → Buf (Elt Ideal) ℓ) (c : Dev nD) (p : Fin cfg0.N)

abbrev qs0 : FVec Ideal S512x128 .f32 := View.ld (iblk μ c 4 p) (Rect.unit (s := S512x1024) ![0, 0] ![512, 128] inb_S512x1024_S512x128_0_0)
abbrev qs1 : FVec Ideal S512x128 .f32 := View.ld (iblk μ c 4 p) (Rect.unit (s := S512x1024) ![0, 128] ![512, 128] inb_S512x1024_S512x128_0_128)
abbrev qs2 : FVec Ideal S512x128 .f32 := View.ld (iblk μ c 4 p) (Rect.unit (s := S512x1024) ![0, 256] ![512, 128] inb_S512x1024_S512x128_0_256)
abbrev qs3 : FVec Ideal S512x128 .f32 := View.ld (iblk μ c 4 p) (Rect.unit (s := S512x1024) ![0, 384] ![512, 128] inb_S512x1024_S512x128_0_384)
abbrev qs4 : FVec Ideal S512x128 .f32 := View.ld (iblk μ c 4 p) (Rect.unit (s := S512x1024) ![0, 512] ![512, 128] inb_S512x1024_S512x128_0_512)
abbrev qs5 : FVec Ideal S512x128 .f32 := View.ld (iblk μ c 4 p) (Rect.unit (s := S512x1024) ![0, 640] ![512, 128] inb_S512x1024_S512x128_0_640)
abbrev qs6 : FVec Ideal S512x128 .f32 := View.ld (iblk μ c 4 p) (Rect.unit (s := S512x1024) ![0, 768] ![512, 128] inb_S512x1024_S512x128_0_768)
abbrev qs7 : FVec Ideal S512x128 .f32 := View.ld (iblk μ c 4 p) (Rect.unit (s := S512x1024) ![0, 896] ![512, 128] inb_S512x1024_S512x128_0_896)
abbrev ks0 : FVec Ideal S512x128 .f32 := View.ld (iblk μ c 5 p) (Rect.unit (s := S512x1024) ![0, 0] ![512, 128] inb_S512x1024_S512x128_0_0)
abbrev ks1 : FVec Ideal S512x128 .f32 := View.ld (iblk μ c 5 p) (Rect.unit (s := S512x1024) ![0, 128] ![512, 128] inb_S512x1024_S512x128_0_128)
abbrev ks2 : FVec Ideal S512x128 .f32 := View.ld (iblk μ c 5 p) (Rect.unit (s := S512x1024) ![0, 256] ![512, 128] inb_S512x1024_S512x128_0_256)
abbrev ks3 : FVec Ideal S512x128 .f32 := View.ld (iblk μ c 5 p) (Rect.unit (s := S512x1024) ![0, 384] ![512, 128] inb_S512x1024_S512x128_0_384)
abbrev ks4 : FVec Ideal S512x128 .f32 := View.ld (iblk μ c 5 p) (Rect.unit (s := S512x1024) ![0, 512] ![512, 128] inb_S512x1024_S512x128_0_512)
abbrev ks5 : FVec Ideal S512x128 .f32 := View.ld (iblk μ c 5 p) (Rect.unit (s := S512x1024) ![0, 640] ![512, 128] inb_S512x1024_S512x128_0_640)
abbrev ks6 : FVec Ideal S512x128 .f32 := View.ld (iblk μ c 5 p) (Rect.unit (s := S512x1024) ![0, 768] ![512, 128] inb_S512x1024_S512x128_0_768)
abbrev ks7 : FVec Ideal S512x128 .f32 := View.ld (iblk μ c 5 p) (Rect.unit (s := S512x1024) ![0, 896] ![512, 128] inb_S512x1024_S512x128_0_896)
abbrev xs0 : FVec Ideal S512x128 .f32 := View.ld (iblk μ c 7 p) (Rect.unit (s := S512x1024) ![0, 0] ![512, 128] inb_S512x1024_S512x128_0_0)
abbrev xs1 : FVec Ideal S512x128 .f32 := View.ld (iblk μ c 7 p) (Rect.unit (s := S512x1024) ![0, 128] ![512, 128] inb_S512x1024_S512x128_0_128)
abbrev xs2 : FVec Ideal S512x128 .f32 := View.ld (iblk μ c 7 p) (Rect.unit (s := S512x1024) ![0, 256] ![512, 128] inb_S512x1024_S512x128_0_256)
abbrev xs3 : FVec Ideal S512x128 .f32 := View.ld (iblk μ c 7 p) (Rect.unit (s := S512x1024) ![0, 384] ![512, 128] inb_S512x1024_S512x128_0_384)
abbrev xs4 : FVec Ideal S512x128 .f32 := View.ld (iblk μ c 7 p) (Rect.unit (s := S512x1024) ![0, 512] ![512, 128] inb_S512x1024_S512x128_0_512)
abbrev xs5 : FVec Ideal S512x128 .f32 := View.ld (iblk μ c 7 p) (Rect.unit (s := S512x1024) ![0, 640] ![512, 128] inb_S512x1024_S512x128_0_640)
abbrev xs6 : FVec Ideal S512x128 .f32 := View.ld (iblk μ c 7 p) (Rect.unit (s := S512x1024) ![0, 768] ![512, 128] inb_S512x1024_S512x128_0_768)
abbrev xs7 : FVec Ideal S512x128 .f32 := View.ld (iblk μ c 7 p) (Rect.unit (s := S512x1024) ![0, 896] ![512, 128] inb_S512x1024_S512x128_0_896)

/-! ### The eight additions -/

abbrev aq0 (v : FVec Ideal S1x128 .f32) : FVec Ideal S1x128 .f32 := k0_pay25 (F := Ideal) (k0_pay18 k0_pay10 (xs0 μ c p)) (k0_pay19 k0_pay10 (k0_pay14 (qs0 μ c p)) (qs1 μ c p)) v
abbrev aq1 (v : FVec Ideal S1x128 .f32) : FVec Ideal S1x128 .f32 := k0_pay39 (F := Ideal) (k0_pay32 k0_pay10 (xs1 μ c p)) (k0_pay33 k0_pay10 (qs2 μ c p) (qs3 μ c p)) v
abbrev aq2 (v : FVec Ideal S1x128 .f32) : FVec Ideal S1x128 .f32 := k0_pay53 (F := Ideal) (k0_pay47 k0_pay10 (xs2 μ c p)) (k0_pay48 k0_pay10 (qs4 μ c p) (qs5 μ c p)) v
abbrev aq3 (v : FVec Ideal S1x128 .f32) : FVec Ideal S1x128 .f32 := k0_pay66 (F := Ideal) (k0_pay59 k0_pay10 (xs3 μ c p)) (k0_pay60 k0_pay10 (k0_pay55 (qs6 μ c p)) (qs7 μ c p)) v
abbrev ak0 (v : FVec Ideal S1x128 .f32) : FVec Ideal S1x128 .f32 := k0_pay77 (F := Ideal) (k0_pay73 k0_pay10 (xs4 μ c p) (k0_pay71 (xs4 μ c p))) (k0_pay74 k0_pay10 (k0_pay68 (ks0 μ c p)) (k0_pay69 (ks1 μ c p))) v
abbrev ak1 (v : FVec Ideal S1x128 .f32) : FVec Ideal S1x128 .f32 := k0_pay90 (F := Ideal) v (k0_pay89 k0_pay10 (k0_pay79 (ks2 μ c p)) (k0_pay80 (ks3 μ c p)) (xs5 μ c p) (k0_pay83 k0_pay10 (xs5 μ c p)) (k0_pay84 k0_pay10 (xs5 μ c p)))
abbrev ak2 (v : FVec Ideal S1x128 .f32) : FVec Ideal S1x128 .f32 := k0_pay99 (F := Ideal) (k0_pay95 k0_pay10 (xs6 μ c p)) (k0_pay96 k0_pay10 (ks4 μ c p) (ks5 μ c p)) v
abbrev ak3 (v : FVec Ideal S1x128 .f32) : FVec Ideal S1x128 .f32 := k0_pay109 (F := Ideal) (k0_pay106 k0_pay10 (xs7 μ c p) (k0_pay103 (xs7 μ c p)) (k0_pay104 k0_pay10 (xs7 μ c p))) (k0_pay107 k0_pay10 (k0_pay100 (ks6 μ c p)) (k0_pay101 (ks7 μ c p))) v

/-- What a point adds at lane `j` of the queries' heads. -/
def tQ (j : Fin 512) : EReal := ∑ r : Fin 512, termQ (X μ c) (Q μ c) (rowOf p r) j
/-- What a point adds at lane `j` of the keys' heads. -/
def tK (j : Fin 512) : EReal := ∑ r : Fin 512, termK (X μ c) (K μ c) (rowOf p r) j

theorem blk_q_of (r : Fin 512) (j : Fin 1024) (l : Fin 512) (hj : j.val % 128 < 64) (hl : j.val / 128 * 64 + j.val % 128 = l.val) :
    (iblk μ c 4 p (ix2 r j) : EReal) = Q μ c (rowOf p r) l :=
  (blk_q μ c p r j hj).trans (congrArg (Q μ c (rowOf p r)) (Fin.ext hl))
theorem blk_k_of (r : Fin 512) (j : Fin 1024) (l : Fin 512) (hj : j.val % 128 < 64) (hl : j.val / 128 * 64 + j.val % 128 = l.val) :
    (iblk μ c 5 p (ix2 r j) : EReal) = K μ c (rowOf p r) l :=
  (blk_k μ c p r j hj).trans (congrArg (K μ c (rowOf p r)) (Fin.ext hl))

section

variable {a b x : FVec Ideal S512x128 .f32} {v : FVec Ideal S1x128 .f32}

theorem step_q (o : ℕ) (ho : o % 128 = 0) (ho' : o + 128 ≤ 512) (hA : ∀ r y, (pair a b (ix2 r y) : EReal) = Q μ c (rowOf p r) ⟨o + y.val, by omega⟩)
    (hX : ∀ r y, (x (ix2 r y) : EReal) = X μ c (rowOf p r) ⟨o + y.val, by omega⟩) (z : Fin 1) (y : Fin 128) :
    (step 0x3E000000#32 a b x v (ix2 z y) : EReal) = v (ix2 z y) + tQ μ c p ⟨o + y.val, by omega⟩ := by
  have hy := y.isLt
  rw [step_at rfl hA hX]
  unfold tQ termQ
  refine congrArg (_ + ·) (Finset.sum_congr rfl fun r _ => congrArg (_ * ·) (congrArg (_ * ·) (congrArg rr (funext fun k => ?_))))
  exact congrArg (X μ c (rowOf p r)) (Fin.ext (by show o + (y.val / 64 * 64 + k.val) = (o + y.val) / 64 * 64 + k.val; omega))

theorem step_k (o : ℕ) (ho : o % 128 = 0) (ho' : o + 128 ≤ 512) (hA : ∀ r y, (pair a b (ix2 r y) : EReal) = K μ c (rowOf p r) ⟨o + y.val, by omega⟩)
    (hX : ∀ r y, (x (ix2 r y) : EReal) = X μ c (rowOf p r) ⟨512 + (o + y.val), by omega⟩) (z : Fin 1) (y : Fin 128) :
    (step 0x3F800000#32 a b x v (ix2 z y) : EReal) = v (ix2 z y) + tK μ c p ⟨o + y.val, by omega⟩ := by
  have hy := y.isLt
  rw [step_at rfl hA hX]
  unfold tK termK
  refine congrArg (_ + ·) (Finset.sum_congr rfl fun r _ => congrArg (_ * ·) (congrArg (_ * ·) (congrArg rr (funext fun k => ?_))))
  exact congrArg (X μ c (rowOf p r)) (Fin.ext (by show 512 + (o + (y.val / 64 * 64 + k.val)) = 512 + ((o + y.val) / 64 * 64 + k.val); omega))

end

theorem qp0_apply (r : Fin 512) (y : Fin 128) : (pair (qs0 μ c p) (qs1 μ c p) (ix2 r y) : EReal) = Q μ c (rowOf p r) ⟨0 + y.val, by omega⟩ := by
  rw [pair_at]
  split
  · exact (ld_at (iblk μ c 4 p) _ r y (by omega)).trans (blk_q_of μ c p r _ _ (by show (0 + y.val) % 128 < 64; omega)
      (by show (0 + y.val) / 128 * 64 + (0 + y.val) % 128 = 0 + y.val; omega))
  · exact (ld_at (iblk μ c 4 p) _ r _ (by show 128 + y.val % 64 < 1024; omega)).trans (blk_q_of μ c p r _ _ (by show (128 + y.val % 64) % 128 < 64; omega)
      (by show (128 + y.val % 64) / 128 * 64 + (128 + y.val % 64) % 128 = 0 + y.val; omega))
theorem aq0_apply (v : FVec Ideal S1x128 .f32) (z : Fin 1) (y : Fin 128) : (aq0 μ c p v (ix2 z y) : EReal) = v (ix2 z y) + tQ μ c p ⟨0 + y.val, by omega⟩ := by
  rw [aq0, acc0]
  exact step_q μ c p 0 (by norm_num) (by norm_num) (qp0_apply μ c p)
    (fun r y => (ld_at (iblk μ c 7 p) _ r y (by omega)).trans ((blk_x μ c p r _).trans (congrArg (X μ c (rowOf p r)) (Fin.ext (by
      show 0 + y.val = 0 + y.val; omega))))) z y
theorem qp1_apply (r : Fin 512) (y : Fin 128) : (pair (qs2 μ c p) (qs3 μ c p) (ix2 r y) : EReal) = Q μ c (rowOf p r) ⟨128 + y.val, by omega⟩ := by
  rw [pair_at]
  split
  · exact (ld_at (iblk μ c 4 p) _ r y (by omega)).trans (blk_q_of μ c p r _ _ (by show (256 + y.val) % 128 < 64; omega)
      (by show (256 + y.val) / 128 * 64 + (256 + y.val) % 128 = 128 + y.val; omega))
  · exact (ld_at (iblk μ c 4 p) _ r _ (by show 384 + y.val % 64 < 1024; omega)).trans (blk_q_of μ c p r _ _ (by show (384 + y.val % 64) % 128 < 64; omega)
      (by show (384 + y.val % 64) / 128 * 64 + (384 + y.val % 64) % 128 = 128 + y.val; omega))
theorem aq1_apply (v : FVec Ideal S1x128 .f32) (z : Fin 1) (y : Fin 128) : (aq1 μ c p v (ix2 z y) : EReal) = v (ix2 z y) + tQ μ c p ⟨128 + y.val, by omega⟩ := by
  rw [aq1, acc1]
  exact step_q μ c p 128 (by norm_num) (by norm_num) (qp1_apply μ c p)
    (fun r y => (ld_at (iblk μ c 7 p) _ r y (by omega)).trans ((blk_x μ c p r _).trans (congrArg (X μ c (rowOf p r)) (Fin.ext (by
      show 128 + y.val = 128 + y.val; omega))))) z y
theorem qp2_apply (r : Fin 512) (y : Fin 128) : (pair (qs4 μ c p) (qs5 μ c p) (ix2 r y) : EReal) = Q μ c (rowOf p r) ⟨256 + y.val, by omega⟩ := by
  rw [pair_at]
  split
  · exact (ld_at (iblk μ c 4 p) _ r y (by omega)).trans (blk_q_of μ c p r _ _ (by show (512 + y.val) % 128 < 64; omega)
      (by show (512 + y.val) / 128 * 64 + (512 + y.val) % 128 = 256 + y.val; omega))
  · exact (ld_at (iblk μ c 4 p) _ r _ (by show 640 + y.val % 64 < 1024; omega)).trans (blk_q_of μ c p r _ _ (by show (640 + y.val % 64) % 128 < 64; omega)
      (by show (640 + y.val % 64) / 128 * 64 + (640 + y.val % 64) % 128 = 256 + y.val; omega))
theorem aq2_apply (v : FVec Ideal S1x128 .f32) (z : Fin 1) (y : Fin 128) : (aq2 μ c p v (ix2 z y) : EReal) = v (ix2 z y) + tQ μ c p ⟨256 + y.val, by omega⟩ := by
  rw [aq2, acc2]
  exact step_q μ c p 256 (by norm_num) (by norm_num) (qp2_apply μ c p)
    (fun r y => (ld_at (iblk μ c 7 p) _ r y (by omega)).trans ((blk_x μ c p r _).trans (congrArg (X μ c (rowOf p r)) (Fin.ext (by
      show 256 + y.val = 256 + y.val; omega))))) z y
theorem qp3_apply (r : Fin 512) (y : Fin 128) : (pair (qs6 μ c p) (qs7 μ c p) (ix2 r y) : EReal) = Q μ c (rowOf p r) ⟨384 + y.val, by omega⟩ := by
  rw [pair_at]
  split
  · exact (ld_at (iblk μ c 4 p) _ r y (by omega)).trans (blk_q_of μ c p r _ _ (by show (768 + y.val) % 128 < 64; omega)
      (by show (768 + y.val) / 128 * 64 + (768 + y.val) % 128 = 384 + y.val; omega))
  · exact (ld_at (iblk μ c 4 p) _ r _ (by show 896 + y.val % 64 < 1024; omega)).trans (blk_q_of μ c p r _ _ (by show (896 + y.val % 64) % 128 < 64; omega)
      (by show (896 + y.val % 64) / 128 * 64 + (896 + y.val % 64) % 128 = 384 + y.val; omega))
theorem aq3_apply (v : FVec Ideal S1x128 .f32) (z : Fin 1) (y : Fin 128) : (aq3 μ c p v (ix2 z y) : EReal) = v (ix2 z y) + tQ μ c p ⟨384 + y.val, by omega⟩ := by
  rw [aq3, acc3]
  exact step_q μ c p 384 (by norm_num) (by norm_num) (qp3_apply μ c p)
    (fun r y => (ld_at (iblk μ c 7 p) _ r y (by omega)).trans ((blk_x μ c p r _).trans (congrArg (X μ c (rowOf p r)) (Fin.ext (by
      show 384 + y.val = 384 + y.val; omega))))) z y
theorem kp0_apply (r : Fin 512) (y : Fin 128) : (pair (ks0 μ c p) (ks1 μ c p) (ix2 r y) : EReal) = K μ c (rowOf p r) ⟨0 + y.val, by omega⟩ := by
  rw [pair_at]
  split
  · exact (ld_at (iblk μ c 5 p) _ r y (by omega)).trans (blk_k_of μ c p r _ _ (by show (0 + y.val) % 128 < 64; omega)
      (by show (0 + y.val) / 128 * 64 + (0 + y.val) % 128 = 0 + y.val; omega))
  · exact (ld_at (iblk μ c 5 p) _ r _ (by show 128 + y.val % 64 < 1024; omega)).trans (blk_k_of μ c p r _ _ (by show (128 + y.val % 64) % 128 < 64; omega)
      (by show (128 + y.val % 64) / 128 * 64 + (128 + y.val % 64) % 128 = 0 + y.val; omega))
theorem ak0_apply (v : FVec Ideal S1x128 .f32) (z : Fin 1) (y : Fin 128) : (ak0 μ c p v (ix2 z y) : EReal) = v (ix2 z y) + tK μ c p ⟨0 + y.val, by omega⟩ := by
  rw [ak0, acc4]
  exact step_k μ c p 0 (by norm_num) (by norm_num) (kp0_apply μ c p)
    (fun r y => (ld_at (iblk μ c 7 p) _ r y (by omega)).trans ((blk_x μ c p r _).trans (congrArg (X μ c (rowOf p r)) (Fin.ext (by
      show 512 + y.val = 512 + (0 + y.val); omega))))) z y
theorem kp1_apply (r : Fin 512) (y : Fin 128) : (pair (ks2 μ c p) (ks3 μ c p) (ix2 r y) : EReal) = K μ c (rowOf p r) ⟨128 + y.val, by omega⟩ := by
  rw [pair_at]
  split
  · exact (ld_at (iblk μ c 5 p) _ r y (by omega)).trans (blk_k_of μ c p r _ _ (by show (256 + y.val) % 128 < 64; omega)
      (by show (256 + y.val) / 128 * 64 + (256 + y.val) % 128 = 128 + y.val; omega))
  · exact (ld_at (iblk μ c 5 p) _ r _ (by show 384 + y.val % 64 < 1024; omega)).trans (blk_k_of μ c p r _ _ (by show (384 + y.val % 64) % 128 < 64; omega)
      (by show (384 + y.val % 64) / 128 * 64 + (384 + y.val % 64) % 128 = 128 + y.val; omega))
theorem ak1_apply (v : FVec Ideal S1x128 .f32) (z : Fin 1) (y : Fin 128) : (ak1 μ c p v (ix2 z y) : EReal) = v (ix2 z y) + tK μ c p ⟨128 + y.val, by omega⟩ := by
  rw [ak1, acc5]
  exact step_k μ c p 128 (by norm_num) (by norm_num) (kp1_apply μ c p)
    (fun r y => (ld_at (iblk μ c 7 p) _ r y (by omega)).trans ((blk_x μ c p r _).trans (congrArg (X μ c (rowOf p r)) (Fin.ext (by
      show 640 + y.val = 512 + (128 + y.val); omega))))) z y
theorem kp2_apply (r : Fin 512) (y : Fin 128) : (pair (ks4 μ c p) (ks5 μ c p) (ix2 r y) : EReal) = K μ c (rowOf p r) ⟨256 + y.val, by omega⟩ := by
  rw [pair_at]
  split
  · exact (ld_at (iblk μ c 5 p) _ r y (by omega)).trans (blk_k_of μ c p r _ _ (by show (512 + y.val) % 128 < 64; omega)
      (by show (512 + y.val) / 128 * 64 + (512 + y.val) % 128 = 256 + y.val; omega))
  · exact (ld_at (iblk μ c 5 p) _ r _ (by show 640 + y.val % 64 < 1024; omega)).trans (blk_k_of μ c p r _ _ (by show (640 + y.val % 64) % 128 < 64; omega)
      (by show (640 + y.val % 64) / 128 * 64 + (640 + y.val % 64) % 128 = 256 + y.val; omega))
theorem ak2_apply (v : FVec Ideal S1x128 .f32) (z : Fin 1) (y : Fin 128) : (ak2 μ c p v (ix2 z y) : EReal) = v (ix2 z y) + tK μ c p ⟨256 + y.val, by omega⟩ := by
  rw [ak2, acc6]
  exact step_k μ c p 256 (by norm_num) (by norm_num) (kp2_apply μ c p)
    (fun r y => (ld_at (iblk μ c 7 p) _ r y (by omega)).trans ((blk_x μ c p r _).trans (congrArg (X μ c (rowOf p r)) (Fin.ext (by
      show 768 + y.val = 512 + (256 + y.val); omega))))) z y
theorem kp3_apply (r : Fin 512) (y : Fin 128) : (pair (ks6 μ c p) (ks7 μ c p) (ix2 r y) : EReal) = K μ c (rowOf p r) ⟨384 + y.val, by omega⟩ := by
  rw [pair_at]
  split
  · exact (ld_at (iblk μ c 5 p) _ r y (by omega)).trans (blk_k_of μ c p r _ _ (by show (768 + y.val) % 128 < 64; omega)
      (by show (768 + y.val) / 128 * 64 + (768 + y.val) % 128 = 384 + y.val; omega))
  · exact (ld_at (iblk μ c 5 p) _ r _ (by show 896 + y.val % 64 < 1024; omega)).trans (blk_k_of μ c p r _ _ (by show (896 + y.val % 64) % 128 < 64; omega)
      (by show (896 + y.val % 64) / 128 * 64 + (896 + y.val % 64) % 128 = 384 + y.val; omega))
theorem ak3_apply (v : FVec Ideal S1x128 .f32) (z : Fin 1) (y : Fin 128) : (ak3 μ c p v (ix2 z y) : EReal) = v (ix2 z y) + tK μ c p ⟨384 + y.val, by omega⟩ := by
  rw [ak3, acc7]
  exact step_k μ c p 384 (by norm_num) (by norm_num) (kp3_apply μ c p)
    (fun r y => (ld_at (iblk μ c 7 p) _ r y (by omega)).trans ((blk_x μ c p r _).trans (congrArg (X μ c (rowOf p r)) (Fin.ext (by
      show 896 + y.val = 512 + (384 + y.val); omega))))) z y

/-! ### The accumulator of the queries' gain -/

theorem first_q (h : p.val % 8 = 0) : (outsAt0 μ c p.val p.isLt).2.2.2.2.2.2.2.1 = View.canon (l4 (View.whole cc0_scratch0) (aq0 μ c p) (aq1 μ c p) (aq2 μ c p) (aq3 μ c p) k0_pay6) := by
  rw [outsAt0_A μ c p h h (by omega)]; frame_out; rfl

theorem next_q (h : ¬p.val % 8 = 0) : (outsAt0 μ c p.val p.isLt).2.2.2.2.2.2.2.1
    = View.canon (n4 (aq0 μ c p) (aq1 μ c p) (aq2 μ c p) (aq3 μ c p)
        (outsAt0 μ c (p.val - 1) (Nat.lt_of_le_of_lt (Nat.sub_le _ _) p.isLt)).2.2.2.2.2.2.2.1) := by
  by_cases h7 : p.val % 8 = 7
  · rw [outsAt0_C μ c p h h h7]; frame_out; simp only [read_unread_whole]; rfl
  · rw [outsAt0_B μ c p h h h7]; frame_out; simp only [read_unread_whole]; rfl

theorem out_q (h7 : p.val % 8 = 7) (z : Fin 1) (y : Fin 128) : ((outsAt0 μ c p.val p.isLt).2.2.2.2.1 (ix2 z y) : EReal)
    = k0_pay1 (F := Ideal) (outsAt0 μ c p.val p.isLt).2.2.2.2.2.2.2.1 (ix2 z y) := by
  rw [outsAt0_C μ c p (by omega) (by omega) h7]; frame_out
  refine congrFun (congrArg (k0_pay1 (F := Ideal)) (funext fun y => ?_)) _
  obtain ⟨i, l, rfl⟩ : ∃ i l, y = ix2 i l := ⟨_, _, eq_ix2 y⟩
  exact Pieces.readCov_whole (R := 1) (C := 512) _ _ _ _ _

theorem sum_q (b : ℕ) (hb : b = 0) (h : ∀ s : Fin 8, b + s.val < cfg0.N) (j : Fin 512) :
    ∑ s : Fin 8, tQ μ c ⟨b + s.val, h s⟩ j = ∑ i, termQ (X μ c) (Q μ c) i j := by
  subst hb
  unfold tQ
  rw [Fin.sum_univ_tiles 8 512 rfl, ← Equiv.sum_comp Fin.revPerm]
  refine Finset.sum_congr rfl fun s _ => Finset.sum_congr rfl fun r _ => congrArg (fun i => termQ (X μ c) (Q μ c) i j) (Fin.ext ?_)
  show (7 - (0 + (8 - (s.val + 1)))) * 512 + r.val = s.val * 512 + r.val
  omega

theorem total_q (h7 : p.val % 8 = 7) (z : Fin 1) (j : Fin 512) :
    ((outsAt0 μ c p.val p.isLt).2.2.2.2.2.2.2.1 (ix2 z j) : EReal) = ∑ i, termQ (X μ c) (Q μ c) i j := by
  rw [Pipeline.eq_sum_fin_of_reset_step_apply_of_flush (fun n h => (outsAt0 μ c n h).2.2.2.2.2.2.2.1) 8 (fun _ => (0 : EReal))
    (fun p (y : S1x512.Idx) => tQ μ c p (y 1))
    (fun p h y => by
      idx_vars y
      exact (congrFun (first_q μ c p h) _).trans (first_at (View.whole cc0_scratch0) (fun v z y _ => aq0_apply μ c p v z y) (fun v z y _ => aq1_apply μ c p v z y) (fun v z y _ => aq2_apply μ c p v z y) (fun v z y _ => aq3_apply μ c p v z y) zero_q y0 y1))
    (fun p h y => by
      idx_vars y
      exact (congrFun (next_q μ c p h) _).trans (next_at (fun v z y _ => aq0_apply μ c p v z y) (fun v z y _ => aq1_apply μ c p v z y) (fun v z y _ => aq2_apply μ c p v z y) (fun v z y _ => aq3_apply μ c p v z y) _ y0 y1))
    p h7 (ix2 z j), zero_add]
  exact sum_q μ c _ (by have := lt_of_lt_of_eq p.isLt N_0; omega) _ j

/-- The array of the queries' gain's gradient. -/
def qArr : FVec Ideal S1x128 .f32 := fun y => dqg (X μ c) (Q μ c) (y 1)

theorem array_q : (dats μ 0 c).arrAt 16 cfg0.N = qArr μ c := by
  refine (dats μ 0 c).arrAt_eq_of_covers 16 (qArr μ c) (by decide +kernel) fun p hf y => ?_
  have h7 := (flush0_16 p).mp hf
  blk_simp
  rw [after0_16]
  have hy : qArr μ c ((win0_16.blk p).view.emb y) = qArr μ c y := by
    idx_vars y
    blk_ext [idx p]
  refine Eq.trans ?_ hy.symm
  idx_vars y
  exact (out_q μ c p h7 y0 y1).trans ((fold_q (total_q μ c p h7) y0 y1).trans (folded_q _ _ _))

/-! ### The accumulator of the keys' gain -/

theorem first_k (h : p.val % 8 = 0) : (outsAt0 μ c p.val p.isLt).2.2.2.2.2.2.2.2.1 = View.canon (l4 (View.whole cc0_scratch1) (ak0 μ c p) (ak1 μ c p) (ak2 μ c p) (ak3 μ c p) k0_pay7) := by
  rw [outsAt0_A μ c p h h (by omega)]; frame_out; rfl

theorem next_k (h : ¬p.val % 8 = 0) : (outsAt0 μ c p.val p.isLt).2.2.2.2.2.2.2.2.1
    = View.canon (n4 (ak0 μ c p) (ak1 μ c p) (ak2 μ c p) (ak3 μ c p)
        (outsAt0 μ c (p.val - 1) (Nat.lt_of_le_of_lt (Nat.sub_le _ _) p.isLt)).2.2.2.2.2.2.2.2.1) := by
  by_cases h7 : p.val % 8 = 7
  · rw [outsAt0_C μ c p h h h7]; frame_out; simp only [read_unread_whole]; rfl
  · rw [outsAt0_B μ c p h h h7]; frame_out; simp only [read_unread_whole]; rfl

theorem out_k (h7 : p.val % 8 = 7) (z : Fin 1) (y : Fin 128) : ((outsAt0 μ c p.val p.isLt).2.2.2.2.2.1 (ix2 z y) : EReal)
    = k0_pay2 (F := Ideal) (outsAt0 μ c p.val p.isLt).2.2.2.2.2.2.2.2.1 (ix2 z y) := by
  rw [outsAt0_C μ c p (by omega) (by omega) h7]; frame_out
  refine congrFun (congrArg (k0_pay2 (F := Ideal)) (funext fun y => ?_)) _
  obtain ⟨i, l, rfl⟩ : ∃ i l, y = ix2 i l := ⟨_, _, eq_ix2 y⟩
  exact Pieces.readCov_whole (R := 1) (C := 512) _ _ _ _ _

theorem sum_k (b : ℕ) (hb : b = 0) (h : ∀ s : Fin 8, b + s.val < cfg0.N) (j : Fin 512) :
    ∑ s : Fin 8, tK μ c ⟨b + s.val, h s⟩ j = ∑ i, termK (X μ c) (K μ c) i j := by
  subst hb
  unfold tK
  rw [Fin.sum_univ_tiles 8 512 rfl, ← Equiv.sum_comp Fin.revPerm]
  refine Finset.sum_congr rfl fun s _ => Finset.sum_congr rfl fun r _ => congrArg (fun i => termK (X μ c) (K μ c) i j) (Fin.ext ?_)
  show (7 - (0 + (8 - (s.val + 1)))) * 512 + r.val = s.val * 512 + r.val
  omega

theorem total_k (h7 : p.val % 8 = 7) (z : Fin 1) (j : Fin 512) :
    ((outsAt0 μ c p.val p.isLt).2.2.2.2.2.2.2.2.1 (ix2 z j) : EReal) = ∑ i, termK (X μ c) (K μ c) i j := by
  rw [Pipeline.eq_sum_fin_of_reset_step_apply_of_flush (fun n h => (outsAt0 μ c n h).2.2.2.2.2.2.2.2.1) 8 (fun _ => (0 : EReal))
    (fun p (y : S1x512.Idx) => tK μ c p (y 1))
    (fun p h y => by
      idx_vars y
      exact (congrFun (first_k μ c p h) _).trans (first_at (View.whole cc0_scratch1) (fun v z y _ => ak0_apply μ c p v z y) (fun v z y _ => ak1_apply μ c p v z y) (fun v z y _ => ak2_apply μ c p v z y) (fun v z y _ => ak3_apply μ c p v z y) zero_k y0 y1))
    (fun p h y => by
      idx_vars y
      exact (congrFun (next_k μ c p h) _).trans (next_at (fun v z y _ => ak0_apply μ c p v z y) (fun v z y _ => ak1_apply μ c p v z y) (fun v z y _ => ak2_apply μ c p v z y) (fun v z y _ => ak3_apply μ c p v z y) _ y0 y1))
    p h7 (ix2 z j), zero_add]
  exact sum_k μ c _ (by have := lt_of_lt_of_eq p.isLt N_0; omega) _ j

/-- The array of the keys' gain's gradient. -/
def kArr : FVec Ideal S1x128 .f32 := fun y => dkg (X μ c) (K μ c) (y 1)

theorem array_k : (dats μ 0 c).arrAt 17 cfg0.N = kArr μ c := by
  refine (dats μ 0 c).arrAt_eq_of_covers 17 (kArr μ c) (by decide +kernel) fun p hf y => ?_
  have h7 := (flush0_17 p).mp hf
  blk_simp
  rw [after0_17]
  have hy : kArr μ c ((win0_17.blk p).view.emb y) = kArr μ c y := by
    idx_vars y
    blk_ext [idx p]
  refine Eq.trans ?_ hy.symm
  idx_vars y
  exact (out_k μ c p h7 y0 y1).trans ((fold_k (total_k μ c p h7) y0 y1).trans (folded_k _ _ _))

end Cert.Gain

end
-- ==== Proof.Gain.Reference.lean ====
module

public import proofs.«01_k».proof.Proof.Gen.Reference6Ideal
public import proofs.«01_k».proof.Proof.Gain.Math
public import proofs.«01_k».proof.Proof.Loss.Math
public import Idealize.ShloMosaic.Lib.Pointwise

@[expose] public section

/-! What the reference's gradients of the gains hold, in extended reals. -/

set_option maxRecDepth 16384

noncomputable section

namespace Cert.Reference6Ideal.Gain

open Idealize.ShloMosaic Idealize.ShloMosaic.TcCoe Idealize.SL.Sem
open Cert.Reference6Ideal Cert.Reference6Ideal.Gen Cert.Gain

/-! ### The terms of the reference -/

/-- The mean of squares of each head's row, plus the norm's constant. -/
def means (y : FVec Ideal S4096x8x64 .f32) : FVec Ideal S4096x8x1 .f32 :=
  addf (Host.divf (broadcastInDim S4096x8x1 ![0, 1] bcast_S4096x8_S4096x8x1_0_1
      (Host.reduceAdd (mulf y y) (constant (F := Ideal) S_ .f32 0x00000000#32) reducesTo_S4096x8x64_S4096x8_d2 h_S_))
    (broadcastInDim S4096x8x1 ![] bcast_S_S4096x8x1 (constant (F := Ideal) S_ .f32 0x42800000#32)))
    (broadcastInDim S4096x8x1 ![] bcast_S_S4096x8x1 (constant (F := Ideal) S_ .f32 0x358637BD#32))

/-- The normalised rows. -/
def normed (y : FVec Ideal S4096x8x64 .f32) : FVec Ideal S4096x8x64 .f32 :=
  mulf y (broadcastInDim S4096x8x64 ![0, 1, 2] bcast_S4096x8x1_S4096x8x64_0_1_2 (Host.rsqrt (means y)))

/-- The sum over rows and heads. -/
def total (x : FVec Ideal S4096x8x64 .f32) : FVec Ideal S64 .f32 :=
  Host.reduceAdd x (constant (F := Ideal) S_ .f32 0x00000000#32) reducesTo_S4096x8x64_S64_d0_1 h_S_

/-- A gain's gradient, twice side by side. -/
def twice (g : FVec Ideal S64 .f32) : FVec Ideal S1x128 .f32 :=
  concatenate S1x128 1 [⟨S1x64, shapeCast S1x64 (shapeCast S1x1x64 g shapeCasts_S64_S1x1x64) shapeCasts_S1x1x64_S1x64⟩,
    ⟨S1x64, shapeCast S1x64 (shapeCast S1x1x64 g shapeCasts_S64_S1x1x64) shapeCasts_S1x1x64_S1x64⟩] concatenates_S1x64_S1x64_S1x128_d1

/-! ### Their elements -/

theorem normed_at {y : FVec Ideal S4096x8x64 .f32} {Y : Fin 4096 → Fin 8 → Fin 64 → EReal} (hY : ∀ i h l, (y (ix3 i h l) : EReal) = Y i h l)
    (i : Fin 4096) (h : Fin 8) (l : Fin 64) : (normed y (ix3 i h l) : EReal) = Y i h l * rr (Y i h) := by
  have hm : ∀ z, (means y (ix3 i h z) : EReal)
      = Ideal.div (∑ k, Y i h k * Y i h k) (Ideal.ofBits .f32 0x42800000#32) + Ideal.ofBits .f32 0x358637BD#32 := by
    intro z
    have e : (∑ k, Y i h k * Y i h k) = ∑ k, (y (ix3 i h k) : EReal) * y (ix3 i h k) := Finset.sum_congr rfl fun k _ => by rw [hY]
    rw [e]
    pointwise [means]
  unfold normed rr Norm.rs
  rw [← hY]
  simp only [← hm 0]
  generalize means y = w
  pointwise

/-- The sum over the first two axes, row by row and head by head. -/
theorem total_at {x : FVec Ideal S4096x8x64 .f32} {T : Fin 4096 → Fin 8 → Fin 64 → EReal} (hT : ∀ i h l, (x (ix3 i h l) : EReal) = T i h l) (l : Fin 64) :
    (total x (ix1 l) : EReal) = ∑ i, ∑ h, T i h l := by
  have hd : ∀ (i : S4096x8x64.Idx), (reducesTo_S4096x8x64_S64_d0_1.drop i 0).val = (i 2).val := fun i => rfl
  have e : (total x (ix1 l) : EReal) = Ideal.ofBits .f32 0x00000000#32
      + ∑ i ∈ Finset.univ.filter (fun i => reducesTo_S4096x8x64_S64_d0_1.drop i = ix1 l), (x i : EReal) := rfl
  have hz : Ideal.ofBits .f32 0x00000000#32 = 0 := Ideal.ofBits_zero_f32
  rw [e, hz, zero_add, ← Fintype.sum_prod_type' (f := fun i h => T i h l)]
  refine (Finset.sum_bij' (fun (p : Fin 4096 × Fin 8) _ => (ix3 p.1 p.2 l : S4096x8x64.Idx)) (fun (i : S4096x8x64.Idx) _ => ((i 0 : Fin 4096), (i 1 : Fin 8))) ?_ ?_ ?_ ?_ ?_).symm
  · intro p _
    refine Finset.mem_filter.mpr ⟨Finset.mem_univ _, funext fun b => ?_⟩
    apply Fin.ext
    match b with | ⟨0, _⟩ => exact hd (ix3 p.1 p.2 l)
  · intro i _; simp only [Finset.mem_univ]
  · intro p _; rfl
  · intro i hi
    have h2 : (i 2).val = l.val := (hd i).symm.trans (congrArg (fun j : S64.Idx => (j 0).val) (Finset.mem_filter.mp hi).2)
    funext a
    apply Fin.ext
    match a with
    | ⟨0, _⟩ => rfl
    | ⟨1, _⟩ => rfl
    | ⟨2, _⟩ => exact h2.symm
  · intro p _; exact (hT _ _ _).symm

theorem flat_at (g : FVec Ideal S64 .f32) (z : Fin 1) (l : Fin 64) :
    shapeCast S1x64 (shapeCast S1x1x64 g shapeCasts_S64_S1x1x64) shapeCasts_S1x1x64_S1x64 (ix2 z l) = g (ix1 l) := by
  refine (shapeCast_apply _ shapeCasts_S1x1x64_S1x64 _ (ix3 (0 : Fin 1) (0 : Fin 1) l) (by
    rewrite [Shape.rowMajor_val_two, Shape.rowMajor_val_three]
    show (0 * 1 + 0) * 64 + l.val = z.val * 64 + l.val; omega)).trans ?_
  exact shapeCast_apply g shapeCasts_S64_S1x1x64 _ (ix1 l) (by
    rewrite [Shape.rowMajor_val_one, Shape.rowMajor_val_three]
    show l.val = (0 * 1 + 0) * 64 + l.val; omega)

theorem twice_at (g : FVec Ideal S64 .f32) (z : Fin 1) (y : Fin 128) : (twice g (ix2 z y) : EReal) = g (ix1 ⟨y.val % 64, by omega⟩) := by
  have hy := y.isLt
  have e := flat_at g
  unfold twice
  generalize shapeCast S1x64 (shapeCast S1x1x64 g shapeCasts_S64_S1x1x64) shapeCasts_S1x1x64_S1x64 = w at e ⊢
  pointwise
  by_cases h : y.val < 64
  · rw [dif_pos h]
    exact (e _ _).trans (congrArg g (congrArg ix1 (Fin.ext (by show y.val = y.val % 64; omega))))
  · rw [dif_neg h]
    exact (e _ _).trans (congrArg g (congrArg ix1 (Fin.ext (by show y.val - 64 = y.val % 64; omega))))

theorem heads_at (v : FVec Ideal S4096x512 .f32) (i : Fin 4096) (h : Fin 8) (b : Fin 64) :
    shapeCast S4096x8x64 v shapeCasts_S4096x512_S4096x8x64 (ix3 i h b) = v (ix2 i ⟨h.val * 64 + b.val, by omega⟩) :=
  shapeCast_apply v shapeCasts_S4096x512_S4096x8x64 _ _ (by
    rewrite [Shape.rowMajor_val_two, Shape.rowMajor_val_three]
    show i.val * 512 + (h.val * 64 + b.val) = (i.val * 8 + h.val) * 64 + b.val; omega)

/-! ### The two results -/

section

variable (x : FVec Ideal S4096x1024 .f32) (q k : FVec Ideal S4096x512 .f32)

abbrev qRows : FVec Ideal S4096x8x64 .f32 :=
  shapeCast S4096x8x64 (extractStridedSlice S4096x512 ![0, 0] x slices_S4096x1024_S4096x512_0_0) shapeCasts_S4096x512_S4096x8x64
abbrev kRows : FVec Ideal S4096x8x64 .f32 :=
  shapeCast S4096x8x64 (extractStridedSlice S4096x512 ![0, 512] x slices_S4096x1024_S4096x512_0_512) shapeCasts_S4096x512_S4096x8x64
abbrev scaled : FVec Ideal S4096x512 .f32 := mulf q (broadcastInDim S4096x512 ![] bcast_S_S4096x512 (constant (F := Ideal) S_ .f32 0x3E000000#32))

theorem q_at (z : Fin 1) (y : Fin 128) :
    (twice (total (mulf (normed (qRows x)) (shapeCast S4096x8x64 (scaled q) shapeCasts_S4096x512_S4096x8x64))) (ix2 z y) : EReal)
      = dqg (fun i l => x (ix2 i l)) (fun i l => q (ix2 i l)) y := by
  have hy := y.isLt
  have hX : ∀ i h l, (qRows x (ix3 i h l) : EReal) = x (ix2 i ⟨h.val * 64 + l.val, by omega⟩) := fun i h l => by
    refine (heads_at _ i h l).trans ?_
    pointwise
  have hQ : ∀ i h l, (shapeCast S4096x8x64 (scaled q) shapeCasts_S4096x512_S4096x8x64 (ix3 i h l) : EReal)
      = q (ix2 i ⟨h.val * 64 + l.val, by omega⟩) * Ideal.ofBits .f32 0x3E000000#32 := fun i h l => by
    refine (heads_at _ i h l).trans ?_
    pointwise
  rw [twice_at, total_at (T := fun i h l => x (ix2 i ⟨h.val * 64 + l.val, by omega⟩) * rr (fun l => x (ix2 i ⟨h.val * 64 + l.val, by omega⟩))
      * (q (ix2 i ⟨h.val * 64 + l.val, by omega⟩) * Ideal.ofBits .f32 0x3E000000#32))
    (fun i h l => congrArg₂ (fun a b : EReal => a * b) (normed_at hX i h l) (hQ i h l))]
  refine Finset.sum_congr rfl fun i _ => Finset.sum_congr rfl fun h _ => ?_
  rw [mul_comm]
  unfold termQ
  refine congrArg (_ * ·) (congrArg (_ * ·) (congrArg rr (funext fun l => congrArg x (congrArg (ix2 i) (Fin.ext ?_)))))
  show h.val * 64 + l.val = (h.val * 64 + y.val % 64) / 64 * 64 + l.val
  omega

theorem k_at (z : Fin 1) (y : Fin 128) :
    (twice (total (mulf (normed (kRows x)) (shapeCast S4096x8x64 k shapeCasts_S4096x512_S4096x8x64))) (ix2 z y) : EReal)
      = dkg (fun i l => x (ix2 i l)) (fun i l => k (ix2 i l)) y := by
  have hy := y.isLt
  have hX : ∀ i h l, (kRows x (ix3 i h l) : EReal) = x (ix2 i ⟨512 + (h.val * 64 + l.val), by omega⟩) := fun i h l => by
    refine (heads_at _ i h l).trans ?_
    pointwise
  rw [twice_at, total_at (T := fun i h l => x (ix2 i ⟨512 + (h.val * 64 + l.val), by omega⟩) * rr (fun l => x (ix2 i ⟨512 + (h.val * 64 + l.val), by omega⟩))
      * k (ix2 i ⟨h.val * 64 + l.val, by omega⟩))
    (fun i h l => congrArg₂ (fun a b : EReal => a * b) (normed_at hX i h l) (heads_at k i h l))]
  refine Finset.sum_congr rfl fun i _ => Finset.sum_congr rfl fun h _ => ?_
  rw [mul_comm]
  unfold termK
  rw [Loss.ofBits_one, EReal.coe_one, mul_one]
  refine congrArg (_ * ·) (congrArg (_ * ·) (congrArg rr (funext fun l => congrArg x (congrArg (ix2 i) (Fin.ext ?_)))))
  show 512 + (h.val * 64 + l.val) = 512 + ((h.val * 64 + y.val % 64) / 64 * 64 + l.val)
  omega

end

end Cert.Reference6Ideal.Gain

end
-- ==== Proof.Gain.Equal.lean ====
/- The input projection's weight-side call computes the gradients of the query and key norms' gains that the reference computes. -/
module

public import proofs.«01_k».proof.Proof.Gain.Array
public import proofs.«01_k».proof.Proof.Gain.Reference
public import proofs.«01_k».proof.Proof.Gen.Reference6Ideal.Read
public import proofs.«01_k».proof.Defs

@[expose] public section

set_option maxRecDepth 16384

noncomputable section

namespace Cert.Gain

open Idealize.ShloMosaic Idealize.ShloMosaic.TcCoe Idealize.SL.Sem

/-- The reference leaves its arguments and its semaphores as they were. -/
theorem frame_reference : Cert.quiescent_Reference6Ideal := fun m ρ _ =>
  (θ_run _ _ _).mono (fun _ h => ⟨fun c => (h c).2.2, sem_eq_zero_of_no_sems (by decide) _⟩) (Cert.Reference6Ideal.Value.run m ρ)

/-- The gradients of the two gains. -/
theorem algebraic_gain : Cert.algebraic_Kernel6Ideal_Reference6Ideal := by
  intro m g m' g' hpre hagree
  refine ⟨fun c => qArr m c, fun c => kArr m c, ?_, ?_⟩
  · refine (θ_run _ _ _).mono (fun r h c => ?_) (Cert.Kernel6Ideal.Value.run_blocks m g)
    obtain ⟨h12, h13, h14, h15, h16, h17, h18, hargs⟩ := h c
    exact ⟨h16.trans (array_q m c), h17.trans (array_k m c), hargs⟩
  · refine (θ_run _ _ _).mono (fun r h c => ?_) (Cert.Reference6Ideal.Value.run m' g')
    obtain ⟨r0, r1, hargs⟩ := h c
    obtain ⟨e0, e1, e2, e3, e4, e5, e6, e7, e8, e9, e10, e11, e12⟩ := hagree c
    refine ⟨r0.trans ?_, r1.trans ?_, hargs⟩
    · rw [Cert.Reference6Ideal.Read.val_main_v46_eq, e1, e7]
      refine funext fun y => ?_
      obtain ⟨i, l, rfl⟩ : ∃ i l, y = ix2 i l := ⟨_, _, eq_ix2 y⟩
      exact Cert.Reference6Ideal.Gain.q_at _ _ i l
    · rw [Cert.Reference6Ideal.Read.val_main_v47_eq, e1, e8]
      refine funext fun y => ?_
      obtain ⟨i, l, rfl⟩ : ∃ i l, y = ix2 i l := ⟨_, _, eq_ix2 y⟩
      exact Cert.Reference6Ideal.Gain.k_at _ _ i l

end Cert.Gain

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_in_finite
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_fox_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_loss_finite
public import proofs.«01_k».proof.Proof.Gen.Pre_in_w_finite
public import proofs.«01_k».proof.Proof.InX.Array
public import proofs.«01_k».proof.Proof.InX.Reference
public import proofs.«01_k».proof.Proof.Fox.Equal
public import proofs.«01_k».proof.Proof.Loss.Equal
public import proofs.«01_k».proof.Proof.InW.Equal
public import proofs.«01_k».proof.Proof.Gain.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference leaves its arguments and its semaphores as they were. -/
theorem frame_reference : Cert.quiescent_ReferenceIdeal := fun m ρ _ =>
  (θ_run _ _ _).mono (fun _ h => ⟨fun c => (h c).2.2, sem_eq_zero_of_no_sems (by decide) _⟩) (Cert.ReferenceIdeal.Value.run m ρ)

/-- The precondition says that the four arrays are finite, entry by entry. -/
theorem finite_args (m : (ℓ : Loc Cert.KernelIdeal.nD Cert.KernelIdeal.τ Cert.KernelIdeal.sig) → Buf (Elt Ideal) ℓ)
    (h : Cert.Pre_KernelIdeal_in_finite m) (c : Dev Cert.KernelIdeal.nD) :
    (∀ i l, Finite (InX.X m c i l)) ∧ (∀ l, Finite (InX.G m c l)) ∧ (∀ l k, Finite (InX.W m c l k)) ∧ (∀ i k, Finite (InX.CT m c i k)) := by
  obtain ⟨h0, h1, h2, h3⟩ := h c
  exact ⟨fun i l => finite_of_all _ _ h0 _, fun l => finite_of_all _ _ h1 _, fun l k => finite_of_all _ _ h2 _,
    fun i k => finite_of_all _ _ h3 _⟩

/-- The call's two results are the norm's gradient and the gain's. -/
theorem algebraic_dx : Cert.algebraic_KernelIdeal_ReferenceIdeal_pre_in_finite := by
  intro m g m' g' hpre hagree
  refine ⟨fun c => InX.dxArr m c, fun c => InX.dgArr m c, ?_, ?_⟩
  · refine (θ_run _ _ _).mono (fun r h c => ?_) (Cert.KernelIdeal.Value.run_blocks m g)
    obtain ⟨h10, h11, hargs⟩ := h c
    exact ⟨h10.trans (InX.array_dx m c), h11.trans (InX.array_dg m c), hargs⟩
  · refine (θ_run _ _ _).mono (fun r h c => ?_) (Cert.ReferenceIdeal.Value.run m' g')
    obtain ⟨h36, h19, hargs⟩ := h c
    obtain ⟨e0, e1, e2, e3, e4⟩ := hagree c
    obtain ⟨f0, f1, f2, f3⟩ := finite_args m hpre c
    refine ⟨h36.trans ?_, h19.trans ?_, hargs⟩
    · refine funext fun y => ?_
      obtain ⟨i, l, rfl⟩ : ∃ i l, y = ix2 i l := ⟨_, _, eq_ix2 y⟩
      rw [InX.ref_dx, e0, e1, e2, e3, e4]
      exact (InX.dx_eq _ _ _ _ _ f0 f1 f2 f3 i l).symm
    · rw [e0, e2, e3]
      refine funext fun y => ?_
      obtain ⟨i, l, rfl⟩ : ∃ i l, y = ix2 i l := ⟨_, _, eq_ix2 y⟩
      obtain rfl : i = 0 := Subsingleton.elim _ _
      exact InX.ref_dg _ _ _ l

/-- The reference of the input projection's weight call leaves its arguments and its semaphores as they were. -/
theorem frame_reference_w : Cert.quiescent_Reference4Ideal := fun m ρ _ =>
  (θ_run _ _ _).mono (fun _ h => ⟨fun c => (h c).2.2.2.2.2.2.2, sem_eq_zero_of_no_sems (by decide) _⟩) (Cert.Reference4Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_in_finite.Gen.facts, Cert.Pre_fox_finite.Gen.facts, Cert.Pre_loss_finite.Gen.facts, Cert.Pre_in_w_finite.Gen.facts, by
  refine ⟨?_, ?_, ?_, ?_, ?_, ?_, ?_, ?_, ?_, ?_, ?_, ?_, ?_, ?_, ?_, ?_, ?_, ?_, ?_, ?_, ?_, ?_, ?_, ?_, ?_, ?_, trivial, algebraic_dx,
    IdealRules.named_const.statement _ _ _ _ _ rfl, Cert.Fox.algebraic_fox, trivial, Cert.Loss.algebraic_loss, trivial, trivial, Cert.InW.algebraic_in_w,
    trivial, Cert.Gain.algebraic_gain⟩
  · exact fun m ρ _ => Cert.Kernel.Gen.frame m ρ
  · exact fun m ρ _ => Cert.KernelIdeal.Gen.frame m ρ
  · exact fun m ρ _ => Cert.KernelIdeal.Gen.frame m ρ
  · exact frame_reference
  · exact fun m ρ _ => frame_reference m ρ trivial
  · exact Cert.Kernel2Ideal.Fox.ends_rounded
  · exact Cert.Kernel2Ideal.Fox.ends_ideal
  · exact fun m ρ _ => Cert.Kernel2Ideal.Fox.ends_ideal m ρ trivial
  · exact Cert.Fox.frame_reference
  · exact fun m ρ _ => Cert.Fox.frame_reference m ρ trivial
  · exact fun m ρ _ => Cert.Kernel3.Gen.frame m ρ
  · exact fun m ρ _ => Cert.Kernel3Ideal.Gen.frame m ρ
  · exact fun m ρ _ => Cert.Kernel3Ideal.Gen.frame m ρ
  · exact Cert.Loss.frame_reference
  · exact fun m ρ _ => Cert.Loss.frame_reference m ρ trivial
  · exact fun m ρ _ => Cert.Kernel4.Gen.frame m ρ
  · exact fun m ρ _ => Cert.Kernel4Ideal.Gen.frame m ρ
  · exact frame_reference_w
  · exact fun m ρ _ => Cert.Kernel5.Gen.frame m ρ
  · exact fun m ρ _ => Cert.Kernel5Ideal.Gen.frame m ρ
  · exact fun m ρ _ => Cert.Kernel5Ideal.Gen.frame m ρ
  · exact Cert.InW.frame_reference
  · exact fun m ρ _ => Cert.InW.frame_reference m ρ trivial
  · exact fun m ρ _ => Cert.Kernel6.Gen.frame m ρ
  · exact fun m ρ _ => Cert.Kernel6Ideal.Gen.frame m ρ
  · exact Cert.Gain.frame_reference⟩

end Cert.Proof

end
